-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_arg2)) (v1 : (c : Dev Cert.KernelIdeal.nD) → Buf (Elt Ideal) ((c.tc : Thread Cert.KernelIdeal.nD Cert.KernelIdeal.τ).loc Cert.KernelIdeal.main_v42_0)) (v2 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_arg2) = v0 c
          ∧ r.2.mem ((c.tc : Thread Cert.KernelIdeal.nD Cert.KernelIdeal.τ).loc Cert.KernelIdeal.main_v42_0) = v1 c
          ∧ r.2.mem ((c.tc : Thread Cert.KernelIdeal.nD Cert.KernelIdeal.τ).loc Cert.KernelIdeal.main_v43) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg2) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_v149) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x3x16384 : Shape := ⟨3, ![4, 3, 16384]⟩
abbrev S4x3x512 : Shape := ⟨3, ![4, 3, 512]⟩
abbrev S64x6 : Shape := ⟨2, ![64, 6]⟩
abbrev S64 : Shape := ⟨1, ![64]⟩
abbrev S64x64 : Shape := ⟨2, ![64, 64]⟩
abbrev S128x128 : Shape := ⟨2, ![128, 128]⟩
abbrev S128 : Shape := ⟨1, ![128]⟩
abbrev S256x131 : Shape := ⟨2, ![256, 131]⟩
abbrev S256 : Shape := ⟨1, ![256]⟩
abbrev S256x256 : Shape := ⟨2, ![256, 256]⟩
abbrev S512x512 : Shape := ⟨2, ![512, 512]⟩
abbrev S512 : Shape := ⟨1, ![512]⟩
abbrev S512x640 : Shape := ⟨2, ![512, 640]⟩
abbrev S256x512 : Shape := ⟨2, ![256, 512]⟩
abbrev S4x256 : Shape := ⟨2, ![4, 256]⟩
abbrev S4 : Shape := ⟨1, ![4]⟩
abbrev S4x512x16384 : Shape := ⟨3, ![4, 512, 16384]⟩
abbrev S1x3x512 : Shape := ⟨3, ![1, 3, 512]⟩
abbrev S1x3x2048 : Shape := ⟨3, ![1, 3, 2048]⟩
abbrev S1x512x2048 : Shape := ⟨3, ![1, 512, 2048]⟩
abbrev S3x512 : Shape := ⟨2, ![3, 512]⟩
abbrev S3x2048 : Shape := ⟨2, ![3, 2048]⟩
abbrev S2048 : Shape := ⟨1, ![2048]⟩
abbrev S512x2048 : Shape := ⟨2, ![512, 2048]⟩
abbrev S1x512 : Shape := ⟨2, ![1, 512]⟩
abbrev S512x1 : Shape := ⟨2, ![512, 1]⟩
abbrev S1x2048 : Shape := ⟨2, ![1, 2048]⟩
abbrev S4x512x64 : Shape := ⟨3, ![4, 512, 64]⟩
abbrev S_ : Shape := ⟨0, ![]⟩
abbrev S4x16384x10 : Shape := ⟨3, ![4, 16384, 10]⟩
abbrev S4x16384x3 : Shape := ⟨3, ![4, 16384, 3]⟩
abbrev S4x16384x16 : Shape := ⟨3, ![4, 16384, 16]⟩
abbrev S65536x16 : Shape := ⟨2, ![65536, 16]⟩
abbrev S4x1x1 : Shape := ⟨3, ![4, 1, 1]⟩
abbrev S131072 : Shape := ⟨1, ![131072]⟩
abbrev S131072x16 : Shape := ⟨2, ![131072, 16]⟩
abbrev S4096 : Shape := ⟨1, ![4096]⟩
abbrev S1024x16 : Shape := ⟨2, ![1024, 16]⟩
abbrev S1024 : Shape := ⟨1, ![1024]⟩
abbrev S4x32768x16 : Shape := ⟨3, ![4, 32768, 16]⟩
abbrev S4x16x32768 : Shape := ⟨3, ![4, 16, 32768]⟩
abbrev S4x16x512x64 : Shape := ⟨4, ![4, 16, 512, 64]⟩
abbrev S4x512x128 : Shape := ⟨3, ![4, 512, 128]⟩
abbrev S1x16x128x64 : Shape := ⟨4, ![1, 16, 128, 64]⟩
abbrev S1x3x128 : Shape := ⟨3, ![1, 3, 128]⟩
abbrev S1x128x128 : Shape := ⟨3, ![1, 128, 128]⟩
abbrev S16x128x64 : Shape := ⟨3, ![16, 128, 64]⟩
abbrev S3x128 : Shape := ⟨2, ![3, 128]⟩
abbrev S3x128x64 : Shape := ⟨3, ![3, 128, 64]⟩
abbrev S3x128x1 : Shape := ⟨3, ![3, 128, 1]⟩
abbrev S6x128x64 : Shape := ⟨3, ![6, 128, 64]⟩
abbrev S6x8192 : Shape := ⟨2, ![6, 8192]⟩
abbrev S64x8192 : Shape := ⟨2, ![64, 8192]⟩
abbrev S64x1 : Shape := ⟨2, ![64, 1]⟩
abbrev S64x128x64 : Shape := ⟨3, ![64, 128, 64]⟩
abbrev S64x128 : Shape := ⟨2, ![64, 128]⟩
abbrev S64x128x1 : Shape := ⟨3, ![64, 128, 1]⟩
abbrev S128x8192 : Shape := ⟨2, ![128, 8192]⟩
abbrev S128x1 : Shape := ⟨2, ![128, 1]⟩
abbrev S128x128x64 : Shape := ⟨3, ![128, 128, 64]⟩
abbrev S4x512x512 : Shape := ⟨3, ![4, 512, 512]⟩
abbrev S1x512x512 : Shape := ⟨3, ![1, 512, 512]⟩
abbrev S4x512x16 : Shape := ⟨3, ![4, 512, 16]⟩
abbrev S32768 : Shape := ⟨1, ![32768]⟩
abbrev S4x512x3 : Shape := ⟨3, ![4, 512, 3]⟩
abbrev S4x512x13 : Shape := ⟨3, ![4, 512, 13]⟩
abbrev S2048x16 : Shape := ⟨2, ![2048, 16]⟩
abbrev S32768x16 : Shape := ⟨2, ![32768, 16]⟩
abbrev S2048x128 : Shape := ⟨2, ![2048, 128]⟩
abbrev S32768x128 : Shape := ⟨2, ![32768, 128]⟩
abbrev S256x128 : Shape := ⟨2, ![256, 128]⟩
abbrev S4x8192x16 : Shape := ⟨3, ![4, 8192, 16]⟩
abbrev S4x16x8192 : Shape := ⟨3, ![4, 16, 8192]⟩
abbrev S4x16x512x16 : Shape := ⟨4, ![4, 16, 512, 16]⟩
abbrev S4x8192x128 : Shape := ⟨3, ![4, 8192, 128]⟩
abbrev S4x128x8192 : Shape := ⟨3, ![4, 128, 8192]⟩
abbrev S4x128x512x16 : Shape := ⟨4, ![4, 128, 512, 16]⟩
abbrev S4x128x512 : Shape := ⟨3, ![4, 128, 512]⟩
abbrev S4x1x512 : Shape := ⟨3, ![4, 1, 512]⟩
abbrev S1x16x128x16 : Shape := ⟨4, ![1, 16, 128, 16]⟩
abbrev S1x128x128x16 : Shape := ⟨4, ![1, 128, 128, 16]⟩
abbrev S1x1x128 : Shape := ⟨3, ![1, 1, 128]⟩
abbrev S16x128x16 : Shape := ⟨3, ![16, 128, 16]⟩
abbrev S3x128x16 : Shape := ⟨3, ![3, 128, 16]⟩
abbrev S128x128x16 : Shape := ⟨3, ![128, 128, 16]⟩
abbrev S128x2048 : Shape := ⟨2, ![128, 2048]⟩
abbrev S131x2048 : Shape := ⟨2, ![131, 2048]⟩
abbrev S256x2048 : Shape := ⟨2, ![256, 2048]⟩
abbrev S256x1 : Shape := ⟨2, ![256, 1]⟩
abbrev S256x128x16 : Shape := ⟨3, ![256, 128, 16]⟩
abbrev S256x128x1 : Shape := ⟨3, ![256, 128, 1]⟩
abbrev S512x128x16 : Shape := ⟨3, ![512, 128, 16]⟩
abbrev S512x128 : Shape := ⟨2, ![512, 128]⟩
abbrev S640x128 : Shape := ⟨2, ![640, 128]⟩
abbrev S4x128 : Shape := ⟨2, ![4, 128]⟩
abbrev S4x1 : Shape := ⟨2, ![4, 1]⟩
abbrev S1x128 : Shape := ⟨2, ![1, 128]⟩
abbrev S4x512 : Shape := ⟨2, ![4, 512]⟩

abbrev nBuf : Table → Nat
  | .hbm => 82
  | .local .tc .vmem => 56
  | .local .scVector .vmem => 9
  | _ => 0

abbrev bufTy : (tb : Table) → Fin (nBuf tb) → BufTy
  | .hbm, ⟨0, _⟩ => ⟨S4x3x16384, .f32⟩
  | .hbm, ⟨1, _⟩ => ⟨S4x3x16384, .f32⟩
  | .hbm, ⟨2, _⟩ => ⟨S4x3x512, .f32⟩
  | .hbm, ⟨3, _⟩ => ⟨S64x6, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S256x131, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256x256, .f32⟩
  | .hbm, ⟨18, _⟩ => ⟨S256, .f32⟩
  | .hbm, ⟨19, _⟩ => ⟨S512x512, .f32⟩
  | .hbm, ⟨20, _⟩ => ⟨S512, .f32⟩
  | .hbm, ⟨21, _⟩ => ⟨S512x512, .f32⟩
  | .hbm, ⟨22, _⟩ => ⟨S512, .f32⟩
  | .hbm, ⟨23, _⟩ => ⟨S512x640, .f32⟩
  | .hbm, ⟨24, _⟩ => ⟨S512, .f32⟩
  | .hbm, ⟨25, _⟩ => ⟨S256x512, .f32⟩
  | .hbm, ⟨26, _⟩ => ⟨S256, .f32⟩
  | .hbm, ⟨27, _⟩ => ⟨S4x256, .f32⟩
  | .hbm, ⟨28, _⟩ => ⟨S4, .f32⟩
  | .hbm, ⟨29, _⟩ => ⟨S4x512x16384, .f32⟩
  | .hbm, ⟨30, _⟩ => ⟨S4x512x16384, .f32⟩
  | .hbm, ⟨31, _⟩ => ⟨S4x512x64, .f32⟩
  | .hbm, ⟨32, _⟩ => ⟨S4x512x64, .i32⟩
  | .hbm, ⟨33, _⟩ => ⟨S_, .f32⟩
  | .hbm, ⟨34, _⟩ => ⟨S4x16384x10, .f32⟩
  | .hbm, ⟨35, _⟩ => ⟨S4x16384x3, .f32⟩
  | .hbm, ⟨36, _⟩ => ⟨S4x16384x3, .f32⟩
  | .hbm, ⟨37, _⟩ => ⟨S4x16384x16, .f32⟩
  | .hbm, ⟨38, _⟩ => ⟨S65536x16, .f32⟩
  | .hbm, ⟨39, _⟩ => ⟨S4, .i32⟩
  | .hbm, ⟨40, _⟩ => ⟨S_, .i32⟩
  | .hbm, ⟨41, _⟩ => ⟨S4, .i32⟩
  | .hbm, ⟨42, _⟩ => ⟨S4, .i32⟩
  | .hbm, ⟨43, _⟩ => ⟨S4x1x1, .i32⟩
  | .hbm, ⟨44, _⟩ => ⟨S4x512x64, .i32⟩
  | .hbm, ⟨45, _⟩ => ⟨S4x512x64, .i32⟩
  | .hbm, ⟨46, _⟩ => ⟨S131072, .i32⟩
  | .hbm, ⟨47, _⟩ => ⟨S131072x16, .f32⟩
  | .hbm, ⟨48, _⟩ => ⟨S4x32768x16, .f32⟩
  | .hbm, ⟨49, _⟩ => ⟨S4x16x32768, .f32⟩
  | .hbm, ⟨50, _⟩ => ⟨S4x16x512x64, .f32⟩
  | .hbm, ⟨51, _⟩ => ⟨S4x512x128, .f32⟩
  | .hbm, ⟨52, _⟩ => ⟨S4x512x512, .f32⟩
  | .hbm, ⟨53, _⟩ => ⟨S4x512x512, .f32⟩
  | .hbm, ⟨54, _⟩ => ⟨S4x512x16, .f32⟩
  | .hbm, ⟨55, _⟩ => ⟨S4x512x16, .i32⟩
  | .hbm, ⟨56, _⟩ => ⟨S4, .i32⟩
  | .hbm, ⟨57, _⟩ => ⟨S_, .i32⟩
  | .hbm, ⟨58, _⟩ => ⟨S4, .i32⟩
  | .hbm, ⟨59, _⟩ => ⟨S4, .i32⟩
  | .hbm, ⟨60, _⟩ => ⟨S4x1x1, .i32⟩
  | .hbm, ⟨61, _⟩ => ⟨S4x512x16, .i32⟩
  | .hbm, ⟨62, _⟩ => ⟨S4x512x16, .i32⟩
  | .hbm, ⟨63, _⟩ => ⟨S32768, .i32⟩
  | .hbm, ⟨64, _⟩ => ⟨S4x512x3, .f32⟩
  | .hbm, ⟨65, _⟩ => ⟨S_, .f32⟩
  | .hbm, ⟨66, _⟩ => ⟨S4x512x13, .f32⟩
  | .hbm, ⟨67, _⟩ => ⟨S4x512x16, .f32⟩
  | .hbm, ⟨68, _⟩ => ⟨S2048x16, .f32⟩
  | .hbm, ⟨69, _⟩ => ⟨S32768x16, .f32⟩
  | .hbm, ⟨70, _⟩ => ⟨S2048x128, .f32⟩
  | .hbm, ⟨71, _⟩ => ⟨S32768x128, .f32⟩
  | .hbm, ⟨72, _⟩ => ⟨S4x8192x16, .f32⟩
  | .hbm, ⟨73, _⟩ => ⟨S4x16x8192, .f32⟩
  | .hbm, ⟨74, _⟩ => ⟨S4x16x512x16, .f32⟩
  | .hbm, ⟨75, _⟩ => ⟨S4x8192x128, .f32⟩
  | .hbm, ⟨76, _⟩ => ⟨S4x128x8192, .f32⟩
  | .hbm, ⟨77, _⟩ => ⟨S4x128x512x16, .f32⟩
  | .hbm, ⟨78, _⟩ => ⟨S4x128x512, .f32⟩
  | .hbm, ⟨79, _⟩ => ⟨S4x3x512, .f32⟩
  | .hbm, ⟨80, _⟩ => ⟨S4x1x512, .f32⟩
  | .hbm, ⟨81, _⟩ => ⟨S4x512, .f32⟩
  | .local .tc .vmem, ⟨0, _⟩ => ⟨S1x3x512, .f32⟩
  | .local .tc .vmem, ⟨1, _⟩ => ⟨S1x3x512, .f32⟩
  | .local .tc .vmem, ⟨2, _⟩ => ⟨S1x3x2048, .f32⟩
  | .local .tc .vmem, ⟨3, _⟩ => ⟨S1x3x2048, .f32⟩
  | .local .tc .vmem, ⟨4, _⟩ => ⟨S1x512x2048, .f32⟩
  | .local .tc .vmem, ⟨5, _⟩ => ⟨S1x512x2048, .f32⟩
  | .local .tc .vmem, ⟨6, _⟩ => ⟨S1x16x128x64, .f32⟩
  | .local .tc .vmem, ⟨7, _⟩ => ⟨S1x16x128x64, .f32⟩
  | .local .tc .vmem, ⟨8, _⟩ => ⟨S1x3x128, .f32⟩
  | .local .tc .vmem, ⟨9, _⟩ => ⟨S1x3x128, .f32⟩
  | .local .tc .vmem, ⟨10, _⟩ => ⟨S64x6, .f32⟩
  | .local .tc .vmem, ⟨11, _⟩ => ⟨S64, .f32⟩
  | .local .tc .vmem, ⟨12, _⟩ => ⟨S64x64, .f32⟩
  | .local .tc .vmem, ⟨13, _⟩ => ⟨S64, .f32⟩
  | .local .tc .vmem, ⟨14, _⟩ => ⟨S64x64, .f32⟩
  | .local .tc .vmem, ⟨15, _⟩ => ⟨S64, .f32⟩
  | .local .tc .vmem, ⟨16, _⟩ => ⟨S128x128, .f32⟩
  | .local .tc .vmem, ⟨17, _⟩ => ⟨S128, .f32⟩
  | .local .tc .vmem, ⟨18, _⟩ => ⟨S128x128, .f32⟩
  | .local .tc .vmem, ⟨19, _⟩ => ⟨S128, .f32⟩
  | .local .tc .vmem, ⟨20, _⟩ => ⟨S1x128x128, .f32⟩
  | .local .tc .vmem, ⟨21, _⟩ => ⟨S1x128x128, .f32⟩
  | .local .tc .vmem, ⟨22, _⟩ => ⟨S1x3x512, .f32⟩
  | .local .tc .vmem, ⟨23, _⟩ => ⟨S1x3x512, .f32⟩
  | .local .tc .vmem, ⟨24, _⟩ => ⟨S1x3x512, .f32⟩
  | .local .tc .vmem, ⟨25, _⟩ => ⟨S1x3x512, .f32⟩
  | .local .tc .vmem, ⟨26, _⟩ => ⟨S1x512x512, .f32⟩
  | .local .tc .vmem, ⟨27, _⟩ => ⟨S1x512x512, .f32⟩
  | .local .tc .vmem, ⟨28, _⟩ => ⟨S1x16x128x16, .f32⟩
  | .local .tc .vmem, ⟨29, _⟩ => ⟨S1x16x128x16, .f32⟩
  | .local .tc .vmem, ⟨30, _⟩ => ⟨S1x128x128x16, .f32⟩
  | .local .tc .vmem, ⟨31, _⟩ => ⟨S1x128x128x16, .f32⟩
  | .local .tc .vmem, ⟨32, _⟩ => ⟨S1x128x128, .f32⟩
  | .local .tc .vmem, ⟨33, _⟩ => ⟨S1x128x128, .f32⟩
  | .local .tc .vmem, ⟨34, _⟩ => ⟨S1x3x128, .f32⟩
  | .local .tc .vmem, ⟨35, _⟩ => ⟨S1x3x128, .f32⟩
  | .local .tc .vmem, ⟨36, _⟩ => ⟨S256x131, .f32⟩
  | .local .tc .vmem, ⟨37, _⟩ => ⟨S256, .f32⟩
  | .local .tc .vmem, ⟨38, _⟩ => ⟨S256x256, .f32⟩
  | .local .tc .vmem, ⟨39, _⟩ => ⟨S256, .f32⟩
  | .local .tc .vmem, ⟨40, _⟩ => ⟨S256x256, .f32⟩
  | .local .tc .vmem, ⟨41, _⟩ => ⟨S256, .f32⟩
  | .local .tc .vmem, ⟨42, _⟩ => ⟨S512x512, .f32⟩
  | .local .tc .vmem, ⟨43, _⟩ => ⟨S512, .f32⟩
  | .local .tc .vmem, ⟨44, _⟩ => ⟨S512x512, .f32⟩
  | .local .tc .vmem, ⟨45, _⟩ => ⟨S512, .f32⟩
  | .local .tc .vmem, ⟨46, _⟩ => ⟨S512x640, .f32⟩
  | .local .tc .vmem, ⟨47, _⟩ => ⟨S512, .f32⟩
  | .local .tc .vmem, ⟨48, _⟩ => ⟨S256x512, .f32⟩
  | .local .tc .vmem, ⟨49, _⟩ => ⟨S256, .f32⟩
  | .local .tc .vmem, ⟨50, _⟩ => ⟨S4x256, .f32⟩
  | .local .tc .vmem, ⟨51, _⟩ => ⟨S4, .f32⟩
  | .local .tc .vmem, ⟨52, _⟩ => ⟨S1x3x128, .f32⟩
  | .local .tc .vmem, ⟨53, _⟩ => ⟨S1x3x128, .f32⟩
  | .local .tc .vmem, ⟨54, _⟩ => ⟨S1x1x128, .f32⟩
  | .local .tc .vmem, ⟨55, _⟩ => ⟨S1x1x128, .f32⟩
  | .local .scVector .vmem, ⟨0, _⟩ => ⟨S4096, .i32⟩
  | .local .scVector .vmem, ⟨1, _⟩ => ⟨S1024x16, .f32⟩
  | .local .scVector .vmem, ⟨2, _⟩ => ⟨S1024x16, .f32⟩
  | .local .scVector .vmem, ⟨3, _⟩ => ⟨S1024, .i32⟩
  | .local .scVector .vmem, ⟨4, _⟩ => ⟨S1024x16, .f32⟩
  | .local .scVector .vmem, ⟨5, _⟩ => ⟨S1024x16, .f32⟩
  | .local .scVector .vmem, ⟨6, _⟩ => ⟨S1024, .i32⟩
  | .local .scVector .vmem, ⟨7, _⟩ => ⟨S256x128, .f32⟩
  | .local .scVector .vmem, ⟨8, _⟩ => ⟨S256x128, .f32⟩
  | _, _ => ⟨S4x3x16384, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTables nBuf rfl bufTy 4 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_values : Ref sig .tc := ⟨.hbm, 31, rfl⟩
abbrev main_indices : Ref sig .tc := ⟨.hbm, 32, rfl⟩
abbrev main_cst : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_c : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_values_0 : Ref sig .tc := ⟨.hbm, 54, rfl⟩
abbrev main_indices_1 : Ref sig .tc := ⟨.hbm, 55, rfl⟩
abbrev main_v21 : Ref sig .tc := ⟨.hbm, 56, rfl⟩
abbrev main_c_2 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_3 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42_0 : Ref sig .tc := ⟨.hbm, 79, rfl⟩
abbrev main_v42_1 : Ref sig .tc := ⟨.hbm, 80, rfl⟩
abbrev main_v43 : Ref sig .tc := ⟨.hbm, 81, rfl⟩
abbrev main_v6_scv : Ref sig .scVector := ⟨.hbm, 38, rfl⟩
abbrev main_v13_scv : Ref sig .scVector := ⟨.hbm, 46, rfl⟩
abbrev main_v14_scv : Ref sig .scVector := ⟨.hbm, 47, rfl⟩
abbrev main_v31_scv : Ref sig .scVector := ⟨.hbm, 68, rfl⟩
abbrev main_v27_scv : Ref sig .scVector := ⟨.hbm, 63, rfl⟩
abbrev main_v32_scv : Ref sig .scVector := ⟨.hbm, 69, rfl⟩
abbrev main_v33_scv : Ref sig .scVector := ⟨.hbm, 70, rfl⟩
abbrev main_v34_scv : Ref sig .scVector := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc2_stg5_0 : Ref sig .tc := ⟨.vmem, 13, rfl⟩
abbrev cc2_stg6_0 : Ref sig .tc := ⟨.vmem, 14, rfl⟩
abbrev cc2_stg7_0 : Ref sig .tc := ⟨.vmem, 15, rfl⟩
abbrev cc2_stg8_0 : Ref sig .tc := ⟨.vmem, 16, rfl⟩
abbrev cc2_stg9_0 : Ref sig .tc := ⟨.vmem, 17, rfl⟩
abbrev cc2_stg10_0 : Ref sig .tc := ⟨.vmem, 18, rfl⟩
abbrev cc2_stg11_0 : Ref sig .tc := ⟨.vmem, 19, rfl⟩
abbrev cc2_stg12_0 : Ref sig .tc := ⟨.vmem, 20, rfl⟩
abbrev cc2_stg12_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc6_stg0_0 : Ref sig .tc := ⟨.vmem, 28, rfl⟩
abbrev cc6_stg0_1 : Ref sig .tc := ⟨.vmem, 29, rfl⟩
abbrev cc6_stg1_0 : Ref sig .tc := ⟨.vmem, 30, rfl⟩
abbrev cc6_stg1_1 : Ref sig .tc := ⟨.vmem, 31, rfl⟩
abbrev cc6_stg2_0 : Ref sig .tc := ⟨.vmem, 32, rfl⟩
abbrev cc6_stg2_1 : Ref sig .tc := ⟨.vmem, 33, rfl⟩
abbrev cc6_stg3_0 : Ref sig .tc := ⟨.vmem, 34, rfl⟩
abbrev cc6_stg3_1 : Ref sig .tc := ⟨.vmem, 35, rfl⟩
abbrev cc6_stg4_0 : Ref sig .tc := ⟨.vmem, 36, rfl⟩
abbrev cc6_stg5_0 : Ref sig .tc := ⟨.vmem, 37, rfl⟩
abbrev cc6_stg6_0 : Ref sig .tc := ⟨.vmem, 38, rfl⟩
abbrev cc6_stg7_0 : Ref sig .tc := ⟨.vmem, 39, rfl⟩
abbrev cc6_stg8_0 : Ref sig .tc := ⟨.vmem, 40, rfl⟩
abbrev cc6_stg9_0 : Ref sig .tc := ⟨.vmem, 41, rfl⟩
abbrev cc6_stg10_0 : Ref sig .tc := ⟨.vmem, 42, rfl⟩
abbrev cc6_stg11_0 : Ref sig .tc := ⟨.vmem, 43, rfl⟩
abbrev cc6_stg12_0 : Ref sig .tc := ⟨.vmem, 44, rfl⟩
abbrev cc6_stg13_0 : Ref sig .tc := ⟨.vmem, 45, rfl⟩
abbrev cc6_stg14_0 : Ref sig .tc := ⟨.vmem, 46, rfl⟩
abbrev cc6_stg15_0 : Ref sig .tc := ⟨.vmem, 47, rfl⟩
abbrev cc6_stg16_0 : Ref sig .tc := ⟨.vmem, 48, rfl⟩
abbrev cc6_stg17_0 : Ref sig .tc := ⟨.vmem, 49, rfl⟩
abbrev cc6_stg18_0 : Ref sig .tc := ⟨.vmem, 50, rfl⟩
abbrev cc6_stg19_0 : Ref sig .tc := ⟨.vmem, 51, rfl⟩
abbrev cc6_stg20_0 : Ref sig .tc := ⟨.vmem, 52, rfl⟩
abbrev cc6_stg20_1 : Ref sig .tc := ⟨.vmem, 53, rfl⟩
abbrev cc6_stg21_0 : Ref sig .tc := ⟨.vmem, 54, rfl⟩
abbrev cc6_stg21_1 : Ref sig .tc := ⟨.vmem, 55, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc4_scratch0 : Ref sig .scVector := ⟨.vmem, 3, rfl⟩
abbrev cc4_scratch1 : Ref sig .scVector := ⟨.vmem, 4, rfl⟩
abbrev cc4_scratch2 : Ref sig .scVector := ⟨.vmem, 5, rfl⟩
abbrev cc5_scratch0 : Ref sig .scVector := ⟨.vmem, 6, rfl⟩
abbrev cc5_scratch1 : Ref sig .scVector := ⟨.vmem, 7, rfl⟩
abbrev cc5_scratch2 : Ref sig .scVector := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem8_0 : DmaSem sig := 21
abbrev cc2_sem9_0 : DmaSem sig := 22
abbrev cc2_sem10_0 : DmaSem sig := 23
abbrev cc2_sem11_0 : DmaSem sig := 24
abbrev cc2_sem12_0 : DmaSem sig := 25
abbrev cc2_sem12_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc6_sem0_0 : DmaSem sig := 43
abbrev cc6_sem0_1 : DmaSem sig := 44
abbrev cc6_sem1_0 : DmaSem sig := 45
abbrev cc6_sem1_1 : DmaSem sig := 46
abbrev cc6_sem2_0 : DmaSem sig := 47
abbrev cc6_sem2_1 : DmaSem sig := 48
abbrev cc6_sem3_0 : DmaSem sig := 49
abbrev cc6_sem3_1 : DmaSem sig := 50
abbrev cc6_sem4_0 : DmaSem sig := 51
abbrev cc6_sem5_0 : DmaSem sig := 52
abbrev cc6_sem6_0 : DmaSem sig := 53
abbrev cc6_sem7_0 : DmaSem sig := 54
abbrev cc6_sem8_0 : DmaSem sig := 55
abbrev cc6_sem9_0 : DmaSem sig := 56
abbrev cc6_sem10_0 : DmaSem sig := 57
abbrev cc6_sem11_0 : DmaSem sig := 58
abbrev cc6_sem12_0 : DmaSem sig := 59
abbrev cc6_sem13_0 : DmaSem sig := 60
abbrev cc6_sem14_0 : DmaSem sig := 61
abbrev cc6_sem15_0 : DmaSem sig := 62
abbrev cc6_sem16_0 : DmaSem sig := 63
abbrev cc6_sem17_0 : DmaSem sig := 64
abbrev cc6_sem18_0 : DmaSem sig := 65
abbrev cc6_sem19_0 : DmaSem sig := 66
abbrev cc6_sem20_0 : DmaSem sig := 67
abbrev cc6_sem20_1 : DmaSem sig := 68
abbrev cc6_sem21_0 : DmaSem sig := 69
abbrev cc6_sem21_1 : DmaSem sig := 70
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  ![v2.toNat]
@[reducible] def k1_t1_loop : Scf.Loop 32 :=
  let c0_i32_3 : BitVec 32 := 0#32
  let c4_i32 : BitVec 32 := 4#32
  let v5 : BitVec 32 := Scalar.addi c0_i32_3 c4_i32
  let c1_i32 : BitVec 32 := 1#32
  ⟨c0_i32_3, v5, c1_i32⟩
def k1_cond1 (k1_t1 : Fin k1_t1_loop.trips) : BitVec 1 :=
  let c0_i32_3 : BitVec 32 := 0#32
  let c1_i32 : BitVec 32 := 1#32
  let arg10 : BitVec 32 := Scf.iv c0_i32_3 c1_i32 k1_t1
  let c2_i32_5 : BitVec 32 := 2#32
  let v7 : BitVec 32 := Scalar.remsi arg10 c2_i32_5
  let c0_i32_6 : BitVec 32 := 0#32
  let v8 : BitVec 1 := Scalar.cmpi .eq v7 c0_i32_6
  let v9 : BitVec 32 := Scalar.extui v8
  let c0_i32_7 : BitVec 32 := 0#32
  let v10 : BitVec 1 := Scalar.cmpi .ne v9 c0_i32_7
  v10

def k1_cond2 (k1_t1 : Fin k1_t1_loop.trips) : BitVec 1 :=
  let c0_i32_3 : BitVec 32 := 0#32
  let c1_i32 : BitVec 32 := 1#32
  let arg10 : BitVec 32 := Scf.iv c0_i32_3 c1_i32 k1_t1
  let c1_i32_12 : BitVec 32 := 1#32
  let v15 : BitVec 32 := Scalar.addi arg10 c1_i32_12
  let c4_i32_13 : BitVec 32 := 4#32
  let v16 : BitVec 1 := Scalar.cmpi .slt v15 c4_i32_13
  let v17 : BitVec 32 := Scalar.extui v16
  let c0_i32_14 : BitVec 32 := 0#32
  let v18 : BitVec 1 := Scalar.cmpi .ne v17 c0_i32_14
  v18

def k1_off2 (k1_t1 : Fin k1_t1_loop.trips) : Fin 1 → Nat :=
  let c0_i32_3 : BitVec 32 := 0#32
  let c1_i32 : BitVec 32 := 1#32
  let arg10 : BitVec 32 := Scf.iv c0_i32_3 c1_i32 k1_t1
  let c1_i32_18 : BitVec 32 := 1#32
  let v24 : BitVec 32 := Scalar.addi arg10 c1_i32_18
  let c1024_i32_19 : BitVec 32 := 1024#32
  let v25 : BitVec 32 := Scalar.muli v24 c1024_i32_19
  ![v25.toNat]
def k1_off3 (k1_t1 : Fin k1_t1_loop.trips) : Fin 1 → Nat :=
  let c0_i32_3 : BitVec 32 := 0#32
  let c1_i32 : BitVec 32 := 1#32
  let arg10 : BitVec 32 := Scf.iv c0_i32_3 c1_i32 k1_t1
  let c1024_i32 : BitVec 32 := 1024#32
  let v19 : BitVec 32 := Scalar.muli arg10 c1024_i32
  ![v19.toNat]
def k1_off4 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32_3 : BitVec 32 := 0#32
  let c1_i32 : BitVec 32 := 1#32
  let arg10 : BitVec 32 := Scf.iv c0_i32_3 c1_i32 k1_t1
  let c1024_i32_17 : BitVec 32 := 1024#32
  let v22 : BitVec 32 := Scalar.muli arg10 c1024_i32_17
  let v23 : BitVec 32 := Scalar.addi v2 v22
  let c0_i32_18_r1 : BitVec 32 := 0#32
  ![v23.toNat, 0]
def k1_cond3 (k1_t1 : Fin k1_t1_loop.trips) : BitVec 1 :=
  let c0_i32_3 : BitVec 32 := 0#32
  let c1_i32 : BitVec 32 := 1#32
  let arg10 : BitVec 32 := Scf.iv c0_i32_3 c1_i32 k1_t1
  let c2_i32_8 : BitVec 32 := 2#32
  let v11 : BitVec 32 := Scalar.remsi arg10 c2_i32_8
  let c1_i32_9 : BitVec 32 := 1#32
  let v12 : BitVec 1 := Scalar.cmpi .eq v11 c1_i32_9
  let v13 : BitVec 32 := Scalar.extui v12
  let c0_i32_10 : BitVec 32 := 0#32
  let v14 : BitVec 1 := Scalar.cmpi .ne v13 c0_i32_10
  v14

def k1_cond4 (k1_t1 : Fin k1_t1_loop.trips) : BitVec 1 :=
  let c0_i32_3 : BitVec 32 := 0#32
  let c1_i32 : BitVec 32 := 1#32
  let arg10 : BitVec 32 := Scf.iv c0_i32_3 c1_i32 k1_t1
  let c1_i32_12 : BitVec 32 := 1#32
  let v15 : BitVec 32 := Scalar.addi arg10 c1_i32_12
  let c4_i32_13 : BitVec 32 := 4#32
  let v16 : BitVec 1 := Scalar.cmpi .slt v15 c4_i32_13
  let v17 : BitVec 32 := Scalar.extui v16
  let c0_i32_14 : BitVec 32 := 0#32
  let v18 : BitVec 1 := Scalar.cmpi .ne v17 c0_i32_14
  v18

def k1_off5 (k1_t1 : Fin k1_t1_loop.trips) : Fin 1 → Nat :=
  let c0_i32_3 : BitVec 32 := 0#32
  let c1_i32 : BitVec 32 := 1#32
  let arg10 : BitVec 32 := Scf.iv c0_i32_3 c1_i32 k1_t1
  let c1_i32_18 : BitVec 32 := 1#32
  let v24 : BitVec 32 := Scalar.addi arg10 c1_i32_18
  let c1024_i32_19 : BitVec 32 := 1024#32
  let v25 : BitVec 32 := Scalar.muli v24 c1024_i32_19
  ![v25.toNat]
def k1_off6 (k1_t1 : Fin k1_t1_loop.trips) : Fin 1 → Nat :=
  let c0_i32_3 : BitVec 32 := 0#32
  let c1_i32 : BitVec 32 := 1#32
  let arg10 : BitVec 32 := Scf.iv c0_i32_3 c1_i32 k1_t1
  let c1024_i32 : BitVec 32 := 1024#32
  let v19 : BitVec 32 := Scalar.muli arg10 c1024_i32
  ![v19.toNat]
def k1_off7 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32_3 : BitVec 32 := 0#32
  let c1_i32 : BitVec 32 := 1#32
  let arg10 : BitVec 32 := Scf.iv c0_i32_3 c1_i32 k1_t1
  let c1024_i32_17 : BitVec 32 := 1024#32
  let v22 : BitVec 32 := Scalar.muli arg10 c1024_i32_17
  let v23 : BitVec 32 := Scalar.addi v2 v22
  let c0_i32_18_r2 : BitVec 32 := 0#32
  ![v23.toNat, 0]
abbrev grid2 : Pipeline.Grid := ⟨2, ![4, 4], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_12 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x16x128x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x3x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S64x6 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S128x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 2 → Memref sig .tc .vmem S1x128x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, true]

abbrev grid3 : Pipeline.Grid := ⟨2, ![4, 1], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage3_0 : Fin 2 → Memref sig .tc .vmem S1x3x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x3x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 16], ![false, false]⟩

def k4_off1 (i : grid4.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
def k4_cond1 : BitVec 1 :=
  let c0_i32_3 : BitVec 32 := 0#32
  let c2_i32_4 : BitVec 32 := 2#32
  let v5 : BitVec 32 := Scalar.remsi c0_i32_3 c2_i32_4
  let c0_i32_5 : BitVec 32 := 0#32
  let v6 : BitVec 1 := Scalar.cmpi .eq v5 c0_i32_5
  let v7 : BitVec 32 := Scalar.extui v6
  let c0_i32_6 : BitVec 32 := 0#32
  let v8 : BitVec 1 := Scalar.cmpi .ne v7 c0_i32_6
  v8

def k4_cond2 : BitVec 1 :=
  let c0_i32_3 : BitVec 32 := 0#32
  let c1_i32_11 : BitVec 32 := 1#32
  let v13 : BitVec 32 := Scalar.addi c0_i32_3 c1_i32_11
  let c1_i32_12 : BitVec 32 := 1#32
  let v14 : BitVec 1 := Scalar.cmpi .slt v13 c1_i32_12
  let v15 : BitVec 32 := Scalar.extui v14
  let c0_i32_13 : BitVec 32 := 0#32
  let v16 : BitVec 1 := Scalar.cmpi .ne v15 c0_i32_13
  v16

def k4_off2 : Fin 1 → Nat :=
  let c0_i32_3 : BitVec 32 := 0#32
  let c1_i32_18 : BitVec 32 := 1#32
  let v22 : BitVec 32 := Scalar.addi c0_i32_3 c1_i32_18
  let c1024_i32_19 : BitVec 32 := 1024#32
  let v23 : BitVec 32 := Scalar.muli v22 c1024_i32_19
  ![v23.toNat]
def k4_off3 : Fin 1 → Nat :=
  let c0_i32_3 : BitVec 32 := 0#32
  let c1024_i32_14 : BitVec 32 := 1024#32
  let v17 : BitVec 32 := Scalar.muli c0_i32_3 c1024_i32_14
  ![v17.toNat]
def k4_off4 (i : grid4.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_3 : BitVec 32 := 0#32
  let c1024_i32_17 : BitVec 32 := 1024#32
  let v20 : BitVec 32 := Scalar.muli c0_i32_3 c1024_i32_17
  let v21 : BitVec 32 := Scalar.addi v2 v20
  let c0_i32_18_r1 : BitVec 32 := 0#32
  ![v21.toNat, 0]
def k4_cond3 : BitVec 1 :=
  let c0_i32_3 : BitVec 32 := 0#32
  let c2_i32_7 : BitVec 32 := 2#32
  let v9 : BitVec 32 := Scalar.remsi c0_i32_3 c2_i32_7
  let c1_i32 : BitVec 32 := 1#32
  let v10 : BitVec 1 := Scalar.cmpi .eq v9 c1_i32
  let v11 : BitVec 32 := Scalar.extui v10
  let c0_i32_8 : BitVec 32 := 0#32
  let v12 : BitVec 1 := Scalar.cmpi .ne v11 c0_i32_8
  v12

def k4_cond4 : BitVec 1 :=
  let c0_i32_3 : BitVec 32 := 0#32
  let c1_i32_11 : BitVec 32 := 1#32
  let v13 : BitVec 32 := Scalar.addi c0_i32_3 c1_i32_11
  let c1_i32_12 : BitVec 32 := 1#32
  let v14 : BitVec 1 := Scalar.cmpi .slt v13 c1_i32_12
  let v15 : BitVec 32 := Scalar.extui v14
  let c0_i32_13 : BitVec 32 := 0#32
  let v16 : BitVec 1 := Scalar.cmpi .ne v15 c0_i32_13
  v16

def k4_off5 : Fin 1 → Nat :=
  let c0_i32_3 : BitVec 32 := 0#32
  let c1_i32_18 : BitVec 32 := 1#32
  let v22 : BitVec 32 := Scalar.addi c0_i32_3 c1_i32_18
  let c1024_i32_19 : BitVec 32 := 1024#32
  let v23 : BitVec 32 := Scalar.muli v22 c1024_i32_19
  ![v23.toNat]
def k4_off6 : Fin 1 → Nat :=
  let c0_i32_3 : BitVec 32 := 0#32
  let c1024_i32_14 : BitVec 32 := 1024#32
  let v17 : BitVec 32 := Scalar.muli c0_i32_3 c1024_i32_14
  ![v17.toNat]
def k4_off7 (i : grid4.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_3 : BitVec 32 := 0#32
  let c1024_i32_17 : BitVec 32 := 1024#32
  let v20 : BitVec 32 := Scalar.muli c0_i32_3 c1024_i32_17
  let v21 : BitVec 32 := Scalar.addi v2 v20
  let c0_i32_18_r2 : BitVec 32 := 0#32
  ![v21.toNat, 0]
abbrev grid5 : Pipeline.Grid := ⟨2, ![2, 16], ![false, false]⟩

def k5_off1 (i : grid5.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
@[reducible] def k5_t1_loop : Scf.Loop 32 :=
  let c0_i32_3 : BitVec 32 := 0#32
  let c4_i32 : BitVec 32 := 4#32
  let v5 : BitVec 32 := Scalar.addi c0_i32_3 c4_i32
  let c1_i32 : BitVec 32 := 1#32
  ⟨c0_i32_3, v5, c1_i32⟩
def k5_cond1 (k5_t1 : Fin k5_t1_loop.trips) : BitVec 1 :=
  let c0_i32_3 : BitVec 32 := 0#32
  let c1_i32 : BitVec 32 := 1#32
  let arg10 : BitVec 32 := Scf.iv c0_i32_3 c1_i32 k5_t1
  let c2_i32_5 : BitVec 32 := 2#32
  let v7 : BitVec 32 := Scalar.remsi arg10 c2_i32_5
  let c0_i32_6 : BitVec 32 := 0#32
  let v8 : BitVec 1 := Scalar.cmpi .eq v7 c0_i32_6
  let v9 : BitVec 32 := Scalar.extui v8
  let c0_i32_7 : BitVec 32 := 0#32
  let v10 : BitVec 1 := Scalar.cmpi .ne v9 c0_i32_7
  v10

def k5_cond2 (k5_t1 : Fin k5_t1_loop.trips) : BitVec 1 :=
  let c0_i32_3 : BitVec 32 := 0#32
  let c1_i32 : BitVec 32 := 1#32
  let arg10 : BitVec 32 := Scf.iv c0_i32_3 c1_i32 k5_t1
  let c1_i32_12 : BitVec 32 := 1#32
  let v15 : BitVec 32 := Scalar.addi arg10 c1_i32_12
  let c4_i32_13 : BitVec 32 := 4#32
  let v16 : BitVec 1 := Scalar.cmpi .slt v15 c4_i32_13
  let v17 : BitVec 32 := Scalar.extui v16
  let c0_i32_14 : BitVec 32 := 0#32
  let v18 : BitVec 1 := Scalar.cmpi .ne v17 c0_i32_14
  v18

def k5_off2 (k5_t1 : Fin k5_t1_loop.trips) : Fin 1 → Nat :=
  let c0_i32_3 : BitVec 32 := 0#32
  let c1_i32 : BitVec 32 := 1#32
  let arg10 : BitVec 32 := Scf.iv c0_i32_3 c1_i32 k5_t1
  let c1_i32_18 : BitVec 32 := 1#32
  let v24 : BitVec 32 := Scalar.addi arg10 c1_i32_18
  let c256_i32_19 : BitVec 32 := 256#32
  let v25 : BitVec 32 := Scalar.muli v24 c256_i32_19
  ![v25.toNat]
def k5_off3 (k5_t1 : Fin k5_t1_loop.trips) : Fin 1 → Nat :=
  let c0_i32_3 : BitVec 32 := 0#32
  let c1_i32 : BitVec 32 := 1#32
  let arg10 : BitVec 32 := Scf.iv c0_i32_3 c1_i32 k5_t1
  let c256_i32 : BitVec 32 := 256#32
  let v19 : BitVec 32 := Scalar.muli arg10 c256_i32
  ![v19.toNat]
def k5_off4 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_3 : BitVec 32 := 0#32
  let c1_i32 : BitVec 32 := 1#32
  let arg10 : BitVec 32 := Scf.iv c0_i32_3 c1_i32 k5_t1
  let c256_i32_17 : BitVec 32 := 256#32
  let v22 : BitVec 32 := Scalar.muli arg10 c256_i32_17
  let v23 : BitVec 32 := Scalar.addi v2 v22
  let c0_i32_18_r1 : BitVec 32 := 0#32
  ![v23.toNat, 0]
def k5_cond3 (k5_t1 : Fin k5_t1_loop.trips) : BitVec 1 :=
  let c0_i32_3 : BitVec 32 := 0#32
  let c1_i32 : BitVec 32 := 1#32
  let arg10 : BitVec 32 := Scf.iv c0_i32_3 c1_i32 k5_t1
  let c2_i32_8 : BitVec 32 := 2#32
  let v11 : BitVec 32 := Scalar.remsi arg10 c2_i32_8
  let c1_i32_9 : BitVec 32 := 1#32
  let v12 : BitVec 1 := Scalar.cmpi .eq v11 c1_i32_9
  let v13 : BitVec 32 := Scalar.extui v12
  let c0_i32_10 : BitVec 32 := 0#32
  let v14 : BitVec 1 := Scalar.cmpi .ne v13 c0_i32_10
  v14

def k5_cond4 (k5_t1 : Fin k5_t1_loop.trips) : BitVec 1 :=
  let c0_i32_3 : BitVec 32 := 0#32
  let c1_i32 : BitVec 32 := 1#32
  let arg10 : BitVec 32 := Scf.iv c0_i32_3 c1_i32 k5_t1
  let c1_i32_12 : BitVec 32 := 1#32
  let v15 : BitVec 32 := Scalar.addi arg10 c1_i32_12
  let c4_i32_13 : BitVec 32 := 4#32
  let v16 : BitVec 1 := Scalar.cmpi .slt v15 c4_i32_13
  let v17 : BitVec 32 := Scalar.extui v16
  let c0_i32_14 : BitVec 32 := 0#32
  let v18 : BitVec 1 := Scalar.cmpi .ne v17 c0_i32_14
  v18

def k5_off5 (k5_t1 : Fin k5_t1_loop.trips) : Fin 1 → Nat :=
  let c0_i32_3 : BitVec 32 := 0#32
  let c1_i32 : BitVec 32 := 1#32
  let arg10 : BitVec 32 := Scf.iv c0_i32_3 c1_i32 k5_t1
  let c1_i32_18 : BitVec 32 := 1#32
  let v24 : BitVec 32 := Scalar.addi arg10 c1_i32_18
  let c256_i32_19 : BitVec 32 := 256#32
  let v25 : BitVec 32 := Scalar.muli v24 c256_i32_19
  ![v25.toNat]
def k5_off6 (k5_t1 : Fin k5_t1_loop.trips) : Fin 1 → Nat :=
  let c0_i32_3 : BitVec 32 := 0#32
  let c1_i32 : BitVec 32 := 1#32
  let arg10 : BitVec 32 := Scf.iv c0_i32_3 c1_i32 k5_t1
  let c256_i32 : BitVec 32 := 256#32
  let v19 : BitVec 32 := Scalar.muli arg10 c256_i32
  ![v19.toNat]
def k5_off7 (i : grid5.Coords) (k5_t1 : Fin k5_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_3 : BitVec 32 := 0#32
  let c1_i32 : BitVec 32 := 1#32
  let arg10 : BitVec 32 := Scf.iv c0_i32_3 c1_i32 k5_t1
  let c256_i32_17 : BitVec 32 := 256#32
  let v22 : BitVec 32 := Scalar.muli arg10 c256_i32_17
  let v23 : BitVec 32 := Scalar.addi v2 v22
  let c0_i32_18_r2 : BitVec 32 := 0#32
  ![v23.toNat, 0]
abbrev grid6 : Pipeline.Grid := ⟨2, ![4, 4], ![false, false]⟩

def cc6_transform_0 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc6_transform_1 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc6_transform_3 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc6_transform_6 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc6_transform_8 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc6_transform_10 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc6_transform_12 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_13 (i : grid6.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc6_transform_14 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_15 (i : grid6.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc6_transform_16 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_17 (i : grid6.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc6_transform_18 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_19 (i : grid6.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc6_transform_20 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc6_transform_21 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage6_0 : Fin 2 → Memref sig .tc .vmem S1x16x128x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x128x128x16 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S1x128x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S1x3x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev stage6_4 : Fin 1 → Memref sig .tc .vmem S256x131 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false, false]

abbrev stage6_5 : Fin 1 → Memref sig .tc .vmem S256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false, false]

abbrev stage6_6 : Fin 1 → Memref sig .tc .vmem S256x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false, false]

abbrev stage6_7 : Fin 1 → Memref sig .tc .vmem S256 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false, false]

abbrev stage6_8 : Fin 1 → Memref sig .tc .vmem S256x256 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false, false]

abbrev stage6_9 : Fin 1 → Memref sig .tc .vmem S256 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false, false]

abbrev stage6_10 : Fin 1 → Memref sig .tc .vmem S512x512 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false, false]

abbrev stage6_11 : Fin 1 → Memref sig .tc .vmem S512 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false, false]

abbrev stage6_12 : Fin 1 → Memref sig .tc .vmem S512x512 .f32 := fun | 0 => Memref.whole cc6_stg12_0 | ⟨_ + 1, h⟩ => absurd h (Nat.not_lt.2 (Nat.le_add_left _ _))
abbrev sem6_12 : Fin 1 → DmaSem sig := fun | 0 => cc6_sem12_0 | ⟨_ + 1, h⟩ => absurd h (Nat.not_lt.2 (Nat.le_add_left _ _))
abbrev reads6_12 : Fin grid6.rank → Bool := ![false, false]

abbrev stage6_13 : Fin 1 → Memref sig .tc .vmem S512 .f32 := fun | 0 => Memref.whole cc6_stg13_0 | ⟨_ + 1, h⟩ => absurd h (Nat.not_lt.2 (Nat.le_add_left _ _))
abbrev sem6_13 : Fin 1 → DmaSem sig := fun | 0 => cc6_sem13_0 | ⟨_ + 1, h⟩ => absurd h (Nat.not_lt.2 (Nat.le_add_left _ _))
abbrev reads6_13 : Fin grid6.rank → Bool := ![false, false]

abbrev stage6_14 : Fin 1 → Memref sig .tc .vmem S512x640 .f32 := fun | 0 => Memref.whole cc6_stg14_0 | ⟨_ + 1, h⟩ => absurd h (Nat.not_lt.2 (Nat.le_add_left _ _))
abbrev sem6_14 : Fin 1 → DmaSem sig := fun | 0 => cc6_sem14_0 | ⟨_ + 1, h⟩ => absurd h (Nat.not_lt.2 (Nat.le_add_left _ _))
abbrev reads6_14 : Fin grid6.rank → Bool := ![false, false]

abbrev stage6_15 : Fin 1 → Memref sig .tc .vmem S512 .f32 := fun | 0 => Memref.whole cc6_stg15_0 | ⟨_ + 1, h⟩ => absurd h (Nat.not_lt.2 (Nat.le_add_left _ _))
abbrev sem6_15 : Fin 1 → DmaSem sig := fun | 0 => cc6_sem15_0 | ⟨_ + 1, h⟩ => absurd h (Nat.not_lt.2 (Nat.le_add_left _ _))
abbrev reads6_15 : Fin grid6.rank → Bool := ![false, false]

abbrev stage6_16 : Fin 1 → Memref sig .tc .vmem S256x512 .f32 := fun | 0 => Memref.whole cc6_stg16_0 | ⟨_ + 1, h⟩ => absurd h (Nat.not_lt.2 (Nat.le_add_left _ _))
abbrev sem6_16 : Fin 1 → DmaSem sig := fun | 0 => cc6_sem16_0 | ⟨_ + 1, h⟩ => absurd h (Nat.not_lt.2 (Nat.le_add_left _ _))
abbrev reads6_16 : Fin grid6.rank → Bool := ![false, false]

abbrev stage6_17 : Fin 1 → Memref sig .tc .vmem S256 .f32 := fun | 0 => Memref.whole cc6_stg17_0 | ⟨_ + 1, h⟩ => absurd h (Nat.not_lt.2 (Nat.le_add_left _ _))
abbrev sem6_17 : Fin 1 → DmaSem sig := fun | 0 => cc6_sem17_0 | ⟨_ + 1, h⟩ => absurd h (Nat.not_lt.2 (Nat.le_add_left _ _))
abbrev reads6_17 : Fin grid6.rank → Bool := ![false, false]

abbrev stage6_18 : Fin 1 → Memref sig .tc .vmem S4x256 .f32 := fun | 0 => Memref.whole cc6_stg18_0 | ⟨_ + 1, h⟩ => absurd h (Nat.not_lt.2 (Nat.le_add_left _ _))
abbrev sem6_18 : Fin 1 → DmaSem sig := fun | 0 => cc6_sem18_0 | ⟨_ + 1, h⟩ => absurd h (Nat.not_lt.2 (Nat.le_add_left _ _))
abbrev reads6_18 : Fin grid6.rank → Bool := ![false, false]

abbrev stage6_19 : Fin 1 → Memref sig .tc .vmem S4 .f32 := fun | 0 => Memref.whole cc6_stg19_0 | ⟨_ + 1, h⟩ => absurd h (Nat.not_lt.2 (Nat.le_add_left _ _))
abbrev sem6_19 : Fin 1 → DmaSem sig := fun | 0 => cc6_sem19_0 | ⟨_ + 1, h⟩ => absurd h (Nat.not_lt.2 (Nat.le_add_left _ _))
abbrev reads6_19 : Fin grid6.rank → Bool := ![false, false]

abbrev stage6_20 : Fin 2 → Memref sig .tc .vmem S1x3x128 .f32 := fun | 0 => Memref.whole cc6_stg20_0 | 1 => Memref.whole cc6_stg20_1 | ⟨_ + 2, h⟩ => absurd h (Nat.not_lt.2 (Nat.le_add_left _ _))
abbrev sem6_20 : Fin 2 → DmaSem sig := fun | 0 => cc6_sem20_0 | 1 => cc6_sem20_1 | ⟨_ + 2, h⟩ => absurd h (Nat.not_lt.2 (Nat.le_add_left _ _))
abbrev reads6_20 : Fin grid6.rank → Bool := ![true, true]

abbrev stage6_21 : Fin 2 → Memref sig .tc .vmem S1x1x128 .f32 := fun | 0 => Memref.whole cc6_stg21_0 | 1 => Memref.whole cc6_stg21_1 | ⟨_ + 2, h⟩ => absurd h (Nat.not_lt.2 (Nat.le_add_left _ _))
abbrev sem6_21 : Fin 2 → DmaSem sig := fun | 0 => cc6_sem21_0 | 1 => cc6_sem21_1 | ⟨_ + 2, h⟩ => absurd h (Nat.not_lt.2 (Nat.le_add_left _ _))
abbrev reads6_21 : Fin grid6.rank → Bool := ![true, true]

abbrev scKind : Fin 3 → Kind := fun | 0 => .scVector | 1 => .scVector | 2 => .scVector | ⟨_ + 3, h⟩ => absurd h (Nat.not_lt.2 (Nat.le_add_left _ _))
abbrev scNCore : Fin 3 → Nat := fun | 0 => 2 | 1 => 2 | 2 => 2 | ⟨_ + 3, h⟩ => absurd h (Nat.not_lt.2 (Nat.le_add_left _ _))
abbrev scNSub : Fin 3 → Nat := fun | 0 => 16 | 1 => 16 | 2 => 16 | ⟨_ + 3, h⟩ => absurd h (Nat.not_lt.2 (Nat.le_add_left _ _))
-- ==== ReferenceIdeal.lean ====
abbrev S4x3x16384 : Shape := ⟨3, ![4, 3, 16384]⟩
abbrev S4x3x512 : Shape := ⟨3, ![4, 3, 512]⟩
abbrev S64x6 : Shape := ⟨2, ![64, 6]⟩
abbrev S64 : Shape := ⟨1, ![64]⟩
abbrev S64x64 : Shape := ⟨2, ![64, 64]⟩
abbrev S128x128 : Shape := ⟨2, ![128, 128]⟩
abbrev S128 : Shape := ⟨1, ![128]⟩
abbrev S256x131 : Shape := ⟨2, ![256, 131]⟩
abbrev S256 : Shape := ⟨1, ![256]⟩
abbrev S256x256 : Shape := ⟨2, ![256, 256]⟩
abbrev S512x512 : Shape := ⟨2, ![512, 512]⟩
abbrev S512 : Shape := ⟨1, ![512]⟩
abbrev S512x640 : Shape := ⟨2, ![512, 640]⟩
abbrev S256x512 : Shape := ⟨2, ![256, 512]⟩
abbrev S4x256 : Shape := ⟨2, ![4, 256]⟩
abbrev S4 : Shape := ⟨1, ![4]⟩
abbrev S4x6x16384 : Shape := ⟨3, ![4, 6, 16384]⟩
abbrev S_ : Shape := ⟨0, ![]⟩
abbrev S4x512 : Shape := ⟨2, ![4, 512]⟩
abbrev S4x16384 : Shape := ⟨2, ![4, 16384]⟩
abbrev S4x512x16384 : Shape := ⟨3, ![4, 512, 16384]⟩
abbrev S4x512x1 : Shape := ⟨3, ![4, 512, 1]⟩
abbrev S4x1x16384 : Shape := ⟨3, ![4, 1, 16384]⟩
abbrev S4x512x64 : Shape := ⟨3, ![4, 512, 64]⟩
abbrev S4x1x32768 : Shape := ⟨3, ![4, 1, 32768]⟩
abbrev S4x6x32768 : Shape := ⟨3, ![4, 6, 32768]⟩
abbrev S4x6x32768x1 : Shape := ⟨4, ![4, 6, 32768, 1]⟩
abbrev S1 : Shape := ⟨1, ![1]⟩
abbrev S1x1x1x1 : Shape := ⟨4, ![1, 1, 1, 1]⟩
abbrev S4x6x512x64 : Shape := ⟨4, ![4, 6, 512, 64]⟩
abbrev S4x3x512x64 : Shape := ⟨4, ![4, 3, 512, 64]⟩
abbrev S4x3x512x1 : Shape := ⟨4, ![4, 3, 512, 1]⟩
abbrev S64x4x512x64 : Shape := ⟨4, ![64, 4, 512, 64]⟩
abbrev S4x64x512x64 : Shape := ⟨4, ![4, 64, 512, 64]⟩
abbrev S1x64x1x1 : Shape := ⟨4, ![1, 64, 1, 1]⟩
abbrev S4x64x512 : Shape := ⟨3, ![4, 64, 512]⟩
abbrev S4x64x512x1 : Shape := ⟨4, ![4, 64, 512, 1]⟩
abbrev S4x128x512x64 : Shape := ⟨4, ![4, 128, 512, 64]⟩
abbrev S128x4x512x64 : Shape := ⟨4, ![128, 4, 512, 64]⟩
abbrev S1x128x1x1 : Shape := ⟨4, ![1, 128, 1, 1]⟩
abbrev S4x128x512 : Shape := ⟨3, ![4, 128, 512]⟩
abbrev S4x512x512 : Shape := ⟨3, ![4, 512, 512]⟩
abbrev S4x1x512 : Shape := ⟨3, ![4, 1, 512]⟩
abbrev S4x512x16 : Shape := ⟨3, ![4, 512, 16]⟩
abbrev S4x1x8192 : Shape := ⟨3, ![4, 1, 8192]⟩
abbrev S4x3x8192 : Shape := ⟨3, ![4, 3, 8192]⟩
abbrev S4x3x8192x1 : Shape := ⟨4, ![4, 3, 8192, 1]⟩
abbrev S4x3x512x16 : Shape := ⟨4, ![4, 3, 512, 16]⟩
abbrev S4x128x8192 : Shape := ⟨3, ![4, 128, 8192]⟩
abbrev S4x128x8192x1 : Shape := ⟨4, ![4, 128, 8192, 1]⟩
abbrev S4x128x512x16 : Shape := ⟨4, ![4, 128, 512, 16]⟩
abbrev S4x131x512x16 : Shape := ⟨4, ![4, 131, 512, 16]⟩
abbrev S256x4x512x16 : Shape := ⟨4, ![256, 4, 512, 16]⟩
abbrev S4x256x512x16 : Shape := ⟨4, ![4, 256, 512, 16]⟩
abbrev S1x256x1x1 : Shape := ⟨4, ![1, 256, 1, 1]⟩
abbrev S4x256x512 : Shape := ⟨3, ![4, 256, 512]⟩
abbrev S4x256x512x1 : Shape := ⟨4, ![4, 256, 512, 1]⟩
abbrev S4x512x512x16 : Shape := ⟨4, ![4, 512, 512, 16]⟩
abbrev S512x4x512x16 : Shape := ⟨4, ![512, 4, 512, 16]⟩
abbrev S1x512x1x1 : Shape := ⟨4, ![1, 512, 1, 1]⟩
abbrev S4x640x512 : Shape := ⟨3, ![4, 640, 512]⟩
abbrev S512x4x512 : Shape := ⟨3, ![512, 4, 512]⟩
abbrev S1x512x1 : Shape := ⟨3, ![1, 512, 1]⟩
abbrev S256x4x512 : Shape := ⟨3, ![256, 4, 512]⟩
abbrev S1x256x1 : Shape := ⟨3, ![1, 256, 1]⟩
abbrev S4x4x512 : Shape := ⟨3, ![4, 4, 512]⟩
abbrev S1x4x1 : Shape := ⟨3, ![1, 4, 1]⟩

abbrev nBuf : Space → Nat
  | .hbm => 297
  | .vmem => 0
  | .smem => 0
  | _ => 0

abbrev hbmTy0_0 (i : Nat) : BufTy := match i % 128 with
  | 0 => ⟨S4x3x16384, .f32⟩
  | 1 => ⟨S4x3x16384, .f32⟩
  | 2 => ⟨S4x3x512, .f32⟩
  | 3 => ⟨S64x6, .f32⟩
  | 4 => ⟨S64, .f32⟩
  | 5 => ⟨S64x64, .f32⟩
  | 6 => ⟨S64, .f32⟩
  | 7 => ⟨S64x64, .f32⟩
  | 8 => ⟨S64, .f32⟩
  | 9 => ⟨S128x128, .f32⟩
  | 10 => ⟨S128, .f32⟩
  | 11 => ⟨S128x128, .f32⟩
  | 12 => ⟨S128, .f32⟩
  | 13 => ⟨S256x131, .f32⟩
  | 14 => ⟨S256, .f32⟩
  | 15 => ⟨S256x256, .f32⟩
  | 16 => ⟨S256, .f32⟩
  | 17 => ⟨S256x256, .f32⟩
  | 18 => ⟨S256, .f32⟩
  | 19 => ⟨S512x512, .f32⟩
  | 20 => ⟨S512, .f32⟩
  | 21 => ⟨S512x512, .f32⟩
  | 22 => ⟨S512, .f32⟩
  | 23 => ⟨S512x640, .f32⟩
  | 24 => ⟨S512, .f32⟩
  | 25 => ⟨S256x512, .f32⟩
  | 26 => ⟨S256, .f32⟩
  | 27 => ⟨S4x256, .f32⟩
  | 28 => ⟨S4, .f32⟩
  | 29 => ⟨S4x6x16384, .f32⟩
  | 30 => ⟨S4x3x512, .f32⟩
  | 31 => ⟨S_, .f32⟩
  | 32 => ⟨S4x512, .f32⟩
  | 33 => ⟨S4x3x16384, .f32⟩
  | 34 => ⟨S_, .f32⟩
  | 35 => ⟨S4x16384, .f32⟩
  | 36 => ⟨S4x512x16384, .f32⟩
  | 37 => ⟨S4x512x1, .f32⟩
  | 38 => ⟨S4x1x16384, .f32⟩
  | 39 => ⟨S4x512x16384, .f32⟩
  | 40 => ⟨S4x512x16384, .f32⟩
  | 41 => ⟨S4x512x16384, .f32⟩
  | 42 => ⟨S_, .f32⟩
  | 43 => ⟨S4x512x16384, .f32⟩
  | 44 => ⟨S4x512x16384, .f32⟩
  | 45 => ⟨S4x512x16384, .f32⟩
  | 46 => ⟨S_, .f32⟩
  | 47 => ⟨S4x512x16384, .f32⟩
  | 48 => ⟨S4x512x16384, .f32⟩
  | 49 => ⟨S4x512x16384, .f32⟩
  | 50 => ⟨S4x512x64, .f32⟩
  | 51 => ⟨S4x512x64, .i32⟩
  | 52 => ⟨S4x1x32768, .i32⟩
  | 53 => ⟨S4x6x32768, .i32⟩
  | 54 => ⟨S_, .i32⟩
  | 55 => ⟨S4x6x32768, .i32⟩
  | 56 => ⟨S4x6x32768, .i1⟩
  | 57 => ⟨S_, .i32⟩
  | 58 => ⟨S4x6x32768, .i32⟩
  | 59 => ⟨S4x6x32768, .i32⟩
  | 60 => ⟨S4x6x32768, .i32⟩
  | 61 => ⟨S4x6x32768x1, .i32⟩
  | 62 => ⟨S1, .i32⟩
  | 63 => ⟨S_, .i32⟩
  | 64 => ⟨S4x6x32768x1, .i32⟩
  | 65 => ⟨S4x6x32768x1, .i1⟩
  | 66 => ⟨S1x1x1x1, .i32⟩
  | 67 => ⟨S4x6x32768x1, .i32⟩
  | 68 => ⟨S4x6x32768x1, .i1⟩
  | 69 => ⟨S4x6x32768x1, .i1⟩
  | 70 => ⟨S_, .i1⟩
  | 71 => ⟨S4x6x32768, .i1⟩
  | 72 => ⟨S4x6x32768, .f32⟩
  | 73 => ⟨S_, .f32⟩
  | 74 => ⟨S4x6x32768, .f32⟩
  | 75 => ⟨S4x6x32768, .f32⟩
  | 76 => ⟨S4x6x512x64, .f32⟩
  | 77 => ⟨S4x3x512x64, .f32⟩
  | 78 => ⟨S4x3x512x1, .f32⟩
  | 79 => ⟨S4x3x512x64, .f32⟩
  | 80 => ⟨S4x3x512x64, .f32⟩
  | 81 => ⟨S_, .i32⟩
  | 82 => ⟨S1, .i32⟩
  | 83 => ⟨S4x6x512x64, .f32⟩
  | 84 => ⟨S64x4x512x64, .f32⟩
  | 85 => ⟨S4x64x512x64, .f32⟩
  | 86 => ⟨S1x64x1x1, .f32⟩
  | 87 => ⟨S4x64x512x64, .f32⟩
  | 88 => ⟨S4x64x512x64, .f32⟩
  | 89 => ⟨S_, .f32⟩
  | 90 => ⟨S4x64x512x64, .f32⟩
  | 91 => ⟨S4x64x512x64, .f32⟩
  | 92 => ⟨S64x4x512x64, .f32⟩
  | 93 => ⟨S4x64x512x64, .f32⟩
  | 94 => ⟨S1x64x1x1, .f32⟩
  | 95 => ⟨S4x64x512x64, .f32⟩
  | 96 => ⟨S4x64x512x64, .f32⟩
  | 97 => ⟨S_, .f32⟩
  | 98 => ⟨S4x64x512x64, .f32⟩
  | 99 => ⟨S4x64x512x64, .f32⟩
  | 100 => ⟨S64x4x512x64, .f32⟩
  | 101 => ⟨S4x64x512x64, .f32⟩
  | 102 => ⟨S1x64x1x1, .f32⟩
  | 103 => ⟨S4x64x512x64, .f32⟩
  | 104 => ⟨S4x64x512x64, .f32⟩
  | 105 => ⟨S_, .f32⟩
  | 106 => ⟨S4x64x512x64, .f32⟩
  | 107 => ⟨S4x64x512x64, .f32⟩
  | 108 => ⟨S_, .f32⟩
  | 109 => ⟨S4x64x512, .f32⟩
  | 110 => ⟨S4x64x512x1, .f32⟩
  | 111 => ⟨S4x64x512x64, .f32⟩
  | 112 => ⟨S4x128x512x64, .f32⟩
  | 113 => ⟨S128x4x512x64, .f32⟩
  | 114 => ⟨S4x128x512x64, .f32⟩
  | 115 => ⟨S1x128x1x1, .f32⟩
  | 116 => ⟨S4x128x512x64, .f32⟩
  | 117 => ⟨S4x128x512x64, .f32⟩
  | 118 => ⟨S_, .f32⟩
  | 119 => ⟨S4x128x512x64, .f32⟩
  | 120 => ⟨S4x128x512x64, .f32⟩
  | 121 => ⟨S128x4x512x64, .f32⟩
  | 122 => ⟨S4x128x512x64, .f32⟩
  | 123 => ⟨S1x128x1x1, .f32⟩
  | 124 => ⟨S4x128x512x64, .f32⟩
  | 125 => ⟨S4x128x512x64, .f32⟩
  | 126 => ⟨S_, .f32⟩
  | 127 => ⟨S4x128x512x64, .f32⟩
  | _ => ⟨S4x3x16384, .f32⟩

abbrev hbmTy0_1 (i : Nat) : BufTy := match i % 128 with
  | 0 => ⟨S4x128x512x64, .f32⟩
  | 1 => ⟨S_, .f32⟩
  | 2 => ⟨S4x128x512, .f32⟩
  | 3 => ⟨S4x3x512, .f32⟩
  | 4 => ⟨S_, .f32⟩
  | 5 => ⟨S4x512, .f32⟩
  | 6 => ⟨S4x3x512, .f32⟩
  | 7 => ⟨S_, .f32⟩
  | 8 => ⟨S4x512, .f32⟩
  | 9 => ⟨S4x512x512, .f32⟩
  | 10 => ⟨S4x512x1, .f32⟩
  | 11 => ⟨S4x1x512, .f32⟩
  | 12 => ⟨S4x512x512, .f32⟩
  | 13 => ⟨S4x512x512, .f32⟩
  | 14 => ⟨S4x512x512, .f32⟩
  | 15 => ⟨S_, .f32⟩
  | 16 => ⟨S4x512x512, .f32⟩
  | 17 => ⟨S4x512x512, .f32⟩
  | 18 => ⟨S4x512x512, .f32⟩
  | 19 => ⟨S_, .f32⟩
  | 20 => ⟨S4x512x512, .f32⟩
  | 21 => ⟨S4x512x512, .f32⟩
  | 22 => ⟨S4x512x512, .f32⟩
  | 23 => ⟨S4x512x16, .f32⟩
  | 24 => ⟨S4x512x16, .i32⟩
  | 25 => ⟨S4x1x8192, .i32⟩
  | 26 => ⟨S4x3x8192, .i32⟩
  | 27 => ⟨S_, .i32⟩
  | 28 => ⟨S4x3x8192, .i32⟩
  | 29 => ⟨S4x3x8192, .i1⟩
  | 30 => ⟨S_, .i32⟩
  | 31 => ⟨S4x3x8192, .i32⟩
  | 32 => ⟨S4x3x8192, .i32⟩
  | 33 => ⟨S4x3x8192, .i32⟩
  | 34 => ⟨S4x3x8192x1, .i32⟩
  | 35 => ⟨S1, .i32⟩
  | 36 => ⟨S_, .i32⟩
  | 37 => ⟨S4x3x8192x1, .i32⟩
  | 38 => ⟨S4x3x8192x1, .i1⟩
  | 39 => ⟨S1x1x1x1, .i32⟩
  | 40 => ⟨S4x3x8192x1, .i32⟩
  | 41 => ⟨S4x3x8192x1, .i1⟩
  | 42 => ⟨S4x3x8192x1, .i1⟩
  | 43 => ⟨S_, .i1⟩
  | 44 => ⟨S4x3x8192, .i1⟩
  | 45 => ⟨S4x3x8192, .f32⟩
  | 46 => ⟨S_, .f32⟩
  | 47 => ⟨S4x3x8192, .f32⟩
  | 48 => ⟨S4x3x8192, .f32⟩
  | 49 => ⟨S4x3x512x16, .f32⟩
  | 50 => ⟨S4x3x512x1, .f32⟩
  | 51 => ⟨S4x3x512x16, .f32⟩
  | 52 => ⟨S4x3x512x16, .f32⟩
  | 53 => ⟨S4x1x8192, .i32⟩
  | 54 => ⟨S4x128x8192, .i32⟩
  | 55 => ⟨S_, .i32⟩
  | 56 => ⟨S4x128x8192, .i32⟩
  | 57 => ⟨S4x128x8192, .i1⟩
  | 58 => ⟨S_, .i32⟩
  | 59 => ⟨S4x128x8192, .i32⟩
  | 60 => ⟨S4x128x8192, .i32⟩
  | 61 => ⟨S4x128x8192, .i32⟩
  | 62 => ⟨S4x128x8192x1, .i32⟩
  | 63 => ⟨S1, .i32⟩
  | 64 => ⟨S_, .i32⟩
  | 65 => ⟨S4x128x8192x1, .i32⟩
  | 66 => ⟨S4x128x8192x1, .i1⟩
  | 67 => ⟨S1x1x1x1, .i32⟩
  | 68 => ⟨S4x128x8192x1, .i32⟩
  | 69 => ⟨S4x128x8192x1, .i1⟩
  | 70 => ⟨S4x128x8192x1, .i1⟩
  | 71 => ⟨S_, .i1⟩
  | 72 => ⟨S4x128x8192, .i1⟩
  | 73 => ⟨S4x128x8192, .f32⟩
  | 74 => ⟨S_, .f32⟩
  | 75 => ⟨S4x128x8192, .f32⟩
  | 76 => ⟨S4x128x8192, .f32⟩
  | 77 => ⟨S4x128x512x16, .f32⟩
  | 78 => ⟨S4x131x512x16, .f32⟩
  | 79 => ⟨S256x4x512x16, .f32⟩
  | 80 => ⟨S4x256x512x16, .f32⟩
  | 81 => ⟨S1x256x1x1, .f32⟩
  | 82 => ⟨S4x256x512x16, .f32⟩
  | 83 => ⟨S4x256x512x16, .f32⟩
  | 84 => ⟨S_, .f32⟩
  | 85 => ⟨S4x256x512x16, .f32⟩
  | 86 => ⟨S4x256x512x16, .f32⟩
  | 87 => ⟨S256x4x512x16, .f32⟩
  | 88 => ⟨S4x256x512x16, .f32⟩
  | 89 => ⟨S1x256x1x1, .f32⟩
  | 90 => ⟨S4x256x512x16, .f32⟩
  | 91 => ⟨S4x256x512x16, .f32⟩
  | 92 => ⟨S_, .f32⟩
  | 93 => ⟨S4x256x512x16, .f32⟩
  | 94 => ⟨S4x256x512x16, .f32⟩
  | 95 => ⟨S256x4x512x16, .f32⟩
  | 96 => ⟨S4x256x512x16, .f32⟩
  | 97 => ⟨S1x256x1x1, .f32⟩
  | 98 => ⟨S4x256x512x16, .f32⟩
  | 99 => ⟨S4x256x512x16, .f32⟩
  | 100 => ⟨S_, .f32⟩
  | 101 => ⟨S4x256x512x16, .f32⟩
  | 102 => ⟨S4x256x512x16, .f32⟩
  | 103 => ⟨S_, .f32⟩
  | 104 => ⟨S4x256x512, .f32⟩
  | 105 => ⟨S4x256x512x1, .f32⟩
  | 106 => ⟨S4x256x512x16, .f32⟩
  | 107 => ⟨S4x512x512x16, .f32⟩
  | 108 => ⟨S512x4x512x16, .f32⟩
  | 109 => ⟨S4x512x512x16, .f32⟩
  | 110 => ⟨S1x512x1x1, .f32⟩
  | 111 => ⟨S4x512x512x16, .f32⟩
  | 112 => ⟨S4x512x512x16, .f32⟩
  | 113 => ⟨S_, .f32⟩
  | 114 => ⟨S4x512x512x16, .f32⟩
  | 115 => ⟨S4x512x512x16, .f32⟩
  | 116 => ⟨S512x4x512x16, .f32⟩
  | 117 => ⟨S4x512x512x16, .f32⟩
  | 118 => ⟨S1x512x1x1, .f32⟩
  | 119 => ⟨S4x512x512x16, .f32⟩
  | 120 => ⟨S4x512x512x16, .f32⟩
  | 121 => ⟨S_, .f32⟩
  | 122 => ⟨S4x512x512x16, .f32⟩
  | 123 => ⟨S4x512x512x16, .f32⟩
  | 124 => ⟨S_, .f32⟩
  | 125 => ⟨S4x512x512, .f32⟩
  | 126 => ⟨S4x640x512, .f32⟩
  | 127 => ⟨S512x4x512, .f32⟩
  | _ => ⟨S4x3x16384, .f32⟩

abbrev hbmTy0_2 (i : Nat) : BufTy := match i % 128 with
  | 0 => ⟨S4x512x512, .f32⟩
  | 1 => ⟨S1x512x1, .f32⟩
  | 2 => ⟨S4x512x512, .f32⟩
  | 3 => ⟨S4x512x512, .f32⟩
  | 4 => ⟨S_, .f32⟩
  | 5 => ⟨S4x512x512, .f32⟩
  | 6 => ⟨S4x512x512, .f32⟩
  | 7 => ⟨S256x4x512, .f32⟩
  | 8 => ⟨S4x256x512, .f32⟩
  | 9 => ⟨S1x256x1, .f32⟩
  | 10 => ⟨S4x256x512, .f32⟩
  | 11 => ⟨S4x256x512, .f32⟩
  | 12 => ⟨S_, .f32⟩
  | 13 => ⟨S4x256x512, .f32⟩
  | 14 => ⟨S4x256x512, .f32⟩
  | 15 => ⟨S4x4x512, .f32⟩
  | 16 => ⟨S4x4x512, .f32⟩
  | 17 => ⟨S1x4x1, .f32⟩
  | 18 => ⟨S4x4x512, .f32⟩
  | 19 => ⟨S4x4x512, .f32⟩
  | 20 => ⟨S4x3x512, .f32⟩
  | 21 => ⟨S4x3x512, .f32⟩
  | 22 => ⟨S4x1x512, .f32⟩
  | 23 => ⟨S4x512, .f32⟩
  | 24 => ⟨S_, .f32⟩
  | 25 => ⟨S4x512, .f32⟩
  | 26 => ⟨S4x512, .f32⟩
  | 27 => ⟨S4x512, .f32⟩
  | 28 => ⟨S4x512, .f32⟩
  | 29 => ⟨S4x512, .i1⟩
  | 30 => ⟨S4x512, .f32⟩
  | 31 => ⟨S4x512, .f32⟩
  | 32 => ⟨S4x512, .f32⟩
  | 33 => ⟨S4x512, .f32⟩
  | 34 => ⟨S4x512, .f32⟩
  | 35 => ⟨S4x512, .f32⟩
  | 36 => ⟨S4x512, .f32⟩
  | 37 => ⟨S4x512, .f32⟩
  | 38 => ⟨S_, .f32⟩
  | 39 => ⟨S4x512, .f32⟩
  | 40 => ⟨S4x512, .f32⟩
  | _ => ⟨S4x3x16384, .f32⟩

abbrev hbmTy (i : Nat) : BufTy := match i / 128 with
  | 0 => hbmTy0_0 i
  | 1 => hbmTy0_1 i
  | 2 => hbmTy0_2 i
  | _ => ⟨S4x3x16384, .f32⟩

abbrev bufTy : (tb : Table) → Fin (tcTables nBuf tb) → BufTy
  | .hbm, ⟨i, _⟩ => hbmTy i
  | _, _ => ⟨S4x3x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_cst : Ref sig .tc := ⟨.hbm, 31, rfl⟩
abbrev main_v2 : Ref sig .tc := ⟨.hbm, 32, rfl⟩
abbrev main_v3 : Ref sig .tc := ⟨.hbm, 33, rfl⟩
abbrev main_cst_0 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst_1 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_2 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_values : Ref sig .tc := ⟨.hbm, 50, rfl⟩
abbrev main_indices : Ref sig .tc := ⟨.hbm, 51, rfl⟩
abbrev main_v17 : Ref sig .tc := ⟨.hbm, 52, rfl⟩
abbrev main_v18 : Ref sig .tc := ⟨.hbm, 53, rfl⟩
abbrev main_call0_c : Ref sig .tc := ⟨.hbm, 54, rfl⟩
abbrev main_call0_v0 : Ref sig .tc := ⟨.hbm, 55, rfl⟩
abbrev main_call0_v1 : Ref sig .tc := ⟨.hbm, 56, rfl⟩
abbrev main_call0_c_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_c_1 : Ref sig .tc := ⟨.hbm, 62, rfl⟩
abbrev main_call0_c_2 : Ref sig .tc := ⟨.hbm, 63, rfl⟩
abbrev main_call0_v6 : Ref sig .tc := ⟨.hbm, 64, rfl⟩
abbrev main_call0_v7 : Ref sig .tc := ⟨.hbm, 65, rfl⟩
abbrev main_call0_v8 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_c_3 : Ref sig .tc := ⟨.hbm, 70, rfl⟩
abbrev main_call0_v12 : Ref sig .tc := ⟨.hbm, 71, rfl⟩
abbrev main_call0_v13 : Ref sig .tc := ⟨.hbm, 72, rfl⟩
abbrev main_call0_cst : Ref sig .tc := ⟨.hbm, 73, rfl⟩
abbrev main_call0_v14 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_c : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_call1_cst : Ref sig .tc := ⟨.hbm, 89, rfl⟩
abbrev main_call1_v0 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_call2_cst : Ref sig .tc := ⟨.hbm, 97, rfl⟩
abbrev main_call2_v0 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_call3_cst : Ref sig .tc := ⟨.hbm, 105, rfl⟩
abbrev main_call3_v0 : Ref sig .tc := ⟨.hbm, 106, rfl⟩
abbrev main_v44 : Ref sig .tc := ⟨.hbm, 107, rfl⟩
abbrev main_cst_3 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_call4_cst : Ref sig .tc := ⟨.hbm, 118, rfl⟩
abbrev main_call4_v0 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_call5_cst : Ref sig .tc := ⟨.hbm, 126, rfl⟩
abbrev main_call5_v0 : Ref sig .tc := ⟨.hbm, 127, rfl⟩
abbrev main_v60 : Ref sig .tc := ⟨.hbm, 128, rfl⟩
abbrev main_cst_4 : Ref sig .tc := ⟨.hbm, 129, rfl⟩
abbrev main_v61 : Ref sig .tc := ⟨.hbm, 130, rfl⟩
abbrev main_v62 : Ref sig .tc := ⟨.hbm, 131, rfl⟩
abbrev main_cst_5 : Ref sig .tc := ⟨.hbm, 132, rfl⟩
abbrev main_v63 : Ref sig .tc := ⟨.hbm, 133, rfl⟩
abbrev main_v64 : Ref sig .tc := ⟨.hbm, 134, rfl⟩
abbrev main_cst_6 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_cst_7 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_cst_8 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_values_9 : Ref sig .tc := ⟨.hbm, 151, rfl⟩
abbrev main_indices_10 : Ref sig .tc := ⟨.hbm, 152, rfl⟩
abbrev main_v78 : Ref sig .tc := ⟨.hbm, 153, rfl⟩
abbrev main_v79 : Ref sig .tc := ⟨.hbm, 154, rfl⟩
abbrev main_call6_c : Ref sig .tc := ⟨.hbm, 155, rfl⟩
abbrev main_call6_v0 : Ref sig .tc := ⟨.hbm, 156, rfl⟩
abbrev main_call6_v1 : Ref sig .tc := ⟨.hbm, 157, rfl⟩
abbrev main_call6_c_0 : Ref sig .tc := ⟨.hbm, 158, rfl⟩
abbrev main_call6_v2 : Ref sig .tc := ⟨.hbm, 159, rfl⟩
abbrev main_call6_v3 : Ref sig .tc := ⟨.hbm, 160, rfl⟩
abbrev main_call6_v4 : Ref sig .tc := ⟨.hbm, 161, rfl⟩
abbrev main_call6_v5 : Ref sig .tc := ⟨.hbm, 162, rfl⟩
abbrev main_call6_c_1 : Ref sig .tc := ⟨.hbm, 163, rfl⟩
abbrev main_call6_c_2 : Ref sig .tc := ⟨.hbm, 164, rfl⟩
abbrev main_call6_v6 : Ref sig .tc := ⟨.hbm, 165, rfl⟩
abbrev main_call6_v7 : Ref sig .tc := ⟨.hbm, 166, rfl⟩
abbrev main_call6_v8 : Ref sig .tc := ⟨.hbm, 167, rfl⟩
abbrev main_call6_v9 : Ref sig .tc := ⟨.hbm, 168, rfl⟩
abbrev main_call6_v10 : Ref sig .tc := ⟨.hbm, 169, rfl⟩
abbrev main_call6_v11 : Ref sig .tc := ⟨.hbm, 170, rfl⟩
abbrev main_call6_c_3 : Ref sig .tc := ⟨.hbm, 171, rfl⟩
abbrev main_call6_v12 : Ref sig .tc := ⟨.hbm, 172, rfl⟩
abbrev main_call6_v13 : Ref sig .tc := ⟨.hbm, 173, rfl⟩
abbrev main_call6_cst : Ref sig .tc := ⟨.hbm, 174, rfl⟩
abbrev main_call6_v14 : Ref sig .tc := ⟨.hbm, 175, rfl⟩
abbrev main_v80 : Ref sig .tc := ⟨.hbm, 176, rfl⟩
abbrev main_v81 : Ref sig .tc := ⟨.hbm, 177, rfl⟩
abbrev main_v82 : Ref sig .tc := ⟨.hbm, 178, rfl⟩
abbrev main_v83 : Ref sig .tc := ⟨.hbm, 179, rfl⟩
abbrev main_v84 : Ref sig .tc := ⟨.hbm, 180, rfl⟩
abbrev main_v85 : Ref sig .tc := ⟨.hbm, 181, rfl⟩
abbrev main_v86 : Ref sig .tc := ⟨.hbm, 182, rfl⟩
abbrev main_call7_c : Ref sig .tc := ⟨.hbm, 183, rfl⟩
abbrev main_call7_v0 : Ref sig .tc := ⟨.hbm, 184, rfl⟩
abbrev main_call7_v1 : Ref sig .tc := ⟨.hbm, 185, rfl⟩
abbrev main_call7_c_0 : Ref sig .tc := ⟨.hbm, 186, rfl⟩
abbrev main_call7_v2 : Ref sig .tc := ⟨.hbm, 187, rfl⟩
abbrev main_call7_v3 : Ref sig .tc := ⟨.hbm, 188, rfl⟩
abbrev main_call7_v4 : Ref sig .tc := ⟨.hbm, 189, rfl⟩
abbrev main_call7_v5 : Ref sig .tc := ⟨.hbm, 190, rfl⟩
abbrev main_call7_c_1 : Ref sig .tc := ⟨.hbm, 191, rfl⟩
abbrev main_call7_c_2 : Ref sig .tc := ⟨.hbm, 192, rfl⟩
abbrev main_call7_v6 : Ref sig .tc := ⟨.hbm, 193, rfl⟩
abbrev main_call7_v7 : Ref sig .tc := ⟨.hbm, 194, rfl⟩
abbrev main_call7_v8 : Ref sig .tc := ⟨.hbm, 195, rfl⟩
abbrev main_call7_v9 : Ref sig .tc := ⟨.hbm, 196, rfl⟩
abbrev main_call7_v10 : Ref sig .tc := ⟨.hbm, 197, rfl⟩
abbrev main_call7_v11 : Ref sig .tc := ⟨.hbm, 198, rfl⟩
abbrev main_call7_c_3 : Ref sig .tc := ⟨.hbm, 199, rfl⟩
abbrev main_call7_v12 : Ref sig .tc := ⟨.hbm, 200, rfl⟩
abbrev main_call7_v13 : Ref sig .tc := ⟨.hbm, 201, rfl⟩
abbrev main_call7_cst : Ref sig .tc := ⟨.hbm, 202, rfl⟩
abbrev main_call7_v14 : Ref sig .tc := ⟨.hbm, 203, rfl⟩
abbrev main_v87 : Ref sig .tc := ⟨.hbm, 204, rfl⟩
abbrev main_v88 : Ref sig .tc := ⟨.hbm, 205, rfl⟩
abbrev main_v89 : Ref sig .tc := ⟨.hbm, 206, rfl⟩
abbrev main_v90 : Ref sig .tc := ⟨.hbm, 207, rfl⟩
abbrev main_v91 : Ref sig .tc := ⟨.hbm, 208, rfl⟩
abbrev main_v92 : Ref sig .tc := ⟨.hbm, 209, rfl⟩
abbrev main_v93 : Ref sig .tc := ⟨.hbm, 210, rfl⟩
abbrev main_v94 : Ref sig .tc := ⟨.hbm, 211, rfl⟩
abbrev main_call8_cst : Ref sig .tc := ⟨.hbm, 212, rfl⟩
abbrev main_call8_v0 : Ref sig .tc := ⟨.hbm, 213, rfl⟩
abbrev main_v95 : Ref sig .tc := ⟨.hbm, 214, rfl⟩
abbrev main_v96 : Ref sig .tc := ⟨.hbm, 215, rfl⟩
abbrev main_v97 : Ref sig .tc := ⟨.hbm, 216, rfl⟩
abbrev main_v98 : Ref sig .tc := ⟨.hbm, 217, rfl⟩
abbrev main_v99 : Ref sig .tc := ⟨.hbm, 218, rfl⟩
abbrev main_v100 : Ref sig .tc := ⟨.hbm, 219, rfl⟩
abbrev main_call9_cst : Ref sig .tc := ⟨.hbm, 220, rfl⟩
abbrev main_call9_v0 : Ref sig .tc := ⟨.hbm, 221, rfl⟩
abbrev main_v101 : Ref sig .tc := ⟨.hbm, 222, rfl⟩
abbrev main_v102 : Ref sig .tc := ⟨.hbm, 223, rfl⟩
abbrev main_v103 : Ref sig .tc := ⟨.hbm, 224, rfl⟩
abbrev main_v104 : Ref sig .tc := ⟨.hbm, 225, rfl⟩
abbrev main_v105 : Ref sig .tc := ⟨.hbm, 226, rfl⟩
abbrev main_v106 : Ref sig .tc := ⟨.hbm, 227, rfl⟩
abbrev main_call10_cst : Ref sig .tc := ⟨.hbm, 228, rfl⟩
abbrev main_call10_v0 : Ref sig .tc := ⟨.hbm, 229, rfl⟩
abbrev main_v107 : Ref sig .tc := ⟨.hbm, 230, rfl⟩
abbrev main_cst_11 : Ref sig .tc := ⟨.hbm, 231, rfl⟩
abbrev main_v108 : Ref sig .tc := ⟨.hbm, 232, rfl⟩
abbrev main_v109 : Ref sig .tc := ⟨.hbm, 233, rfl⟩
abbrev main_v110 : Ref sig .tc := ⟨.hbm, 234, rfl⟩
abbrev main_v111 : Ref sig .tc := ⟨.hbm, 235, rfl⟩
abbrev main_v112 : Ref sig .tc := ⟨.hbm, 236, rfl⟩
abbrev main_v113 : Ref sig .tc := ⟨.hbm, 237, rfl⟩
abbrev main_v114 : Ref sig .tc := ⟨.hbm, 238, rfl⟩
abbrev main_v115 : Ref sig .tc := ⟨.hbm, 239, rfl⟩
abbrev main_v116 : Ref sig .tc := ⟨.hbm, 240, rfl⟩
abbrev main_call11_cst : Ref sig .tc := ⟨.hbm, 241, rfl⟩
abbrev main_call11_v0 : Ref sig .tc := ⟨.hbm, 242, rfl⟩
abbrev main_v117 : Ref sig .tc := ⟨.hbm, 243, rfl⟩
abbrev main_v118 : Ref sig .tc := ⟨.hbm, 244, rfl⟩
abbrev main_v119 : Ref sig .tc := ⟨.hbm, 245, rfl⟩
abbrev main_v120 : Ref sig .tc := ⟨.hbm, 246, rfl⟩
abbrev main_v121 : Ref sig .tc := ⟨.hbm, 247, rfl⟩
abbrev main_v122 : Ref sig .tc := ⟨.hbm, 248, rfl⟩
abbrev main_call12_cst : Ref sig .tc := ⟨.hbm, 249, rfl⟩
abbrev main_call12_v0 : Ref sig .tc := ⟨.hbm, 250, rfl⟩
abbrev main_v123 : Ref sig .tc := ⟨.hbm, 251, rfl⟩
abbrev main_cst_12 : Ref sig .tc := ⟨.hbm, 252, rfl⟩
abbrev main_v124 : Ref sig .tc := ⟨.hbm, 253, rfl⟩
abbrev main_v125 : Ref sig .tc := ⟨.hbm, 254, rfl⟩
abbrev main_v126 : Ref sig .tc := ⟨.hbm, 255, rfl⟩
abbrev main_v127 : Ref sig .tc := ⟨.hbm, 256, rfl⟩
abbrev main_v128 : Ref sig .tc := ⟨.hbm, 257, rfl⟩
abbrev main_v129 : Ref sig .tc := ⟨.hbm, 258, rfl⟩
abbrev main_v130 : Ref sig .tc := ⟨.hbm, 259, rfl⟩
abbrev main_call13_cst : Ref sig .tc := ⟨.hbm, 260, rfl⟩
abbrev main_call13_v0 : Ref sig .tc := ⟨.hbm, 261, rfl⟩
abbrev main_v131 : Ref sig .tc := ⟨.hbm, 262, rfl⟩
abbrev main_v132 : Ref sig .tc := ⟨.hbm, 263, rfl⟩
abbrev main_v133 : Ref sig .tc := ⟨.hbm, 264, rfl⟩
abbrev main_v134 : Ref sig .tc := ⟨.hbm, 265, rfl⟩
abbrev main_v135 : Ref sig .tc := ⟨.hbm, 266, rfl⟩
abbrev main_v136 : Ref sig .tc := ⟨.hbm, 267, rfl⟩
abbrev main_call14_cst : Ref sig .tc := ⟨.hbm, 268, rfl⟩
abbrev main_call14_v0 : Ref sig .tc := ⟨.hbm, 269, rfl⟩
abbrev main_v137 : Ref sig .tc := ⟨.hbm, 270, rfl⟩
abbrev main_v138 : Ref sig .tc := ⟨.hbm, 271, rfl⟩
abbrev main_v139 : Ref sig .tc := ⟨.hbm, 272, rfl⟩
abbrev main_v140 : Ref sig .tc := ⟨.hbm, 273, rfl⟩
abbrev main_v141 : Ref sig .tc := ⟨.hbm, 274, rfl⟩
abbrev main_v142 : Ref sig .tc := ⟨.hbm, 275, rfl⟩
abbrev main_v143 : Ref sig .tc := ⟨.hbm, 276, rfl⟩
abbrev main_v144 : Ref sig .tc := ⟨.hbm, 277, rfl⟩
abbrev main_v145 : Ref sig .tc := ⟨.hbm, 278, rfl⟩
abbrev main_v146 : Ref sig .tc := ⟨.hbm, 279, rfl⟩
abbrev main_call15_cst : Ref sig .tc := ⟨.hbm, 280, rfl⟩
abbrev main_call15_v0 : Ref sig .tc := ⟨.hbm, 281, rfl⟩
abbrev main_call15_v1 : Ref sig .tc := ⟨.hbm, 282, rfl⟩
abbrev main_call15_v2 : Ref sig .tc := ⟨.hbm, 283, rfl⟩
abbrev main_call15_v3 : Ref sig .tc := ⟨.hbm, 284, rfl⟩
abbrev main_call15_v4 : Ref sig .tc := ⟨.hbm, 285, rfl⟩
abbrev main_call15_v5 : Ref sig .tc := ⟨.hbm, 286, rfl⟩
abbrev main_call15_v6 : Ref sig .tc := ⟨.hbm, 287, rfl⟩
abbrev main_call15_v7 : Ref sig .tc := ⟨.hbm, 288, rfl⟩
abbrev main_call15_v8 : Ref sig .tc := ⟨.hbm, 289, rfl⟩
abbrev main_call15_v9 : Ref sig .tc := ⟨.hbm, 290, rfl⟩
abbrev main_call15_v10 : Ref sig .tc := ⟨.hbm, 291, rfl⟩
abbrev main_call15_v11 : Ref sig .tc := ⟨.hbm, 292, rfl⟩
abbrev main_v147 : Ref sig .tc := ⟨.hbm, 293, rfl⟩
abbrev main_cst_13 : Ref sig .tc := ⟨.hbm, 294, rfl⟩
abbrev main_v148 : Ref sig .tc := ⟨.hbm, 295, rfl⟩
abbrev main_v149 : Ref sig .tc := ⟨.hbm, 296, rfl⟩

abbrev nD : Nat := 1
abbrev τ : Topo := Topo.v7x

variable {F : FTy → Type} [FloatOps F]
-- ==== Proof.Setup.lean ====
/-
  The common ground of the run: the program as the launch theorem sees it, the ghost state (the handshakes' rounds, the
  TensorCore pipelines' rounds, the transfers' counters), and an indirect gather issued and awaited from buffers held
  whole.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.TableIdle
public import Idealize.ShloMosaic.Lib.Tactic
public import proofs.«01_k».proof.Proof.Gen.KernelIdeal
public import proofs.«01_k».proof.Proof.Gen.KernelIdeal.Skeleton

@[expose] public section

noncomputable section

namespace Cert.Work

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 4) fun p => (pcfgs (F := F) p).Adm
abbrev K : SparseCore.Cfg τ sig (ΛP (F := F)) 3 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := UR sig nD τ
abbrev UU : Type := UH × (UP × Counters)

/-- The algebra of the proof. -/
abbrev MM (F : FTy → Type) : Type := MT nD τ sig (HIx 3) (Elt F) ℕ UU ℕ

abbrev EH : Emb UH (MT nD τ sig (HIx 3) (Elt F) ℕ UU ℕ) := embL
def EP : Emb UP (MT nD τ sig (HIx 3) (Elt F) ℕ UU ℕ) := (Emb.inl : Emb UP (UP × Counters)).trans embR

instance EP_landsIn : (EP (F := F)).LandsIn (upEmb : UEmb _ (MT nD τ sig (HIx 3) (Elt F) ℕ UU ℕ)) := by
  unfold EP embR; infer_instance

local notation "𝕄" => MT nD τ sig (HIx 3) (Elt F) ℕ UU ℕ

theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]
theorem bigSep_fin1 (Φ : Fin 1 → sProp 𝕄) : bigSep Finset.univ Φ = Φ 0 := bigSep_univ_of_subsingleton (0 : Fin 1)

/-! ## An indirect gather from buffers held whole -/

section Gather

open SparseCore

variable {α : Type} {Λ : Labels} {defs : Defs nD τ sig (Elt F) Λ} {𝒱 : Variants} {c : Thread nD τ} {bd : Option 𝒱.V}
variable {sp : Space} {s₀ s si : Shape} {a : ℕ} {e : EltTy}

/-- A gather in flight: its delivery, and what of the table and of the list it does not read. -/
def InFlight (c : Thread nD τ) (src : Memref sig c.2.kind sp s₀ e) (dst : Memref sig c.2.kind .vmem s e) (offs : Memref sig c.2.kind .vmem si .i32)
    (sem : DmaSem sig) (q qo : PosShare TreeShare) (fs : Buf (Elt F) (src.view.loc c)) (fo : Buf (Elt F) (offs.view.loc c))
    (fd : Buf (Elt F) (dst.view.loc c)) : sProp 𝕄 :=
  iprop(Transfers.Flight countersEmb c (.dma sem) (default : HIx 3) dst.view.dmaCredit
      iprop((dst.view.loc c ↦[dst.view.set]{fullShare} fd) ∗ (src.view.loc c ↦[src.view.set]{q} fs) ∗ (offs.view.loc c ↦[offs.view.set]{qo} fo))
    ∗ (src.view.loc c ↦[Finset.univ \ src.view.set]{q} fs) ∗ (offs.view.loc c ↦[Finset.univ \ offs.view.set]{qo} fo))

/-- Issuing it. -/
theorem gather_issue {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α} {Q : α → sProp 𝕄}
    {q qo : PosShare TreeShare} {fs : Buf (Elt F) (src.view.loc c)} {fd : Buf (Elt F) (dst.view.loc c)} {fo : Buf (Elt F) (offs.view.loc c)}
    (hd : dst.view.set = Finset.univ)
    (hN : ∑ j, (dst.slice (s.rowRect hg.axis' j) (s.stride_rowRect hg.axis' j)).view.dmaCredit = dst.view.dmaCredit)
    (hs : 0 < s.numel) (hin : ∀ x, (offs.view.read (Elt F) fo x).toNat < s₀.size hg.axis)
    {w : Buf (Elt F) (dst.view.loc c)}
    (hw : w = dst.view.write (Elt F) fd (gatherPayload hg (src.view.read (Elt F) fs) (rows (offs.view.read (Elt F) fo) hn hin)) Finset.univ) :
    iprop((src.view.loc c ↦{q} fs) ∗ (dst.view.loc c ↦{fullShare} fd)
        ∗ (offs.view.loc c ↦{qo} fo) ∗ semVal (c, SemLoc.dma sem) 0)
      ⊢ iprop((InFlight c src dst offs sem q qo fs fo w -∗ wp frame (wpE defs 𝒱 c bd) Set.univ (k ⟨⟩) Q)
          -∗ wp frame (wpE defs 𝒱 c bd) Set.univ (enqueueIndirectGather hp src dst hg offs hn sem hsrc he hsp hr >>= k) Q) := by
  subst hw
  iintro ⟨Hs, Hd, Ho, Hv⟩ Hk
  ihave Hs' := (pointsTo_split_subset (q := q) (f := fs) (S := Finset.univ) (Finset.subset_univ src.view.set)).1 $$ Hs
  icases Hs' with ⟨Hs, Hsr⟩
  ihave Ho' := (pointsTo_split_subset (q := qo) (f := fo) (S := Finset.univ) (Finset.subset_univ offs.view.set)).1 $$ Ho
  icases Ho' with ⟨Ho, Hor⟩
  ihave Hd' := (Entails.of_eq (show ((dst.view.loc c ↦{fullShare} fd) : sProp 𝕄) = (dst.view.loc c ↦[dst.view.set]{fullShare} fd) by rw [hd])) $$ Hd
  iapply (SparseCore.wp_indirectGatherLocal countersEmb 𝒱 c bd (hg := hg) (default : HIx 3) dst.view.dmaCredit hN hs hin) $$ [Hs Hd' Ho Hv]
  · isplitl [Hs]; · iexact Hs
    isplitl [Hd']; · iexact Hd'
    isplitl [Ho]; · iexact Ho
    iexact Hv
  iintro Hfl
  iapply Hk
  unfold InFlight
  isplitl [Hfl]; · iexact Hfl
  isplitl [Hsr]; · iexact Hsr
  iexact Hor

/-- Awaiting it. -/
theorem gather_wait {src : Memref sig c.2.kind sp s₀ e} {dst : Memref sig c.2.kind .vmem s e}
    {offs : Memref sig c.2.kind .vmem si .i32} {sem : DmaSem sig} {sp' : Space} {s' : Shape} {e' : EltTy}
    {srcw : Memref sig c.2.kind sp' s' e'} {hsrc : srcw.view.WordExact} {hdst : dst.view.WordExact}
    {k : PUnit → Prog (TpuEff nD τ sig (Elt F) Λ c.2) α} {Q : α → sProp 𝕄}
    {q qo : PosShare TreeShare} {fs : Buf (Elt F) (src.view.loc c)} {fd : Buf (Elt F) (dst.view.loc c)} {fo : Buf (Elt F) (offs.view.loc c)}
    (hd : dst.view.set = Finset.univ) {O : CellTallies nD τ sig (HIx 3)} {W : Waits sig (HIx 3)} :
    iprop(InFlight c src dst offs sem q qo fs fo fd ∗ owes c O W ∗ MayWait c (.dma sem) (default : HIx 3) O)
      ⊢ iprop((iprop((dst.view.loc c ↦{fullShare} fd) ∗ (src.view.loc c ↦{q} fs) ∗ (offs.view.loc c ↦{qo} fo)
              ∗ semVal (c, SemLoc.dma sem) 0 ∗ owes c O (insert (SemLoc.dma sem, (default : HIx 3)) W)) -∗ wp frame (wpE defs 𝒱 c bd) Set.univ (k ⟨⟩) Q)
          -∗ wp frame (wpE defs 𝒱 c bd) Set.univ (waitIndirectGather sem srcw dst hsrc hdst >>= k) Q) := by
  unfold InFlight
  iintro ⟨⟨Hfl, Hsr, Hor⟩, HO, Hm⟩ Hk
  iapply (Transfers.wp_waitLocalO countersEmb 𝒱 c bd (default : HIx 3) (rfl : dst.view.dmaCredit = _)) $$ [Hfl HO Hm]
  · isplitl [Hfl]; · iexact Hfl
    isplitl [HO] <;> iassumption
  iintro ⟨⟨Hd, Hs, Ho⟩, Hv, HO⟩
  iapply Hk
  isplitl [Hd]
  · iapply (Entails.of_eq (show ((dst.view.loc c ↦[dst.view.set]{fullShare} fd) : sProp 𝕄) = (dst.view.loc c ↦{fullShare} fd) by rw [hd])); iexact Hd
  isplitl [Hs Hsr]
  · iapply (pointsTo_split_subset (q := q) (f := fs) (S := Finset.univ) (Finset.subset_univ src.view.set)).2
    isplitl [Hs] <;> iassumption
  isplitl [Ho Hor]
  · iapply (pointsTo_split_subset (q := qo) (f := fo) (S := Finset.univ) (Finset.subset_univ offs.view.set)).2
    isplitl [Ho] <;> iassumption
  isplitl [Hv] <;> iassumption

end Gather

end Cert.Work

end
-- ==== Proof.Region.lean ====
/-
  One TensorCore call of @main between the sparse calls: entered from every unscoped buffer at a valuation, left at that
  valuation with the call's arrays at what its pipeline computes, the core owing the sparse calls still to come.
-/
module

public import proofs.«01_k».proof.Proof.Setup
public import proofs.«01_k».proof.Proof.Gen.KernelIdeal.Launch
public import Idealize.ShloMosaic.Lib.Pipeline.Regions
public import Idealize.ShloMosaic.Lib.Pipeline.RegionArrays
public import Idealize.ShloMosaic.Lib.Pipeline.RegionsLoop
public import Idealize.ShloMosaic.Lib.Pipeline.FrameSuffix

@[expose] public section

noncomputable section

namespace Cert.Work

open Cert.KernelIdeal Cert.KernelIdeal.Gen

open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat BodyObligationLoose LaunchFacts₀ pin)

variable {F : FTy → Type} [FloatOps F]

local notation "𝕄" => MT nD τ sig (HIx 3) (Elt F) ℕ UU ℕ

abbrev adm : (p : Fin 4) → (pcfgs (F := F) p).Adm := fun p => (cfgs p).toPCfg_adm

/-- Proof data for every pipeline. -/
abbrev PD (F : FTy → Type) [FloatOps F] := (p : Fin 4) → (c : Dev nD) → Dat τ (Elt F) (HIx 3) ℕ UU ℕ (pin pcfgs (adm (F := F)) p) c

/-- The core owes the sparse calls from `n` on, and has waited on nothing above them. -/
def Owing (n : ℕ) (d : Dev nD) : sProp 𝕄 :=
  iprop(∃ W, ⌜(K (F := F)).WBelow (T d) W (8 * n)⌝ ∗ owes (T d) ((K (F := F)).Otc d n) W)

/-- Every unscoped buffer of the core at a valuation. -/
abbrev Held (d : Dev nD) (V : Valuation τ sig (Elt F)) : sProp 𝕄 := StableHlo.held (T d) (Pipeline.ucRefs τ sig) V

/-- What a call leaves: its arrays at what the pipeline computes, the rest as before. -/
abbrev left (pd : PD F) (p : Fin 4) (c : Dev nD) (V : Valuation τ sig (Elt F)) : Valuation τ sig (Elt F) :=
  Pipeline.withArrays (cfgs p).spec c V fun w => (pd p c).arrAt w (cfgs p).N

section

variable (pd : PD F) (p : Fin 4) (n : ℕ) (V : Dev nD → Valuation τ sig (Elt F))
  (kit : LaunchFacts₀ (nD := nD) (τ := τ) cfgs p)
  (hbody : ∀ c, BodyObligationLoose (pd p c) (defs₀ (F := F)) Variants.none none Set.univ)
  (howed : ∀ c t, (pd p c).owed t = (K (F := F)).Otc c n)
  (hrec : ∀ c t, (pd p c).recorded t = {x | (K (F := F)).lev ((c : Thread nD τ), x.1) x.2 ≤ 8 * n})
  (hΦ : ∀ c t, (pd p c).Φ t = Pipeline.scopedRest (cfgs p).spec c)
  (hq : ∀ c w, (pd p c).q w = Pipeline.shareOf (cfgs p).spec w)
  (hA : ∀ c w, (pd p c).A w = V c (Proc.devRef .tc (Pipeline.arrRef (cfgs p).spec w)))

include hA kit in
theorem left_arr (c : Dev nD) (w : Fin (cfgs p).W) :
    left pd p c (V c) (Proc.devRef .tc (Pipeline.arrRef (cfgs p).spec w)) = (pd p c).arrAt w (cfgs p).N :=
  Pipeline.withArrays_arr_shared (cfgs p).spec c (V c) _ ((pd p c).arrAt_sharedIn kit.sharedIn (V c) (hA c) _) w

def seg : Pipeline.RegionSeg pcfgs (adm (F := F)) pd none (defs₀ (F := F)) Variants.none (K (F := F)).L (K (F := F)).lev p where
  win := kit.win
  block_pos := kit.block_pos
  stage_whole := kit.stage_whole
  K := PEmpty
  osem k := k.elim
  ho := Pipeline.OwnSemFacts.none _
  hbody := hbody
  hwaits c := Pipeline.cellsWaits_of_cut (pin pcfgs (adm (F := F))) pd none p c 0 ((K (F := F)).Otc c n) (howed c)
    (fun _ _ => Finset.mem_univ _) (fun _ _ => le_refl _)
    (fun g i h => ⟨Finset.mem_univ _, Nat.lt_of_lt_of_le (Nat.succ_pos _) (SparseCore.Cfg.lev_of_Otc_pos h)⟩)
  pre c := iprop(Held c (V c) ∗ Owing n c)
  post c := iprop(Held c (left pd p c (V c)) ∗ Owing n c)
  X _ := iprop(emp)
  Y _ := iprop(emp)
  Z c := Pipeline.unscopedRest (cfgs p).spec c fun b => V c (Proc.devRef .tc b)
  hentry c := by
    have h1 := Pipeline.arrays_of_unscopedBufs_shared pcfgs (adm (F := F)) pd kit.win kit.sharedIn kit.arr_whole c (fun w _ => hq c w)
      (fun b => V c (Proc.devRef .tc b)) (hA c)
    rw [Pipeline.unscopedBufs_held c (V c)] at h1
    rw [Pipeline.ownSems0_none, Pipeline.prefHeld_of_none _ rfl]
    iintro ⟨⟨Hh, HO⟩, -, -⟩
    ihave Hh' := h1 $$ Hh
    icases Hh' with ⟨Ha, Hr⟩
    imodintro
    isplitl [Ha]; · iexact Ha
    isplitr; · iempintro
    isplitl [HO]
    · unfold Owing
      unfold Dat.owesAt Pipeline.owesWithin Dat.bound
      rw [howed c 0, hrec c 0]
      icases HO with ⟨%W, %hW, HO⟩; iexists W; isplitr
      · ipureintro; exact fun x hx => Or.inl (hW x hx)
      iexact HO
    isplitr; · iempintro
    iexact Hr
  hin c := by
    rw [hΦ c 0]
    iintro ⟨-, -, Hr⟩
    iexact Hr
  hout c := by
    rw [hΦ c, Pipeline.ownSems0_none]
    iintro Hr
    isplitr; · iempintro
    isplitr; · iempintro
    iexact Hr
  hexit c := by
    have h1 := Pipeline.unscopedBufs_of_arrays_shared pcfgs (adm (F := F)) kit.win kit.sharedIn kit.arr_whole c pd (fun w _ => hq c w)
      (fun b => V c (Proc.devRef .tc b)) (fun b => left pd p c (V c) (Proc.devRef .tc b)) ((pd p c).arrAt · (cfgs p).N)
      (fun w => (left_arr pd p V kit hA c w).symm)
      (fun b hb => Pipeline.withArrays_of_ne (cfgs p).spec c (V c) _ b fun w e => hb (Finset.mem_image.mpr ⟨w, Finset.mem_univ _, e⟩))
    rw [Pipeline.unscopedBufs_held c (left pd p c (V c))] at h1
    iintro ⟨Ha, HO, -, Hr⟩
    imodintro
    isplitl [Ha Hr]
    · iapply h1
      isplitl [Ha]; · iexact Ha
      iexact Hr
    unfold Owing
    unfold Dat.owesAt Pipeline.owesWithin Dat.bound
    rw [howed c (Fin.last _), hrec c (Fin.last _)]
    icases HO with ⟨%W, %hW, HO⟩; iexists W; isplitr
    · ipureintro
      intro x hx
      rcases hW hx with h | ⟨w, s, rfl⟩
      · exact h
      · exact Nat.zero_le _
    iexact HO

end

/-- What a pipeline starts from beside the buffers. -/
abbrev Ghost (p : Fin 4) (d : Dev nD) : sProp 𝕄 :=
  iprop(Pipeline.cellsGhost (pin pcfgs (adm (F := F))) EP p d ∗ Pipeline.toksInit (pin pcfgs (adm (F := F))) EP p d)

/-- A call's run under the launch's table, from its segment. -/
theorem wp_seg {pd : PD F} {p : Fin 4} (R : Pipeline.RegionSeg pcfgs (adm (F := F)) pd none (defs₀ (F := F)) Variants.none (K (F := F)).L (K (F := F)).lev p)
    (d : Dev nD) (Q : PUnit.{1} → sProp 𝕄) :
    iprop((iprop(boundary (T d) ∗ R.post d) -∗ wp frame (wpE D 𝒱 (T d) none) Set.univ (Prog.ret PUnit.unit) Q)
        ∗ boundary (T d) ∗ R.pre d ∗ levAts (K (F := F)).L (K (F := F)).lev
        ∗ Pipeline.cellsGhost (pin pcfgs (adm (F := F))) EP p d ∗ Pipeline.toksInit (pin pcfgs (adm (F := F))) EP p d)
      ⊢ wp frame (wpE ((K (F := F)).defs D) 𝒱 (T d) none) Set.univ (Prog.lift (.customCall (SparseCore.inner (Pipeline.entry p)) ())) Q :=
  (Pipeline.RegionSeg.wp pcfgs (adm (F := F)) pd none cellOf_inj (EP (F := F)) (defs₀ (F := F)) Variants.none (K (F := F)).L (K (F := F)).lev
    R d none (fun u hu => nomatch hu) (α := PUnit) (fun _ => .ret PUnit.unit) Q).trans
    ((K (F := F)).wp_liftProg D 𝒱 (T d) Set.univ none (.op (.customCall (Pipeline.entry p) ()) fun _ => .ret PUnit.unit) Q)

section

variable (pd : PD F) (p : Fin 4) (n : ℕ) (V : Dev nD → Valuation τ sig (Elt F))
  (kit : LaunchFacts₀ (nD := nD) (τ := τ) cfgs p)
  (hbody : ∀ c, BodyObligationLoose (pd p c) (defs₀ (F := F)) Variants.none none Set.univ)
  (howed : ∀ c t, (pd p c).owed t = (K (F := F)).Otc c n)
  (hrec : ∀ c t, (pd p c).recorded t = {x | (K (F := F)).lev ((c : Thread nD τ), x.1) x.2 ≤ 8 * n})
  (hΦ : ∀ c t, (pd p c).Φ t = Pipeline.scopedRest (cfgs p).spec c)
  (hq : ∀ c w, (pd p c).q w = Pipeline.shareOf (cfgs p).spec w)
  (hA : ∀ c w, (pd p c).A w = V c (Proc.devRef .tc (Pipeline.arrRef (cfgs p).spec w)))

include kit hbody howed hrec hΦ hq hA in
/-- The call, under the launch's table. -/
theorem wp_entry (d : Dev nD) (Q : PUnit.{1} → sProp 𝕄) :
    iprop(boundary (T d) ∗ Held d (V d) ∗ Owing n d ∗ levAts (K (F := F)).L (K (F := F)).lev ∗ Ghost p d
        ∗ (iprop(boundary (T d) ∗ Held d (left pd p d (V d)) ∗ Owing n d) -∗ Q PUnit.unit))
      ⊢ wp frame (wpE ((K (F := F)).defs D) 𝒱 (T d) none) Set.univ (Prog.lift (.customCall (SparseCore.inner (Pipeline.entry p)) ())) Q := by
  have h := wp_seg (seg pd p n V kit hbody howed hrec hΦ hq hA) d Q
  rw [show (seg pd p n V kit hbody howed hrec hΦ hq hA).pre d = iprop(Held d (V d) ∗ Owing n d) from rfl,
    show (seg pd p n V kit hbody howed hrec hΦ hq hA).post d = iprop(Held d (left pd p d (V d)) ∗ Owing n d) from rfl] at h
  refine BIBase.Entails.trans ?_ h
  iintro ⟨Hb, Hh, HO, Hl, Hg, Hk⟩
  isplitl [Hk]
  · iintro ⟨Hb, Hp⟩
    rw [wp_ret]; imodintro
    iapply Hk
    isplitl [Hb]; · iexact Hb
    iexact Hp
  isplitl [Hb]; · iexact Hb
  isplitl [Hh HO]
  · isplitl [Hh]; · iexact Hh
    iexact HO
  isplitl [Hl]; · iexact Hl
  iexact Hg

end

end Cert.Work

end
-- ==== Proof.Ops.lean ====
/-
  @main as stretches of host operations around its TensorCore and SparseCore calls.
-/
module

public import proofs.«01_k».proof.Proof.Region

@[expose] public section

set_option maxRecDepth 16384

noncomputable section

namespace Cert.Work

open Cert.KernelIdeal Cert.KernelIdeal.Gen

open Idealize.ShloMosaic Idealize.ShloMosaic.TcCoe Idealize.ShloMosaic.Tactic
open Idealize.ShloMosaic.SparseCore (S V T)
open Idealize.ShloMosaic.StableHlo (seqK after)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type} [FloatOps F]

local notation "𝕄" => MT nD τ sig (HIx 3) (Elt F) ℕ UU ℕ

/-- A stretch of host operations (17). -/
def ops1 : List (HloOp τ sig (Elt F)) := [
  StableHlo.unary main_v0 main_v1 (Host.negf : (⟨S4x512x16384, .f32⟩ : BufTy).Contents (Elt F) → (⟨S4x512x16384, .f32⟩ : BufTy).Contents (Elt F)),
  StableHlo.unary main_v1 main_values ((fun x => (Host.topK S4x512x64 2 (FloatOps.cmpfTotal .gt) x sliceFits_S4x512x16384_S4x512x64).1) : (⟨S4x512x16384, .f32⟩ : BufTy).Contents (Elt F) → (⟨S4x512x64, .f32⟩ : BufTy).Contents (Elt F)),
  StableHlo.unary main_v1 main_indices ((fun x => (Host.topK S4x512x64 2 (FloatOps.cmpfTotal .gt) x sliceFits_S4x512x16384_S4x512x64).2) : (⟨S4x512x16384, .f32⟩ : BufTy).Contents (Elt F) → (⟨S4x512x64, .i32⟩ : BufTy).Contents (Elt F)),
  StableHlo.nullary main_cst (constant S_ .f32 0x00000000#32),
  StableHlo.unary main_cst main_v2 (broadcastInDim S4x16384x10 ![] bcast_S_S4x16384x10 : (⟨S_, .f32⟩ : BufTy).Contents (Elt F) → (⟨S4x16384x10, .f32⟩ : BufTy).Contents (Elt F)),
  StableHlo.unary main_arg0 main_v3 ((transpose S4x16384x3 [0, 2, 1] · transposes_S4x3x16384_S4x16384x3_0_2_1) : (⟨S4x3x16384, .f32⟩ : BufTy).Contents (Elt F) → (⟨S4x16384x3, .f32⟩ : BufTy).Contents (Elt F)),
  StableHlo.unary main_arg1 main_v4 ((transpose S4x16384x3 [0, 2, 1] · transposes_S4x3x16384_S4x16384x3_0_2_1) : (⟨S4x3x16384, .f32⟩ : BufTy).Contents (Elt F) → (⟨S4x16384x3, .f32⟩ : BufTy).Contents (Elt F)),
  StableHlo.nary ![main_v3, main_v4, main_v2] main_v5 (fun u => (concatenate S4x16384x16 2 [⟨S4x16384x3, (u 0 : (⟨S4x16384x3, .f32⟩ : BufTy).Contents (Elt F))⟩, ⟨S4x16384x3, (u 1 : (⟨S4x16384x3, .f32⟩ : BufTy).Contents (Elt F))⟩, ⟨S4x16384x10, (u 2 : (⟨S4x16384x10, .f32⟩ : BufTy).Contents (Elt F))⟩] concatenates_S4x16384x3_S4x16384x3_S4x16384x10_S4x16384x16_d2 : (⟨S4x16384x16, .f32⟩ : BufTy).Contents (Elt F))),
  StableHlo.reshape main_v5 main_v6 (rfl : (.f32 : EltTy) = .f32) shapeCasts_S4x16384x16_S65536x16,
  StableHlo.nullary main_v7 (iotaInDim S4 32 0),
  StableHlo.nullary main_c (constantI S_ 32 16384#32),
  StableHlo.unary main_c main_v8 (broadcastInDim S4 ![] bcast_S_S4 : (⟨S_, .i32⟩ : BufTy).Contents (Elt F) → (⟨S4, .i32⟩ : BufTy).Contents (Elt F)),
  StableHlo.binary main_v7 main_v8 main_v9 (muli : (⟨S4, .i32⟩ : BufTy).Contents (Elt F) → (⟨S4, .i32⟩ : BufTy).Contents (Elt F) → (⟨S4, .i32⟩ : BufTy).Contents (Elt F)),
  StableHlo.unary main_v9 main_v10 (broadcastInDim S4x1x1 ![0] bcast_S4_S4x1x1_0 : (⟨S4, .i32⟩ : BufTy).Contents (Elt F) → (⟨S4x1x1, .i32⟩ : BufTy).Contents (Elt F)),
  StableHlo.unary main_v10 main_v11 (broadcastInDim S4x512x64 ![0, 1, 2] bcast_S4x1x1_S4x512x64_0_1_2 : (⟨S4x1x1, .i32⟩ : BufTy).Contents (Elt F) → (⟨S4x512x64, .i32⟩ : BufTy).Contents (Elt F)),
  StableHlo.binary main_indices main_v11 main_v12 (addi : (⟨S4x512x64, .i32⟩ : BufTy).Contents (Elt F) → (⟨S4x512x64, .i32⟩ : BufTy).Contents (Elt F) → (⟨S4x512x64, .i32⟩ : BufTy).Contents (Elt F)),
  StableHlo.reshape main_v12 main_v13 (rfl : (.i32 : EltTy) = .i32) shapeCasts_S4x512x64_S131072]

abbrev wr1 : List (Ref sig .tc) := [main_v1, main_values, main_indices, main_cst, main_v2, main_v3, main_v4, main_v5, main_v6, main_v7, main_c, main_v8, main_v9, main_v10, main_v11, main_v12, main_v13]

theorem ops1_writes : (ops1 (F := F)).map HloOp.writes = wr1.map fun r => {Proc.devRef (τ := τ) .tc r} := rfl

theorem ops1_fresh : (ops1 (F := F)).map HloOp.fresh = (ops1 (F := F)).map fun _ => (∅ : Finset (DevRef τ sig)) := rfl

theorem ops1_bufs : (ops1 (F := F)).Forall fun op => op.bufs ⊆ StableHlo.tcRefs τ sig := ⟨StableHlo.unary_bufs_sub .., StableHlo.unary_bufs_sub .., StableHlo.unary_bufs_sub .., StableHlo.nullary_bufs_sub .., StableHlo.unary_bufs_sub .., StableHlo.unary_bufs_sub .., StableHlo.unary_bufs_sub .., StableHlo.nary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.reshape_bufs_sub ..⟩

/-- A stretch of host operations (3). -/
def ops2 : List (HloOp τ sig (Elt F)) := [
  StableHlo.reshape main_v14 main_v15 (rfl : (.f32 : EltTy) = .f32) shapeCasts_S131072x16_S4x32768x16,
  StableHlo.unary main_v15 main_v16 ((transpose S4x16x32768 [0, 2, 1] · transposes_S4x32768x16_S4x16x32768_0_2_1) : (⟨S4x32768x16, .f32⟩ : BufTy).Contents (Elt F) → (⟨S4x16x32768, .f32⟩ : BufTy).Contents (Elt F)),
  StableHlo.reshape main_v16 main_v17 (rfl : (.f32 : EltTy) = .f32) shapeCasts_S4x16x32768_S4x16x512x64]

abbrev wr2 : List (Ref sig .tc) := [main_v15, main_v16, main_v17]

theorem ops2_writes : (ops2 (F := F)).map HloOp.writes = wr2.map fun r => {Proc.devRef (τ := τ) .tc r} := rfl

theorem ops2_fresh : (ops2 (F := F)).map HloOp.fresh = (ops2 (F := F)).map fun _ => (∅ : Finset (DevRef τ sig)) := rfl

theorem ops2_bufs : (ops2 (F := F)).Forall fun op => op.bufs ⊆ StableHlo.tcRefs τ sig := ⟨StableHlo.reshape_bufs_sub .., StableHlo.unary_bufs_sub .., StableHlo.reshape_bufs_sub ..⟩

/-- A stretch of host operations (16). -/
def ops3 : List (HloOp τ sig (Elt F)) := [
  StableHlo.unary main_v19 main_v20 (Host.negf : (⟨S4x512x512, .f32⟩ : BufTy).Contents (Elt F) → (⟨S4x512x512, .f32⟩ : BufTy).Contents (Elt F)),
  StableHlo.unary main_v20 main_values_0 ((fun x => (Host.topK S4x512x16 2 (FloatOps.cmpfTotal .gt) x sliceFits_S4x512x512_S4x512x16).1) : (⟨S4x512x512, .f32⟩ : BufTy).Contents (Elt F) → (⟨S4x512x16, .f32⟩ : BufTy).Contents (Elt F)),
  StableHlo.unary main_v20 main_indices_1 ((fun x => (Host.topK S4x512x16 2 (FloatOps.cmpfTotal .gt) x sliceFits_S4x512x512_S4x512x16).2) : (⟨S4x512x512, .f32⟩ : BufTy).Contents (Elt F) → (⟨S4x512x16, .i32⟩ : BufTy).Contents (Elt F)),
  StableHlo.nullary main_v21 (iotaInDim S4 32 0),
  StableHlo.nullary main_c_2 (constantI S_ 32 512#32),
  StableHlo.unary main_c_2 main_v22 (broadcastInDim S4 ![] bcast_S_S4 : (⟨S_, .i32⟩ : BufTy).Contents (Elt F) → (⟨S4, .i32⟩ : BufTy).Contents (Elt F)),
  StableHlo.binary main_v21 main_v22 main_v23 (muli : (⟨S4, .i32⟩ : BufTy).Contents (Elt F) → (⟨S4, .i32⟩ : BufTy).Contents (Elt F) → (⟨S4, .i32⟩ : BufTy).Contents (Elt F)),
  StableHlo.unary main_v23 main_v24 (broadcastInDim S4x1x1 ![0] bcast_S4_S4x1x1_0 : (⟨S4, .i32⟩ : BufTy).Contents (Elt F) → (⟨S4x1x1, .i32⟩ : BufTy).Contents (Elt F)),
  StableHlo.unary main_v24 main_v25 (broadcastInDim S4x512x16 ![0, 1, 2] bcast_S4x1x1_S4x512x16_0_1_2 : (⟨S4x1x1, .i32⟩ : BufTy).Contents (Elt F) → (⟨S4x512x16, .i32⟩ : BufTy).Contents (Elt F)),
  StableHlo.binary main_indices_1 main_v25 main_v26 (addi : (⟨S4x512x16, .i32⟩ : BufTy).Contents (Elt F) → (⟨S4x512x16, .i32⟩ : BufTy).Contents (Elt F) → (⟨S4x512x16, .i32⟩ : BufTy).Contents (Elt F)),
  StableHlo.reshape main_v26 main_v27 (rfl : (.i32 : EltTy) = .i32) shapeCasts_S4x512x16_S32768,
  StableHlo.unary main_arg2 main_v28 ((transpose S4x512x3 [0, 2, 1] · transposes_S4x3x512_S4x512x3_0_2_1) : (⟨S4x3x512, .f32⟩ : BufTy).Contents (Elt F) → (⟨S4x512x3, .f32⟩ : BufTy).Contents (Elt F)),
  StableHlo.nullary main_cst_3 (constant S_ .f32 0x00000000#32),
  StableHlo.unary main_cst_3 main_v29 (broadcastInDim S4x512x13 ![] bcast_S_S4x512x13 : (⟨S_, .f32⟩ : BufTy).Contents (Elt F) → (⟨S4x512x13, .f32⟩ : BufTy).Contents (Elt F)),
  StableHlo.binary main_v28 main_v29 main_v30 ((fun a b => concatenate S4x512x16 2 [⟨S4x512x3, a⟩, ⟨S4x512x13, b⟩] concatenates_S4x512x3_S4x512x13_S4x512x16_d2) : (⟨S4x512x3, .f32⟩ : BufTy).Contents (Elt F) → (⟨S4x512x13, .f32⟩ : BufTy).Contents (Elt F) → (⟨S4x512x16, .f32⟩ : BufTy).Contents (Elt F)),
  StableHlo.reshape main_v30 main_v31 (rfl : (.f32 : EltTy) = .f32) shapeCasts_S4x512x16_S2048x16]

abbrev wr3 : List (Ref sig .tc) := [main_v20, main_values_0, main_indices_1, main_v21, main_c_2, main_v22, main_v23, main_v24, main_v25, main_v26, main_v27, main_v28, main_cst_3, main_v29, main_v30, main_v31]

theorem ops3_writes : (ops3 (F := F)).map HloOp.writes = wr3.map fun r => {Proc.devRef (τ := τ) .tc r} := rfl

theorem ops3_fresh : (ops3 (F := F)).map HloOp.fresh = (ops3 (F := F)).map fun _ => (∅ : Finset (DevRef τ sig)) := rfl

theorem ops3_bufs : (ops3 (F := F)).Forall fun op => op.bufs ⊆ StableHlo.tcRefs τ sig := ⟨StableHlo.unary_bufs_sub .., StableHlo.unary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.reshape_bufs_sub .., StableHlo.unary_bufs_sub .., StableHlo.nullary_bufs_sub .., StableHlo.unary_bufs_sub .., StableHlo.binary_bufs_sub .., StableHlo.reshape_bufs_sub ..⟩

/-- A stretch of host operations (1). -/
def ops4 : List (HloOp τ sig (Elt F)) := [
  StableHlo.reshape main_v18 main_v33 (rfl : (.f32 : EltTy) = .f32) shapeCasts_S4x512x128_S2048x128]

abbrev wr4 : List (Ref sig .tc) := [main_v33]

theorem ops4_writes : (ops4 (F := F)).map HloOp.writes = wr4.map fun r => {Proc.devRef (τ := τ) .tc r} := rfl

theorem ops4_fresh : (ops4 (F := F)).map HloOp.fresh = (ops4 (F := F)).map fun _ => (∅ : Finset (DevRef τ sig)) := rfl

theorem ops4_bufs : (ops4 (F := F)).Forall fun op => op.bufs ⊆ StableHlo.tcRefs τ sig := StableHlo.reshape_bufs_sub ..

/-- A stretch of host operations (7). -/
def ops5 : List (HloOp τ sig (Elt F)) := [
  StableHlo.reshape main_v32 main_v35 (rfl : (.f32 : EltTy) = .f32) shapeCasts_S32768x16_S4x8192x16,
  StableHlo.unary main_v35 main_v36 ((transpose S4x16x8192 [0, 2, 1] · transposes_S4x8192x16_S4x16x8192_0_2_1) : (⟨S4x8192x16, .f32⟩ : BufTy).Contents (Elt F) → (⟨S4x16x8192, .f32⟩ : BufTy).Contents (Elt F)),
  StableHlo.reshape main_v36 main_v37 (rfl : (.f32 : EltTy) = .f32) shapeCasts_S4x16x8192_S4x16x512x16,
  StableHlo.reshape main_v34 main_v38 (rfl : (.f32 : EltTy) = .f32) shapeCasts_S32768x128_S4x8192x128,
  StableHlo.unary main_v38 main_v39 ((transpose S4x128x8192 [0, 2, 1] · transposes_S4x8192x128_S4x128x8192_0_2_1) : (⟨S4x8192x128, .f32⟩ : BufTy).Contents (Elt F) → (⟨S4x128x8192, .f32⟩ : BufTy).Contents (Elt F)),
  StableHlo.reshape main_v39 main_v40 (rfl : (.f32 : EltTy) = .f32) shapeCasts_S4x128x8192_S4x128x512x16,
  StableHlo.unary main_v18 main_v41 ((transpose S4x128x512 [0, 2, 1] · transposes_S4x512x128_S4x128x512_0_2_1) : (⟨S4x512x128, .f32⟩ : BufTy).Contents (Elt F) → (⟨S4x128x512, .f32⟩ : BufTy).Contents (Elt F))]

abbrev wr5 : List (Ref sig .tc) := [main_v35, main_v36, main_v37, main_v38, main_v39, main_v40, main_v41]

theorem ops5_writes : (ops5 (F := F)).map HloOp.writes = wr5.map fun r => {Proc.devRef (τ := τ) .tc r} := rfl

theorem ops5_fresh : (ops5 (F := F)).map HloOp.fresh = (ops5 (F := F)).map fun _ => (∅ : Finset (DevRef τ sig)) := rfl

theorem ops5_bufs : (ops5 (F := F)).Forall fun op => op.bufs ⊆ StableHlo.tcRefs τ sig := ⟨StableHlo.reshape_bufs_sub .., StableHlo.unary_bufs_sub .., StableHlo.reshape_bufs_sub .., StableHlo.reshape_bufs_sub .., StableHlo.unary_bufs_sub .., StableHlo.reshape_bufs_sub .., StableHlo.unary_bufs_sub ..⟩

/-- A stretch of host operations (1). -/
def ops6 : List (HloOp τ sig (Elt F)) := [
  StableHlo.reshape main_v42_1 main_v43 (rfl : (.f32 : EltTy) = .f32) shapeCasts_S4x1x512_S4x512]

abbrev wr6 : List (Ref sig .tc) := [main_v43]

theorem ops6_writes : (ops6 (F := F)).map HloOp.writes = wr6.map fun r => {Proc.devRef (τ := τ) .tc r} := rfl

theorem ops6_fresh : (ops6 (F := F)).map HloOp.fresh = (ops6 (F := F)).map fun _ => (∅ : Finset (DevRef τ sig)) := rfl

theorem ops6_bufs : (ops6 (F := F)).Forall fun op => op.bufs ⊆ StableHlo.tcRefs τ sig := StableHlo.reshape_bufs_sub ..

theorem main_chain (d : Dev nD) : main (F := F) d = (
  Prog.lift (.customCall (SparseCore.inner (Pipeline.entry 0)) ()) >>= fun _ =>
  seqK (ops1 (F := F)) <|
  sc.run d 0 >>= fun _ =>
  seqK (ops2 (F := F)) <|
  Prog.lift (.customCall (SparseCore.inner (Pipeline.entry 1)) ()) >>= fun _ =>
  Prog.lift (.customCall (SparseCore.inner (Pipeline.entry 2)) ()) >>= fun _ =>
  seqK (ops3 (F := F)) <|
  sc.run d 1 >>= fun _ =>
  seqK (ops4 (F := F)) <|
  sc.run d 2 >>= fun _ =>
  seqK (ops5 (F := F)) <|
  Prog.lift (.customCall (SparseCore.inner (Pipeline.entry 3)) ()) >>= fun _ =>
  seqK (ops6 (F := F)) <|
  pure ⟨⟩) := rfl

/-- A stretch of host operations over every unscoped buffer. -/
theorem wp_stretch (d : Dev nD) (ops : List (HloOp τ sig (Elt F))) (hb : ops.Forall fun op => op.bufs ⊆ StableHlo.tcRefs τ sig)
    (hf : ops.map HloOp.fresh = ops.map fun _ => (∅ : Finset (DevRef τ sig))) (V : Valuation τ sig (Elt F))
    (k : Prog (TpuEff nD τ sig (Elt F) (SparseCore.Sig (ΛP (F := F)) 3) .tc) PUnit) (Q : PUnit → sProp 𝕄) :
    iprop(boundary (T d) ∗ Held d V)
      ⊢ iprop((iprop(boundary (T d) ∗ Held d (after ops V)) -∗ wp frame (wpE ((K (F := F)).defs D) 𝒱 (T d) none) Set.univ k Q)
          -∗ wp frame (wpE ((K (F := F)).defs D) 𝒱 (T d) none) Set.univ (seqK ops k) Q) := by
  rw [← StableHlo.seq_bind_seqK]
  exact StableHlo.wp_seq 𝒱 none Set.univ d (Pipeline.ucRefs τ sig) (fun _ => k) ops
    (fun op hop => Pipeline.sub_ucRefs op ((List.forall_iff_forall_mem.mp hb) op hop))
    (fun op hop => (List.forall_iff_forall_mem.mp (StableHlo.forall_fresh_of_map hf)) op hop) V

/-- Three of the core's buffers taken out of all of them. -/
theorem held_three (d : Dev nD) (t i o : Ref sig .tc) (ht : t.isScoped = false) (hi : i.isScoped = false) (ho : o.isScoped = false)
    (hti : t ≠ i) (hto : t ≠ o) (hio : i ≠ o) (V : Valuation τ sig (Elt F)) :
    (Held d V : sProp 𝕄) = iprop(((SparseCore.T d).loc t ↦{fullShare} V (Proc.devRef .tc t)) ∗ ((SparseCore.T d).loc i ↦{fullShare} V (Proc.devRef .tc i))
      ∗ ((SparseCore.T d).loc o ↦{fullShare} V (Proc.devRef .tc o))
      ∗ StableHlo.held (T d) ((((Pipeline.ucRefs τ sig).erase (Proc.devRef .tc t)).erase (Proc.devRef .tc i)).erase (Proc.devRef .tc o)) V) := by
  have mem : ∀ r : Ref sig .tc, r.isScoped = false → Proc.devRef (τ := τ) .tc r ∈ Pipeline.ucRefs τ sig := fun r h =>
    Finset.mem_filter.mpr ⟨StableHlo.devRef_mem_tcRefs _, fun h' => Bool.false_ne_true (h.symm.trans h')⟩
  have inj := Proc.devRef_injective (sig := sig) (Proc.tc (τ := τ))
  unfold Held StableHlo.held
  rw [bigSep_erase (mem t ht), bigSep_erase (Finset.mem_erase.mpr ⟨fun e => hti (inj e).symm, mem i hi⟩),
    bigSep_erase (Finset.mem_erase.mpr ⟨fun e => hio (inj e).symm, Finset.mem_erase.mpr ⟨fun e => hto (inj e).symm, mem o ho⟩⟩)]
  rfl

/-- And put back, the third at new contents. -/
theorem held_three_update (d : Dev nD) (t i o : Ref sig .tc) (ht : t.isScoped = false) (hi : i.isScoped = false) (ho : o.isScoped = false)
    (hti : t ≠ i) (hto : t ≠ o) (hio : i ≠ o) (V : Valuation τ sig (Elt F)) (x : (Proc.devRef (τ := τ) .tc o).ty.Contents (Elt F)) :
    (Held d (Function.update V (Proc.devRef .tc o) x) : sProp 𝕄) = iprop(((SparseCore.T d).loc t ↦{fullShare} V (Proc.devRef .tc t)) ∗ ((SparseCore.T d).loc i ↦{fullShare} V (Proc.devRef .tc i))
      ∗ ((SparseCore.T d).loc o ↦{fullShare} x)
      ∗ StableHlo.held (T d) ((((Pipeline.ucRefs τ sig).erase (Proc.devRef .tc t)).erase (Proc.devRef .tc i)).erase (Proc.devRef .tc o)) V) := by
  have inj := Proc.devRef_injective (sig := sig) (Proc.tc (τ := τ))
  rw [held_three d t i o ht hi ho hti hto hio, Function.update_of_ne (fun e => hto (inj e)), Function.update_of_ne (fun e => hio (inj e)),
    Function.update_self]
  congr 3
  exact StableHlo.held_congr _ fun b hb => Function.update_of_ne (Finset.ne_of_mem_erase hb) _ _

end Cert.Work

end
-- ==== Proof.Tile1.lean ====
/-
  SparseCore call 1: each tile fetches its 4096 row numbers, gathers the table's rows 1024 at a time through two row
  buffers (the next gather in flight while the last one's rows go out), and writes them to its four blocks of the result.
-/
module

public import proofs.«01_k».proof.Proof.Setup

@[expose] public section

noncomputable section

namespace Cert.Work.Tile1

open Cert.KernelIdeal Cert.KernelIdeal.Gen Cert.Work

open Idealize.ShloMosaic
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

local notation "tV" => (Memref.whole Cert.KernelIdeal.main_v6_scv : Memref Cert.KernelIdeal.sig Kind.scVector Space.hbm Cert.KernelIdeal.S65536x16 EltTy.f32)
local notation "iV" => (Memref.whole Cert.KernelIdeal.main_v13_scv : Memref Cert.KernelIdeal.sig Kind.scVector Space.hbm Cert.KernelIdeal.S131072 EltTy.i32)
local notation "oV" => (Memref.whole Cert.KernelIdeal.main_v14_scv : Memref Cert.KernelIdeal.sig Kind.scVector Space.hbm Cert.KernelIdeal.S131072x16 EltTy.f32)
local notation "sV" => (Memref.whole Cert.KernelIdeal.cc1_scratch0 : Memref Cert.KernelIdeal.sig Kind.scVector Space.vmem Cert.KernelIdeal.S4096 EltTy.i32)
local notation "aV" => (Memref.whole Cert.KernelIdeal.cc1_scratch1 : Memref Cert.KernelIdeal.sig Kind.scVector Space.vmem Cert.KernelIdeal.S1024x16 EltTy.f32)
local notation "bV" => (Memref.whole Cert.KernelIdeal.cc1_scratch2 : Memref Cert.KernelIdeal.sig Kind.scVector Space.vmem Cert.KernelIdeal.S1024x16 EltTy.f32)

variable (d : Dev nD) (L : grid1.Coords)

abbrev cV (L : grid1.Coords) : Fin τ.nSC := (L 0).castLE hcore1
abbrev jV (L : grid1.Coords) : Fin τ.nSub := (L 1).castLE hsub1

/-! ## The blocks and their values -/

/-- The result: row `k` of it is the row of the table that entry `k` of the list names. -/
def outVal (tb : S65536x16.Idx → Elt F .f32) (ix : S131072.Idx → Elt F .i32) : S131072x16.Idx → Elt F .f32 :=
  fun x => tb ((fun | ⟨0, _⟩ => (⟨(ix (fun | ⟨0, _⟩ => x 0)).toNat % 65536, Nat.mod_lt _ (by decide)⟩ : Fin 65536) | ⟨1, _⟩ => x 1))

theorem ckInb (L : grid1.Coords) (t : Fin 4) (a : Fin S131072x16.rank) :
    (![8192 * (L 1).val + 4096 * (L 0).val + 1024 * t.val, 0] : Fin 2 → ℕ) a + S1024x16.size a ≤ S131072x16.size a := by
  have h0 : (L 0).val < 2 := (L 0).isLt
  have h1 : (L 1).val < 16 := (L 1).isLt
  have ht := t.isLt
  match a with
  | ⟨0, _⟩ => show 8192 * (L 1).val + 4096 * (L 0).val + 1024 * t.val + 1024 ≤ 131072; omega
  | ⟨1, _⟩ => show 0 + 16 ≤ 16; omega

/-- Block `t` of the tile's four. -/
abbrev ckR (L : grid1.Coords) (t : Fin 4) : Rect S131072x16 :=
  Rect.unit (s := S131072x16) ![8192 * (L 1).val + 4096 * (L 0).val + 1024 * t.val, 0] S1024x16.size (ckInb L t)

/-- The tile's list, as fetched. -/
def lst (L : grid1.Coords) (ix : S131072.Idx → Elt F .i32) : S4096.Idx → Elt F .i32 :=
  ((iV).slice (Rect.unit (s := S131072) (k1_off1 L) S4096.size (k1_off1_inb L)) (fun _ => rfl)).view.read (Elt F) ix

/-- Block `t` of the result. -/
def chunkVal (L : grid1.Coords) (t : Fin 4) (tb : S65536x16.Idx → Elt F .f32) (ix : S131072.Idx → Elt F .i32) : S1024x16.Idx → Elt F .f32 :=
  fun y => outVal tb ix ((ckR L t).emb y)

theorem hin (ix : S131072.Idx → Elt F .i32) (hix : ∀ j, (ix j : BitVec 32).toNat < 65536) (o : Fin 1 → ℕ) (ho : ∀ a, o a + S1024.size a ≤ S4096.size a) :
    ∀ x, ((((sV).slice (Rect.unit (s := S4096) o S1024.size ho) (fun _ => rfl)).view.read (Elt F) (lst (F := F) L ix) x : Elt F .i32) : BitVec 32).toNat
      < S65536x16.size gathers_S65536x16_S1024x16.axis := by
  intro x
  have h := hix (((iV).slice (Rect.unit (s := S131072) (k1_off1 L) S4096.size (k1_off1_inb L)) (fun _ => rfl)).view.emb
    (((sV).slice (Rect.unit (s := S4096) o S1024.size ho) (fun _ => rfl)).view.emb x))
  exact h

theorem pay_eq (tb : S65536x16.Idx → Elt F .f32) (ix : S131072.Idx → Elt F .i32) (hix : ∀ j, (ix j : BitVec 32).toNat < 65536) (t : Fin 4) (o : Fin 1 → ℕ)
    (ho : ∀ a, o a + S1024.size a ≤ S4096.size a) (hot : o 0 = 1024 * t.val) :
    gatherPayload (F := F) gathers_S65536x16_S1024x16 (((tV).slice (Rect.unit (s := S65536x16) ![0, 0] S65536x16.size inb_S65536x16_S65536x16_0_0) (fun _ => rfl)).view.read (Elt F) tb)
      (rows (((sV).slice (Rect.unit (s := S4096) o S1024.size ho) (fun _ => rfl)).view.read (Elt F) (lst (F := F) L ix)) rfl (hin (F := F) L ix hix o ho))
      = chunkVal L t tb ix := by
  funext y
  unfold gatherPayload chunkVal outVal
  refine (show _ = tb _ from rfl).trans (congrArg tb ?_)
  funext a
  match a with
  | ⟨0, h0⟩ =>
    apply Fin.ext
    refine Eq.trans ?_ (Nat.mod_eq_of_lt (hix _)).symm
    refine (Nat.zero_add _).trans ((Nat.one_mul _).trans ?_)
    rw [show (⟨0, h0⟩ : Fin S65536x16.rank) = gathers_S65536x16_S1024x16.axis from rfl, Shape.Gathers.idx_axis]
    unfold rows
    show (lst L ix _ : BitVec 32).toNat = _
    unfold lst
    refine (show _ = (ix _ : BitVec 32).toNat from rfl).trans (congrArg (fun z => (ix z : BitVec 32).toNat) ?_)
    funext b
    match b with
    | ⟨0, hb⟩ =>
      apply Fin.ext
      have e1 : k1_off1 L 0 = 8192 * (L 1).val + 4096 * (L 0).val := by rw [k1_off1_eq]; rfl
      show k1_off1 L 0 + 1 * (o 0 + 1 * (_ : ℕ)) = (8192 * (L 1).val + 4096 * (L 0).val + 1024 * t.val) + 1 * (y 0).val
      rw [e1, hot]
      have e2 := Shape.rowMajor_val_one (S1024.rowMajor.symm (Fin.cast (rfl : S1024x16.size gathers_S65536x16_S1024x16.axis' = S1024.numel) (y gathers_S65536x16_S1024x16.axis')))
      rw [Equiv.apply_symm_apply] at e2
      have e3 : ((S1024.rowMajor.symm (Fin.cast (rfl : S1024x16.size gathers_S65536x16_S1024x16.axis' = S1024.numel) (y gathers_S65536x16_S1024x16.axis'))) 0).val = (y 0).val := e2.symm
      have e4 : ((S1024.rowMajor.symm (Fin.cast (rfl : S1024x16.size gathers_S65536x16_S1024x16.axis' = S1024.numel) (y gathers_S65536x16_S1024x16.axis'))) ⟨0, hb⟩).val = (y 0).val := e3
      refine (congrArg (fun z => 8192 * (L 1).val + 4096 * (L 0).val + 1 * (1024 * t.val + 1 * z)) e4).trans ?_
      omega
  | ⟨1, h1⟩ =>
    apply Fin.ext
    refine (Nat.zero_add _).trans ((Nat.one_mul _).trans ?_)
    rw [Shape.Gathers.idx_of_ne _ _ _ _ (by show (1 : ℕ) ≠ 0; decide)]
    show (y 1).val = 0 + 1 * (y 1).val
    omega

/-! ## The tile's buffers and cells -/

abbrev gc0 (d : Dev nD) (c : Fin τ.nSC) (i : Fin τ.nSub) : GSem nD τ sig := (V d c i, .dma cc1_scratch3.sem)
abbrev gc1 (d : Dev nD) (c : Fin τ.nSC) (i : Fin τ.nSub) : GSem nD τ sig := (V d c i, .dma cc1_scratch4.sem)
abbrev gc2 (d : Dev nD) (c : Fin τ.nSC) (i : Fin τ.nSub) : GSem nD τ sig := (V d c i, .dma cc1_scoped0.sem)
abbrev gc3 (d : Dev nD) (c : Fin τ.nSC) (i : Fin τ.nSub) : GSem nD τ sig := (V d c i, .dma cc1_scoped1.sem)
abbrev gc4 (d : Dev nD) (c : Fin τ.nSC) (i : Fin τ.nSub) : GSem nD τ sig := (V d c i, .dma cc1_scoped2.sem)

theorem gc_ne {thr : Thread nD τ} {s t : SemLoc sig} (h : s ≠ t) : ((thr, s) : GSem nD τ sig) ≠ (thr, t) := fun e => h (congrArg Prod.snd e)

theorem gc_mem (c : Fin τ.nSC) (i : Fin τ.nSub) (s : SemLoc sig) (h : s.isScoped .scVector = true) : ((V d c i, s) : GSem nD τ sig) ∈ ownCells (V d c i) :=
  mem_ownCells.mpr ⟨rfl, h⟩

theorem ownSems0_V (c : Fin τ.nSC) (i : Fin τ.nSub) :
    (ownSems0 (V d c i) : sProp 𝕄)
      = iprop(semVal (gc0 d c i) 0 ∗ semVal (gc1 d c i) 0 ∗ semVal (gc2 d c i) 0 ∗ semVal (gc3 d c i) 0 ∗ semVal (gc4 d c i) 0
          ∗ bigSep ((((((ownCells (V d c i)).erase (gc0 d c i)).erase (gc1 d c i)).erase (gc2 d c i)).erase (gc3 d c i)).erase (gc4 d c i)) fun g => semVal g 0) := by
  unfold SparseCore.Cfg.ownSems0
  have h10 : gc1 d c i ≠ gc0 d c i := gc_ne (by decide)
  have h20 : gc2 d c i ≠ gc0 d c i := gc_ne (by decide)
  have h21 : gc2 d c i ≠ gc1 d c i := gc_ne (by decide)
  have h30 : gc3 d c i ≠ gc0 d c i := gc_ne (by decide)
  have h31 : gc3 d c i ≠ gc1 d c i := gc_ne (by decide)
  have h32 : gc3 d c i ≠ gc2 d c i := gc_ne (by decide)
  have h40 : gc4 d c i ≠ gc0 d c i := gc_ne (by decide)
  have h41 : gc4 d c i ≠ gc1 d c i := gc_ne (by decide)
  have h42 : gc4 d c i ≠ gc2 d c i := gc_ne (by decide)
  have h43 : gc4 d c i ≠ gc3 d c i := gc_ne (by decide)
  rw [SparseCore.bigSep_erase' (gc_mem d c i (.dma cc1_scratch3.sem) (by decide)),
    SparseCore.bigSep_erase' (Finset.mem_erase.mpr ⟨h10, gc_mem d c i (.dma cc1_scratch4.sem) (by decide)⟩),
    SparseCore.bigSep_erase' (Finset.mem_erase.mpr ⟨h21, Finset.mem_erase.mpr ⟨h20, gc_mem d c i (.dma cc1_scoped0.sem) (by decide)⟩⟩),
    SparseCore.bigSep_erase' (Finset.mem_erase.mpr ⟨h32, Finset.mem_erase.mpr ⟨h31, Finset.mem_erase.mpr ⟨h30, gc_mem d c i (.dma cc1_scoped1.sem) (by decide)⟩⟩⟩),
    SparseCore.bigSep_erase' (Finset.mem_erase.mpr ⟨h43, Finset.mem_erase.mpr ⟨h42, Finset.mem_erase.mpr ⟨h41, Finset.mem_erase.mpr ⟨h40, gc_mem d c i (.dma cc1_scoped2.sem) (by decide)⟩⟩⟩⟩)]

theorem br_ne (c : Fin τ.nSC) (i : Fin τ.nSub) {r r' : Ref sig .scVector} (h : r ≠ r') :
    ((Proc.scVector c i).devRef r : DevRef τ sig) ≠ (Proc.scVector c i).devRef r' := fun e => h (Proc.devRef_injective _ e)

theorem ownBufs_V (c : Fin τ.nSC) (i : Fin τ.nSub) :
    (ownBufs (V d c i) : sProp 𝕄)
      = iprop((∃ f, (V d c i).loc cc1_scratch0 ↦{fullShare} f) ∗ (∃ f, (V d c i).loc cc1_scratch1 ↦{fullShare} f) ∗ (∃ f, (V d c i).loc cc1_scratch2 ↦{fullShare} f)
          ∗ bigSep ((((ownRefs (τ := τ) (.scVector c i)).erase ((Proc.scVector c i).devRef cc1_scratch0)).erase
              ((Proc.scVector c i).devRef cc1_scratch1)).erase ((Proc.scVector c i).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector c i) (b := (Proc.scVector c i).devRef cc1_scratch0) rfl)).trans ?_
  rw [SparseCore.bigSep_erase' (Finset.mem_erase.mpr ⟨br_ne c i (by decide), SparseCore.Cfg.mem_ownRefs_of_owner (p := Proc.scVector c i) (b := (Proc.scVector c i).devRef cc1_scratch1) rfl⟩),
    SparseCore.bigSep_erase' (Finset.mem_erase.mpr ⟨br_ne c i (by decide), Finset.mem_erase.mpr ⟨br_ne c i (by decide), SparseCore.Cfg.mem_ownRefs_of_owner (p := Proc.scVector c i) (b := (Proc.scVector c i).devRef cc1_scratch2) rfl⟩⟩)]

/-! ## The body -/

abbrev tLoc (d : Dev nD) : Loc nD τ sig := (SparseCore.T d).loc main_v6
abbrev iLoc (d : Dev nD) : Loc nD τ sig := (SparseCore.T d).loc main_v13
abbrev oLoc (d : Dev nD) : Loc nD τ sig := (SparseCore.T d).loc main_v14

/-- What a tile is handed: shares of the table and of the list, and its four blocks of the result. -/
abbrev tileIn (tb : S65536x16.Idx → Elt F .f32) (ix : S131072.Idx → Elt F .i32) (qt qi : PosShare TreeShare) : sProp 𝕄 :=
  iprop((tLoc d ↦{qt} tb) ∗ (iLoc d ↦{qi} ix)
    ∗ (∃ f, oLoc d ↦[(ckR L 0).set]{fullShare} f) ∗ (∃ f, oLoc d ↦[(ckR L 1).set]{fullShare} f)
    ∗ (∃ f, oLoc d ↦[(ckR L 2).set]{fullShare} f) ∗ (∃ f, oLoc d ↦[(ckR L 3).set]{fullShare} f))

/-- What it hands back: the same, the blocks at their values. -/
abbrev tileOut (tb : S65536x16.Idx → Elt F .f32) (ix : S131072.Idx → Elt F .i32) (qt qi : PosShare TreeShare) : sProp 𝕄 :=
  iprop((tLoc d ↦{qt} tb) ∗ (iLoc d ↦{qi} ix)
    ∗ (oLoc d ↦[(ckR L 0).set]{fullShare} outVal tb ix) ∗ (oLoc d ↦[(ckR L 1).set]{fullShare} outVal tb ix)
    ∗ (oLoc d ↦[(ckR L 2).set]{fullShare} outVal tb ix) ∗ (oLoc d ↦[(ckR L 3).set]{fullShare} outVal tb ix))

/-- A block as the body addresses it is the block. -/
theorem rect_eq (t : Fin 4) (o : Fin 2 → ℕ) (ho : ∀ a, o a + S1024x16.size a ≤ S131072x16.size a)
    (e : o = ![8192 * (L 1).val + 4096 * (L 0).val + 1024 * t.val, 0]) :
    (Rect.unit (s := S131072x16) o S1024x16.size ho) = ckR L t := by subst e; rfl

theorem blk_in (t : Fin 4) (o : Fin 2 → ℕ) (ho : ∀ a, o a + S1024x16.size a ≤ S131072x16.size a)
    (e : o = ![8192 * (L 1).val + 4096 * (L 0).val + 1024 * t.val, 0]) (f : S131072x16.Idx → Elt F .f32) :
    ((oLoc d ↦[(ckR L t).set]{fullShare} f) : sProp 𝕄)
      = (((oV).slice (Rect.unit (s := S131072x16) o S1024x16.size ho) (fun _ => rfl)).view.loc (V d (cV L) (jV L))
          ↦[((oV).slice (Rect.unit (s := S131072x16) o S1024x16.size ho) (fun _ => rfl)).view.set]{fullShare} f) := by
  subst e
  rw [show ((oV).slice (Rect.unit (s := S131072x16) ![8192 * (L 1).val + 4096 * (L 0).val + 1024 * t.val, 0] S1024x16.size ho) (fun _ => rfl)).view.set = (ckR L t).set from by
    show ((View.whole (main_v14_scv : Ref sig .scVector)).slice (ckR L t)).set = _
    rw [View.set_slice]; exact Finset.map_refl]

theorem blk_out (t : Fin 4) (o : Fin 2 → ℕ) (ho : ∀ a, o a + S1024x16.size a ≤ S131072x16.size a)
    (e : o = ![8192 * (L 1).val + 4096 * (L 0).val + 1024 * t.val, 0]) (f : S131072x16.Idx → Elt F .f32) (tb : S65536x16.Idx → Elt F .f32) (ix : S131072.Idx → Elt F .i32)
    (p : S1024x16.Idx → Elt F .f32) (hp : p = chunkVal L t tb ix) :
    (((oV).slice (Rect.unit (s := S131072x16) o S1024x16.size ho) (fun _ => rfl)).view.loc (V d (cV L) (jV L))
          ↦[((oV).slice (Rect.unit (s := S131072x16) o S1024x16.size ho) (fun _ => rfl)).view.set]{fullShare}
            (((oV).slice (Rect.unit (s := S131072x16) o S1024x16.size ho) (fun _ => rfl)).view.writes (Elt F) f [⟨Rect.whole (Rect.unit (s := S131072x16) o S1024x16.size ho).shape, p⟩]) : sProp 𝕄)
      = (oLoc d ↦[(ckR L t).set]{fullShare} outVal tb ix) := by
  subst e hp
  rw [blk_in d L t _ ho rfl]
  refine pointsTo_congr fun x hx => ?_
  obtain ⟨y, -, rfl⟩ := Finset.mem_map.mp hx
  have hw : (Rect.whole (Rect.unit (s := S131072x16) ![8192 * (L 1).val + 4096 * (L 0).val + 1024 * t.val, 0] S1024x16.size ho).shape).emb y = y :=
    funext fun a => Fin.ext (by show 0 + 1 * (y a).val = (y a).val; omega)
  have he : ((oV).slice (Rect.unit (s := S131072x16) ![8192 * (L 1).val + 4096 * (L 0).val + 1024 * t.val, 0] S1024x16.size ho) (fun _ => rfl)).view.emb y
      = (((oV).slice (Rect.unit (s := S131072x16) ![8192 * (L 1).val + 4096 * (L 0).val + 1024 * t.val, 0] S1024x16.size ho) (fun _ => rfl)).view.slice
          (Rect.whole (Rect.unit (s := S131072x16) ![8192 * (L 1).val + 4096 * (L 0).val + 1024 * t.val, 0] S1024x16.size ho).shape)).emb y :=
    congrArg ((oV).slice (Rect.unit (s := S131072x16) ![8192 * (L 1).val + 4096 * (L 0).val + 1024 * t.val, 0] S1024x16.size ho) (fun _ => rfl)).view.emb hw.symm
  conv_lhs => rw [he]
  unfold View.writes
  rw [View.write_emb, if_pos (Finset.mem_univ _)]
  rfl

variable [FloatOps F]

theorem numelPos : 0 < S1024x16.numel := by decide

omit [FloatOps F] in
theorem creditA (a' : Fin S1024x16.rank) : ∑ j, ((aV).slice (S1024x16.rowRect a' j) (S1024x16.stride_rowRect a' j)).view.dmaCredit = (aV).view.dmaCredit :=
  SparseCore.sum_rowCredit_eq_dmaCredit _ _ fun _ => rfl
omit [FloatOps F] in
theorem creditB (a' : Fin S1024x16.rank) : ∑ j, ((bV).slice (S1024x16.rowRect a' j) (S1024x16.stride_rowRect a' j)).view.dmaCredit = (bV).view.dmaCredit :=
  SparseCore.sum_rowCredit_eq_dmaCredit _ _ fun _ => rfl

omit [FloatOps F] in
theorem writeA (tb : S65536x16.Idx → Elt F .f32) (ix : S131072.Idx → Elt F .i32) (hix : ∀ j, (ix j : BitVec 32).toNat < 65536) (t : Fin 4) (o : Fin 1 → ℕ)
    (ho : ∀ a, o a + S1024.size a ≤ S4096.size a) (hot : o 0 = 1024 * t.val) (fd : S1024x16.Idx → Elt F .f32) :
    chunkVal L t tb ix = (aV).view.write (Elt F) fd (gatherPayload (F := F) gathers_S65536x16_S1024x16 (((tV).slice (Rect.unit (s := S65536x16) ![0, 0] S65536x16.size inb_S65536x16_S65536x16_0_0) (fun _ => rfl)).view.read (Elt F) tb)
      (rows (((sV).slice (Rect.unit (s := S4096) o S1024.size ho) (fun _ => rfl)).view.read (Elt F) (lst (F := F) L ix)) rfl (hin (F := F) L ix hix o ho))) Finset.univ := by
  rw [pay_eq L tb ix hix t o ho hot]; exact (View.write_whole_univ _ _ _).symm
omit [FloatOps F] in
theorem writeB (tb : S65536x16.Idx → Elt F .f32) (ix : S131072.Idx → Elt F .i32) (hix : ∀ j, (ix j : BitVec 32).toNat < 65536) (t : Fin 4) (o : Fin 1 → ℕ)
    (ho : ∀ a, o a + S1024.size a ≤ S4096.size a) (hot : o 0 = 1024 * t.val) (fd : S1024x16.Idx → Elt F .f32) :
    chunkVal L t tb ix = (bV).view.write (Elt F) fd (gatherPayload (F := F) gathers_S65536x16_S1024x16 (((tV).slice (Rect.unit (s := S65536x16) ![0, 0] S65536x16.size inb_S65536x16_S65536x16_0_0) (fun _ => rfl)).view.read (Elt F) tb)
      (rows (((sV).slice (Rect.unit (s := S4096) o S1024.size ho) (fun _ => rfl)).view.read (Elt F) (lst (F := F) L ix)) rfl (hin (F := F) L ix hix o ho))) Finset.univ := by
  rw [pay_eq L tb ix hix t o ho hot]; exact (View.write_whole_univ _ _ _).symm

theorem issA (tb : S65536x16.Idx → Elt F .f32) (ix : S131072.Idx → Elt F .i32) (hix : ∀ j, (ix j : BitVec 32).toNat < 65536) (t : Fin 4) (o : Fin 1 → ℕ)
    (ho : ∀ a, o a + S1024.size a ≤ S4096.size a) (hot : o 0 = 1024 * t.val) (fd : S1024x16.Idx → Elt F .f32) (q qo : PosShare TreeShare) (sem : DmaSem sig)
    {hp : (V d (cV L) (jV L)).2.kind = .scVector} {hn : S1024.numel = S1024x16.size gathers_S65536x16_S1024x16.axis'}
    {hsrc : ((tV).slice (Rect.unit (s := S65536x16) ![0, 0] S65536x16.size inb_S65536x16_S65536x16_0_0) (fun _ => rfl)).view.WordExact}
    {he : EltTy.f32.bits = 32} {hsp : Space.hbm = .hbm ∨ Space.hbm = .shared} {hr : S65536x16.StreamRows 0}
    {k : PUnit → Prog (TpuEff nD τ sig (Elt F) Λ₀ (V d (cV L) (jV L)).2) PUnit} {Q : PUnit → sProp 𝕄} :
    iprop(((tV).view.loc (V d (cV L) (jV L)) ↦{q} tb) ∗ ((aV).view.loc (V d (cV L) (jV L)) ↦{fullShare} fd)
        ∗ ((sV).view.loc (V d (cV L) (jV L)) ↦{qo} lst (F := F) L ix) ∗ semVal (V d (cV L) (jV L), SemLoc.dma sem) 0)
      ⊢ iprop((InFlight (V d (cV L) (jV L)) ((tV).slice (Rect.unit (s := S65536x16) ![0, 0] S65536x16.size inb_S65536x16_S65536x16_0_0) (fun _ => rfl))
              aV ((sV).slice (Rect.unit (s := S4096) o S1024.size ho) (fun _ => rfl)) sem q qo tb (lst (F := F) L ix) (chunkVal L t tb ix)
            -∗ wp frame (wpE (defs₀ (F := F)) 𝒱₀ (V d (cV L) (jV L)) none) Set.univ (k ⟨⟩) Q)
          -∗ wp frame (wpE (defs₀ (F := F)) 𝒱₀ (V d (cV L) (jV L)) none) Set.univ
            (SparseCore.enqueueIndirectGather hp ((tV).slice (Rect.unit (s := S65536x16) ![0, 0] S65536x16.size inb_S65536x16_S65536x16_0_0) (fun _ => rfl))
              aV gathers_S65536x16_S1024x16 ((sV).slice (Rect.unit (s := S4096) o S1024.size ho) (fun _ => rfl)) hn sem hsrc he hsp hr >>= k) Q) := by
  have h1 := @gather_issue F PUnit Λ₀ (defs₀ (F := F)) 𝒱₀ (V d (cV L) (jV L)) none Space.hbm S65536x16 S1024x16 S1024 0 EltTy.f32
    ((tV).slice (Rect.unit (s := S65536x16) ![0, 0] S65536x16.size inb_S65536x16_S65536x16_0_0) (fun _ => rfl)) aV gathers_S65536x16_S1024x16
    ((sV).slice (Rect.unit (s := S4096) o S1024.size ho) (fun _ => rfl)) hn sem hp hsrc he hsp hr k Q q qo tb fd (lst (F := F) L ix)
  have h4 := h1 (View.set_whole _) (creditA _) numelPos
  have hin' := (hin (F := F) L ix hix o ho)
  have h5 := @h4 hin'
  exact h5 (writeA L tb ix hix t o ho hot fd)

theorem issB (tb : S65536x16.Idx → Elt F .f32) (ix : S131072.Idx → Elt F .i32) (hix : ∀ j, (ix j : BitVec 32).toNat < 65536) (t : Fin 4) (o : Fin 1 → ℕ)
    (ho : ∀ a, o a + S1024.size a ≤ S4096.size a) (hot : o 0 = 1024 * t.val) (fd : S1024x16.Idx → Elt F .f32) (q qo : PosShare TreeShare) (sem : DmaSem sig)
    {hp : (V d (cV L) (jV L)).2.kind = .scVector} {hn : S1024.numel = S1024x16.size gathers_S65536x16_S1024x16.axis'}
    {hsrc : ((tV).slice (Rect.unit (s := S65536x16) ![0, 0] S65536x16.size inb_S65536x16_S65536x16_0_0) (fun _ => rfl)).view.WordExact}
    {he : EltTy.f32.bits = 32} {hsp : Space.hbm = .hbm ∨ Space.hbm = .shared} {hr : S65536x16.StreamRows 0}
    {k : PUnit → Prog (TpuEff nD τ sig (Elt F) Λ₀ (V d (cV L) (jV L)).2) PUnit} {Q : PUnit → sProp 𝕄} :
    iprop(((tV).view.loc (V d (cV L) (jV L)) ↦{q} tb) ∗ ((bV).view.loc (V d (cV L) (jV L)) ↦{fullShare} fd)
        ∗ ((sV).view.loc (V d (cV L) (jV L)) ↦{qo} lst (F := F) L ix) ∗ semVal (V d (cV L) (jV L), SemLoc.dma sem) 0)
      ⊢ iprop((InFlight (V d (cV L) (jV L)) ((tV).slice (Rect.unit (s := S65536x16) ![0, 0] S65536x16.size inb_S65536x16_S65536x16_0_0) (fun _ => rfl))
              bV ((sV).slice (Rect.unit (s := S4096) o S1024.size ho) (fun _ => rfl)) sem q qo tb (lst (F := F) L ix) (chunkVal L t tb ix)
            -∗ wp frame (wpE (defs₀ (F := F)) 𝒱₀ (V d (cV L) (jV L)) none) Set.univ (k ⟨⟩) Q)
          -∗ wp frame (wpE (defs₀ (F := F)) 𝒱₀ (V d (cV L) (jV L)) none) Set.univ
            (SparseCore.enqueueIndirectGather hp ((tV).slice (Rect.unit (s := S65536x16) ![0, 0] S65536x16.size inb_S65536x16_S65536x16_0_0) (fun _ => rfl))
              bV gathers_S65536x16_S1024x16 ((sV).slice (Rect.unit (s := S4096) o S1024.size ho) (fun _ => rfl)) hn sem hsrc he hsp hr >>= k) Q) := by
  have h1 := @gather_issue F PUnit Λ₀ (defs₀ (F := F)) 𝒱₀ (V d (cV L) (jV L)) none Space.hbm S65536x16 S1024x16 S1024 0 EltTy.f32
    ((tV).slice (Rect.unit (s := S65536x16) ![0, 0] S65536x16.size inb_S65536x16_S65536x16_0_0) (fun _ => rfl)) bV gathers_S65536x16_S1024x16
    ((sV).slice (Rect.unit (s := S4096) o S1024.size ho) (fun _ => rfl)) hn sem hp hsrc he hsp hr k Q q qo tb fd (lst (F := F) L ix)
  have h4 := h1 (View.set_whole _) (creditB _) numelPos
  have hin' := (hin (F := F) L ix hix o ho)
  have h5 := @h4 hin'
  exact h5 (writeB L tb ix hix t o ho hot fd)

theorem trips : k1_t1_loop.trips = 4 := by decide
abbrev tk0 : Fin k1_t1_loop.trips := ⟨0, by decide⟩
abbrev tk1 : Fin k1_t1_loop.trips := ⟨1, by decide⟩
abbrev tk2 : Fin k1_t1_loop.trips := ⟨2, by decide⟩
abbrev tk3 : Fin k1_t1_loop.trips := ⟨3, by decide⟩
theorem c10 : k1_cond1 ⟨0, by decide⟩ = 1#1 := by decide
theorem c11 : ¬ k1_cond1 ⟨1, by decide⟩ = 1#1 := by decide
theorem c12 : k1_cond1 ⟨2, by decide⟩ = 1#1 := by decide
theorem c13 : ¬ k1_cond1 ⟨3, by decide⟩ = 1#1 := by decide
theorem c20 : k1_cond2 ⟨0, by decide⟩ = 1#1 := by decide
theorem c22 : k1_cond2 ⟨2, by decide⟩ = 1#1 := by decide
theorem c30 : ¬ k1_cond3 ⟨0, by decide⟩ = 1#1 := by decide
theorem c31 : k1_cond3 ⟨1, by decide⟩ = 1#1 := by decide
theorem c32 : ¬ k1_cond3 ⟨2, by decide⟩ = 1#1 := by decide
theorem c33 : k1_cond3 ⟨3, by decide⟩ = 1#1 := by decide
theorem c41 : k1_cond4 ⟨1, by decide⟩ = 1#1 := by decide
theorem c43 : ¬ k1_cond4 ⟨3, by decide⟩ = 1#1 := by decide

set_option maxHeartbeats 1000000 in
theorem tile_body (tb : S65536x16.Idx → Elt F .f32) (ix : S131072.Idx → Elt F .i32) (hix : ∀ j, (ix j : BitVec 32).toNat < 65536) (qt qi : PosShare TreeShare)
    (O : CellTallies nD τ sig (HIx 3)) (W : Waits sig (HIx 3)) (hO : ∀ g, O g none = 0) :
    iprop(levAts (K (F := F)).L (K (F := F)).lev ∗ emp ∗ tileIn d L tb ix qt qi
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L tV (Memref.isWhole_whole _) iV (Memref.isWhole_whole _) oV (Memref.isWhole_whole _)
            sV (Memref.isWhole_whole _) aV (Memref.isWhole_whole _) bV (Memref.isWhole_whole _)
            cc1_scratch3 cc1_scratch4 cc1_scoped0 cc1_scoped1 cc1_scoped2)
          fun _ => iprop(tileOut d L tb ix qt qi
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_k_eq_skeleton]; unfold cc1_k_skel
  rw [(K (F := F)).scopedBufs_V facts d (cV L) (jV L), SparseCore.Cfg.scopedSems0_V (Val := Elt F) d (cV L) (jV L), ownSems0_V, ownBufs_V]
  iintro ⟨#Hlv, -, ⟨Ht, Hi, ⟨%f0, Ho0⟩, ⟨%f1, Ho1⟩, ⟨%f2, Ho2⟩, ⟨%f3, Ho3⟩⟩, ⟨⟨%fs, Hs⟩, ⟨%fa, Ha⟩, ⟨%fb, Hb⟩, Hbufs⟩, ⟨HsemA, HsemB, Hsem0, Hsem1, Hsem2, Hsems⟩, HO⟩
  ihave #Hmw := (show levAts (K (F := F)).L (K (F := F)).lev ⊢ Transfers.MayWaits (V d (cV L) (jV L)) (default : HIx 3) O from
    (K (F := F)).mayWaits_none (thr := V d (cV L) (jV L)) hO) $$ Hlv
  ihave Ht := (Entails.of_eq (show ((tLoc d ↦{qt} tb) : sProp 𝕄) = ((tV).view.loc (V d (cV L) (jV L)) ↦{qt} tb) from rfl)) $$ Ht
  ihave Hi := (Entails.of_eq (show ((iLoc d ↦{qi} ix) : sProp 𝕄) = ((iV).view.loc (V d (cV L) (jV L)) ↦{qi} ix) from rfl)) $$ Hi
  ihave Hs := (Entails.of_eq (show (((V d (cV L) (jV L)).loc cc1_scratch0 ↦{fullShare} fs) : sProp 𝕄) = ((sV).view.loc (V d (cV L) (jV L)) ↦{fullShare} fs) from rfl)) $$ Hs
  ihave Ha := (Entails.of_eq (show (((V d (cV L) (jV L)).loc cc1_scratch1 ↦{fullShare} fa) : sProp 𝕄) = ((aV).view.loc (V d (cV L) (jV L)) ↦{fullShare} fa) from rfl)) $$ Ha
  ihave Hb := (Entails.of_eq (show (((V d (cV L) (jV L)).loc cc1_scratch2 ↦{fullShare} fb) : sProp 𝕄) = ((bV).view.loc (V d (cV L) (jV L)) ↦{fullShare} fb) from rfl)) $$ Hb
  ihave Ho0 := (Entails.of_eq (blk_in (F := F) d L 0 (k1_off4 L tk0) (k1_off4_inb L tk0 c10) (k1_off4_eq L tk0) f0)) $$ Ho0
  ihave Ho1 := (Entails.of_eq (blk_in (F := F) d L 1 (k1_off7 L tk1) (k1_off7_inb L tk1 c31) (k1_off7_eq L tk1) f1)) $$ Ho1
  ihave Ho2 := (Entails.of_eq (blk_in (F := F) d L 2 (k1_off4 L tk2) (k1_off4_inb L tk2 c12) (k1_off4_eq L tk2) f2)) $$ Ho2
  ihave Ho3 := (Entails.of_eq (blk_in (F := F) d L 3 (k1_off7 L tk3) (k1_off7_inb L tk3 c33) (k1_off7_eq L tk3) f3)) $$ Ho3
  simp (config := { iota := false, proj := false, eta := false }) only [Scf.for_trips4_bind _ _ trips, Prog.bind_assoc]
  unfold k1_t1_body
  simp (config := { iota := false, proj := false, eta := false }) only [dif_pos c10, dif_neg c11, dif_pos c12, dif_neg c13, dif_pos c20, dif_pos c22, dif_neg c30, dif_pos c31, dif_neg c32, dif_pos c33, dif_pos c41, dif_neg c43, Prog.bind_assoc]
  sl_exec
  ihave Hs := (Entails.of_eq (show (((sV).view.loc (V d (cV L) (jV L)) ↦{fullShare} View.write (Elt F) (sV).view fs (tile_body.sl.dma0 L ix) Finset.univ) : sProp 𝕄)
      = ((sV).view.loc (V d (cV L) (jV L)) ↦{fullShare} lst (F := F) L ix) by rw [View.write_whole_univ]; rfl)) $$ Hs
  ihave Hs := (pointsTo_share (PosShare.mem_left_op_right fullShare)).1 $$ Hs
  icases Hs with ⟨HsL, HsR⟩
  ihave Ht := (pointsTo_share (PosShare.mem_left_op_right qt)).1 $$ Ht
  icases Ht with ⟨HtL, HtR⟩
  iapply (issA (F := F) d L tb ix hix 0 _ _ rfl fa qt.left fullShare.left _) $$ [HtL Ha HsL HsemA]
  · isplitl [HtL]; · iexact HtL
    isplitl [Ha]; · iexact Ha
    isplitl [HsL]; · iexact HsL
    iexact HsemA
  iintro HflL
  iapply (issB (F := F) d L tb ix hix 1 _ _ rfl fb qt.right fullShare.right _) $$ [HtR Hb HsR HsemB]
  · isplitl [HtR]; · iexact HtR
    isplitl [Hb]; · iexact Hb
    isplitl [HsR]; · iexact HsR
    iexact HsemB
  iintro HflR
  iapply (gather_wait (c := V d (cV L) (jV L)) (View.set_whole _)) $$ [HflL HO]
  · isplitl [HflL]; · iexact HflL
    isplitl [HO]; · iexact HO
    iapply (Transfers.MayWaits.elim (SemLoc.dma cc1_scratch3.sem)) $$ Hmw
  iintro ⟨Ha, HtL, HsL, HsemA, HO⟩
  sl_exec
  iapply (issA (F := F) d L tb ix hix 2 _ _ rfl (chunkVal L 0 tb ix) qt.left fullShare.left _) $$ [HtL Ha HsL HsemA]
  · isplitl [HtL]; · iexact HtL
    isplitl [Ha]; · iexact Ha
    isplitl [HsL]; · iexact HsL
    iexact HsemA
  iintro HflL
  iapply (gather_wait (c := V d (cV L) (jV L)) (View.set_whole _)) $$ [HflR HO]
  · isplitl [HflR]; · iexact HflR
    isplitl [HO]; · iexact HO
    iapply (Transfers.MayWaits.elim (SemLoc.dma cc1_scratch4.sem)) $$ Hmw
  iintro ⟨Hb, HtR, HsR, HsemB, HO⟩
  sl_exec
  iapply (issB (F := F) d L tb ix hix 3 _ _ rfl (chunkVal L 1 tb ix) qt.right fullShare.right _) $$ [HtR Hb HsR HsemB]
  · isplitl [HtR]; · iexact HtR
    isplitl [Hb]; · iexact Hb
    isplitl [HsR]; · iexact HsR
    iexact HsemB
  iintro HflR
  iapply (gather_wait (c := V d (cV L) (jV L)) (View.set_whole _)) $$ [HflL HO]
  · isplitl [HflL]; · iexact HflL
    isplitl [HO]; · iexact HO
    iapply (Transfers.MayWaits.elim (SemLoc.dma cc1_scratch3.sem)) $$ Hmw
  iintro ⟨Ha, HtL, HsL, HsemA, HO⟩
  sl_exec
  iapply (gather_wait (c := V d (cV L) (jV L)) (View.set_whole _)) $$ [HflR HO]
  · isplitl [HflR]; · iexact HflR
    isplitl [HO]; · iexact HO
    iapply (Transfers.MayWaits.elim (SemLoc.dma cc1_scratch4.sem)) $$ Hmw
  iintro ⟨Hb, HtR, HsR, HsemB, HO⟩
  sl_exec
  sl_step
  ihave Ho0 := (Entails.of_eq (blk_out (F := F) d L 0 (k1_off4 L tk0) (k1_off4_inb L tk0 c10) (k1_off4_eq L tk0) f0 tb ix (tile_body.sl.dma0_1 L tb ix) rfl)) $$ Ho0
  ihave Ho1 := (Entails.of_eq (blk_out (F := F) d L 1 (k1_off7 L tk1) (k1_off7_inb L tk1 c31) (k1_off7_eq L tk1) f1 tb ix (tile_body.sl.dma0_2 L tb ix) rfl)) $$ Ho1
  ihave Ho2 := (Entails.of_eq (blk_out (F := F) d L 2 (k1_off4 L tk2) (k1_off4_inb L tk2 c12) (k1_off4_eq L tk2) f2 tb ix (tile_body.sl.dma0_3 L tb ix) rfl)) $$ Ho2
  ihave Ho3 := (Entails.of_eq (blk_out (F := F) d L 3 (k1_off7 L tk3) (k1_off7_inb L tk3 c33) (k1_off7_eq L tk3) f3 tb ix (tile_body.sl.dma0_4 L tb ix) rfl)) $$ Ho3
  ihave Hs := (pointsTo_share (PosShare.mem_left_op_right fullShare)).2 $$ [HsL HsR]
  · isplitl [HsL]; · iexact HsL
    iexact HsR
  ihave Ht := (pointsTo_share (PosShare.mem_left_op_right qt)).2 $$ [HtL HtR]
  · isplitl [HtL]; · iexact HtL
    iexact HtR
  isplitl [Ht Hi Ho0 Ho1 Ho2 Ho3]
  · isplitl [Ht]; · iexact Ht
    isplitl [Hi]; · iexact Hi
    isplitl [Ho0]; · iexact Ho0
    isplitl [Ho1]; · iexact Ho1
    isplitl [Ho2]; · iexact Ho2
    iexact Ho3
  isplitl [Hs Ha Hb Hbufs]
  · isplitl [Hs]; · iexists _; iexact Hs
    isplitl [Ha]; · iexists _; iexact Ha
    isplitl [Hb]; · iexists _; iexact Hb
    iexact Hbufs
  isplitl [HsemA HsemB Hsem0 Hsem1 Hsem2 Hsems]
  · isplitl [HsemA]; · iexact HsemA
    isplitl [HsemB]; · iexact HsemB
    isplitl [Hsem0]; · iexact Hsem0
    isplitl [Hsem1]; · iexact Hsem1
    isplitl [Hsem2]; · iexact Hsem2
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Work.Tile1

end
-- ==== Proof.Deal1.lean ====
/-
  SparseCore call 1 as the TensorCore sees it: the table, the list and the result dealt to the tiles and gathered back.
-/
module

public import proofs.«01_k».proof.Proof.Tile1

@[expose] public section

noncomputable section

namespace Cert.Work.Tile1

open Cert.KernelIdeal Cert.KernelIdeal.Gen Cert.Work

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

variable (d : Dev nD)

def crd (c : Fin 2) (s : Fin 16) : grid1.Coords :=
  fun | 0 => c | 1 => s | ⟨_ + 2, h⟩ => absurd h (Nat.not_lt.2 (Nat.le_add_left _ _))

/-- The tile's read share. -/
abbrev shr (c : Fin 2) (s : Fin 16) : PosShare TreeShare := Transfers.shareTok fullShare (2 * 16) (finProdFinEquiv (c, s))

/-- The block of tile `(c, s)` numbered `t`. -/
abbrev bset (x : Fin 2 × Fin 16 × Fin 4) : Finset S131072x16.Idx := (ckR (crd x.1 x.2.1) x.2.2).set

theorem mem_bset (x : Fin 2 × Fin 16 × Fin 4) (i : S131072x16.Idx) :
    i ∈ bset x ↔ 8192 * x.2.1.val + 4096 * x.1.val + 1024 * x.2.2.val ≤ (i 0).val ∧ (i 0).val < 8192 * x.2.1.val + 4096 * x.1.val + 1024 * x.2.2.val + 1024 := by
  unfold bset ckR
  rw [Rect.mem_set_unit]
  constructor
  · intro h; exact h 0
  · intro h a
    match a with
    | ⟨0, _⟩ => exact h
    | ⟨1, _⟩ => exact ⟨Nat.zero_le _, by show (i 1).val < 0 + 16; have h1 : (i 1).val < 16 := (i 1).isLt; omega⟩

theorem bset_disj : ∀ x ∈ (Finset.univ : Finset (Fin 2 × Fin 16 × Fin 4)), ∀ y ∈ (Finset.univ : Finset (Fin 2 × Fin 16 × Fin 4)), x ≠ y → Disjoint (bset x) (bset y) := by
  rintro ⟨c, s, t⟩ - ⟨c', s', t'⟩ - hne
  refine Finset.disjoint_left.mpr fun i hi hi' => hne ?_
  rw [mem_bset] at hi hi'
  have hc := c.isLt; have hs := s.isLt; have ht := t.isLt
  have hc' := c'.isLt; have hs' := s'.isLt; have ht' := t'.isLt
  have h1 : s.val = s'.val := by dsimp only at hi hi'; omega
  have h2 : c.val = c'.val := by dsimp only at hi hi'; omega
  have h3 : t.val = t'.val := by dsimp only at hi hi'; omega
  rw [Fin.ext h1, Fin.ext h2, Fin.ext h3]

theorem bset_cover : (Finset.univ : Finset (Fin 2 × Fin 16 × Fin 4)).biUnion bset = Finset.univ := by
  refine Finset.eq_univ_of_forall fun i => Finset.mem_biUnion.mpr ?_
  have h0 : (i 0).val < 131072 := (i 0).isLt
  refine ⟨(⟨(i 0).val / 4096 % 2, by omega⟩, ⟨(i 0).val / 8192, by omega⟩, ⟨(i 0).val % 4096 / 1024, by omega⟩), Finset.mem_univ _, (mem_bset _ _).mpr ?_⟩
  dsimp only
  omega

theorem out_split (f : S131072x16.Idx → Elt F .f32) :
    ((oLoc d ↦{fullShare} f) : sProp 𝕄)
      = bigSep Finset.univ fun c : Fin 2 => bigSep Finset.univ fun s : Fin 16 => bigSep Finset.univ fun t : Fin 4 => oLoc d ↦[(ckR (crd c s) t).set]{fullShare} f := by
  have h : ((oLoc d ↦[(Finset.univ : Finset (Fin 2 × Fin 16 × Fin 4)).biUnion bset]{fullShare} f) : sProp 𝕄)
      = bigSep Finset.univ fun x : Fin 2 × Fin 16 × Fin 4 => oLoc d ↦[bset x]{fullShare} f :=
    pointsTo_biUnion Finset.univ (ℓ := oLoc d) bset bset_disj
  rw [bset_cover] at h
  refine h.trans ?_
  rw [bigSep_univ_prod]
  refine bigSep_congr fun c _ => ?_
  rw [bigSep_univ_prod]

theorem toks {ℓ : Loc nD τ sig} (f : Buf (Elt F) ℓ) :
    ((ℓ ↦{fullShare} f) : sProp 𝕄) ⊣⊢ iprop((ℓ ↦{Transfers.shareDrop fullShare (2 * 16)} f)
      ∗ bigSep Finset.univ fun c : Fin 2 => bigSep Finset.univ fun s : Fin 16 => ℓ ↦{shr c s} f) := by
  have h := Transfers.pointsTo_toks (ℓ := ℓ) (S := Finset.univ) (f := f) (Ix := HIx 3) (Name := ℕ) (U := UU) (Lvl := ℕ) (Val := Elt F) fullShare (2 * 16)
  rw [bigSep_univ_equiv (finProdFinEquiv (m := 2) (n := 16)), bigSep_univ_prod] at h
  exact h

/-- What is left with the TensorCore while the call runs. -/
def rest (tb : S65536x16.Idx → Elt F .f32) (ix : S131072.Idx → Elt F .i32) : sProp 𝕄 :=
  iprop((tLoc d ↦{Transfers.shareDrop fullShare (2 * 16)} tb) ∗ (iLoc d ↦{Transfers.shareDrop fullShare (2 * 16)} ix))

theorem enter (tb : S65536x16.Idx → Elt F .f32) (ix : S131072.Idx → Elt F .i32) (f : S131072x16.Idx → Elt F .f32) :
    iprop((tLoc d ↦{fullShare} tb) ∗ (iLoc d ↦{fullShare} ix) ∗ (oLoc d ↦{fullShare} f))
      ⊢ (iprop((bigSep Finset.univ fun c : Fin 2 => bigSep Finset.univ fun s : Fin 16 => tileIn d (crd c s) tb ix (shr c s) (shr c s)) ∗ rest d tb ix) : sProp 𝕄) := by
  rw [out_split]
  iintro ⟨Ht, Hi, Ho⟩
  ihave Ht := (toks tb).1 $$ Ht
  ihave Hi := (toks ix).1 $$ Hi
  icases Ht with ⟨Htr, Ht⟩
  icases Hi with ⟨Hir, Hi⟩
  unfold rest
  isplitl [Ht Hi Ho]
  · iapply (show iprop((bigSep Finset.univ fun c : Fin 2 => bigSep Finset.univ fun s : Fin 16 => (tLoc d ↦{shr c s} tb))
        ∗ (bigSep Finset.univ fun c : Fin 2 => bigSep Finset.univ fun s : Fin 16 => (iLoc d ↦{shr c s} ix))
        ∗ (bigSep Finset.univ fun c : Fin 2 => bigSep Finset.univ fun s : Fin 16 => bigSep Finset.univ fun t : Fin 4 => oLoc d ↦[(ckR (crd c s) t).set]{fullShare} f))
        ⊢ (bigSep Finset.univ fun c : Fin 2 => bigSep Finset.univ fun s : Fin 16 => tileIn d (crd c s) tb ix (shr c s) (shr c s) : sProp 𝕄) from by
      rw [← bigSep_sep', ← bigSep_sep']
      refine bigSep_mono fun c _ => ?_
      rw [← bigSep_sep', ← bigSep_sep']
      refine bigSep_mono fun s _ => ?_
      rw [bigSep_fin4]
      unfold tileIn
      show (_ : sProp 𝕄) ⊢ _
      iintro ⟨Ht, Hi, ⟨H0, H1, H2, H3⟩⟩
      isplitl [Ht]; · iexact Ht
      isplitl [Hi]; · iexact Hi
      isplitl [H0]; · iexists f; iexact H0
      isplitl [H1]; · iexists f; iexact H1
      isplitl [H2]; · iexists f; iexact H2
      iexists f; iexact H3)
    isplitl [Ht]; · iexact Ht
    isplitl [Hi]; · iexact Hi
    iexact Ho
  · isplitl [Htr] <;> iassumption

theorem leave (tb : S65536x16.Idx → Elt F .f32) (ix : S131072.Idx → Elt F .i32) :
    iprop((bigSep Finset.univ fun c : Fin 2 => bigSep Finset.univ fun s : Fin 16 => tileOut d (crd c s) tb ix (shr c s) (shr c s)) ∗ rest d tb ix)
      ⊢ (iprop((tLoc d ↦{fullShare} tb) ∗ (iLoc d ↦{fullShare} ix) ∗ (oLoc d ↦{fullShare} outVal tb ix)) : sProp 𝕄) := by
  rw [out_split]
  unfold rest
  iintro ⟨H, ⟨Htr, Hir⟩⟩
  ihave H := (show (bigSep Finset.univ fun c : Fin 2 => bigSep Finset.univ fun s : Fin 16 => tileOut d (crd c s) tb ix (shr c s) (shr c s) : sProp 𝕄)
      ⊢ iprop((bigSep Finset.univ fun c : Fin 2 => bigSep Finset.univ fun s : Fin 16 => (tLoc d ↦{shr c s} tb))
        ∗ (bigSep Finset.univ fun c : Fin 2 => bigSep Finset.univ fun s : Fin 16 => (iLoc d ↦{shr c s} ix))
        ∗ (bigSep Finset.univ fun c : Fin 2 => bigSep Finset.univ fun s : Fin 16 => bigSep Finset.univ fun t : Fin 4 => oLoc d ↦[(ckR (crd c s) t).set]{fullShare} outVal tb ix)) from by
      rw [← bigSep_sep', ← bigSep_sep']
      refine bigSep_mono fun c _ => ?_
      rw [← bigSep_sep', ← bigSep_sep']
      refine bigSep_mono fun s _ => ?_
      rw [bigSep_fin4]
      unfold tileOut
      show (_ : sProp 𝕄) ⊢ _
      iintro H
      iexact H) $$ H
  icases H with ⟨Ht, Hi, Ho⟩
  isplitl [Ht Htr]
  · iapply (toks tb).2
    isplitl [Htr] <;> iassumption
  isplitl [Hi Hir]
  · iapply (toks ix).2
    isplitl [Hir] <;> iassumption
  iexact Ho

/-! ## The obligation of a tile -/

variable [FloatOps F]

theorem defs₀_vector (c : Fin τ.nSC) (s : Fin τ.nSub) :
    defs₀ (F := F) (.scVector c s) 1 ()
      = SparseCore.onTile hcore1 hsub1 (fun c s => cc1_k (fun | 0 => c | 1 => s | ⟨_ + 2, h⟩ => absurd h (Nat.not_lt.2 (Nat.le_add_left _ _)))
          (Memref.whole main_v6_scv) (Memref.isWhole_whole _) (Memref.whole main_v13_scv) (Memref.isWhole_whole _) (Memref.whole main_v14_scv) (Memref.isWhole_whole _)
          (Memref.whole cc1_scratch0) (Memref.isWhole_whole _) (Memref.whole cc1_scratch1) (Memref.isWhole_whole _) (Memref.whole cc1_scratch2) (Memref.isWhole_whole _)
          cc1_scratch3 cc1_scratch4 cc1_scoped0 cc1_scoped1 cc1_scoped2) ⟨⟩ c s := rfl

end Cert.Work.Tile1

end
-- ==== Proof.Tile4.lean ====
/-
  SparseCore call 4: each tile fetches its 1024 row numbers, gathers the table's rows through a row buffer, and writes them to its block of the result.
-/
module

public import proofs.«01_k».proof.Proof.Setup

@[expose] public section

noncomputable section

namespace Cert.Work.Tile4

open Cert.KernelIdeal Cert.KernelIdeal.Gen Cert.Work

open Idealize.ShloMosaic
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

local notation "tV" => (Memref.whole Cert.KernelIdeal.main_v31_scv : Memref Cert.KernelIdeal.sig Kind.scVector Space.hbm Cert.KernelIdeal.S2048x16 EltTy.f32)
local notation "iV" => (Memref.whole Cert.KernelIdeal.main_v27_scv : Memref Cert.KernelIdeal.sig Kind.scVector Space.hbm Cert.KernelIdeal.S32768 EltTy.i32)
local notation "oV" => (Memref.whole Cert.KernelIdeal.main_v32_scv : Memref Cert.KernelIdeal.sig Kind.scVector Space.hbm Cert.KernelIdeal.S32768x16 EltTy.f32)
local notation "sV" => (Memref.whole Cert.KernelIdeal.cc4_scratch0 : Memref Cert.KernelIdeal.sig Kind.scVector Space.vmem Cert.KernelIdeal.S1024 EltTy.i32)
local notation "aV" => (Memref.whole Cert.KernelIdeal.cc4_scratch1 : Memref Cert.KernelIdeal.sig Kind.scVector Space.vmem Cert.KernelIdeal.S1024x16 EltTy.f32)
local notation "bV" => (Memref.whole Cert.KernelIdeal.cc4_scratch2 : Memref Cert.KernelIdeal.sig Kind.scVector Space.vmem Cert.KernelIdeal.S1024x16 EltTy.f32)

variable (d : Dev nD) (L : grid4.Coords)

abbrev cV (L : grid4.Coords) : Fin τ.nSC := (L 0).castLE hcore4
abbrev jV (L : grid4.Coords) : Fin τ.nSub := (L 1).castLE hsub4

/-! ## The blocks and their values -/

/-- The result: row `k` of it is the row of the table that entry `k` of the list names. -/
def outVal (tb : S2048x16.Idx → Elt F .f32) (ix : S32768.Idx → Elt F .i32) : S32768x16.Idx → Elt F .f32 :=
  fun x => tb ((fun | ⟨0, _⟩ => (⟨(ix (fun | ⟨0, _⟩ => x 0)).toNat % 2048, Nat.mod_lt _ (by decide)⟩ : Fin 2048) | ⟨1, _⟩ => x 1))

theorem ckInb (L : grid4.Coords) (t : Fin 1) (a : Fin S32768x16.rank) :
    (![2048 * (L 1).val + 1024 * (L 0).val + 1024 * t.val, 0] : Fin 2 → ℕ) a + S1024x16.size a ≤ S32768x16.size a := by
  have h0 : (L 0).val < 2 := (L 0).isLt
  have h1 : (L 1).val < 16 := (L 1).isLt
  have ht := t.isLt
  match a with
  | ⟨0, _⟩ => show 2048 * (L 1).val + 1024 * (L 0).val + 1024 * t.val + 1024 ≤ 32768; omega
  | ⟨1, _⟩ => show 0 + 16 ≤ 16; omega

/-- Block `t` of the tile's one. -/
abbrev ckR (L : grid4.Coords) (t : Fin 1) : Rect S32768x16 :=
  Rect.unit (s := S32768x16) ![2048 * (L 1).val + 1024 * (L 0).val + 1024 * t.val, 0] S1024x16.size (ckInb L t)

/-- The tile's list, as fetched. -/
def lst (L : grid4.Coords) (ix : S32768.Idx → Elt F .i32) : S1024.Idx → Elt F .i32 :=
  ((iV).slice (Rect.unit (s := S32768) (k4_off1 L) S1024.size (k4_off1_inb L)) (fun _ => rfl)).view.read (Elt F) ix

/-- Block `t` of the result. -/
def chunkVal (L : grid4.Coords) (t : Fin 1) (tb : S2048x16.Idx → Elt F .f32) (ix : S32768.Idx → Elt F .i32) : S1024x16.Idx → Elt F .f32 :=
  fun y => outVal tb ix ((ckR L t).emb y)

theorem hin (ix : S32768.Idx → Elt F .i32) (hix : ∀ j, (ix j : BitVec 32).toNat < 2048) (o : Fin 1 → ℕ) (ho : ∀ a, o a + S1024.size a ≤ S1024.size a) :
    ∀ x, ((((sV).slice (Rect.unit (s := S1024) o S1024.size ho) (fun _ => rfl)).view.read (Elt F) (lst (F := F) L ix) x : Elt F .i32) : BitVec 32).toNat
      < S2048x16.size gathers_S2048x16_S1024x16.axis := by
  intro x
  have h := hix (((iV).slice (Rect.unit (s := S32768) (k4_off1 L) S1024.size (k4_off1_inb L)) (fun _ => rfl)).view.emb
    (((sV).slice (Rect.unit (s := S1024) o S1024.size ho) (fun _ => rfl)).view.emb x))
  exact h

theorem pay_eq (tb : S2048x16.Idx → Elt F .f32) (ix : S32768.Idx → Elt F .i32) (hix : ∀ j, (ix j : BitVec 32).toNat < 2048) (t : Fin 1) (o : Fin 1 → ℕ)
    (ho : ∀ a, o a + S1024.size a ≤ S1024.size a) (hot : o 0 = 1024 * t.val) :
    gatherPayload (F := F) gathers_S2048x16_S1024x16 (((tV).slice (Rect.unit (s := S2048x16) ![0, 0] S2048x16.size inb_S2048x16_S2048x16_0_0) (fun _ => rfl)).view.read (Elt F) tb)
      (rows (((sV).slice (Rect.unit (s := S1024) o S1024.size ho) (fun _ => rfl)).view.read (Elt F) (lst (F := F) L ix)) rfl (hin (F := F) L ix hix o ho))
      = chunkVal L t tb ix := by
  funext y
  unfold gatherPayload chunkVal outVal
  refine (show _ = tb _ from rfl).trans (congrArg tb ?_)
  funext a
  match a with
  | ⟨0, h0⟩ =>
    apply Fin.ext
    refine Eq.trans ?_ (Nat.mod_eq_of_lt (hix _)).symm
    refine (Nat.zero_add _).trans ((Nat.one_mul _).trans ?_)
    rw [show (⟨0, h0⟩ : Fin S2048x16.rank) = gathers_S2048x16_S1024x16.axis from rfl, Shape.Gathers.idx_axis]
    unfold rows
    show (lst L ix _ : BitVec 32).toNat = _
    unfold lst
    refine (show _ = (ix _ : BitVec 32).toNat from rfl).trans (congrArg (fun z => (ix z : BitVec 32).toNat) ?_)
    funext b
    match b with
    | ⟨0, hb⟩ =>
      apply Fin.ext
      have e1 : k4_off1 L 0 = 2048 * (L 1).val + 1024 * (L 0).val := by rw [k4_off1_eq]; rfl
      show k4_off1 L 0 + 1 * (o 0 + 1 * (_ : ℕ)) = (2048 * (L 1).val + 1024 * (L 0).val + 1024 * t.val) + 1 * (y 0).val
      rw [e1, hot]
      have e2 := Shape.rowMajor_val_one (S1024.rowMajor.symm (Fin.cast (rfl : S1024x16.size gathers_S2048x16_S1024x16.axis' = S1024.numel) (y gathers_S2048x16_S1024x16.axis')))
      rw [Equiv.apply_symm_apply] at e2
      have e3 : ((S1024.rowMajor.symm (Fin.cast (rfl : S1024x16.size gathers_S2048x16_S1024x16.axis' = S1024.numel) (y gathers_S2048x16_S1024x16.axis'))) 0).val = (y 0).val := e2.symm
      have e4 : ((S1024.rowMajor.symm (Fin.cast (rfl : S1024x16.size gathers_S2048x16_S1024x16.axis' = S1024.numel) (y gathers_S2048x16_S1024x16.axis'))) ⟨0, hb⟩).val = (y 0).val := e3
      refine (congrArg (fun z => 2048 * (L 1).val + 1024 * (L 0).val + 1 * (1024 * t.val + 1 * z)) e4).trans ?_
      omega
  | ⟨1, h1⟩ =>
    apply Fin.ext
    refine (Nat.zero_add _).trans ((Nat.one_mul _).trans ?_)
    rw [Shape.Gathers.idx_of_ne _ _ _ _ (by show (1 : ℕ) ≠ 0; decide)]
    show (y 1).val = 0 + 1 * (y 1).val
    omega

/-! ## The tile's buffers and cells -/

abbrev gc0 (d : Dev nD) (c : Fin τ.nSC) (i : Fin τ.nSub) : GSem nD τ sig := (V d c i, .dma cc4_scratch3.sem)
abbrev gc1 (d : Dev nD) (c : Fin τ.nSC) (i : Fin τ.nSub) : GSem nD τ sig := (V d c i, .dma cc4_scratch4.sem)
abbrev gc2 (d : Dev nD) (c : Fin τ.nSC) (i : Fin τ.nSub) : GSem nD τ sig := (V d c i, .dma cc4_scoped0.sem)
abbrev gc3 (d : Dev nD) (c : Fin τ.nSC) (i : Fin τ.nSub) : GSem nD τ sig := (V d c i, .dma cc4_scoped1.sem)
abbrev gc4 (d : Dev nD) (c : Fin τ.nSC) (i : Fin τ.nSub) : GSem nD τ sig := (V d c i, .dma cc4_scoped2.sem)

theorem gc_ne {thr : Thread nD τ} {s t : SemLoc sig} (h : s ≠ t) : ((thr, s) : GSem nD τ sig) ≠ (thr, t) := fun e => h (congrArg Prod.snd e)

theorem gc_mem (c : Fin τ.nSC) (i : Fin τ.nSub) (s : SemLoc sig) (h : s.isScoped .scVector = true) : ((V d c i, s) : GSem nD τ sig) ∈ ownCells (V d c i) :=
  mem_ownCells.mpr ⟨rfl, h⟩

theorem ownSems0_V (c : Fin τ.nSC) (i : Fin τ.nSub) :
    (ownSems0 (V d c i) : sProp 𝕄)
      = iprop(semVal (gc0 d c i) 0 ∗ semVal (gc1 d c i) 0 ∗ semVal (gc2 d c i) 0 ∗ semVal (gc3 d c i) 0 ∗ semVal (gc4 d c i) 0
          ∗ bigSep ((((((ownCells (V d c i)).erase (gc0 d c i)).erase (gc1 d c i)).erase (gc2 d c i)).erase (gc3 d c i)).erase (gc4 d c i)) fun g => semVal g 0) := by
  unfold SparseCore.Cfg.ownSems0
  have h10 : gc1 d c i ≠ gc0 d c i := gc_ne (by decide)
  have h20 : gc2 d c i ≠ gc0 d c i := gc_ne (by decide)
  have h21 : gc2 d c i ≠ gc1 d c i := gc_ne (by decide)
  have h30 : gc3 d c i ≠ gc0 d c i := gc_ne (by decide)
  have h31 : gc3 d c i ≠ gc1 d c i := gc_ne (by decide)
  have h32 : gc3 d c i ≠ gc2 d c i := gc_ne (by decide)
  have h40 : gc4 d c i ≠ gc0 d c i := gc_ne (by decide)
  have h41 : gc4 d c i ≠ gc1 d c i := gc_ne (by decide)
  have h42 : gc4 d c i ≠ gc2 d c i := gc_ne (by decide)
  have h43 : gc4 d c i ≠ gc3 d c i := gc_ne (by decide)
  rw [SparseCore.bigSep_erase' (gc_mem d c i (.dma cc4_scratch3.sem) (by decide)),
    SparseCore.bigSep_erase' (Finset.mem_erase.mpr ⟨h10, gc_mem d c i (.dma cc4_scratch4.sem) (by decide)⟩),
    SparseCore.bigSep_erase' (Finset.mem_erase.mpr ⟨h21, Finset.mem_erase.mpr ⟨h20, gc_mem d c i (.dma cc4_scoped0.sem) (by decide)⟩⟩),
    SparseCore.bigSep_erase' (Finset.mem_erase.mpr ⟨h32, Finset.mem_erase.mpr ⟨h31, Finset.mem_erase.mpr ⟨h30, gc_mem d c i (.dma cc4_scoped1.sem) (by decide)⟩⟩⟩),
    SparseCore.bigSep_erase' (Finset.mem_erase.mpr ⟨h43, Finset.mem_erase.mpr ⟨h42, Finset.mem_erase.mpr ⟨h41, Finset.mem_erase.mpr ⟨h40, gc_mem d c i (.dma cc4_scoped2.sem) (by decide)⟩⟩⟩⟩)]

theorem br_ne (c : Fin τ.nSC) (i : Fin τ.nSub) {r r' : Ref sig .scVector} (h : r ≠ r') :
    ((Proc.scVector c i).devRef r : DevRef τ sig) ≠ (Proc.scVector c i).devRef r' := fun e => h (Proc.devRef_injective _ e)

theorem ownBufs_V (c : Fin τ.nSC) (i : Fin τ.nSub) :
    (ownBufs (V d c i) : sProp 𝕄)
      = iprop((∃ f, (V d c i).loc cc4_scratch0 ↦{fullShare} f) ∗ (∃ f, (V d c i).loc cc4_scratch1 ↦{fullShare} f) ∗ (∃ f, (V d c i).loc cc4_scratch2 ↦{fullShare} f)
          ∗ bigSep ((((ownRefs (τ := τ) (.scVector c i)).erase ((Proc.scVector c i).devRef cc4_scratch0)).erase
              ((Proc.scVector c i).devRef cc4_scratch1)).erase ((Proc.scVector c i).devRef cc4_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector c i) (b := (Proc.scVector c i).devRef cc4_scratch0) rfl)).trans ?_
  rw [SparseCore.bigSep_erase' (Finset.mem_erase.mpr ⟨br_ne c i (by decide), SparseCore.Cfg.mem_ownRefs_of_owner (p := Proc.scVector c i) (b := (Proc.scVector c i).devRef cc4_scratch1) rfl⟩),
    SparseCore.bigSep_erase' (Finset.mem_erase.mpr ⟨br_ne c i (by decide), Finset.mem_erase.mpr ⟨br_ne c i (by decide), SparseCore.Cfg.mem_ownRefs_of_owner (p := Proc.scVector c i) (b := (Proc.scVector c i).devRef cc4_scratch2) rfl⟩⟩)]

/-! ## The body -/

abbrev tLoc (d : Dev nD) : Loc nD τ sig := (SparseCore.T d).loc main_v31
abbrev iLoc (d : Dev nD) : Loc nD τ sig := (SparseCore.T d).loc main_v27
abbrev oLoc (d : Dev nD) : Loc nD τ sig := (SparseCore.T d).loc main_v32

/-- What a tile is handed: shares of the table and of the list, and its block of the result. -/
abbrev tileIn (tb : S2048x16.Idx → Elt F .f32) (ix : S32768.Idx → Elt F .i32) (qt qi : PosShare TreeShare) : sProp 𝕄 :=
  iprop((tLoc d ↦{qt} tb) ∗ (iLoc d ↦{qi} ix)
    ∗ ∃ f, oLoc d ↦[(ckR L 0).set]{fullShare} f)

/-- What it hands back: the same, the blocks at their values. -/
abbrev tileOut (tb : S2048x16.Idx → Elt F .f32) (ix : S32768.Idx → Elt F .i32) (qt qi : PosShare TreeShare) : sProp 𝕄 :=
  iprop((tLoc d ↦{qt} tb) ∗ (iLoc d ↦{qi} ix)
    ∗ (oLoc d ↦[(ckR L 0).set]{fullShare} outVal tb ix))

/-- A block as the body addresses it is the block. -/
theorem rect_eq (t : Fin 1) (o : Fin 2 → ℕ) (ho : ∀ a, o a + S1024x16.size a ≤ S32768x16.size a)
    (e : o = ![2048 * (L 1).val + 1024 * (L 0).val + 1024 * t.val, 0]) :
    (Rect.unit (s := S32768x16) o S1024x16.size ho) = ckR L t := by subst e; rfl

theorem blk_in (t : Fin 1) (o : Fin 2 → ℕ) (ho : ∀ a, o a + S1024x16.size a ≤ S32768x16.size a)
    (e : o = ![2048 * (L 1).val + 1024 * (L 0).val + 1024 * t.val, 0]) (f : S32768x16.Idx → Elt F .f32) :
    ((oLoc d ↦[(ckR L t).set]{fullShare} f) : sProp 𝕄)
      = (((oV).slice (Rect.unit (s := S32768x16) o S1024x16.size ho) (fun _ => rfl)).view.loc (V d (cV L) (jV L))
          ↦[((oV).slice (Rect.unit (s := S32768x16) o S1024x16.size ho) (fun _ => rfl)).view.set]{fullShare} f) := by
  subst e
  rw [show ((oV).slice (Rect.unit (s := S32768x16) ![2048 * (L 1).val + 1024 * (L 0).val + 1024 * t.val, 0] S1024x16.size ho) (fun _ => rfl)).view.set = (ckR L t).set from by
    show ((View.whole (main_v32_scv : Ref sig .scVector)).slice (ckR L t)).set = _
    rw [View.set_slice]; exact Finset.map_refl]

theorem blk_out (t : Fin 1) (o : Fin 2 → ℕ) (ho : ∀ a, o a + S1024x16.size a ≤ S32768x16.size a)
    (e : o = ![2048 * (L 1).val + 1024 * (L 0).val + 1024 * t.val, 0]) (f : S32768x16.Idx → Elt F .f32) (tb : S2048x16.Idx → Elt F .f32) (ix : S32768.Idx → Elt F .i32)
    (p : S1024x16.Idx → Elt F .f32) (hp : p = chunkVal L t tb ix) :
    (((oV).slice (Rect.unit (s := S32768x16) o S1024x16.size ho) (fun _ => rfl)).view.loc (V d (cV L) (jV L))
          ↦[((oV).slice (Rect.unit (s := S32768x16) o S1024x16.size ho) (fun _ => rfl)).view.set]{fullShare}
            (((oV).slice (Rect.unit (s := S32768x16) o S1024x16.size ho) (fun _ => rfl)).view.writes (Elt F) f [⟨Rect.whole (Rect.unit (s := S32768x16) o S1024x16.size ho).shape, p⟩]) : sProp 𝕄)
      = (oLoc d ↦[(ckR L t).set]{fullShare} outVal tb ix) := by
  subst e hp
  rw [blk_in d L t _ ho rfl]
  refine pointsTo_congr fun x hx => ?_
  obtain ⟨y, -, rfl⟩ := Finset.mem_map.mp hx
  have hw : (Rect.whole (Rect.unit (s := S32768x16) ![2048 * (L 1).val + 1024 * (L 0).val + 1024 * t.val, 0] S1024x16.size ho).shape).emb y = y :=
    funext fun a => Fin.ext (by show 0 + 1 * (y a).val = (y a).val; omega)
  have he : ((oV).slice (Rect.unit (s := S32768x16) ![2048 * (L 1).val + 1024 * (L 0).val + 1024 * t.val, 0] S1024x16.size ho) (fun _ => rfl)).view.emb y
      = (((oV).slice (Rect.unit (s := S32768x16) ![2048 * (L 1).val + 1024 * (L 0).val + 1024 * t.val, 0] S1024x16.size ho) (fun _ => rfl)).view.slice
          (Rect.whole (Rect.unit (s := S32768x16) ![2048 * (L 1).val + 1024 * (L 0).val + 1024 * t.val, 0] S1024x16.size ho).shape)).emb y :=
    congrArg ((oV).slice (Rect.unit (s := S32768x16) ![2048 * (L 1).val + 1024 * (L 0).val + 1024 * t.val, 0] S1024x16.size ho) (fun _ => rfl)).view.emb hw.symm
  conv_lhs => rw [he]
  unfold View.writes
  rw [View.write_emb, if_pos (Finset.mem_univ _)]
  rfl

variable [FloatOps F]

theorem numelPos : 0 < S1024x16.numel := by decide

omit [FloatOps F] in
theorem creditA (a' : Fin S1024x16.rank) : ∑ j, ((aV).slice (S1024x16.rowRect a' j) (S1024x16.stride_rowRect a' j)).view.dmaCredit = (aV).view.dmaCredit :=
  SparseCore.sum_rowCredit_eq_dmaCredit _ _ fun _ => rfl
omit [FloatOps F] in
theorem creditB (a' : Fin S1024x16.rank) : ∑ j, ((bV).slice (S1024x16.rowRect a' j) (S1024x16.stride_rowRect a' j)).view.dmaCredit = (bV).view.dmaCredit :=
  SparseCore.sum_rowCredit_eq_dmaCredit _ _ fun _ => rfl

omit [FloatOps F] in
theorem writeA (tb : S2048x16.Idx → Elt F .f32) (ix : S32768.Idx → Elt F .i32) (hix : ∀ j, (ix j : BitVec 32).toNat < 2048) (t : Fin 1) (o : Fin 1 → ℕ)
    (ho : ∀ a, o a + S1024.size a ≤ S1024.size a) (hot : o 0 = 1024 * t.val) (fd : S1024x16.Idx → Elt F .f32) :
    chunkVal L t tb ix = (aV).view.write (Elt F) fd (gatherPayload (F := F) gathers_S2048x16_S1024x16 (((tV).slice (Rect.unit (s := S2048x16) ![0, 0] S2048x16.size inb_S2048x16_S2048x16_0_0) (fun _ => rfl)).view.read (Elt F) tb)
      (rows (((sV).slice (Rect.unit (s := S1024) o S1024.size ho) (fun _ => rfl)).view.read (Elt F) (lst (F := F) L ix)) rfl (hin (F := F) L ix hix o ho))) Finset.univ := by
  rw [pay_eq L tb ix hix t o ho hot]; exact (View.write_whole_univ _ _ _).symm
omit [FloatOps F] in
theorem writeB (tb : S2048x16.Idx → Elt F .f32) (ix : S32768.Idx → Elt F .i32) (hix : ∀ j, (ix j : BitVec 32).toNat < 2048) (t : Fin 1) (o : Fin 1 → ℕ)
    (ho : ∀ a, o a + S1024.size a ≤ S1024.size a) (hot : o 0 = 1024 * t.val) (fd : S1024x16.Idx → Elt F .f32) :
    chunkVal L t tb ix = (bV).view.write (Elt F) fd (gatherPayload (F := F) gathers_S2048x16_S1024x16 (((tV).slice (Rect.unit (s := S2048x16) ![0, 0] S2048x16.size inb_S2048x16_S2048x16_0_0) (fun _ => rfl)).view.read (Elt F) tb)
      (rows (((sV).slice (Rect.unit (s := S1024) o S1024.size ho) (fun _ => rfl)).view.read (Elt F) (lst (F := F) L ix)) rfl (hin (F := F) L ix hix o ho))) Finset.univ := by
  rw [pay_eq L tb ix hix t o ho hot]; exact (View.write_whole_univ _ _ _).symm

theorem issA (tb : S2048x16.Idx → Elt F .f32) (ix : S32768.Idx → Elt F .i32) (hix : ∀ j, (ix j : BitVec 32).toNat < 2048) (t : Fin 1) (o : Fin 1 → ℕ)
    (ho : ∀ a, o a + S1024.size a ≤ S1024.size a) (hot : o 0 = 1024 * t.val) (fd : S1024x16.Idx → Elt F .f32) (q qo : PosShare TreeShare) (sem : DmaSem sig)
    {hp : (V d (cV L) (jV L)).2.kind = .scVector} {hn : S1024.numel = S1024x16.size gathers_S2048x16_S1024x16.axis'}
    {hsrc : ((tV).slice (Rect.unit (s := S2048x16) ![0, 0] S2048x16.size inb_S2048x16_S2048x16_0_0) (fun _ => rfl)).view.WordExact}
    {he : EltTy.f32.bits = 32} {hsp : Space.hbm = .hbm ∨ Space.hbm = .shared} {hr : S2048x16.StreamRows 0}
    {k : PUnit → Prog (TpuEff nD τ sig (Elt F) Λ₀ (V d (cV L) (jV L)).2) PUnit} {Q : PUnit → sProp 𝕄} :
    iprop(((tV).view.loc (V d (cV L) (jV L)) ↦{q} tb) ∗ ((aV).view.loc (V d (cV L) (jV L)) ↦{fullShare} fd)
        ∗ ((sV).view.loc (V d (cV L) (jV L)) ↦{qo} lst (F := F) L ix) ∗ semVal (V d (cV L) (jV L), SemLoc.dma sem) 0)
      ⊢ iprop((InFlight (V d (cV L) (jV L)) ((tV).slice (Rect.unit (s := S2048x16) ![0, 0] S2048x16.size inb_S2048x16_S2048x16_0_0) (fun _ => rfl))
              aV ((sV).slice (Rect.unit (s := S1024) o S1024.size ho) (fun _ => rfl)) sem q qo tb (lst (F := F) L ix) (chunkVal L t tb ix)
            -∗ wp frame (wpE (defs₀ (F := F)) 𝒱₀ (V d (cV L) (jV L)) none) Set.univ (k ⟨⟩) Q)
          -∗ wp frame (wpE (defs₀ (F := F)) 𝒱₀ (V d (cV L) (jV L)) none) Set.univ
            (SparseCore.enqueueIndirectGather hp ((tV).slice (Rect.unit (s := S2048x16) ![0, 0] S2048x16.size inb_S2048x16_S2048x16_0_0) (fun _ => rfl))
              aV gathers_S2048x16_S1024x16 ((sV).slice (Rect.unit (s := S1024) o S1024.size ho) (fun _ => rfl)) hn sem hsrc he hsp hr >>= k) Q) := by
  have h1 := @gather_issue F PUnit Λ₀ (defs₀ (F := F)) 𝒱₀ (V d (cV L) (jV L)) none Space.hbm S2048x16 S1024x16 S1024 0 EltTy.f32
    ((tV).slice (Rect.unit (s := S2048x16) ![0, 0] S2048x16.size inb_S2048x16_S2048x16_0_0) (fun _ => rfl)) aV gathers_S2048x16_S1024x16
    ((sV).slice (Rect.unit (s := S1024) o S1024.size ho) (fun _ => rfl)) hn sem hp hsrc he hsp hr k Q q qo tb fd (lst (F := F) L ix)
  have h4 := h1 (View.set_whole _) (creditA _) numelPos
  have hin' := (hin (F := F) L ix hix o ho)
  have h5 := @h4 hin'
  exact h5 (writeA L tb ix hix t o ho hot fd)

theorem issB (tb : S2048x16.Idx → Elt F .f32) (ix : S32768.Idx → Elt F .i32) (hix : ∀ j, (ix j : BitVec 32).toNat < 2048) (t : Fin 1) (o : Fin 1 → ℕ)
    (ho : ∀ a, o a + S1024.size a ≤ S1024.size a) (hot : o 0 = 1024 * t.val) (fd : S1024x16.Idx → Elt F .f32) (q qo : PosShare TreeShare) (sem : DmaSem sig)
    {hp : (V d (cV L) (jV L)).2.kind = .scVector} {hn : S1024.numel = S1024x16.size gathers_S2048x16_S1024x16.axis'}
    {hsrc : ((tV).slice (Rect.unit (s := S2048x16) ![0, 0] S2048x16.size inb_S2048x16_S2048x16_0_0) (fun _ => rfl)).view.WordExact}
    {he : EltTy.f32.bits = 32} {hsp : Space.hbm = .hbm ∨ Space.hbm = .shared} {hr : S2048x16.StreamRows 0}
    {k : PUnit → Prog (TpuEff nD τ sig (Elt F) Λ₀ (V d (cV L) (jV L)).2) PUnit} {Q : PUnit → sProp 𝕄} :
    iprop(((tV).view.loc (V d (cV L) (jV L)) ↦{q} tb) ∗ ((bV).view.loc (V d (cV L) (jV L)) ↦{fullShare} fd)
        ∗ ((sV).view.loc (V d (cV L) (jV L)) ↦{qo} lst (F := F) L ix) ∗ semVal (V d (cV L) (jV L), SemLoc.dma sem) 0)
      ⊢ iprop((InFlight (V d (cV L) (jV L)) ((tV).slice (Rect.unit (s := S2048x16) ![0, 0] S2048x16.size inb_S2048x16_S2048x16_0_0) (fun _ => rfl))
              bV ((sV).slice (Rect.unit (s := S1024) o S1024.size ho) (fun _ => rfl)) sem q qo tb (lst (F := F) L ix) (chunkVal L t tb ix)
            -∗ wp frame (wpE (defs₀ (F := F)) 𝒱₀ (V d (cV L) (jV L)) none) Set.univ (k ⟨⟩) Q)
          -∗ wp frame (wpE (defs₀ (F := F)) 𝒱₀ (V d (cV L) (jV L)) none) Set.univ
            (SparseCore.enqueueIndirectGather hp ((tV).slice (Rect.unit (s := S2048x16) ![0, 0] S2048x16.size inb_S2048x16_S2048x16_0_0) (fun _ => rfl))
              bV gathers_S2048x16_S1024x16 ((sV).slice (Rect.unit (s := S1024) o S1024.size ho) (fun _ => rfl)) hn sem hsrc he hsp hr >>= k) Q) := by
  have h1 := @gather_issue F PUnit Λ₀ (defs₀ (F := F)) 𝒱₀ (V d (cV L) (jV L)) none Space.hbm S2048x16 S1024x16 S1024 0 EltTy.f32
    ((tV).slice (Rect.unit (s := S2048x16) ![0, 0] S2048x16.size inb_S2048x16_S2048x16_0_0) (fun _ => rfl)) bV gathers_S2048x16_S1024x16
    ((sV).slice (Rect.unit (s := S1024) o S1024.size ho) (fun _ => rfl)) hn sem hp hsrc he hsp hr k Q q qo tb fd (lst (F := F) L ix)
  have h4 := h1 (View.set_whole _) (creditB _) numelPos
  have hin' := (hin (F := F) L ix hix o ho)
  have h5 := @h4 hin'
  exact h5 (writeB L tb ix hix t o ho hot fd)

theorem c1 : k4_cond1 = 1#1 := by decide
theorem c2 : ¬ k4_cond2 = 1#1 := by decide
theorem c3 : ¬ k4_cond3 = 1#1 := by decide

theorem off_eq : k4_off4 L = ![2048 * (L 1).val + 1024 * (L 0).val + 1024 * (0 : Fin 1).val, 0] := by rw [k4_off4_eq]; rfl

set_option maxHeartbeats 1000000 in
theorem tile_body (tb : S2048x16.Idx → Elt F .f32) (ix : S32768.Idx → Elt F .i32) (hix : ∀ j, (ix j : BitVec 32).toNat < 2048) (qt qi : PosShare TreeShare)
    (O : CellTallies nD τ sig (HIx 3)) (W : Waits sig (HIx 3)) (hO : ∀ g, O g none = 0) :
    iprop(levAts (K (F := F)).L (K (F := F)).lev ∗ emp ∗ tileIn d L tb ix qt qi
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc4_k L tV (Memref.isWhole_whole _) iV (Memref.isWhole_whole _) oV (Memref.isWhole_whole _)
            sV (Memref.isWhole_whole _) aV (Memref.isWhole_whole _) bV (Memref.isWhole_whole _)
            cc4_scratch3 cc4_scratch4 cc4_scoped0 cc4_scoped1 cc4_scoped2)
          fun _ => iprop(tileOut d L tb ix qt qi
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc4_k_eq_skeleton]; unfold cc4_k_skel
  rw [(K (F := F)).scopedBufs_V facts d (cV L) (jV L), SparseCore.Cfg.scopedSems0_V (Val := Elt F) d (cV L) (jV L), ownSems0_V, ownBufs_V]
  iintro ⟨#Hlv, -, ⟨Ht, Hi, ⟨%f0, Ho0⟩⟩, ⟨⟨%fs, Hs⟩, ⟨%fa, Ha⟩, ⟨%fb, Hb⟩, Hbufs⟩, ⟨HsemA, HsemB, Hsem0, Hsem1, Hsem2, Hsems⟩, HO⟩
  ihave #Hmw := (show levAts (K (F := F)).L (K (F := F)).lev ⊢ Transfers.MayWaits (V d (cV L) (jV L)) (default : HIx 3) O from
    (K (F := F)).mayWaits_none (thr := V d (cV L) (jV L)) hO) $$ Hlv
  ihave Ht := (Entails.of_eq (show ((tLoc d ↦{qt} tb) : sProp 𝕄) = ((tV).view.loc (V d (cV L) (jV L)) ↦{qt} tb) from rfl)) $$ Ht
  ihave Hi := (Entails.of_eq (show ((iLoc d ↦{qi} ix) : sProp 𝕄) = ((iV).view.loc (V d (cV L) (jV L)) ↦{qi} ix) from rfl)) $$ Hi
  ihave Hs := (Entails.of_eq (show (((V d (cV L) (jV L)).loc cc4_scratch0 ↦{fullShare} fs) : sProp 𝕄) = ((sV).view.loc (V d (cV L) (jV L)) ↦{fullShare} fs) from rfl)) $$ Hs
  ihave Ha := (Entails.of_eq (show (((V d (cV L) (jV L)).loc cc4_scratch1 ↦{fullShare} fa) : sProp 𝕄) = ((aV).view.loc (V d (cV L) (jV L)) ↦{fullShare} fa) from rfl)) $$ Ha
  ihave Hb := (Entails.of_eq (show (((V d (cV L) (jV L)).loc cc4_scratch2 ↦{fullShare} fb) : sProp 𝕄) = ((bV).view.loc (V d (cV L) (jV L)) ↦{fullShare} fb) from rfl)) $$ Hb
  ihave Ho0 := (Entails.of_eq (blk_in (F := F) d L 0 (k4_off4 L) (k4_off4_inb L c1) (off_eq L) f0)) $$ Ho0
  simp (config := { iota := false, proj := false, eta := false }) only [dif_pos c1, dif_neg c2, dif_neg c3, Prog.bind_assoc]
  sl_exec
  ihave Hs := (Entails.of_eq (show (((sV).view.loc (V d (cV L) (jV L)) ↦{fullShare} View.write (Elt F) (sV).view fs (tile_body.sl.dma0 L ix) Finset.univ) : sProp 𝕄)
      = ((sV).view.loc (V d (cV L) (jV L)) ↦{fullShare} lst (F := F) L ix) by rw [View.write_whole_univ]; rfl)) $$ Hs
  ihave Hs := (pointsTo_share (PosShare.mem_left_op_right fullShare)).1 $$ Hs
  icases Hs with ⟨HsL, HsR⟩
  ihave Ht := (pointsTo_share (PosShare.mem_left_op_right qt)).1 $$ Ht
  icases Ht with ⟨HtL, HtR⟩
  iapply (issA (F := F) d L tb ix hix 0 _ _ rfl fa qt.left fullShare.left _) $$ [HtL Ha HsL HsemA]
  · isplitl [HtL]; · iexact HtL
    isplitl [Ha]; · iexact Ha
    isplitl [HsL]; · iexact HsL
    iexact HsemA
  iintro HflL
  iapply (gather_wait (c := V d (cV L) (jV L)) (View.set_whole _)) $$ [HflL HO]
  · isplitl [HflL]; · iexact HflL
    isplitl [HO]; · iexact HO
    iapply (Transfers.MayWaits.elim (SemLoc.dma cc4_scratch3.sem)) $$ Hmw
  iintro ⟨Ha, HtL, HsL, HsemA, HO⟩
  sl_exec
  sl_step
  ihave Ho0 := (Entails.of_eq (blk_out (F := F) d L 0 (k4_off4 L) (k4_off4_inb L c1) (off_eq L) f0 tb ix (tile_body.sl.dma0_1 L tb ix) rfl)) $$ Ho0
  ihave Hs := (pointsTo_share (PosShare.mem_left_op_right fullShare)).2 $$ [HsL HsR]
  · isplitl [HsL]; · iexact HsL
    iexact HsR
  ihave Ht := (pointsTo_share (PosShare.mem_left_op_right qt)).2 $$ [HtL HtR]
  · isplitl [HtL]; · iexact HtL
    iexact HtR
  isplitl [Ht Hi Ho0]
  · isplitl [Ht]; · iexact Ht
    isplitl [Hi]; · iexact Hi
    iexact Ho0
  isplitl [Hs Ha Hb Hbufs]
  · isplitl [Hs]; · iexists _; iexact Hs
    isplitl [Ha]; · iexists _; iexact Ha
    isplitl [Hb]; · iexists _; iexact Hb
    iexact Hbufs
  isplitl [HsemA HsemB Hsem0 Hsem1 Hsem2 Hsems]
  · isplitl [HsemA]; · iexact HsemA
    isplitl [HsemB]; · iexact HsemB
    isplitl [Hsem0]; · iexact Hsem0
    isplitl [Hsem1]; · iexact Hsem1
    isplitl [Hsem2]; · iexact Hsem2
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Work.Tile4

end
-- ==== Proof.Deal4.lean ====
/-
  SparseCore call 4 as the TensorCore sees it: the table, the list and the result dealt to the tiles and gathered back.
-/
module

public import proofs.«01_k».proof.Proof.Tile4

@[expose] public section

noncomputable section

namespace Cert.Work.Tile4

open Cert.KernelIdeal Cert.KernelIdeal.Gen Cert.Work

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

variable (d : Dev nD)

def crd (c : Fin 2) (s : Fin 16) : grid4.Coords :=
  fun | 0 => c | 1 => s | ⟨_ + 2, h⟩ => absurd h (Nat.not_lt.2 (Nat.le_add_left _ _))

/-- The tile's read share. -/
abbrev shr (c : Fin 2) (s : Fin 16) : PosShare TreeShare := Transfers.shareTok fullShare (2 * 16) (finProdFinEquiv (c, s))

/-- The block of tile `(c, s)` numbered `t`. -/
abbrev bset (x : Fin 2 × Fin 16 × Fin 1) : Finset S32768x16.Idx := (ckR (crd x.1 x.2.1) x.2.2).set

theorem mem_bset (x : Fin 2 × Fin 16 × Fin 1) (i : S32768x16.Idx) :
    i ∈ bset x ↔ 2048 * x.2.1.val + 1024 * x.1.val + 1024 * x.2.2.val ≤ (i 0).val ∧ (i 0).val < 2048 * x.2.1.val + 1024 * x.1.val + 1024 * x.2.2.val + 1024 := by
  unfold bset ckR
  rw [Rect.mem_set_unit]
  constructor
  · intro h; exact h 0
  · intro h a
    match a with
    | ⟨0, _⟩ => exact h
    | ⟨1, _⟩ => exact ⟨Nat.zero_le _, by show (i 1).val < 0 + 16; have h1 : (i 1).val < 16 := (i 1).isLt; omega⟩

theorem bset_disj : ∀ x ∈ (Finset.univ : Finset (Fin 2 × Fin 16 × Fin 1)), ∀ y ∈ (Finset.univ : Finset (Fin 2 × Fin 16 × Fin 1)), x ≠ y → Disjoint (bset x) (bset y) := by
  rintro ⟨c, s, t⟩ - ⟨c', s', t'⟩ - hne
  refine Finset.disjoint_left.mpr fun i hi hi' => hne ?_
  rw [mem_bset] at hi hi'
  have hc := c.isLt; have hs := s.isLt; have ht := t.isLt
  have hc' := c'.isLt; have hs' := s'.isLt; have ht' := t'.isLt
  have h1 : s.val = s'.val := by dsimp only at hi hi'; omega
  have h2 : c.val = c'.val := by dsimp only at hi hi'; omega
  have h3 : t.val = t'.val := by dsimp only at hi hi'; omega
  rw [Fin.ext h1, Fin.ext h2, Fin.ext h3]

theorem bset_cover : (Finset.univ : Finset (Fin 2 × Fin 16 × Fin 1)).biUnion bset = Finset.univ := by
  refine Finset.eq_univ_of_forall fun i => Finset.mem_biUnion.mpr ?_
  have h0 : (i 0).val < 32768 := (i 0).isLt
  refine ⟨(⟨(i 0).val / 1024 % 2, by omega⟩, ⟨(i 0).val / 2048, by omega⟩, ⟨(i 0).val % 1024 / 1024, by omega⟩), Finset.mem_univ _, (mem_bset _ _).mpr ?_⟩
  dsimp only
  omega

theorem out_split (f : S32768x16.Idx → Elt F .f32) :
    ((oLoc d ↦{fullShare} f) : sProp 𝕄)
      = bigSep Finset.univ fun c : Fin 2 => bigSep Finset.univ fun s : Fin 16 => bigSep Finset.univ fun t : Fin 1 => oLoc d ↦[(ckR (crd c s) t).set]{fullShare} f := by
  have h : ((oLoc d ↦[(Finset.univ : Finset (Fin 2 × Fin 16 × Fin 1)).biUnion bset]{fullShare} f) : sProp 𝕄)
      = bigSep Finset.univ fun x : Fin 2 × Fin 16 × Fin 1 => oLoc d ↦[bset x]{fullShare} f :=
    pointsTo_biUnion Finset.univ (ℓ := oLoc d) bset bset_disj
  rw [bset_cover] at h
  refine h.trans ?_
  rw [bigSep_univ_prod]
  refine bigSep_congr fun c _ => ?_
  rw [bigSep_univ_prod]

theorem toks {ℓ : Loc nD τ sig} (f : Buf (Elt F) ℓ) :
    ((ℓ ↦{fullShare} f) : sProp 𝕄) ⊣⊢ iprop((ℓ ↦{Transfers.shareDrop fullShare (2 * 16)} f)
      ∗ bigSep Finset.univ fun c : Fin 2 => bigSep Finset.univ fun s : Fin 16 => ℓ ↦{shr c s} f) := by
  have h := Transfers.pointsTo_toks (ℓ := ℓ) (S := Finset.univ) (f := f) (Ix := HIx 3) (Name := ℕ) (U := UU) (Lvl := ℕ) (Val := Elt F) fullShare (2 * 16)
  rw [bigSep_univ_equiv (finProdFinEquiv (m := 2) (n := 16)), bigSep_univ_prod] at h
  exact h

/-- What is left with the TensorCore while the call runs. -/
def rest (tb : S2048x16.Idx → Elt F .f32) (ix : S32768.Idx → Elt F .i32) : sProp 𝕄 :=
  iprop((tLoc d ↦{Transfers.shareDrop fullShare (2 * 16)} tb) ∗ (iLoc d ↦{Transfers.shareDrop fullShare (2 * 16)} ix))

theorem enter (tb : S2048x16.Idx → Elt F .f32) (ix : S32768.Idx → Elt F .i32) (f : S32768x16.Idx → Elt F .f32) :
    iprop((tLoc d ↦{fullShare} tb) ∗ (iLoc d ↦{fullShare} ix) ∗ (oLoc d ↦{fullShare} f))
      ⊢ (iprop((bigSep Finset.univ fun c : Fin 2 => bigSep Finset.univ fun s : Fin 16 => tileIn d (crd c s) tb ix (shr c s) (shr c s)) ∗ rest d tb ix) : sProp 𝕄) := by
  rw [out_split]
  iintro ⟨Ht, Hi, Ho⟩
  ihave Ht := (toks tb).1 $$ Ht
  ihave Hi := (toks ix).1 $$ Hi
  icases Ht with ⟨Htr, Ht⟩
  icases Hi with ⟨Hir, Hi⟩
  unfold rest
  isplitl [Ht Hi Ho]
  · iapply (show iprop((bigSep Finset.univ fun c : Fin 2 => bigSep Finset.univ fun s : Fin 16 => (tLoc d ↦{shr c s} tb))
        ∗ (bigSep Finset.univ fun c : Fin 2 => bigSep Finset.univ fun s : Fin 16 => (iLoc d ↦{shr c s} ix))
        ∗ (bigSep Finset.univ fun c : Fin 2 => bigSep Finset.univ fun s : Fin 16 => bigSep Finset.univ fun t : Fin 1 => oLoc d ↦[(ckR (crd c s) t).set]{fullShare} f))
        ⊢ (bigSep Finset.univ fun c : Fin 2 => bigSep Finset.univ fun s : Fin 16 => tileIn d (crd c s) tb ix (shr c s) (shr c s) : sProp 𝕄) from by
      rw [← bigSep_sep', ← bigSep_sep']
      refine bigSep_mono fun c _ => ?_
      rw [← bigSep_sep', ← bigSep_sep']
      refine bigSep_mono fun s _ => ?_
      rw [bigSep_fin1]
      unfold tileIn
      show (_ : sProp 𝕄) ⊢ _
      iintro ⟨Ht, Hi, H0⟩
      isplitl [Ht]; · iexact Ht
      isplitl [Hi]; · iexact Hi
      iexists f; iexact H0)
    isplitl [Ht]; · iexact Ht
    isplitl [Hi]; · iexact Hi
    iexact Ho
  · isplitl [Htr] <;> iassumption

theorem leave (tb : S2048x16.Idx → Elt F .f32) (ix : S32768.Idx → Elt F .i32) :
    iprop((bigSep Finset.univ fun c : Fin 2 => bigSep Finset.univ fun s : Fin 16 => tileOut d (crd c s) tb ix (shr c s) (shr c s)) ∗ rest d tb ix)
      ⊢ (iprop((tLoc d ↦{fullShare} tb) ∗ (iLoc d ↦{fullShare} ix) ∗ (oLoc d ↦{fullShare} outVal tb ix)) : sProp 𝕄) := by
  rw [out_split]
  unfold rest
  iintro ⟨H, ⟨Htr, Hir⟩⟩
  ihave H := (show (bigSep Finset.univ fun c : Fin 2 => bigSep Finset.univ fun s : Fin 16 => tileOut d (crd c s) tb ix (shr c s) (shr c s) : sProp 𝕄)
      ⊢ iprop((bigSep Finset.univ fun c : Fin 2 => bigSep Finset.univ fun s : Fin 16 => (tLoc d ↦{shr c s} tb))
        ∗ (bigSep Finset.univ fun c : Fin 2 => bigSep Finset.univ fun s : Fin 16 => (iLoc d ↦{shr c s} ix))
        ∗ (bigSep Finset.univ fun c : Fin 2 => bigSep Finset.univ fun s : Fin 16 => bigSep Finset.univ fun t : Fin 1 => oLoc d ↦[(ckR (crd c s) t).set]{fullShare} outVal tb ix)) from by
      rw [← bigSep_sep', ← bigSep_sep']
      refine bigSep_mono fun c _ => ?_
      rw [← bigSep_sep', ← bigSep_sep']
      refine bigSep_mono fun s _ => ?_
      rw [bigSep_fin1]
      unfold tileOut
      show (_ : sProp 𝕄) ⊢ _
      iintro H
      iexact H) $$ H
  icases H with ⟨Ht, Hi, Ho⟩
  isplitl [Ht Htr]
  · iapply (toks tb).2
    isplitl [Htr] <;> iassumption
  isplitl [Hi Hir]
  · iapply (toks ix).2
    isplitl [Hir] <;> iassumption
  iexact Ho

/-! ## The obligation of a tile -/

variable [FloatOps F]

theorem defs₀_vector (c : Fin τ.nSC) (s : Fin τ.nSub) :
    defs₀ (F := F) (.scVector c s) 4 ()
      = SparseCore.onTile hcore4 hsub4 (fun c s => cc4_k (fun | 0 => c | 1 => s | ⟨_ + 2, h⟩ => absurd h (Nat.not_lt.2 (Nat.le_add_left _ _)))
          (Memref.whole main_v31_scv) (Memref.isWhole_whole _) (Memref.whole main_v27_scv) (Memref.isWhole_whole _) (Memref.whole main_v32_scv) (Memref.isWhole_whole _)
          (Memref.whole cc4_scratch0) (Memref.isWhole_whole _) (Memref.whole cc4_scratch1) (Memref.isWhole_whole _) (Memref.whole cc4_scratch2) (Memref.isWhole_whole _)
          cc4_scratch3 cc4_scratch4 cc4_scoped0 cc4_scoped1 cc4_scoped2) ⟨⟩ c s := rfl

end Cert.Work.Tile4

end
-- ==== Proof.Tile5.lean ====
/-
  SparseCore call 5: each tile fetches its 1024 row numbers, gathers the table's rows 256 at a time through two row
  buffers (the next gather in flight while the last one's rows go out), and writes them to its four blocks of the result.
-/
module

public import proofs.«01_k».proof.Proof.Setup

@[expose] public section

noncomputable section

namespace Cert.Work.Tile5

open Cert.KernelIdeal Cert.KernelIdeal.Gen Cert.Work

open Idealize.ShloMosaic
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

local notation "tV" => (Memref.whole Cert.KernelIdeal.main_v33_scv : Memref Cert.KernelIdeal.sig Kind.scVector Space.hbm Cert.KernelIdeal.S2048x128 EltTy.f32)
local notation "iV" => (Memref.whole Cert.KernelIdeal.main_v27_scv : Memref Cert.KernelIdeal.sig Kind.scVector Space.hbm Cert.KernelIdeal.S32768 EltTy.i32)
local notation "oV" => (Memref.whole Cert.KernelIdeal.main_v34_scv : Memref Cert.KernelIdeal.sig Kind.scVector Space.hbm Cert.KernelIdeal.S32768x128 EltTy.f32)
local notation "sV" => (Memref.whole Cert.KernelIdeal.cc5_scratch0 : Memref Cert.KernelIdeal.sig Kind.scVector Space.vmem Cert.KernelIdeal.S1024 EltTy.i32)
local notation "aV" => (Memref.whole Cert.KernelIdeal.cc5_scratch1 : Memref Cert.KernelIdeal.sig Kind.scVector Space.vmem Cert.KernelIdeal.S256x128 EltTy.f32)
local notation "bV" => (Memref.whole Cert.KernelIdeal.cc5_scratch2 : Memref Cert.KernelIdeal.sig Kind.scVector Space.vmem Cert.KernelIdeal.S256x128 EltTy.f32)

variable (d : Dev nD) (L : grid5.Coords)

abbrev cV (L : grid5.Coords) : Fin τ.nSC := (L 0).castLE hcore5
abbrev jV (L : grid5.Coords) : Fin τ.nSub := (L 1).castLE hsub5

/-! ## The blocks and their values -/

/-- The result: row `k` of it is the row of the table that entry `k` of the list names. -/
def outVal (tb : S2048x128.Idx → Elt F .f32) (ix : S32768.Idx → Elt F .i32) : S32768x128.Idx → Elt F .f32 :=
  fun x => tb ((fun | ⟨0, _⟩ => (⟨(ix (fun | ⟨0, _⟩ => x 0)).toNat % 2048, Nat.mod_lt _ (by decide)⟩ : Fin 2048) | ⟨1, _⟩ => x 1))

theorem ckInb (L : grid5.Coords) (t : Fin 4) (a : Fin S32768x128.rank) :
    (![2048 * (L 1).val + 1024 * (L 0).val + 256 * t.val, 0] : Fin 2 → ℕ) a + S256x128.size a ≤ S32768x128.size a := by
  have h0 : (L 0).val < 2 := (L 0).isLt
  have h1 : (L 1).val < 16 := (L 1).isLt
  have ht := t.isLt
  match a with
  | ⟨0, _⟩ => show 2048 * (L 1).val + 1024 * (L 0).val + 256 * t.val + 256 ≤ 32768; omega
  | ⟨1, _⟩ => show 0 + 128 ≤ 128; omega

/-- Block `t` of the tile's four. -/
abbrev ckR (L : grid5.Coords) (t : Fin 4) : Rect S32768x128 :=
  Rect.unit (s := S32768x128) ![2048 * (L 1).val + 1024 * (L 0).val + 256 * t.val, 0] S256x128.size (ckInb L t)

/-- The tile's list, as fetched. -/
def lst (L : grid5.Coords) (ix : S32768.Idx → Elt F .i32) : S1024.Idx → Elt F .i32 :=
  ((iV).slice (Rect.unit (s := S32768) (k5_off1 L) S1024.size (k5_off1_inb L)) (fun _ => rfl)).view.read (Elt F) ix

/-- Block `t` of the result. -/
def chunkVal (L : grid5.Coords) (t : Fin 4) (tb : S2048x128.Idx → Elt F .f32) (ix : S32768.Idx → Elt F .i32) : S256x128.Idx → Elt F .f32 :=
  fun y => outVal tb ix ((ckR L t).emb y)

theorem hin (ix : S32768.Idx → Elt F .i32) (hix : ∀ j, (ix j : BitVec 32).toNat < 2048) (o : Fin 1 → ℕ) (ho : ∀ a, o a + S256.size a ≤ S1024.size a) :
    ∀ x, ((((sV).slice (Rect.unit (s := S1024) o S256.size ho) (fun _ => rfl)).view.read (Elt F) (lst (F := F) L ix) x : Elt F .i32) : BitVec 32).toNat
      < S2048x128.size gathers_S2048x128_S256x128.axis := by
  intro x
  have h := hix (((iV).slice (Rect.unit (s := S32768) (k5_off1 L) S1024.size (k5_off1_inb L)) (fun _ => rfl)).view.emb
    (((sV).slice (Rect.unit (s := S1024) o S256.size ho) (fun _ => rfl)).view.emb x))
  exact h

theorem pay_eq (tb : S2048x128.Idx → Elt F .f32) (ix : S32768.Idx → Elt F .i32) (hix : ∀ j, (ix j : BitVec 32).toNat < 2048) (t : Fin 4) (o : Fin 1 → ℕ)
    (ho : ∀ a, o a + S256.size a ≤ S1024.size a) (hot : o 0 = 256 * t.val) :
    gatherPayload (F := F) gathers_S2048x128_S256x128 (((tV).slice (Rect.unit (s := S2048x128) ![0, 0] S2048x128.size inb_S2048x128_S2048x128_0_0) (fun _ => rfl)).view.read (Elt F) tb)
      (rows (((sV).slice (Rect.unit (s := S1024) o S256.size ho) (fun _ => rfl)).view.read (Elt F) (lst (F := F) L ix)) rfl (hin (F := F) L ix hix o ho))
      = chunkVal L t tb ix := by
  funext y
  unfold gatherPayload chunkVal outVal
  refine (show _ = tb _ from rfl).trans (congrArg tb ?_)
  funext a
  match a with
  | ⟨0, h0⟩ =>
    apply Fin.ext
    refine Eq.trans ?_ (Nat.mod_eq_of_lt (hix _)).symm
    refine (Nat.zero_add _).trans ((Nat.one_mul _).trans ?_)
    rw [show (⟨0, h0⟩ : Fin S2048x128.rank) = gathers_S2048x128_S256x128.axis from rfl, Shape.Gathers.idx_axis]
    unfold rows
    show (lst L ix _ : BitVec 32).toNat = _
    unfold lst
    refine (show _ = (ix _ : BitVec 32).toNat from rfl).trans (congrArg (fun z => (ix z : BitVec 32).toNat) ?_)
    funext b
    match b with
    | ⟨0, hb⟩ =>
      apply Fin.ext
      have e1 : k5_off1 L 0 = 2048 * (L 1).val + 1024 * (L 0).val := by rw [k5_off1_eq]; rfl
      show k5_off1 L 0 + 1 * (o 0 + 1 * (_ : ℕ)) = (2048 * (L 1).val + 1024 * (L 0).val + 256 * t.val) + 1 * (y 0).val
      rw [e1, hot]
      have e2 := Shape.rowMajor_val_one (S256.rowMajor.symm (Fin.cast (rfl : S256x128.size gathers_S2048x128_S256x128.axis' = S256.numel) (y gathers_S2048x128_S256x128.axis')))
      rw [Equiv.apply_symm_apply] at e2
      have e3 : ((S256.rowMajor.symm (Fin.cast (rfl : S256x128.size gathers_S2048x128_S256x128.axis' = S256.numel) (y gathers_S2048x128_S256x128.axis'))) 0).val = (y 0).val := e2.symm
      have e4 : ((S256.rowMajor.symm (Fin.cast (rfl : S256x128.size gathers_S2048x128_S256x128.axis' = S256.numel) (y gathers_S2048x128_S256x128.axis'))) ⟨0, hb⟩).val = (y 0).val := e3
      refine (congrArg (fun z => 2048 * (L 1).val + 1024 * (L 0).val + 1 * (256 * t.val + 1 * z)) e4).trans ?_
      omega
  | ⟨1, h1⟩ =>
    apply Fin.ext
    refine (Nat.zero_add _).trans ((Nat.one_mul _).trans ?_)
    rw [Shape.Gathers.idx_of_ne _ _ _ _ (by show (1 : ℕ) ≠ 0; decide)]
    show (y 1).val = 0 + 1 * (y 1).val
    omega

/-! ## The tile's buffers and cells -/

abbrev gc0 (d : Dev nD) (c : Fin τ.nSC) (i : Fin τ.nSub) : GSem nD τ sig := (V d c i, .dma cc5_scratch3.sem)
abbrev gc1 (d : Dev nD) (c : Fin τ.nSC) (i : Fin τ.nSub) : GSem nD τ sig := (V d c i, .dma cc5_scratch4.sem)
abbrev gc2 (d : Dev nD) (c : Fin τ.nSC) (i : Fin τ.nSub) : GSem nD τ sig := (V d c i, .dma cc5_scoped0.sem)
abbrev gc3 (d : Dev nD) (c : Fin τ.nSC) (i : Fin τ.nSub) : GSem nD τ sig := (V d c i, .dma cc5_scoped1.sem)
abbrev gc4 (d : Dev nD) (c : Fin τ.nSC) (i : Fin τ.nSub) : GSem nD τ sig := (V d c i, .dma cc5_scoped2.sem)

theorem gc_ne {thr : Thread nD τ} {s t : SemLoc sig} (h : s ≠ t) : ((thr, s) : GSem nD τ sig) ≠ (thr, t) := fun e => h (congrArg Prod.snd e)

theorem gc_mem (c : Fin τ.nSC) (i : Fin τ.nSub) (s : SemLoc sig) (h : s.isScoped .scVector = true) : ((V d c i, s) : GSem nD τ sig) ∈ ownCells (V d c i) :=
  mem_ownCells.mpr ⟨rfl, h⟩

theorem ownSems0_V (c : Fin τ.nSC) (i : Fin τ.nSub) :
    (ownSems0 (V d c i) : sProp 𝕄)
      = iprop(semVal (gc0 d c i) 0 ∗ semVal (gc1 d c i) 0 ∗ semVal (gc2 d c i) 0 ∗ semVal (gc3 d c i) 0 ∗ semVal (gc4 d c i) 0
          ∗ bigSep ((((((ownCells (V d c i)).erase (gc0 d c i)).erase (gc1 d c i)).erase (gc2 d c i)).erase (gc3 d c i)).erase (gc4 d c i)) fun g => semVal g 0) := by
  unfold SparseCore.Cfg.ownSems0
  have h10 : gc1 d c i ≠ gc0 d c i := gc_ne (by decide)
  have h20 : gc2 d c i ≠ gc0 d c i := gc_ne (by decide)
  have h21 : gc2 d c i ≠ gc1 d c i := gc_ne (by decide)
  have h30 : gc3 d c i ≠ gc0 d c i := gc_ne (by decide)
  have h31 : gc3 d c i ≠ gc1 d c i := gc_ne (by decide)
  have h32 : gc3 d c i ≠ gc2 d c i := gc_ne (by decide)
  have h40 : gc4 d c i ≠ gc0 d c i := gc_ne (by decide)
  have h41 : gc4 d c i ≠ gc1 d c i := gc_ne (by decide)
  have h42 : gc4 d c i ≠ gc2 d c i := gc_ne (by decide)
  have h43 : gc4 d c i ≠ gc3 d c i := gc_ne (by decide)
  rw [SparseCore.bigSep_erase' (gc_mem d c i (.dma cc5_scratch3.sem) (by decide)),
    SparseCore.bigSep_erase' (Finset.mem_erase.mpr ⟨h10, gc_mem d c i (.dma cc5_scratch4.sem) (by decide)⟩),
    SparseCore.bigSep_erase' (Finset.mem_erase.mpr ⟨h21, Finset.mem_erase.mpr ⟨h20, gc_mem d c i (.dma cc5_scoped0.sem) (by decide)⟩⟩),
    SparseCore.bigSep_erase' (Finset.mem_erase.mpr ⟨h32, Finset.mem_erase.mpr ⟨h31, Finset.mem_erase.mpr ⟨h30, gc_mem d c i (.dma cc5_scoped1.sem) (by decide)⟩⟩⟩),
    SparseCore.bigSep_erase' (Finset.mem_erase.mpr ⟨h43, Finset.mem_erase.mpr ⟨h42, Finset.mem_erase.mpr ⟨h41, Finset.mem_erase.mpr ⟨h40, gc_mem d c i (.dma cc5_scoped2.sem) (by decide)⟩⟩⟩⟩)]

theorem br_ne (c : Fin τ.nSC) (i : Fin τ.nSub) {r r' : Ref sig .scVector} (h : r ≠ r') :
    ((Proc.scVector c i).devRef r : DevRef τ sig) ≠ (Proc.scVector c i).devRef r' := fun e => h (Proc.devRef_injective _ e)

theorem ownBufs_V (c : Fin τ.nSC) (i : Fin τ.nSub) :
    (ownBufs (V d c i) : sProp 𝕄)
      = iprop((∃ f, (V d c i).loc cc5_scratch0 ↦{fullShare} f) ∗ (∃ f, (V d c i).loc cc5_scratch1 ↦{fullShare} f) ∗ (∃ f, (V d c i).loc cc5_scratch2 ↦{fullShare} f)
          ∗ bigSep ((((ownRefs (τ := τ) (.scVector c i)).erase ((Proc.scVector c i).devRef cc5_scratch0)).erase
              ((Proc.scVector c i).devRef cc5_scratch1)).erase ((Proc.scVector c i).devRef cc5_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector c i) (b := (Proc.scVector c i).devRef cc5_scratch0) rfl)).trans ?_
  rw [SparseCore.bigSep_erase' (Finset.mem_erase.mpr ⟨br_ne c i (by decide), SparseCore.Cfg.mem_ownRefs_of_owner (p := Proc.scVector c i) (b := (Proc.scVector c i).devRef cc5_scratch1) rfl⟩),
    SparseCore.bigSep_erase' (Finset.mem_erase.mpr ⟨br_ne c i (by decide), Finset.mem_erase.mpr ⟨br_ne c i (by decide), SparseCore.Cfg.mem_ownRefs_of_owner (p := Proc.scVector c i) (b := (Proc.scVector c i).devRef cc5_scratch2) rfl⟩⟩)]

/-! ## The body -/

abbrev tLoc (d : Dev nD) : Loc nD τ sig := (SparseCore.T d).loc main_v33
abbrev iLoc (d : Dev nD) : Loc nD τ sig := (SparseCore.T d).loc main_v27
abbrev oLoc (d : Dev nD) : Loc nD τ sig := (SparseCore.T d).loc main_v34

/-- What a tile is handed: shares of the table and of the list, and its four blocks of the result. -/
abbrev tileIn (tb : S2048x128.Idx → Elt F .f32) (ix : S32768.Idx → Elt F .i32) (qt qi : PosShare TreeShare) : sProp 𝕄 :=
  iprop((tLoc d ↦{qt} tb) ∗ (iLoc d ↦{qi} ix)
    ∗ (∃ f, oLoc d ↦[(ckR L 0).set]{fullShare} f) ∗ (∃ f, oLoc d ↦[(ckR L 1).set]{fullShare} f)
    ∗ (∃ f, oLoc d ↦[(ckR L 2).set]{fullShare} f) ∗ (∃ f, oLoc d ↦[(ckR L 3).set]{fullShare} f))

/-- What it hands back: the same, the blocks at their values. -/
abbrev tileOut (tb : S2048x128.Idx → Elt F .f32) (ix : S32768.Idx → Elt F .i32) (qt qi : PosShare TreeShare) : sProp 𝕄 :=
  iprop((tLoc d ↦{qt} tb) ∗ (iLoc d ↦{qi} ix)
    ∗ (oLoc d ↦[(ckR L 0).set]{fullShare} outVal tb ix) ∗ (oLoc d ↦[(ckR L 1).set]{fullShare} outVal tb ix)
    ∗ (oLoc d ↦[(ckR L 2).set]{fullShare} outVal tb ix) ∗ (oLoc d ↦[(ckR L 3).set]{fullShare} outVal tb ix))

/-- A block as the body addresses it is the block. -/
theorem rect_eq (t : Fin 4) (o : Fin 2 → ℕ) (ho : ∀ a, o a + S256x128.size a ≤ S32768x128.size a)
    (e : o = ![2048 * (L 1).val + 1024 * (L 0).val + 256 * t.val, 0]) :
    (Rect.unit (s := S32768x128) o S256x128.size ho) = ckR L t := by subst e; rfl

theorem blk_in (t : Fin 4) (o : Fin 2 → ℕ) (ho : ∀ a, o a + S256x128.size a ≤ S32768x128.size a)
    (e : o = ![2048 * (L 1).val + 1024 * (L 0).val + 256 * t.val, 0]) (f : S32768x128.Idx → Elt F .f32) :
    ((oLoc d ↦[(ckR L t).set]{fullShare} f) : sProp 𝕄)
      = (((oV).slice (Rect.unit (s := S32768x128) o S256x128.size ho) (fun _ => rfl)).view.loc (V d (cV L) (jV L))
          ↦[((oV).slice (Rect.unit (s := S32768x128) o S256x128.size ho) (fun _ => rfl)).view.set]{fullShare} f) := by
  subst e
  rw [show ((oV).slice (Rect.unit (s := S32768x128) ![2048 * (L 1).val + 1024 * (L 0).val + 256 * t.val, 0] S256x128.size ho) (fun _ => rfl)).view.set = (ckR L t).set from by
    show ((View.whole (main_v34_scv : Ref sig .scVector)).slice (ckR L t)).set = _
    rw [View.set_slice]; exact Finset.map_refl]

theorem blk_out (t : Fin 4) (o : Fin 2 → ℕ) (ho : ∀ a, o a + S256x128.size a ≤ S32768x128.size a)
    (e : o = ![2048 * (L 1).val + 1024 * (L 0).val + 256 * t.val, 0]) (f : S32768x128.Idx → Elt F .f32) (tb : S2048x128.Idx → Elt F .f32) (ix : S32768.Idx → Elt F .i32)
    (p : S256x128.Idx → Elt F .f32) (hp : p = chunkVal L t tb ix) :
    (((oV).slice (Rect.unit (s := S32768x128) o S256x128.size ho) (fun _ => rfl)).view.loc (V d (cV L) (jV L))
          ↦[((oV).slice (Rect.unit (s := S32768x128) o S256x128.size ho) (fun _ => rfl)).view.set]{fullShare}
            (((oV).slice (Rect.unit (s := S32768x128) o S256x128.size ho) (fun _ => rfl)).view.writes (Elt F) f [⟨Rect.whole (Rect.unit (s := S32768x128) o S256x128.size ho).shape, p⟩]) : sProp 𝕄)
      = (oLoc d ↦[(ckR L t).set]{fullShare} outVal tb ix) := by
  subst e hp
  rw [blk_in d L t _ ho rfl]
  refine pointsTo_congr fun x hx => ?_
  obtain ⟨y, -, rfl⟩ := Finset.mem_map.mp hx
  have hw : (Rect.whole (Rect.unit (s := S32768x128) ![2048 * (L 1).val + 1024 * (L 0).val + 256 * t.val, 0] S256x128.size ho).shape).emb y = y :=
    funext fun a => Fin.ext (by show 0 + 1 * (y a).val = (y a).val; omega)
  have he : ((oV).slice (Rect.unit (s := S32768x128) ![2048 * (L 1).val + 1024 * (L 0).val + 256 * t.val, 0] S256x128.size ho) (fun _ => rfl)).view.emb y
      = (((oV).slice (Rect.unit (s := S32768x128) ![2048 * (L 1).val + 1024 * (L 0).val + 256 * t.val, 0] S256x128.size ho) (fun _ => rfl)).view.slice
          (Rect.whole (Rect.unit (s := S32768x128) ![2048 * (L 1).val + 1024 * (L 0).val + 256 * t.val, 0] S256x128.size ho).shape)).emb y :=
    congrArg ((oV).slice (Rect.unit (s := S32768x128) ![2048 * (L 1).val + 1024 * (L 0).val + 256 * t.val, 0] S256x128.size ho) (fun _ => rfl)).view.emb hw.symm
  conv_lhs => rw [he]
  unfold View.writes
  rw [View.write_emb, if_pos (Finset.mem_univ _)]
  rfl

variable [FloatOps F]

theorem numelPos : 0 < S256x128.numel := by decide

omit [FloatOps F] in
theorem creditA (a' : Fin S256x128.rank) : ∑ j, ((aV).slice (S256x128.rowRect a' j) (S256x128.stride_rowRect a' j)).view.dmaCredit = (aV).view.dmaCredit :=
  SparseCore.sum_rowCredit_eq_dmaCredit _ _ fun _ => rfl
omit [FloatOps F] in
theorem creditB (a' : Fin S256x128.rank) : ∑ j, ((bV).slice (S256x128.rowRect a' j) (S256x128.stride_rowRect a' j)).view.dmaCredit = (bV).view.dmaCredit :=
  SparseCore.sum_rowCredit_eq_dmaCredit _ _ fun _ => rfl

omit [FloatOps F] in
theorem writeA (tb : S2048x128.Idx → Elt F .f32) (ix : S32768.Idx → Elt F .i32) (hix : ∀ j, (ix j : BitVec 32).toNat < 2048) (t : Fin 4) (o : Fin 1 → ℕ)
    (ho : ∀ a, o a + S256.size a ≤ S1024.size a) (hot : o 0 = 256 * t.val) (fd : S256x128.Idx → Elt F .f32) :
    chunkVal L t tb ix = (aV).view.write (Elt F) fd (gatherPayload (F := F) gathers_S2048x128_S256x128 (((tV).slice (Rect.unit (s := S2048x128) ![0, 0] S2048x128.size inb_S2048x128_S2048x128_0_0) (fun _ => rfl)).view.read (Elt F) tb)
      (rows (((sV).slice (Rect.unit (s := S1024) o S256.size ho) (fun _ => rfl)).view.read (Elt F) (lst (F := F) L ix)) rfl (hin (F := F) L ix hix o ho))) Finset.univ := by
  rw [pay_eq L tb ix hix t o ho hot]; exact (View.write_whole_univ _ _ _).symm
omit [FloatOps F] in
theorem writeB (tb : S2048x128.Idx → Elt F .f32) (ix : S32768.Idx → Elt F .i32) (hix : ∀ j, (ix j : BitVec 32).toNat < 2048) (t : Fin 4) (o : Fin 1 → ℕ)
    (ho : ∀ a, o a + S256.size a ≤ S1024.size a) (hot : o 0 = 256 * t.val) (fd : S256x128.Idx → Elt F .f32) :
    chunkVal L t tb ix = (bV).view.write (Elt F) fd (gatherPayload (F := F) gathers_S2048x128_S256x128 (((tV).slice (Rect.unit (s := S2048x128) ![0, 0] S2048x128.size inb_S2048x128_S2048x128_0_0) (fun _ => rfl)).view.read (Elt F) tb)
      (rows (((sV).slice (Rect.unit (s := S1024) o S256.size ho) (fun _ => rfl)).view.read (Elt F) (lst (F := F) L ix)) rfl (hin (F := F) L ix hix o ho))) Finset.univ := by
  rw [pay_eq L tb ix hix t o ho hot]; exact (View.write_whole_univ _ _ _).symm

theorem issA (tb : S2048x128.Idx → Elt F .f32) (ix : S32768.Idx → Elt F .i32) (hix : ∀ j, (ix j : BitVec 32).toNat < 2048) (t : Fin 4) (o : Fin 1 → ℕ)
    (ho : ∀ a, o a + S256.size a ≤ S1024.size a) (hot : o 0 = 256 * t.val) (fd : S256x128.Idx → Elt F .f32) (q qo : PosShare TreeShare) (sem : DmaSem sig)
    {hp : (V d (cV L) (jV L)).2.kind = .scVector} {hn : S256.numel = S256x128.size gathers_S2048x128_S256x128.axis'}
    {hsrc : ((tV).slice (Rect.unit (s := S2048x128) ![0, 0] S2048x128.size inb_S2048x128_S2048x128_0_0) (fun _ => rfl)).view.WordExact}
    {he : EltTy.f32.bits = 32} {hsp : Space.hbm = .hbm ∨ Space.hbm = .shared} {hr : S2048x128.StreamRows 0}
    {k : PUnit → Prog (TpuEff nD τ sig (Elt F) Λ₀ (V d (cV L) (jV L)).2) PUnit} {Q : PUnit → sProp 𝕄} :
    iprop(((tV).view.loc (V d (cV L) (jV L)) ↦{q} tb) ∗ ((aV).view.loc (V d (cV L) (jV L)) ↦{fullShare} fd)
        ∗ ((sV).view.loc (V d (cV L) (jV L)) ↦{qo} lst (F := F) L ix) ∗ semVal (V d (cV L) (jV L), SemLoc.dma sem) 0)
      ⊢ iprop((InFlight (V d (cV L) (jV L)) ((tV).slice (Rect.unit (s := S2048x128) ![0, 0] S2048x128.size inb_S2048x128_S2048x128_0_0) (fun _ => rfl))
              aV ((sV).slice (Rect.unit (s := S1024) o S256.size ho) (fun _ => rfl)) sem q qo tb (lst (F := F) L ix) (chunkVal L t tb ix)
            -∗ wp frame (wpE (defs₀ (F := F)) 𝒱₀ (V d (cV L) (jV L)) none) Set.univ (k ⟨⟩) Q)
          -∗ wp frame (wpE (defs₀ (F := F)) 𝒱₀ (V d (cV L) (jV L)) none) Set.univ
            (SparseCore.enqueueIndirectGather hp ((tV).slice (Rect.unit (s := S2048x128) ![0, 0] S2048x128.size inb_S2048x128_S2048x128_0_0) (fun _ => rfl))
              aV gathers_S2048x128_S256x128 ((sV).slice (Rect.unit (s := S1024) o S256.size ho) (fun _ => rfl)) hn sem hsrc he hsp hr >>= k) Q) := by
  have h1 := @gather_issue F PUnit Λ₀ (defs₀ (F := F)) 𝒱₀ (V d (cV L) (jV L)) none Space.hbm S2048x128 S256x128 S256 0 EltTy.f32
    ((tV).slice (Rect.unit (s := S2048x128) ![0, 0] S2048x128.size inb_S2048x128_S2048x128_0_0) (fun _ => rfl)) aV gathers_S2048x128_S256x128
    ((sV).slice (Rect.unit (s := S1024) o S256.size ho) (fun _ => rfl)) hn sem hp hsrc he hsp hr k Q q qo tb fd (lst (F := F) L ix)
  have h4 := h1 (View.set_whole _) (creditA _) numelPos
  have hin' := (hin (F := F) L ix hix o ho)
  have h5 := @h4 hin'
  exact h5 (writeA L tb ix hix t o ho hot fd)

theorem issB (tb : S2048x128.Idx → Elt F .f32) (ix : S32768.Idx → Elt F .i32) (hix : ∀ j, (ix j : BitVec 32).toNat < 2048) (t : Fin 4) (o : Fin 1 → ℕ)
    (ho : ∀ a, o a + S256.size a ≤ S1024.size a) (hot : o 0 = 256 * t.val) (fd : S256x128.Idx → Elt F .f32) (q qo : PosShare TreeShare) (sem : DmaSem sig)
    {hp : (V d (cV L) (jV L)).2.kind = .scVector} {hn : S256.numel = S256x128.size gathers_S2048x128_S256x128.axis'}
    {hsrc : ((tV).slice (Rect.unit (s := S2048x128) ![0, 0] S2048x128.size inb_S2048x128_S2048x128_0_0) (fun _ => rfl)).view.WordExact}
    {he : EltTy.f32.bits = 32} {hsp : Space.hbm = .hbm ∨ Space.hbm = .shared} {hr : S2048x128.StreamRows 0}
    {k : PUnit → Prog (TpuEff nD τ sig (Elt F) Λ₀ (V d (cV L) (jV L)).2) PUnit} {Q : PUnit → sProp 𝕄} :
    iprop(((tV).view.loc (V d (cV L) (jV L)) ↦{q} tb) ∗ ((bV).view.loc (V d (cV L) (jV L)) ↦{fullShare} fd)
        ∗ ((sV).view.loc (V d (cV L) (jV L)) ↦{qo} lst (F := F) L ix) ∗ semVal (V d (cV L) (jV L), SemLoc.dma sem) 0)
      ⊢ iprop((InFlight (V d (cV L) (jV L)) ((tV).slice (Rect.unit (s := S2048x128) ![0, 0] S2048x128.size inb_S2048x128_S2048x128_0_0) (fun _ => rfl))
              bV ((sV).slice (Rect.unit (s := S1024) o S256.size ho) (fun _ => rfl)) sem q qo tb (lst (F := F) L ix) (chunkVal L t tb ix)
            -∗ wp frame (wpE (defs₀ (F := F)) 𝒱₀ (V d (cV L) (jV L)) none) Set.univ (k ⟨⟩) Q)
          -∗ wp frame (wpE (defs₀ (F := F)) 𝒱₀ (V d (cV L) (jV L)) none) Set.univ
            (SparseCore.enqueueIndirectGather hp ((tV).slice (Rect.unit (s := S2048x128) ![0, 0] S2048x128.size inb_S2048x128_S2048x128_0_0) (fun _ => rfl))
              bV gathers_S2048x128_S256x128 ((sV).slice (Rect.unit (s := S1024) o S256.size ho) (fun _ => rfl)) hn sem hsrc he hsp hr >>= k) Q) := by
  have h1 := @gather_issue F PUnit Λ₀ (defs₀ (F := F)) 𝒱₀ (V d (cV L) (jV L)) none Space.hbm S2048x128 S256x128 S256 0 EltTy.f32
    ((tV).slice (Rect.unit (s := S2048x128) ![0, 0] S2048x128.size inb_S2048x128_S2048x128_0_0) (fun _ => rfl)) bV gathers_S2048x128_S256x128
    ((sV).slice (Rect.unit (s := S1024) o S256.size ho) (fun _ => rfl)) hn sem hp hsrc he hsp hr k Q q qo tb fd (lst (F := F) L ix)
  have h4 := h1 (View.set_whole _) (creditB _) numelPos
  have hin' := (hin (F := F) L ix hix o ho)
  have h5 := @h4 hin'
  exact h5 (writeB L tb ix hix t o ho hot fd)

theorem trips : k5_t1_loop.trips = 4 := by decide
abbrev tk0 : Fin k5_t1_loop.trips := ⟨0, by decide⟩
abbrev tk1 : Fin k5_t1_loop.trips := ⟨1, by decide⟩
abbrev tk2 : Fin k5_t1_loop.trips := ⟨2, by decide⟩
abbrev tk3 : Fin k5_t1_loop.trips := ⟨3, by decide⟩
theorem c10 : k5_cond1 ⟨0, by decide⟩ = 1#1 := by decide
theorem c11 : ¬ k5_cond1 ⟨1, by decide⟩ = 1#1 := by decide
theorem c12 : k5_cond1 ⟨2, by decide⟩ = 1#1 := by decide
theorem c13 : ¬ k5_cond1 ⟨3, by decide⟩ = 1#1 := by decide
theorem c20 : k5_cond2 ⟨0, by decide⟩ = 1#1 := by decide
theorem c22 : k5_cond2 ⟨2, by decide⟩ = 1#1 := by decide
theorem c30 : ¬ k5_cond3 ⟨0, by decide⟩ = 1#1 := by decide
theorem c31 : k5_cond3 ⟨1, by decide⟩ = 1#1 := by decide
theorem c32 : ¬ k5_cond3 ⟨2, by decide⟩ = 1#1 := by decide
theorem c33 : k5_cond3 ⟨3, by decide⟩ = 1#1 := by decide
theorem c41 : k5_cond4 ⟨1, by decide⟩ = 1#1 := by decide
theorem c43 : ¬ k5_cond4 ⟨3, by decide⟩ = 1#1 := by decide

set_option maxHeartbeats 1000000 in
theorem tile_body (tb : S2048x128.Idx → Elt F .f32) (ix : S32768.Idx → Elt F .i32) (hix : ∀ j, (ix j : BitVec 32).toNat < 2048) (qt qi : PosShare TreeShare)
    (O : CellTallies nD τ sig (HIx 3)) (W : Waits sig (HIx 3)) (hO : ∀ g, O g none = 0) :
    iprop(levAts (K (F := F)).L (K (F := F)).lev ∗ emp ∗ tileIn d L tb ix qt qi
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc5_k L tV (Memref.isWhole_whole _) iV (Memref.isWhole_whole _) oV (Memref.isWhole_whole _)
            sV (Memref.isWhole_whole _) aV (Memref.isWhole_whole _) bV (Memref.isWhole_whole _)
            cc5_scratch3 cc5_scratch4 cc5_scoped0 cc5_scoped1 cc5_scoped2)
          fun _ => iprop(tileOut d L tb ix qt qi
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc5_k_eq_skeleton]; unfold cc5_k_skel
  rw [(K (F := F)).scopedBufs_V facts d (cV L) (jV L), SparseCore.Cfg.scopedSems0_V (Val := Elt F) d (cV L) (jV L), ownSems0_V, ownBufs_V]
  iintro ⟨#Hlv, -, ⟨Ht, Hi, ⟨%f0, Ho0⟩, ⟨%f1, Ho1⟩, ⟨%f2, Ho2⟩, ⟨%f3, Ho3⟩⟩, ⟨⟨%fs, Hs⟩, ⟨%fa, Ha⟩, ⟨%fb, Hb⟩, Hbufs⟩, ⟨HsemA, HsemB, Hsem0, Hsem1, Hsem2, Hsems⟩, HO⟩
  ihave #Hmw := (show levAts (K (F := F)).L (K (F := F)).lev ⊢ Transfers.MayWaits (V d (cV L) (jV L)) (default : HIx 3) O from
    (K (F := F)).mayWaits_none (thr := V d (cV L) (jV L)) hO) $$ Hlv
  ihave Ht := (Entails.of_eq (show ((tLoc d ↦{qt} tb) : sProp 𝕄) = ((tV).view.loc (V d (cV L) (jV L)) ↦{qt} tb) from rfl)) $$ Ht
  ihave Hi := (Entails.of_eq (show ((iLoc d ↦{qi} ix) : sProp 𝕄) = ((iV).view.loc (V d (cV L) (jV L)) ↦{qi} ix) from rfl)) $$ Hi
  ihave Hs := (Entails.of_eq (show (((V d (cV L) (jV L)).loc cc5_scratch0 ↦{fullShare} fs) : sProp 𝕄) = ((sV).view.loc (V d (cV L) (jV L)) ↦{fullShare} fs) from rfl)) $$ Hs
  ihave Ha := (Entails.of_eq (show (((V d (cV L) (jV L)).loc cc5_scratch1 ↦{fullShare} fa) : sProp 𝕄) = ((aV).view.loc (V d (cV L) (jV L)) ↦{fullShare} fa) from rfl)) $$ Ha
  ihave Hb := (Entails.of_eq (show (((V d (cV L) (jV L)).loc cc5_scratch2 ↦{fullShare} fb) : sProp 𝕄) = ((bV).view.loc (V d (cV L) (jV L)) ↦{fullShare} fb) from rfl)) $$ Hb
  ihave Ho0 := (Entails.of_eq (blk_in (F := F) d L 0 (k5_off4 L tk0) (k5_off4_inb L tk0 c10) (k5_off4_eq L tk0) f0)) $$ Ho0
  ihave Ho1 := (Entails.of_eq (blk_in (F := F) d L 1 (k5_off7 L tk1) (k5_off7_inb L tk1 c31) (k5_off7_eq L tk1) f1)) $$ Ho1
  ihave Ho2 := (Entails.of_eq (blk_in (F := F) d L 2 (k5_off4 L tk2) (k5_off4_inb L tk2 c12) (k5_off4_eq L tk2) f2)) $$ Ho2
  ihave Ho3 := (Entails.of_eq (blk_in (F := F) d L 3 (k5_off7 L tk3) (k5_off7_inb L tk3 c33) (k5_off7_eq L tk3) f3)) $$ Ho3
  simp (config := { iota := false, proj := false, eta := false }) only [Scf.for_trips4_bind _ _ trips, Prog.bind_assoc]
  unfold k5_t1_body
  simp (config := { iota := false, proj := false, eta := false }) only [dif_pos c10, dif_neg c11, dif_pos c12, dif_neg c13, dif_pos c20, dif_pos c22, dif_neg c30, dif_pos c31, dif_neg c32, dif_pos c33, dif_pos c41, dif_neg c43, Prog.bind_assoc]
  sl_exec
  ihave Hs := (Entails.of_eq (show (((sV).view.loc (V d (cV L) (jV L)) ↦{fullShare} View.write (Elt F) (sV).view fs (tile_body.sl.dma0 L ix) Finset.univ) : sProp 𝕄)
      = ((sV).view.loc (V d (cV L) (jV L)) ↦{fullShare} lst (F := F) L ix) by rw [View.write_whole_univ]; rfl)) $$ Hs
  ihave Hs := (pointsTo_share (PosShare.mem_left_op_right fullShare)).1 $$ Hs
  icases Hs with ⟨HsL, HsR⟩
  ihave Ht := (pointsTo_share (PosShare.mem_left_op_right qt)).1 $$ Ht
  icases Ht with ⟨HtL, HtR⟩
  iapply (issA (F := F) d L tb ix hix 0 _ _ rfl fa qt.left fullShare.left _) $$ [HtL Ha HsL HsemA]
  · isplitl [HtL]; · iexact HtL
    isplitl [Ha]; · iexact Ha
    isplitl [HsL]; · iexact HsL
    iexact HsemA
  iintro HflL
  iapply (issB (F := F) d L tb ix hix 1 _ _ rfl fb qt.right fullShare.right _) $$ [HtR Hb HsR HsemB]
  · isplitl [HtR]; · iexact HtR
    isplitl [Hb]; · iexact Hb
    isplitl [HsR]; · iexact HsR
    iexact HsemB
  iintro HflR
  iapply (gather_wait (c := V d (cV L) (jV L)) (View.set_whole _)) $$ [HflL HO]
  · isplitl [HflL]; · iexact HflL
    isplitl [HO]; · iexact HO
    iapply (Transfers.MayWaits.elim (SemLoc.dma cc5_scratch3.sem)) $$ Hmw
  iintro ⟨Ha, HtL, HsL, HsemA, HO⟩
  sl_exec
  iapply (issA (F := F) d L tb ix hix 2 _ _ rfl (chunkVal L 0 tb ix) qt.left fullShare.left _) $$ [HtL Ha HsL HsemA]
  · isplitl [HtL]; · iexact HtL
    isplitl [Ha]; · iexact Ha
    isplitl [HsL]; · iexact HsL
    iexact HsemA
  iintro HflL
  iapply (gather_wait (c := V d (cV L) (jV L)) (View.set_whole _)) $$ [HflR HO]
  · isplitl [HflR]; · iexact HflR
    isplitl [HO]; · iexact HO
    iapply (Transfers.MayWaits.elim (SemLoc.dma cc5_scratch4.sem)) $$ Hmw
  iintro ⟨Hb, HtR, HsR, HsemB, HO⟩
  sl_exec
  iapply (issB (F := F) d L tb ix hix 3 _ _ rfl (chunkVal L 1 tb ix) qt.right fullShare.right _) $$ [HtR Hb HsR HsemB]
  · isplitl [HtR]; · iexact HtR
    isplitl [Hb]; · iexact Hb
    isplitl [HsR]; · iexact HsR
    iexact HsemB
  iintro HflR
  iapply (gather_wait (c := V d (cV L) (jV L)) (View.set_whole _)) $$ [HflL HO]
  · isplitl [HflL]; · iexact HflL
    isplitl [HO]; · iexact HO
    iapply (Transfers.MayWaits.elim (SemLoc.dma cc5_scratch3.sem)) $$ Hmw
  iintro ⟨Ha, HtL, HsL, HsemA, HO⟩
  sl_exec
  iapply (gather_wait (c := V d (cV L) (jV L)) (View.set_whole _)) $$ [HflR HO]
  · isplitl [HflR]; · iexact HflR
    isplitl [HO]; · iexact HO
    iapply (Transfers.MayWaits.elim (SemLoc.dma cc5_scratch4.sem)) $$ Hmw
  iintro ⟨Hb, HtR, HsR, HsemB, HO⟩
  sl_exec
  sl_step
  ihave Ho0 := (Entails.of_eq (blk_out (F := F) d L 0 (k5_off4 L tk0) (k5_off4_inb L tk0 c10) (k5_off4_eq L tk0) f0 tb ix (tile_body.sl.dma0_1 L tb ix) rfl)) $$ Ho0
  ihave Ho1 := (Entails.of_eq (blk_out (F := F) d L 1 (k5_off7 L tk1) (k5_off7_inb L tk1 c31) (k5_off7_eq L tk1) f1 tb ix (tile_body.sl.dma0_2 L tb ix) rfl)) $$ Ho1
  ihave Ho2 := (Entails.of_eq (blk_out (F := F) d L 2 (k5_off4 L tk2) (k5_off4_inb L tk2 c12) (k5_off4_eq L tk2) f2 tb ix (tile_body.sl.dma0_3 L tb ix) rfl)) $$ Ho2
  ihave Ho3 := (Entails.of_eq (blk_out (F := F) d L 3 (k5_off7 L tk3) (k5_off7_inb L tk3 c33) (k5_off7_eq L tk3) f3 tb ix (tile_body.sl.dma0_4 L tb ix) rfl)) $$ Ho3
  ihave Hs := (pointsTo_share (PosShare.mem_left_op_right fullShare)).2 $$ [HsL HsR]
  · isplitl [HsL]; · iexact HsL
    iexact HsR
  ihave Ht := (pointsTo_share (PosShare.mem_left_op_right qt)).2 $$ [HtL HtR]
  · isplitl [HtL]; · iexact HtL
    iexact HtR
  isplitl [Ht Hi Ho0 Ho1 Ho2 Ho3]
  · isplitl [Ht]; · iexact Ht
    isplitl [Hi]; · iexact Hi
    isplitl [Ho0]; · iexact Ho0
    isplitl [Ho1]; · iexact Ho1
    isplitl [Ho2]; · iexact Ho2
    iexact Ho3
  isplitl [Hs Ha Hb Hbufs]
  · isplitl [Hs]; · iexists _; iexact Hs
    isplitl [Ha]; · iexists _; iexact Ha
    isplitl [Hb]; · iexists _; iexact Hb
    iexact Hbufs
  isplitl [HsemA HsemB Hsem0 Hsem1 Hsem2 Hsems]
  · isplitl [HsemA]; · iexact HsemA
    isplitl [HsemB]; · iexact HsemB
    isplitl [Hsem0]; · iexact Hsem0
    isplitl [Hsem1]; · iexact Hsem1
    isplitl [Hsem2]; · iexact Hsem2
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Work.Tile5

end
-- ==== Proof.Deal5.lean ====
/-
  SparseCore call 5 as the TensorCore sees it: the table, the list and the result dealt to the tiles and gathered back.
-/
module

public import proofs.«01_k».proof.Proof.Tile5

@[expose] public section

noncomputable section

namespace Cert.Work.Tile5

open Cert.KernelIdeal Cert.KernelIdeal.Gen Cert.Work

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

variable (d : Dev nD)

def crd (c : Fin 2) (s : Fin 16) : grid5.Coords :=
  fun | 0 => c | 1 => s | ⟨_ + 2, h⟩ => absurd h (Nat.not_lt.2 (Nat.le_add_left _ _))

/-- The tile's read share. -/
abbrev shr (c : Fin 2) (s : Fin 16) : PosShare TreeShare := Transfers.shareTok fullShare (2 * 16) (finProdFinEquiv (c, s))

/-- The block of tile `(c, s)` numbered `t`. -/
abbrev bset (x : Fin 2 × Fin 16 × Fin 4) : Finset S32768x128.Idx := (ckR (crd x.1 x.2.1) x.2.2).set

theorem mem_bset (x : Fin 2 × Fin 16 × Fin 4) (i : S32768x128.Idx) :
    i ∈ bset x ↔ 2048 * x.2.1.val + 1024 * x.1.val + 256 * x.2.2.val ≤ (i 0).val ∧ (i 0).val < 2048 * x.2.1.val + 1024 * x.1.val + 256 * x.2.2.val + 256 := by
  unfold bset ckR
  rw [Rect.mem_set_unit]
  constructor
  · intro h; exact h 0
  · intro h a
    match a with
    | ⟨0, _⟩ => exact h
    | ⟨1, _⟩ => exact ⟨Nat.zero_le _, by show (i 1).val < 0 + 128; have h1 : (i 1).val < 128 := (i 1).isLt; omega⟩

theorem bset_disj : ∀ x ∈ (Finset.univ : Finset (Fin 2 × Fin 16 × Fin 4)), ∀ y ∈ (Finset.univ : Finset (Fin 2 × Fin 16 × Fin 4)), x ≠ y → Disjoint (bset x) (bset y) := by
  rintro ⟨c, s, t⟩ - ⟨c', s', t'⟩ - hne
  refine Finset.disjoint_left.mpr fun i hi hi' => hne ?_
  rw [mem_bset] at hi hi'
  have hc := c.isLt; have hs := s.isLt; have ht := t.isLt
  have hc' := c'.isLt; have hs' := s'.isLt; have ht' := t'.isLt
  have h1 : s.val = s'.val := by dsimp only at hi hi'; omega
  have h2 : c.val = c'.val := by dsimp only at hi hi'; omega
  have h3 : t.val = t'.val := by dsimp only at hi hi'; omega
  rw [Fin.ext h1, Fin.ext h2, Fin.ext h3]

theorem bset_cover : (Finset.univ : Finset (Fin 2 × Fin 16 × Fin 4)).biUnion bset = Finset.univ := by
  refine Finset.eq_univ_of_forall fun i => Finset.mem_biUnion.mpr ?_
  have h0 : (i 0).val < 32768 := (i 0).isLt
  refine ⟨(⟨(i 0).val / 1024 % 2, by omega⟩, ⟨(i 0).val / 2048, by omega⟩, ⟨(i 0).val % 1024 / 256, by omega⟩), Finset.mem_univ _, (mem_bset _ _).mpr ?_⟩
  dsimp only
  omega

theorem out_split (f : S32768x128.Idx → Elt F .f32) :
    ((oLoc d ↦{fullShare} f) : sProp 𝕄)
      = bigSep Finset.univ fun c : Fin 2 => bigSep Finset.univ fun s : Fin 16 => bigSep Finset.univ fun t : Fin 4 => oLoc d ↦[(ckR (crd c s) t).set]{fullShare} f := by
  have h : ((oLoc d ↦[(Finset.univ : Finset (Fin 2 × Fin 16 × Fin 4)).biUnion bset]{fullShare} f) : sProp 𝕄)
      = bigSep Finset.univ fun x : Fin 2 × Fin 16 × Fin 4 => oLoc d ↦[bset x]{fullShare} f :=
    pointsTo_biUnion Finset.univ (ℓ := oLoc d) bset bset_disj
  rw [bset_cover] at h
  refine h.trans ?_
  rw [bigSep_univ_prod]
  refine bigSep_congr fun c _ => ?_
  rw [bigSep_univ_prod]

theorem toks {ℓ : Loc nD τ sig} (f : Buf (Elt F) ℓ) :
    ((ℓ ↦{fullShare} f) : sProp 𝕄) ⊣⊢ iprop((ℓ ↦{Transfers.shareDrop fullShare (2 * 16)} f)
      ∗ bigSep Finset.univ fun c : Fin 2 => bigSep Finset.univ fun s : Fin 16 => ℓ ↦{shr c s} f) := by
  have h := Transfers.pointsTo_toks (ℓ := ℓ) (S := Finset.univ) (f := f) (Ix := HIx 3) (Name := ℕ) (U := UU) (Lvl := ℕ) (Val := Elt F) fullShare (2 * 16)
  rw [bigSep_univ_equiv (finProdFinEquiv (m := 2) (n := 16)), bigSep_univ_prod] at h
  exact h

/-- What is left with the TensorCore while the call runs. -/
def rest (tb : S2048x128.Idx → Elt F .f32) (ix : S32768.Idx → Elt F .i32) : sProp 𝕄 :=
  iprop((tLoc d ↦{Transfers.shareDrop fullShare (2 * 16)} tb) ∗ (iLoc d ↦{Transfers.shareDrop fullShare (2 * 16)} ix))

theorem enter (tb : S2048x128.Idx → Elt F .f32) (ix : S32768.Idx → Elt F .i32) (f : S32768x128.Idx → Elt F .f32) :
    iprop((tLoc d ↦{fullShare} tb) ∗ (iLoc d ↦{fullShare} ix) ∗ (oLoc d ↦{fullShare} f))
      ⊢ (iprop((bigSep Finset.univ fun c : Fin 2 => bigSep Finset.univ fun s : Fin 16 => tileIn d (crd c s) tb ix (shr c s) (shr c s)) ∗ rest d tb ix) : sProp 𝕄) := by
  rw [out_split]
  iintro ⟨Ht, Hi, Ho⟩
  ihave Ht := (toks tb).1 $$ Ht
  ihave Hi := (toks ix).1 $$ Hi
  icases Ht with ⟨Htr, Ht⟩
  icases Hi with ⟨Hir, Hi⟩
  unfold rest
  isplitl [Ht Hi Ho]
  · iapply (show iprop((bigSep Finset.univ fun c : Fin 2 => bigSep Finset.univ fun s : Fin 16 => (tLoc d ↦{shr c s} tb))
        ∗ (bigSep Finset.univ fun c : Fin 2 => bigSep Finset.univ fun s : Fin 16 => (iLoc d ↦{shr c s} ix))
        ∗ (bigSep Finset.univ fun c : Fin 2 => bigSep Finset.univ fun s : Fin 16 => bigSep Finset.univ fun t : Fin 4 => oLoc d ↦[(ckR (crd c s) t).set]{fullShare} f))
        ⊢ (bigSep Finset.univ fun c : Fin 2 => bigSep Finset.univ fun s : Fin 16 => tileIn d (crd c s) tb ix (shr c s) (shr c s) : sProp 𝕄) from by
      rw [← bigSep_sep', ← bigSep_sep']
      refine bigSep_mono fun c _ => ?_
      rw [← bigSep_sep', ← bigSep_sep']
      refine bigSep_mono fun s _ => ?_
      rw [bigSep_fin4]
      unfold tileIn
      show (_ : sProp 𝕄) ⊢ _
      iintro ⟨Ht, Hi, ⟨H0, H1, H2, H3⟩⟩
      isplitl [Ht]; · iexact Ht
      isplitl [Hi]; · iexact Hi
      isplitl [H0]; · iexists f; iexact H0
      isplitl [H1]; · iexists f; iexact H1
      isplitl [H2]; · iexists f; iexact H2
      iexists f; iexact H3)
    isplitl [Ht]; · iexact Ht
    isplitl [Hi]; · iexact Hi
    iexact Ho
  · isplitl [Htr] <;> iassumption

theorem leave (tb : S2048x128.Idx → Elt F .f32) (ix : S32768.Idx → Elt F .i32) :
    iprop((bigSep Finset.univ fun c : Fin 2 => bigSep Finset.univ fun s : Fin 16 => tileOut d (crd c s) tb ix (shr c s) (shr c s)) ∗ rest d tb ix)
      ⊢ (iprop((tLoc d ↦{fullShare} tb) ∗ (iLoc d ↦{fullShare} ix) ∗ (oLoc d ↦{fullShare} outVal tb ix)) : sProp 𝕄) := by
  rw [out_split]
  unfold rest
  iintro ⟨H, ⟨Htr, Hir⟩⟩
  ihave H := (show (bigSep Finset.univ fun c : Fin 2 => bigSep Finset.univ fun s : Fin 16 => tileOut d (crd c s) tb ix (shr c s) (shr c s) : sProp 𝕄)
      ⊢ iprop((bigSep Finset.univ fun c : Fin 2 => bigSep Finset.univ fun s : Fin 16 => (tLoc d ↦{shr c s} tb))
        ∗ (bigSep Finset.univ fun c : Fin 2 => bigSep Finset.univ fun s : Fin 16 => (iLoc d ↦{shr c s} ix))
        ∗ (bigSep Finset.univ fun c : Fin 2 => bigSep Finset.univ fun s : Fin 16 => bigSep Finset.univ fun t : Fin 4 => oLoc d ↦[(ckR (crd c s) t).set]{fullShare} outVal tb ix)) from by
      rw [← bigSep_sep', ← bigSep_sep']
      refine bigSep_mono fun c _ => ?_
      rw [← bigSep_sep', ← bigSep_sep']
      refine bigSep_mono fun s _ => ?_
      rw [bigSep_fin4]
      unfold tileOut
      show (_ : sProp 𝕄) ⊢ _
      iintro H
      iexact H) $$ H
  icases H with ⟨Ht, Hi, Ho⟩
  isplitl [Ht Htr]
  · iapply (toks tb).2
    isplitl [Htr] <;> iassumption
  isplitl [Hi Hir]
  · iapply (toks ix).2
    isplitl [Hir] <;> iassumption
  iexact Ho

/-! ## The obligation of a tile -/

variable [FloatOps F]

theorem defs₀_vector (c : Fin τ.nSC) (s : Fin τ.nSub) :
    defs₀ (F := F) (.scVector c s) 5 ()
      = SparseCore.onTile hcore5 hsub5 (fun c s => cc5_k (fun | 0 => c | 1 => s | ⟨_ + 2, h⟩ => absurd h (Nat.not_lt.2 (Nat.le_add_left _ _)))
          (Memref.whole main_v33_scv) (Memref.isWhole_whole _) (Memref.whole main_v27_scv) (Memref.isWhole_whole _) (Memref.whole main_v34_scv) (Memref.isWhole_whole _)
          (Memref.whole cc5_scratch0) (Memref.isWhole_whole _) (Memref.whole cc5_scratch1) (Memref.isWhole_whole _) (Memref.whole cc5_scratch2) (Memref.isWhole_whole _)
          cc5_scratch3 cc5_scratch4 cc5_scoped0 cc5_scoped1 cc5_scoped2) ⟨⟩ c s := rfl

end Cert.Work.Tile5

end
-- ==== Proof.Calls.lean ====
/-
  The three SparseCore calls: what passes between the TensorCore and the tiles, and each tile's obligation.
-/
module

public import proofs.«01_k».proof.Proof.Deal1
public import proofs.«01_k».proof.Proof.Deal4
public import proofs.«01_k».proof.Proof.Deal5

@[expose] public section

noncomputable section

namespace Cert.Work

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

/-- The table and the list of each call, on each device, every list within its table. -/
structure Feed (F : FTy → Type) where
  tb1 : Dev nD → S65536x16.Idx → Elt F .f32
  ix1 : Dev nD → S131072.Idx → Elt F .i32
  h1 : ∀ d j, (ix1 d j : BitVec 32).toNat < 65536
  tb4 : Dev nD → S2048x16.Idx → Elt F .f32
  ix4 : Dev nD → S32768.Idx → Elt F .i32
  h4 : ∀ d j, (ix4 d j : BitVec 32).toNat < 2048
  tb5 : Dev nD → S2048x128.Idx → Elt F .f32
  ix5 : Dev nD → S32768.Idx → Elt F .i32
  h5 : ∀ d j, (ix5 d j : BitVec 32).toNat < 2048

variable (A : Feed F)

def go1 (d : Dev nD) (c : Fin 2) (i : Fin 16) : sProp 𝕄 := Tile1.tileIn d (Tile1.crd c i) (A.tb1 d) (A.ix1 d) (Tile1.shr c i) (Tile1.shr c i)
def go4 (d : Dev nD) (c : Fin 2) (i : Fin 16) : sProp 𝕄 := Tile4.tileIn d (Tile4.crd c i) (A.tb4 d) (A.ix4 d) (Tile4.shr c i) (Tile4.shr c i)
def go5 (d : Dev nD) (c : Fin 2) (i : Fin 16) : sProp 𝕄 := Tile5.tileIn d (Tile5.crd c i) (A.tb5 d) (A.ix5 d) (Tile5.shr c i) (Tile5.shr c i)
def td1 (d : Dev nD) (c : Fin 2) (i : Fin 16) : sProp 𝕄 := Tile1.tileOut d (Tile1.crd c i) (A.tb1 d) (A.ix1 d) (Tile1.shr c i) (Tile1.shr c i)
def td4 (d : Dev nD) (c : Fin 2) (i : Fin 16) : sProp 𝕄 := Tile4.tileOut d (Tile4.crd c i) (A.tb4 d) (A.ix4 d) (Tile4.shr c i) (Tile4.shr c i)
def td5 (d : Dev nD) (c : Fin 2) (i : Fin 16) : sProp 𝕄 := Tile5.tileOut d (Tile5.crd c i) (A.tb5 d) (A.ix5 d) (Tile5.shr c i) (Tile5.shr c i)

instance (d c i) : BI.Storable (upEmb : UEmb _ 𝕄) (go1 A d c i) := by unfold go1 Tile1.tileIn; infer_instance
instance (d c i) : BI.Storable (upEmb : UEmb _ 𝕄) (go4 A d c i) := by unfold go4 Tile4.tileIn; infer_instance
instance (d c i) : BI.Storable (upEmb : UEmb _ 𝕄) (go5 A d c i) := by unfold go5 Tile5.tileIn; infer_instance
instance (d c i) : BI.Storable (upEmb : UEmb _ 𝕄) (td1 A d c i) := by unfold td1 Tile1.tileOut; infer_instance
instance (d c i) : BI.Storable (upEmb : UEmb _ 𝕄) (td4 A d c i) := by unfold td4 Tile4.tileOut; infer_instance
instance (d c i) : BI.Storable (upEmb : UEmb _ 𝕄) (td5 A d c i) := by unfold td5 Tile5.tileOut; infer_instance

variable [FloatOps F]

/-- A SparseCore is handed its tiles' pieces and hands back what they made of them. -/
def P : (K (F := F)).Pay (nD := nD) (Val := Elt F) (Name := ℕ) (U := UU) where
  st := fun q d c => match q with
    | 0 => bigSep Finset.univ fun i : Fin 16 => go1 A d c i
    | 1 => bigSep Finset.univ fun i : Fin 16 => go4 A d c i
    | 2 => bigSep Finset.univ fun i : Fin 16 => go5 A d c i
  dn := fun q d c => match q with
    | 0 => bigSep Finset.univ fun i : Fin 16 => td1 A d c i
    | 1 => bigSep Finset.univ fun i : Fin 16 => td4 A d c i
    | 2 => bigSep Finset.univ fun i : Fin 16 => td5 A d c i
  go := fun q d c i => match q with
    | 0 => go1 A d c i
    | 1 => go4 A d c i
    | 2 => go5 A d c i
  td := fun q d c i => match q with
    | 0 => td1 A d c i
    | 1 => td4 A d c i
    | 2 => td5 A d c i
  x := fun _ _ => iprop(emp)

instance P_storable : (P (F := F) A).IsStorable where
  st := fun q d c => match q with
    | 0 => inferInstanceAs (BI.Storable (upEmb : UEmb _ 𝕄) (bigSep Finset.univ fun i : Fin 16 => go1 A d c i))
    | 1 => inferInstanceAs (BI.Storable (upEmb : UEmb _ 𝕄) (bigSep Finset.univ fun i : Fin 16 => go4 A d c i))
    | 2 => inferInstanceAs (BI.Storable (upEmb : UEmb _ 𝕄) (bigSep Finset.univ fun i : Fin 16 => go5 A d c i))
  dn := fun q d c => match q with
    | 0 => inferInstanceAs (BI.Storable (upEmb : UEmb _ 𝕄) (bigSep Finset.univ fun i : Fin 16 => td1 A d c i))
    | 1 => inferInstanceAs (BI.Storable (upEmb : UEmb _ 𝕄) (bigSep Finset.univ fun i : Fin 16 => td4 A d c i))
    | 2 => inferInstanceAs (BI.Storable (upEmb : UEmb _ 𝕄) (bigSep Finset.univ fun i : Fin 16 => td5 A d c i))
  go := fun q d c i => match q with
    | 0 => inferInstanceAs (BI.Storable (upEmb : UEmb _ 𝕄) (go1 A d c i))
    | 1 => inferInstanceAs (BI.Storable (upEmb : UEmb _ 𝕄) (go4 A d c i))
    | 2 => inferInstanceAs (BI.Storable (upEmb : UEmb _ 𝕄) (go5 A d c i))
  td := fun q d c i => match q with
    | 0 => inferInstanceAs (BI.Storable (upEmb : UEmb _ 𝕄) (td1 A d c i))
    | 1 => inferInstanceAs (BI.Storable (upEmb : UEmb _ 𝕄) (td4 A d c i))
    | 2 => inferInstanceAs (BI.Storable (upEmb : UEmb _ 𝕄) (td5 A d c i))

theorem vecSplit (q : Fin 3) : (K (F := F)).VecSplit' (P A) q := by
  intro d c
  match q with
  | 0 =>
    show (bigSep Finset.univ fun i : Fin 16 => go1 A d c i : sProp 𝕄) ⊢ |={Set.univ}=> iprop((bigSep Finset.univ fun i : Fin 16 => go1 A d c i)
      ∗ ((bigSep Finset.univ fun i : Fin 16 => td1 A d c i) -∗ bigSep Finset.univ fun i : Fin 16 => td1 A d c i))
    iintro H; imodintro
    isplitl [H]; · iexact H
    iintro H; iexact H
  | 1 =>
    show (bigSep Finset.univ fun i : Fin 16 => go4 A d c i : sProp 𝕄) ⊢ |={Set.univ}=> iprop((bigSep Finset.univ fun i : Fin 16 => go4 A d c i)
      ∗ ((bigSep Finset.univ fun i : Fin 16 => td4 A d c i) -∗ bigSep Finset.univ fun i : Fin 16 => td4 A d c i))
    iintro H; imodintro
    isplitl [H]; · iexact H
    iintro H; iexact H
  | 2 =>
    show (bigSep Finset.univ fun i : Fin 16 => go5 A d c i : sProp 𝕄) ⊢ |={Set.univ}=> iprop((bigSep Finset.univ fun i : Fin 16 => go5 A d c i)
      ∗ ((bigSep Finset.univ fun i : Fin 16 => td5 A d c i) -∗ bigSep Finset.univ fun i : Fin 16 => td5 A d c i))
    iintro H; imodintro
    isplitl [H]; · iexact H
    iintro H; iexact H

omit [FloatOps F] in
theorem obl_post {thr : Thread nD τ} {A B C : sProp 𝕄} {O : CellTallies nD τ sig (HIx 3)} {W : Waits sig (HIx 3)} {q : Fin 3} :
    iprop(A ∗ B ∗ C ∗ ∃ W', ⌜∀ p ∈ W', p ∈ W ∨ p.2 = none⌝ ∗ owes thr O W')
      ⊢ (iprop(A ∗ B ∗ C ∗ ∃ W', ⌜∀ p ∈ W', p ∈ W ∨ p.2 = none ∨ p.2 = some q⌝ ∗ owes thr O W') : sProp 𝕄) := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl1 : (K (F := F)).TileObl (D (F := F)) 𝒱 (P A) v₀ 0 := by
  intro d c i O W hO _ _
  simp only [show (P A).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [Tile1.defs₀_vector]; simp only [SparseCore.onTile, hci, and_self, ↓reduceDIte]
  exact (Tile1.tile_body d (Tile1.crd ⟨_, hci.1⟩ ⟨_, hci.2⟩) (A.tb1 d) (A.ix1 d) (A.h1 d) _ _ O W hO).trans (wp_mono frame _ _ fun _ => obl_post)

theorem enter1 (d : Dev nD) (f : Buf (Elt F) (Tile1.oLoc d)) :
    iprop((Tile1.tLoc d ↦{fullShare} A.tb1 d) ∗ (Tile1.iLoc d ↦{fullShare} A.ix1 d) ∗ (Tile1.oLoc d ↦{fullShare} f))
      ⊢ (iprop((bigSep Finset.univ fun c : Fin ((K (F := F)).nCore 0) => (P A).st 0 d c) ∗ Tile1.rest d (A.tb1 d) (A.ix1 d)) : sProp 𝕄) :=
  Tile1.enter d (A.tb1 d) (A.ix1 d) f

theorem leave1 (d : Dev nD) :
    iprop((bigSep Finset.univ fun c : Fin ((K (F := F)).nCore 0) => (P A).dn 0 d c) ∗ Tile1.rest d (A.tb1 d) (A.ix1 d))
      ⊢ (iprop((Tile1.tLoc d ↦{fullShare} A.tb1 d) ∗ (Tile1.iLoc d ↦{fullShare} A.ix1 d)
          ∗ (Tile1.oLoc d ↦{fullShare} Tile1.outVal (A.tb1 d) (A.ix1 d))) : sProp 𝕄) :=
  Tile1.leave d (A.tb1 d) (A.ix1 d)

set_option maxRecDepth 16384 in
theorem tileObl4 : (K (F := F)).TileObl (D (F := F)) 𝒱 (P A) v₀ 1 := by
  intro d c i O W hO _ _
  simp only [show (P A).ox = fun _ _ => 0 from rfl, add_zero]
  have hci : ((K (F := F)).core 1 c).val < grid4.bound 0 ∧ ((K (F := F)).sub 1 i).val < grid4.bound 1 := ⟨c.isLt, i.isLt⟩
  change _ ⊢ wp _ _ _ (Pipeline.liftProg (defs₀ (F := F) (.scVector ((K (F := F)).core 1 c) ((K (F := F)).sub 1 i)) 4 ())) _
  refine BI.Entails.trans ?_ (Pipeline.wp_liftProg (D (F := F)) (Pipeline.defs_kernel pcfgs defs₀) 𝒱₀ _ Set.univ none _ _)
  rw [Tile4.defs₀_vector]; simp only [SparseCore.onTile, hci, and_self, ↓reduceDIte]
  exact (Tile4.tile_body d (Tile4.crd ⟨_, hci.1⟩ ⟨_, hci.2⟩) (A.tb4 d) (A.ix4 d) (A.h4 d) _ _ O W hO).trans (wp_mono frame _ _ fun _ => obl_post)

theorem enter4 (d : Dev nD) (f : Buf (Elt F) (Tile4.oLoc d)) :
    iprop((Tile4.tLoc d ↦{fullShare} A.tb4 d) ∗ (Tile4.iLoc d ↦{fullShare} A.ix4 d) ∗ (Tile4.oLoc d ↦{fullShare} f))
      ⊢ (iprop((bigSep Finset.univ fun c : Fin ((K (F := F)).nCore 1) => (P A).st 1 d c) ∗ Tile4.rest d (A.tb4 d) (A.ix4 d)) : sProp 𝕄) :=
  Tile4.enter d (A.tb4 d) (A.ix4 d) f

theorem leave4 (d : Dev nD) :
    iprop((bigSep Finset.univ fun c : Fin ((K (F := F)).nCore 1) => (P A).dn 1 d c) ∗ Tile4.rest d (A.tb4 d) (A.ix4 d))
      ⊢ (iprop((Tile4.tLoc d ↦{fullShare} A.tb4 d) ∗ (Tile4.iLoc d ↦{fullShare} A.ix4 d)
          ∗ (Tile4.oLoc d ↦{fullShare} Tile4.outVal (A.tb4 d) (A.ix4 d))) : sProp 𝕄) :=
  Tile4.leave d (A.tb4 d) (A.ix4 d)

set_option maxRecDepth 16384 in
theorem tileObl5 : (K (F := F)).TileObl (D (F := F)) 𝒱 (P A) v₀ 2 := by
  intro d c i O W hO _ _
  simp only [show (P A).ox = fun _ _ => 0 from rfl, add_zero]
  have hci : ((K (F := F)).core 2 c).val < grid5.bound 0 ∧ ((K (F := F)).sub 2 i).val < grid5.bound 1 := ⟨c.isLt, i.isLt⟩
  change _ ⊢ wp _ _ _ (Pipeline.liftProg (defs₀ (F := F) (.scVector ((K (F := F)).core 2 c) ((K (F := F)).sub 2 i)) 5 ())) _
  refine BI.Entails.trans ?_ (Pipeline.wp_liftProg (D (F := F)) (Pipeline.defs_kernel pcfgs defs₀) 𝒱₀ _ Set.univ none _ _)
  rw [Tile5.defs₀_vector]; simp only [SparseCore.onTile, hci, and_self, ↓reduceDIte]
  exact (Tile5.tile_body d (Tile5.crd ⟨_, hci.1⟩ ⟨_, hci.2⟩) (A.tb5 d) (A.ix5 d) (A.h5 d) _ _ O W hO).trans (wp_mono frame _ _ fun _ => obl_post)

theorem enter5 (d : Dev nD) (f : Buf (Elt F) (Tile5.oLoc d)) :
    iprop((Tile5.tLoc d ↦{fullShare} A.tb5 d) ∗ (Tile5.iLoc d ↦{fullShare} A.ix5 d) ∗ (Tile5.oLoc d ↦{fullShare} f))
      ⊢ (iprop((bigSep Finset.univ fun c : Fin ((K (F := F)).nCore 2) => (P A).st 2 d c) ∗ Tile5.rest d (A.tb5 d) (A.ix5 d)) : sProp 𝕄) :=
  Tile5.enter d (A.tb5 d) (A.ix5 d) f

theorem leave5 (d : Dev nD) :
    iprop((bigSep Finset.univ fun c : Fin ((K (F := F)).nCore 2) => (P A).dn 2 d c) ∗ Tile5.rest d (A.tb5 d) (A.ix5 d))
      ⊢ (iprop((Tile5.tLoc d ↦{fullShare} A.tb5 d) ∗ (Tile5.iLoc d ↦{fullShare} A.ix5 d)
          ∗ (Tile5.oLoc d ↦{fullShare} Tile5.outVal (A.tb5 d) (A.ix5 d))) : sProp 𝕄) :=
  Tile5.leave d (A.tb5 d) (A.ix5 d)

end Cert.Work

end
-- ==== Proof.Reg0.lean ====
/-
  The TensorCore call 0: what each window's buffer holds after the body at a grid point, the body's run, and the
  pipeline's proof data over any contents of the arrays, while the core still owes the sparse calls from `n` on.
-/
module

public import proofs.«01_k».proof.Proof.Setup
public import proofs.«01_k».proof.Proof.Gen.KernelIdeal.Launch
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.WordCmp

@[expose] public section

-- a store's rectangle is compared with its buffer coordinate by coordinate
set_option maxRecDepth 16384

noncomputable section

namespace Cert.Work.Reg0

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation BodyObligationLoose cellOf)

variable {F : FTy → Type} [FloatOps F]

local notation "𝕄" => MT nD τ sig (HIx 3) (Elt F) ℕ UU ℕ

variable (V : Dev nD → Valuation τ sig (Elt F)) (n : ℕ)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- Input window 0's buffer holds its block at every point. -/
theorem before_0_of {c : Dev nD} (dat : Dat τ (Elt F) (HIx 3) ℕ UU ℕ cfg0 c) (hA : dat.A 0 = V c (Proc.devRef .tc (Pipeline.arrRef spec0 0)))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's buffer holds its block at every point. -/
theorem before_1_of {c : Dev nD} (dat : Dat τ (Elt F) (HIx 3) ℕ UU ℕ cfg0 c) (hA : dat.A 1 = V c (Proc.devRef .tc (Pipeline.arrRef spec0 1)))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev r_0 : Rect S1x3x512 := Rect.unit (s := S1x3x512) ![0, 0, 0] S1x3x512.size inb_S1x3x512_S1x3x512_0_0_0
abbrev r_1 : Rect S1x3x2048 := Rect.unit (s := S1x3x2048) ![0, 0, 0] S1x3x2048.size inb_S1x3x2048_S1x3x2048_0_0_0
abbrev r_2 : Rect S1x512x2048 := Rect.unit (s := S1x512x2048) ![0, 0, 0] S1x512x2048.size inb_S1x512x2048_S1x512x2048_0_0_0

/-- Window 2's buffer after the body, from the input windows' blocks. -/
def out_2 (x0 : Vec F S1x3x512 .f32) (x1 : Vec F S1x3x2048 .f32) : Vec F S1x512x2048 .f32 :=
  View.canon [⟨r_2, k0_pay1 (k0_pay2 (View.ld x0 r_0) (View.ld x1 r_1)) (Scalar.ofBits .f32 0x00000000#32)⟩]

theorem cover_2 (p0 : Vec F S1x512x2048 .f32) (y : S1x512x2048.Idx) :
    ∃ pc ∈ ([⟨r_2, p0⟩] : List (View.Piece (Elt F) S1x512x2048 .f32)), y ∈ pc.1.set :=
  View.cover_of_tiled [⟨r_2, p0⟩] S1x512x2048.size (by rfl) y

set_option maxHeartbeats 8000000 in
/-- The body's run on whole buffers: the inputs as they were, each output at `out_w` of the inputs. -/
theorem sound_kernel (c : Dev nD) (E : Set ℕ) (i : grid0.Coords) (arg2 : Memref sig .tc .vmem S1x3x512 .f32) (harg2 : arg2.IsWhole) (arg3 : Memref sig .tc .vmem S1x3x2048 .f32) (harg3 : arg3.IsWhole) (arg4 : Memref sig .tc .vmem S1x512x2048 .f32) (harg4 : arg4.IsWhole)
    (x0 : Vec F S1x3x512 .f32) (x1 : Vec F S1x3x2048 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out_2 x0 x1)) -∗ K ⟨⟩))
      ⊢ wp frame (wpE (defs₀ (F := F)) Variants.none c none) E (cc0__dist_body i arg2 harg2 arg3 harg3 arg4 harg4) K := by
  simp only [cc0__dist_body_eq_skeleton]; unfold cc0__dist_body_skel
  simp only [k0_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_2 _)

/-- The proof data: the arrays at `V`; after the body each input's buffer at its block, each output's at `out_w` of
    the blocks; the scoped rest kept; the core owing the sparse calls from `n` on. -/
def dat (c : Dev nD) : Dat τ (Elt F) (HIx 3) ℕ UU ℕ cfg0 c where
  A w := V c (Proc.devRef .tc (Pipeline.arrRef spec0 w))
  after w t := match w with
    | ⟨0, _⟩ => iblk V c 0 t
    | ⟨1, _⟩ => iblk V c 1 t
    | ⟨2, _⟩ => out_2 (iblk V c 0 t) (iblk V c 1 t)
  Φ _ := Pipeline.scopedRest spec0 c
  q w := Pipeline.shareOf spec0 w
  owed _ := (K (F := F)).Otc c n
  recorded _ := {p | (K (F := F)).lev ((c : Thread nD τ), p.1) p.2 ≤ 8 * n}

theorem A_eq (c : Dev nD) (w : Fin cfg0.W) : (dat V n c).A w = V c (Proc.devRef .tc (Pipeline.arrRef spec0 w)) := by
  dsimp only [dat]

theorem after_0 (c : Dev nD) (t : Fin cfg0.N) : (dat V n c).after 0 t = iblk V c 0 t := by dsimp only [dat]
theorem after_1 (c : Dev nD) (t : Fin cfg0.N) : (dat V n c).after 1 t = iblk V c 1 t := by dsimp only [dat]
theorem after_2 (c : Dev nD) (t : Fin cfg0.N) : (dat V n c).after 2 t = out_2 (iblk V c 0 t) (iblk V c 1 t) := by dsimp only [dat]
theorem before_0 (c : Dev nD) (t : Fin cfg0.N) (d) : (dat V n c).before 0 t d = iblk V c 0 t :=
  before_0_of V (dat V n c) (A_eq V n c 0) (after_0 V n c) t d
theorem before_1 (c : Dev nD) (t : Fin cfg0.N) (d) : (dat V n c).before 1 t d = iblk V c 1 t :=
  before_1_of V (dat V n c) (A_eq V n c 1) (after_1 V n c) t d

/-- What the body is called with at point `t`, -/
def bodyPre (c : Dev nD) (t : Fin cfg0.N) : sProp 𝕄 :=
  iprop((dat V n c).Φ t.castSucc ∗ (dat V n c).owesAt none t.castSucc
    ∗ (∃ d, owns (c : Thread nD τ) (st0_0 t) fullShare ((dat V n c).before 0 t d))
    ∗ (∃ d, owns (c : Thread nD τ) (st0_1 t) fullShare ((dat V n c).before 1 t d))
    ∗ (∃ d, owns (c : Thread nD τ) (st0_2 t) fullShare ((dat V n c).before 2 t d)))

/-- and what it returns. -/
def bodyPost (c : Dev nD) (t : Fin cfg0.N) : sProp 𝕄 :=
  iprop((dat V n c).Φ t.succ ∗ (dat V n c).owesAt none t.succ
    ∗ owns (c : Thread nD τ) (st0_0 t) fullShare ((dat V n c).after 0 t)
    ∗ owns (c : Thread nD τ) (st0_1 t) fullShare ((dat V n c).after 1 t)
    ∗ owns (c : Thread nD τ) (st0_2 t) fullShare ((dat V n c).after 2 t))

set_option maxHeartbeats 2000000 in
theorem sound_body (c : Dev nD) (t : Fin cfg0.N) :
    bodyPre V n c t ⊢ wp frame (wpE (defs₀ (F := F)) Variants.none c none) Set.univ (bodyAt0 t) (fun _ => bodyPost V n c t) := by
  unfold bodyPre bodyPost bodyAt0
  simp only [before_0, before_1]
  rw [show (dat V n c).Φ t.succ = (dat V n c).Φ t.castSucc from rfl,
    show (dat V n c).owesAt none t.succ = (dat V n c).owesAt none t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg0.N) :
    defs₀ (F := F) .tc cfg0.body (cfg0.bodyArgs t (cfg0.slots t)) = bodyAt0 t := by
  rfl

/-- The body obligation at every point. -/
theorem body_obligation (c : Dev nD) : BodyObligation (dat V n c) (defs₀ (F := F)) Variants.none none Set.univ := fun t => by
  rw [bigSep_W0, bigSep_W0, defs₀_row]
  exact triple_restated (sound_body V n c t) rfl .rfl fun _ => .rfl

theorem hbody (c : Dev nD) : BodyObligationLoose (dat V n c) (defs₀ (F := F)) Variants.none none Set.univ :=
  (body_obligation V n c).loose

end Cert.Work.Reg0

end
-- ==== Proof.Reg2.lean ====
/-
  The TensorCore call 2: what each window's buffer holds after the body at a grid point, the body's run, and the
  pipeline's proof data over any contents of the arrays, while the core still owes the sparse calls from `n` on.
-/
module

public import proofs.«01_k».proof.Proof.Setup
public import proofs.«01_k».proof.Proof.Gen.KernelIdeal.Launch
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.WordCmp

@[expose] public section

-- a store's rectangle is compared with its buffer coordinate by coordinate
set_option maxRecDepth 16384

noncomputable section

namespace Cert.Work.Reg2

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation BodyObligationLoose cellOf)

variable {F : FTy → Type} [FloatOps F]

local notation "𝕄" => MT nD τ sig (HIx 3) (Elt F) ℕ UU ℕ

variable (V : Dev nD → Valuation τ sig (Elt F)) (n : ℕ)

/-- Window `w`'s block at point `t`, read off its array. -/
def iblk (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- Input window 0's buffer holds its block at every point. -/
theorem before_0_of {c : Dev nD} (dat : Dat τ (Elt F) (HIx 3) ℕ UU ℕ cfg2 c) (hA : dat.A 0 = V c (Proc.devRef .tc (Pipeline.arrRef spec2 0)))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's buffer holds its block at every point. -/
theorem before_1_of {c : Dev nD} (dat : Dat τ (Elt F) (HIx 3) ℕ UU ℕ cfg2 c) (hA : dat.A 1 = V c (Proc.devRef .tc (Pipeline.arrRef spec2 1)))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's buffer holds its block at every point. -/
theorem before_2_of {c : Dev nD} (dat : Dat τ (Elt F) (HIx 3) ℕ UU ℕ cfg2 c) (hA : dat.A 2 = V c (Proc.devRef .tc (Pipeline.arrRef spec2 2)))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's buffer holds its block at every point. -/
theorem before_3_of {c : Dev nD} (dat : Dat τ (Elt F) (HIx 3) ℕ UU ℕ cfg2 c) (hA : dat.A 3 = V c (Proc.devRef .tc (Pipeline.arrRef spec2 3)))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's buffer holds its block at every point. -/
theorem before_4_of {c : Dev nD} (dat : Dat τ (Elt F) (HIx 3) ℕ UU ℕ cfg2 c) (hA : dat.A 4 = V c (Proc.devRef .tc (Pipeline.arrRef spec2 4)))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's buffer holds its block at every point. -/
theorem before_5_of {c : Dev nD} (dat : Dat τ (Elt F) (HIx 3) ℕ UU ℕ cfg2 c) (hA : dat.A 5 = V c (Proc.devRef .tc (Pipeline.arrRef spec2 5)))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's buffer holds its block at every point. -/
theorem before_6_of {c : Dev nD} (dat : Dat τ (Elt F) (HIx 3) ℕ UU ℕ cfg2 c) (hA : dat.A 6 = V c (Proc.devRef .tc (Pipeline.arrRef spec2 6)))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's buffer holds its block at every point. -/
theorem before_7_of {c : Dev nD} (dat : Dat τ (Elt F) (HIx 3) ℕ UU ℕ cfg2 c) (hA : dat.A 7 = V c (Proc.devRef .tc (Pipeline.arrRef spec2 7)))
    (hafter : ∀ t, dat.after 7 t = iblk V c 7 t) (t : Fin cfg2.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's buffer holds its block at every point. -/
theorem before_8_of {c : Dev nD} (dat : Dat τ (Elt F) (HIx 3) ℕ UU ℕ cfg2 c) (hA : dat.A 8 = V c (Proc.devRef .tc (Pipeline.arrRef spec2 8)))
    (hafter : ∀ t, dat.after 8 t = iblk V c 8 t) (t : Fin cfg2.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's buffer holds its block at every point. -/
theorem before_9_of {c : Dev nD} (dat : Dat τ (Elt F) (HIx 3) ℕ UU ℕ cfg2 c) (hA : dat.A 9 = V c (Proc.devRef .tc (Pipeline.arrRef spec2 9)))
    (hafter : ∀ t, dat.after 9 t = iblk V c 9 t) (t : Fin cfg2.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's buffer holds its block at every point. -/
theorem before_10_of {c : Dev nD} (dat : Dat τ (Elt F) (HIx 3) ℕ UU ℕ cfg2 c) (hA : dat.A 10 = V c (Proc.devRef .tc (Pipeline.arrRef spec2 10)))
    (hafter : ∀ t, dat.after 10 t = iblk V c 10 t) (t : Fin cfg2.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's buffer holds its block at every point. -/
theorem before_11_of {c : Dev nD} (dat : Dat τ (Elt F) (HIx 3) ℕ UU ℕ cfg2 c) (hA : dat.A 11 = V c (Proc.devRef .tc (Pipeline.arrRef spec2 11)))
    (hafter : ∀ t, dat.after 11 t = iblk V c 11 t) (t : Fin cfg2.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

abbrev r_0 : Rect S1x16x128x64 := Rect.unit (s := S1x16x128x64) ![0, 0, 0, 0] S1x16x128x64.size inb_S1x16x128x64_S1x16x128x64_0_0_0_0
abbrev r_1 : Rect S1x3x128 := Rect.unit (s := S1x3x128) ![0, 0, 0] S1x3x128.size inb_S1x3x128_S1x3x128_0_0_0
abbrev r_2 : Rect S64x6 := Rect.unit (s := S64x6) ![0, 0] S64x6.size inb_S64x6_S64x6_0_0
abbrev r_3 : Rect S64 := Rect.unit (s := S64) ![0] S64.size inb_S64_S64_0
abbrev r_4 : Rect S64x64 := Rect.unit (s := S64x64) ![0, 0] S64x64.size inb_S64x64_S64x64_0_0
abbrev r_5 : Rect S64 := Rect.unit (s := S64) ![0] S64.size inb_S64_S64_0
abbrev r_6 : Rect S64x64 := Rect.unit (s := S64x64) ![0, 0] S64x64.size inb_S64x64_S64x64_0_0
abbrev r_7 : Rect S64 := Rect.unit (s := S64) ![0] S64.size inb_S64_S64_0
abbrev r_8 : Rect S128x128 := Rect.unit (s := S128x128) ![0, 0] S128x128.size inb_S128x128_S128x128_0_0
abbrev r_9 : Rect S128 := Rect.unit (s := S128) ![0] S128.size inb_S128_S128_0
abbrev r_10 : Rect S128x128 := Rect.unit (s := S128x128) ![0, 0] S128x128.size inb_S128x128_S128x128_0_0
abbrev r_11 : Rect S128 := Rect.unit (s := S128) ![0] S128.size inb_S128_S128_0
abbrev r_12 : Rect S1x128x128 := Rect.unit (s := S1x128x128) ![0, 0, 0] S1x128x128.size inb_S1x128x128_S1x128x128_0_0_0

/-- Window 12's buffer after the body, from the input windows' blocks. -/
def out_12 (x0 : Vec F S1x16x128x64 .f32) (x1 : Vec F S1x3x128 .f32) (x2 : Vec F S64x6 .f32) (x3 : Vec F S64 .f32) (x4 : Vec F S64x64 .f32) (x5 : Vec F S64 .f32) (x6 : Vec F S64x64 .f32) (x7 : Vec F S64 .f32) (x8 : Vec F S128x128 .f32) (x9 : Vec F S128 .f32) (x10 : Vec F S128x128 .f32) (x11 : Vec F S128 .f32) : Vec F S1x128x128 .f32 :=
  View.canon [⟨r_12, k2_pay1 (k2_pay2 (View.ld x0 r_0) (View.ld x1 r_1) (View.ld x2 r_2) (View.ld x3 r_3) (View.ld x4 r_4) (View.ld x5 r_5) (View.ld x6 r_6) (View.ld x7 r_7)) (k2_pay3 (View.ld x0 r_0) (View.ld x1 r_1) (View.ld x2 r_2) (View.ld x3 r_3) (View.ld x4 r_4) (View.ld x5 r_5) (View.ld x6 r_6) (View.ld x7 r_7)) (View.ld x8 r_8) (View.ld x9 r_9) (View.ld x10 r_10) (View.ld x11 r_11)⟩]

theorem cover_12 (p0 : Vec F S1x128x128 .f32) (y : S1x128x128.Idx) :
    ∃ pc ∈ ([⟨r_12, p0⟩] : List (View.Piece (Elt F) S1x128x128 .f32)), y ∈ pc.1.set :=
  View.cover_of_tiled [⟨r_12, p0⟩] S1x128x128.size (by rfl) y

set_option maxHeartbeats 8000000 in
/-- The body's run on whole buffers: the inputs as they were, each output at `out_w` of the inputs. -/
theorem sound_kernel (c : Dev nD) (E : Set ℕ) (i : grid2.Coords) (arg2 : Memref sig .tc .vmem S1x16x128x64 .f32) (harg2 : arg2.IsWhole) (arg3 : Memref sig .tc .vmem S1x3x128 .f32) (harg3 : arg3.IsWhole) (arg4 : Memref sig .tc .vmem S64x6 .f32) (harg4 : arg4.IsWhole) (arg5 : Memref sig .tc .vmem S64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x64 .f32) (harg8 : arg8.IsWhole) (arg9 : Memref sig .tc .vmem S64 .f32) (harg9 : arg9.IsWhole) (arg10 : Memref sig .tc .vmem S128x128 .f32) (harg10 : arg10.IsWhole) (arg11 : Memref sig .tc .vmem S128 .f32) (harg11 : arg11.IsWhole) (arg12 : Memref sig .tc .vmem S128x128 .f32) (harg12 : arg12.IsWhole) (arg13 : Memref sig .tc .vmem S128 .f32) (harg13 : arg13.IsWhole) (arg14 : Memref sig .tc .vmem S1x128x128 .f32) (harg14 : arg14.IsWhole)
    (x0 : Vec F S1x16x128x64 .f32) (x1 : Vec F S1x3x128 .f32) (x2 : Vec F S64x6 .f32) (x3 : Vec F S64 .f32) (x4 : Vec F S64x64 .f32) (x5 : Vec F S64 .f32) (x6 : Vec F S64x64 .f32) (x7 : Vec F S64 .f32) (x8 : Vec F S128x128 .f32) (x9 : Vec F S128 .f32) (x10 : Vec F S128x128 .f32) (x11 : Vec F S128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (out_12 x0 x1 x2 x3 x4 x5 x6 x7 x8 x9 x10 x11)) -∗ K ⟨⟩))
      ⊢ wp frame (wpE (defs₀ (F := F)) Variants.none c none) E (cc2__stack1_body i arg2 harg2 arg3 harg3 arg4 harg4 arg5 harg5 arg6 harg6 arg7 harg7 arg8 harg8 arg9 harg9 arg10 harg10 arg11 harg11 arg12 harg12 arg13 harg13 arg14 harg14) K := by
  simp only [cc2__stack1_body_eq_skeleton]; unfold cc2__stack1_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover_12 _)

/-- The proof data: the arrays at `V`; after the body each input's buffer at its block, each output's at `out_w` of
    the blocks; the scoped rest kept; the core owing the sparse calls from `n` on. -/
def dat (c : Dev nD) : Dat τ (Elt F) (HIx 3) ℕ UU ℕ cfg2 c where
  A w := V c (Proc.devRef .tc (Pipeline.arrRef spec2 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => out_12 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t)
  Φ _ := Pipeline.scopedRest spec2 c
  q w := Pipeline.shareOf spec2 w
  owed _ := (K (F := F)).Otc c n
  recorded _ := {p | (K (F := F)).lev ((c : Thread nD τ), p.1) p.2 ≤ 8 * n}

theorem A_eq (c : Dev nD) (w : Fin cfg2.W) : (dat V n c).A w = V c (Proc.devRef .tc (Pipeline.arrRef spec2 w)) := by
  dsimp only [dat]

theorem after_0 (c : Dev nD) (t : Fin cfg2.N) : (dat V n c).after 0 t = iblk V c 0 t := by dsimp only [dat]
theorem after_1 (c : Dev nD) (t : Fin cfg2.N) : (dat V n c).after 1 t = iblk V c 1 t := by dsimp only [dat]
theorem after_2 (c : Dev nD) (t : Fin cfg2.N) : (dat V n c).after 2 t = iblk V c 2 t := by dsimp only [dat]
theorem after_3 (c : Dev nD) (t : Fin cfg2.N) : (dat V n c).after 3 t = iblk V c 3 t := by dsimp only [dat]
theorem after_4 (c : Dev nD) (t : Fin cfg2.N) : (dat V n c).after 4 t = iblk V c 4 t := by dsimp only [dat]
theorem after_5 (c : Dev nD) (t : Fin cfg2.N) : (dat V n c).after 5 t = iblk V c 5 t := by dsimp only [dat]
theorem after_6 (c : Dev nD) (t : Fin cfg2.N) : (dat V n c).after 6 t = iblk V c 6 t := by dsimp only [dat]
theorem after_7 (c : Dev nD) (t : Fin cfg2.N) : (dat V n c).after 7 t = iblk V c 7 t := by dsimp only [dat]
theorem after_8 (c : Dev nD) (t : Fin cfg2.N) : (dat V n c).after 8 t = iblk V c 8 t := by dsimp only [dat]
theorem after_9 (c : Dev nD) (t : Fin cfg2.N) : (dat V n c).after 9 t = iblk V c 9 t := by dsimp only [dat]
theorem after_10 (c : Dev nD) (t : Fin cfg2.N) : (dat V n c).after 10 t = iblk V c 10 t := by dsimp only [dat]
theorem after_11 (c : Dev nD) (t : Fin cfg2.N) : (dat V n c).after 11 t = iblk V c 11 t := by dsimp only [dat]
theorem after_12 (c : Dev nD) (t : Fin cfg2.N) : (dat V n c).after 12 t = out_12 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) := by dsimp only [dat]
theorem before_0 (c : Dev nD) (t : Fin cfg2.N) (d) : (dat V n c).before 0 t d = iblk V c 0 t :=
  before_0_of V (dat V n c) (A_eq V n c 0) (after_0 V n c) t d
theorem before_1 (c : Dev nD) (t : Fin cfg2.N) (d) : (dat V n c).before 1 t d = iblk V c 1 t :=
  before_1_of V (dat V n c) (A_eq V n c 1) (after_1 V n c) t d
theorem before_2 (c : Dev nD) (t : Fin cfg2.N) (d) : (dat V n c).before 2 t d = iblk V c 2 t :=
  before_2_of V (dat V n c) (A_eq V n c 2) (after_2 V n c) t d
theorem before_3 (c : Dev nD) (t : Fin cfg2.N) (d) : (dat V n c).before 3 t d = iblk V c 3 t :=
  before_3_of V (dat V n c) (A_eq V n c 3) (after_3 V n c) t d
theorem before_4 (c : Dev nD) (t : Fin cfg2.N) (d) : (dat V n c).before 4 t d = iblk V c 4 t :=
  before_4_of V (dat V n c) (A_eq V n c 4) (after_4 V n c) t d
theorem before_5 (c : Dev nD) (t : Fin cfg2.N) (d) : (dat V n c).before 5 t d = iblk V c 5 t :=
  before_5_of V (dat V n c) (A_eq V n c 5) (after_5 V n c) t d
theorem before_6 (c : Dev nD) (t : Fin cfg2.N) (d) : (dat V n c).before 6 t d = iblk V c 6 t :=
  before_6_of V (dat V n c) (A_eq V n c 6) (after_6 V n c) t d
theorem before_7 (c : Dev nD) (t : Fin cfg2.N) (d) : (dat V n c).before 7 t d = iblk V c 7 t :=
  before_7_of V (dat V n c) (A_eq V n c 7) (after_7 V n c) t d
theorem before_8 (c : Dev nD) (t : Fin cfg2.N) (d) : (dat V n c).before 8 t d = iblk V c 8 t :=
  before_8_of V (dat V n c) (A_eq V n c 8) (after_8 V n c) t d
theorem before_9 (c : Dev nD) (t : Fin cfg2.N) (d) : (dat V n c).before 9 t d = iblk V c 9 t :=
  before_9_of V (dat V n c) (A_eq V n c 9) (after_9 V n c) t d
theorem before_10 (c : Dev nD) (t : Fin cfg2.N) (d) : (dat V n c).before 10 t d = iblk V c 10 t :=
  before_10_of V (dat V n c) (A_eq V n c 10) (after_10 V n c) t d
theorem before_11 (c : Dev nD) (t : Fin cfg2.N) (d) : (dat V n c).before 11 t d = iblk V c 11 t :=
  before_11_of V (dat V n c) (A_eq V n c 11) (after_11 V n c) t d

/-- What the body is called with at point `t`, -/
def bodyPre (c : Dev nD) (t : Fin cfg2.N) : sProp 𝕄 :=
  iprop((dat V n c).Φ t.castSucc ∗ (dat V n c).owesAt none t.castSucc
    ∗ (∃ d, owns (c : Thread nD τ) (st2_0 t) fullShare ((dat V n c).before 0 t d))
    ∗ (∃ d, owns (c : Thread nD τ) (st2_1 t) fullShare ((dat V n c).before 1 t d))
    ∗ (∃ d, owns (c : Thread nD τ) (st2_2 t) fullShare ((dat V n c).before 2 t d))
    ∗ (∃ d, owns (c : Thread nD τ) (st2_3 t) fullShare ((dat V n c).before 3 t d))
    ∗ (∃ d, owns (c : Thread nD τ) (st2_4 t) fullShare ((dat V n c).before 4 t d))
    ∗ (∃ d, owns (c : Thread nD τ) (st2_5 t) fullShare ((dat V n c).before 5 t d))
    ∗ (∃ d, owns (c : Thread nD τ) (st2_6 t) fullShare ((dat V n c).before 6 t d))
    ∗ (∃ d, owns (c : Thread nD τ) (st2_7 t) fullShare ((dat V n c).before 7 t d))
    ∗ (∃ d, owns (c : Thread nD τ) (st2_8 t) fullShare ((dat V n c).before 8 t d))
    ∗ (∃ d, owns (c : Thread nD τ) (st2_9 t) fullShare ((dat V n c).before 9 t d))
    ∗ (∃ d, owns (c : Thread nD τ) (st2_10 t) fullShare ((dat V n c).before 10 t d))
    ∗ (∃ d, owns (c : Thread nD τ) (st2_11 t) fullShare ((dat V n c).before 11 t d))
    ∗ (∃ d, owns (c : Thread nD τ) (st2_12 t) fullShare ((dat V n c).before 12 t d)))

/-- and what it returns. -/
def bodyPost (c : Dev nD) (t : Fin cfg2.N) : sProp 𝕄 :=
  iprop((dat V n c).Φ t.succ ∗ (dat V n c).owesAt none t.succ
    ∗ owns (c : Thread nD τ) (st2_0 t) fullShare ((dat V n c).after 0 t)
    ∗ owns (c : Thread nD τ) (st2_1 t) fullShare ((dat V n c).after 1 t)
    ∗ owns (c : Thread nD τ) (st2_2 t) fullShare ((dat V n c).after 2 t)
    ∗ owns (c : Thread nD τ) (st2_3 t) fullShare ((dat V n c).after 3 t)
    ∗ owns (c : Thread nD τ) (st2_4 t) fullShare ((dat V n c).after 4 t)
    ∗ owns (c : Thread nD τ) (st2_5 t) fullShare ((dat V n c).after 5 t)
    ∗ owns (c : Thread nD τ) (st2_6 t) fullShare ((dat V n c).after 6 t)
    ∗ owns (c : Thread nD τ) (st2_7 t) fullShare ((dat V n c).after 7 t)
    ∗ owns (c : Thread nD τ) (st2_8 t) fullShare ((dat V n c).after 8 t)
    ∗ owns (c : Thread nD τ) (st2_9 t) fullShare ((dat V n c).after 9 t)
    ∗ owns (c : Thread nD τ) (st2_10 t) fullShare ((dat V n c).after 10 t)
    ∗ owns (c : Thread nD τ) (st2_11 t) fullShare ((dat V n c).after 11 t)
    ∗ owns (c : Thread nD τ) (st2_12 t) fullShare ((dat V n c).after 12 t))

set_option maxHeartbeats 2000000 in
theorem sound_body (c : Dev nD) (t : Fin cfg2.N) :
    bodyPre V n c t ⊢ wp frame (wpE (defs₀ (F := F)) Variants.none c none) Set.univ (bodyAt2 t) (fun _ => bodyPost V n c t) := by
  unfold bodyPre bodyPost bodyAt2
  simp only [before_0, before_1, before_2, before_3, before_4, before_5, before_6, before_7, before_8, before_9, before_10, before_11]
  rw [show (dat V n c).Φ t.succ = (dat V n c).Φ t.castSucc from rfl,
    show (dat V n c).owesAt none t.succ = (dat V n c).owesAt none t.castSucc from rfl,
    after_0, after_1, after_2, after_3, after_4, after_5, after_6, after_7, after_8, after_9, after_10, after_11, after_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid2.coords t) _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg2.N) :
    defs₀ (F := F) .tc cfg2.body (cfg2.bodyArgs t (cfg2.slots t)) = bodyAt2 t := by
  rfl

/-- The body obligation at every point. -/
theorem body_obligation (c : Dev nD) : BodyObligation (dat V n c) (defs₀ (F := F)) Variants.none none Set.univ := fun t => by
  rw [bigSep_W2, bigSep_W2, defs₀_row]
  exact triple_restated (sound_body V n c t) rfl .rfl fun _ => .rfl

theorem hbody (c : Dev nD) : BodyObligationLoose (dat V n c) (defs₀ (F := F)) Variants.none none Set.univ :=
  (body_obligation V n c).loose

end Cert.Work.Reg2

end
-- ==== Proof.Reg3.lean ====
/-
  The TensorCore call 3: what each window's buffer holds after the body at a grid point, the body's run, and the
  pipeline's proof data over any contents of the arrays, while the core still owes the sparse calls from `n` on.
-/
module

public import proofs.«01_k».proof.Proof.Setup
public import proofs.«01_k».proof.Proof.Gen.KernelIdeal.Launch
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.WordCmp

@[expose] public section

-- a store's rectangle is compared with its buffer coordinate by coordinate
set_option maxRecDepth 16384

noncomputable section

namespace Cert.Work.Reg3

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation BodyObligationLoose cellOf)

variable {F : FTy → Type} [FloatOps F]

local notation "𝕄" => MT nD τ sig (HIx 3) (Elt F) ℕ UU ℕ

variable (V : Dev nD → Valuation τ sig (Elt F)) (n : ℕ)

/-- Window `w`'s block at point `t`, read off its array. -/
def iblk (c : Dev nD) (w : Fin cfg3.W) (t : Fin cfg3.N) : ((cfg3.win w).xblock (cfg3.grid.coords t)).Idx → Elt F (cfg3.win w).elt :=
  ((cfg3.win w).blk t).view.read (Elt F) (V c (Proc.devRef .tc (Pipeline.arrRef spec3 w)))

/-- Input window 0's buffer holds its block at every point. -/
theorem before_0_of {c : Dev nD} (dat : Dat τ (Elt F) (HIx 3) ℕ UU ℕ cfg3 c) (hA : dat.A 0 = V c (Proc.devRef .tc (Pipeline.arrRef spec3 0)))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's buffer holds its block at every point. -/
theorem before_1_of {c : Dev nD} (dat : Dat τ (Elt F) (HIx 3) ℕ UU ℕ cfg3 c) (hA : dat.A 1 = V c (Proc.devRef .tc (Pipeline.arrRef spec3 1)))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev r_0 : Rect S1x3x512 := Rect.unit (s := S1x3x512) ![0, 0, 0] S1x3x512.size inb_S1x3x512_S1x3x512_0_0_0
abbrev r_1 : Rect S1x3x512 := Rect.unit (s := S1x3x512) ![0, 0, 0] S1x3x512.size inb_S1x3x512_S1x3x512_0_0_0
abbrev r_2 : Rect S1x512x512 := Rect.unit (s := S1x512x512) ![0, 0, 0] S1x512x512.size inb_S1x512x512_S1x512x512_0_0_0

/-- Window 2's buffer after the body, from the input windows' blocks. -/
def out_2 (x0 : Vec F S1x3x512 .f32) (x1 : Vec F S1x3x512 .f32) : Vec F S1x512x512 .f32 :=
  View.canon [⟨r_2, k3_pay1 (k3_pay2 (View.ld x0 r_0) (View.ld x1 r_1)) (Scalar.ofBits .f32 0x00000000#32)⟩]

theorem cover_2 (p0 : Vec F S1x512x512 .f32) (y : S1x512x512.Idx) :
    ∃ pc ∈ ([⟨r_2, p0⟩] : List (View.Piece (Elt F) S1x512x512 .f32)), y ∈ pc.1.set :=
  View.cover_of_tiled [⟨r_2, p0⟩] S1x512x512.size (by rfl) y

set_option maxHeartbeats 8000000 in
/-- The body's run on whole buffers: the inputs as they were, each output at `out_w` of the inputs. -/
theorem sound_kernel (c : Dev nD) (E : Set ℕ) (i : grid3.Coords) (arg2 : Memref sig .tc .vmem S1x3x512 .f32) (harg2 : arg2.IsWhole) (arg3 : Memref sig .tc .vmem S1x3x512 .f32) (harg3 : arg3.IsWhole) (arg4 : Memref sig .tc .vmem S1x512x512 .f32) (harg4 : arg4.IsWhole)
    (x0 : Vec F S1x3x512 .f32) (x1 : Vec F S1x3x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out_2 x0 x1)) -∗ K ⟨⟩))
      ⊢ wp frame (wpE (defs₀ (F := F)) Variants.none c none) E (cc3__dist_body i arg2 harg2 arg3 harg3 arg4 harg4) K := by
  simp only [cc3__dist_body_eq_skeleton]; unfold cc3__dist_body_skel
  simp only [k3_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_2 _)

/-- The proof data: the arrays at `V`; after the body each input's buffer at its block, each output's at `out_w` of
    the blocks; the scoped rest kept; the core owing the sparse calls from `n` on. -/
def dat (c : Dev nD) : Dat τ (Elt F) (HIx 3) ℕ UU ℕ cfg3 c where
  A w := V c (Proc.devRef .tc (Pipeline.arrRef spec3 w))
  after w t := match w with
    | ⟨0, _⟩ => iblk V c 0 t
    | ⟨1, _⟩ => iblk V c 1 t
    | ⟨2, _⟩ => out_2 (iblk V c 0 t) (iblk V c 1 t)
  Φ _ := Pipeline.scopedRest spec3 c
  q w := Pipeline.shareOf spec3 w
  owed _ := (K (F := F)).Otc c n
  recorded _ := {p | (K (F := F)).lev ((c : Thread nD τ), p.1) p.2 ≤ 8 * n}

theorem A_eq (c : Dev nD) (w : Fin cfg3.W) : (dat V n c).A w = V c (Proc.devRef .tc (Pipeline.arrRef spec3 w)) := by
  dsimp only [dat]

theorem after_0 (c : Dev nD) (t : Fin cfg3.N) : (dat V n c).after 0 t = iblk V c 0 t := by dsimp only [dat]
theorem after_1 (c : Dev nD) (t : Fin cfg3.N) : (dat V n c).after 1 t = iblk V c 1 t := by dsimp only [dat]
theorem after_2 (c : Dev nD) (t : Fin cfg3.N) : (dat V n c).after 2 t = out_2 (iblk V c 0 t) (iblk V c 1 t) := by dsimp only [dat]
theorem before_0 (c : Dev nD) (t : Fin cfg3.N) (d) : (dat V n c).before 0 t d = iblk V c 0 t :=
  before_0_of V (dat V n c) (A_eq V n c 0) (after_0 V n c) t d
theorem before_1 (c : Dev nD) (t : Fin cfg3.N) (d) : (dat V n c).before 1 t d = iblk V c 1 t :=
  before_1_of V (dat V n c) (A_eq V n c 1) (after_1 V n c) t d

/-- What the body is called with at point `t`, -/
def bodyPre (c : Dev nD) (t : Fin cfg3.N) : sProp 𝕄 :=
  iprop((dat V n c).Φ t.castSucc ∗ (dat V n c).owesAt none t.castSucc
    ∗ (∃ d, owns (c : Thread nD τ) (st3_0 t) fullShare ((dat V n c).before 0 t d))
    ∗ (∃ d, owns (c : Thread nD τ) (st3_1 t) fullShare ((dat V n c).before 1 t d))
    ∗ (∃ d, owns (c : Thread nD τ) (st3_2 t) fullShare ((dat V n c).before 2 t d)))

/-- and what it returns. -/
def bodyPost (c : Dev nD) (t : Fin cfg3.N) : sProp 𝕄 :=
  iprop((dat V n c).Φ t.succ ∗ (dat V n c).owesAt none t.succ
    ∗ owns (c : Thread nD τ) (st3_0 t) fullShare ((dat V n c).after 0 t)
    ∗ owns (c : Thread nD τ) (st3_1 t) fullShare ((dat V n c).after 1 t)
    ∗ owns (c : Thread nD τ) (st3_2 t) fullShare ((dat V n c).after 2 t))

set_option maxHeartbeats 2000000 in
theorem sound_body (c : Dev nD) (t : Fin cfg3.N) :
    bodyPre V n c t ⊢ wp frame (wpE (defs₀ (F := F)) Variants.none c none) Set.univ (bodyAt3 t) (fun _ => bodyPost V n c t) := by
  unfold bodyPre bodyPost bodyAt3
  simp only [before_0, before_1]
  rw [show (dat V n c).Φ t.succ = (dat V n c).Φ t.castSucc from rfl,
    show (dat V n c).owesAt none t.succ = (dat V n c).owesAt none t.castSucc from rfl,
    after_0, after_1, after_2]
  iintro ⟨HΦ, Ho, ⟨%d0, H0⟩, ⟨%d1, H1⟩, ⟨%d2, H2⟩⟩
  iapply (sound_kernel c Set.univ (grid3.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg3.N) :
    defs₀ (F := F) .tc cfg3.body (cfg3.bodyArgs t (cfg3.slots t)) = bodyAt3 t := by
  rfl

/-- The body obligation at every point. -/
theorem body_obligation (c : Dev nD) : BodyObligation (dat V n c) (defs₀ (F := F)) Variants.none none Set.univ := fun t => by
  rw [bigSep_W3, bigSep_W3, defs₀_row]
  exact triple_restated (sound_body V n c t) rfl .rfl fun _ => .rfl

theorem hbody (c : Dev nD) : BodyObligationLoose (dat V n c) (defs₀ (F := F)) Variants.none none Set.univ :=
  (body_obligation V n c).loose

end Cert.Work.Reg3

end
-- ==== Proof.Reg6.lean ====
/-
  The TensorCore call 6: what each window's buffer holds after the body at a grid point, the body's run, and the
  pipeline's proof data over any contents of the arrays, while the core still owes the sparse calls from `n` on.
-/
module

public import proofs.«01_k».proof.Proof.Setup
public import proofs.«01_k».proof.Proof.Gen.KernelIdeal.Launch
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.WordCmp

@[expose] public section

-- a store's rectangle is compared with its buffer coordinate by coordinate
set_option maxRecDepth 16384

noncomputable section

namespace Cert.Work.Reg6

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation BodyObligationLoose cellOf)

variable {F : FTy → Type} [FloatOps F]

local notation "𝕄" => MT nD τ sig (HIx 3) (Elt F) ℕ UU ℕ

variable (V : Dev nD → Valuation τ sig (Elt F)) (n : ℕ)

/-- Window `w`'s block at point `t`, read off its array. -/
def iblk (c : Dev nD) (w : Fin cfg6.W) (t : Fin cfg6.N) : ((cfg6.win w).xblock (cfg6.grid.coords t)).Idx → Elt F (cfg6.win w).elt :=
  ((cfg6.win w).blk t).view.read (Elt F) (V c (Proc.devRef .tc (Pipeline.arrRef spec6 w)))

/-- Input window 0's buffer holds its block at every point. -/
theorem before_0_of {c : Dev nD} (dat : Dat τ (Elt F) (HIx 3) ℕ UU ℕ cfg6 c) (hA : dat.A 0 = V c (Proc.devRef .tc (Pipeline.arrRef spec6 0)))
    (hafter : ∀ t, dat.after 0 t = iblk V c 0 t) (t : Fin cfg6.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's buffer holds its block at every point. -/
theorem before_1_of {c : Dev nD} (dat : Dat τ (Elt F) (HIx 3) ℕ UU ℕ cfg6 c) (hA : dat.A 1 = V c (Proc.devRef .tc (Pipeline.arrRef spec6 1)))
    (hafter : ∀ t, dat.after 1 t = iblk V c 1 t) (t : Fin cfg6.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's buffer holds its block at every point. -/
theorem before_2_of {c : Dev nD} (dat : Dat τ (Elt F) (HIx 3) ℕ UU ℕ cfg6 c) (hA : dat.A 2 = V c (Proc.devRef .tc (Pipeline.arrRef spec6 2)))
    (hafter : ∀ t, dat.after 2 t = iblk V c 2 t) (t : Fin cfg6.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's buffer holds its block at every point. -/
theorem before_3_of {c : Dev nD} (dat : Dat τ (Elt F) (HIx 3) ℕ UU ℕ cfg6 c) (hA : dat.A 3 = V c (Proc.devRef .tc (Pipeline.arrRef spec6 3)))
    (hafter : ∀ t, dat.after 3 t = iblk V c 3 t) (t : Fin cfg6.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's buffer holds its block at every point. -/
theorem before_4_of {c : Dev nD} (dat : Dat τ (Elt F) (HIx 3) ℕ UU ℕ cfg6 c) (hA : dat.A 4 = V c (Proc.devRef .tc (Pipeline.arrRef spec6 4)))
    (hafter : ∀ t, dat.after 4 t = iblk V c 4 t) (t : Fin cfg6.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's buffer holds its block at every point. -/
theorem before_5_of {c : Dev nD} (dat : Dat τ (Elt F) (HIx 3) ℕ UU ℕ cfg6 c) (hA : dat.A 5 = V c (Proc.devRef .tc (Pipeline.arrRef spec6 5)))
    (hafter : ∀ t, dat.after 5 t = iblk V c 5 t) (t : Fin cfg6.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's buffer holds its block at every point. -/
theorem before_6_of {c : Dev nD} (dat : Dat τ (Elt F) (HIx 3) ℕ UU ℕ cfg6 c) (hA : dat.A 6 = V c (Proc.devRef .tc (Pipeline.arrRef spec6 6)))
    (hafter : ∀ t, dat.after 6 t = iblk V c 6 t) (t : Fin cfg6.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's buffer holds its block at every point. -/
theorem before_7_of {c : Dev nD} (dat : Dat τ (Elt F) (HIx 3) ℕ UU ℕ cfg6 c) (hA : dat.A 7 = V c (Proc.devRef .tc (Pipeline.arrRef spec6 7)))
    (hafter : ∀ t, dat.after 7 t = iblk V c 7 t) (t : Fin cfg6.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's buffer holds its block at every point. -/
theorem before_8_of {c : Dev nD} (dat : Dat τ (Elt F) (HIx 3) ℕ UU ℕ cfg6 c) (hA : dat.A 8 = V c (Proc.devRef .tc (Pipeline.arrRef spec6 8)))
    (hafter : ∀ t, dat.after 8 t = iblk V c 8 t) (t : Fin cfg6.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's buffer holds its block at every point. -/
theorem before_9_of {c : Dev nD} (dat : Dat τ (Elt F) (HIx 3) ℕ UU ℕ cfg6 c) (hA : dat.A 9 = V c (Proc.devRef .tc (Pipeline.arrRef spec6 9)))
    (hafter : ∀ t, dat.after 9 t = iblk V c 9 t) (t : Fin cfg6.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's buffer holds its block at every point. -/
theorem before_10_of {c : Dev nD} (dat : Dat τ (Elt F) (HIx 3) ℕ UU ℕ cfg6 c) (hA : dat.A 10 = V c (Proc.devRef .tc (Pipeline.arrRef spec6 10)))
    (hafter : ∀ t, dat.after 10 t = iblk V c 10 t) (t : Fin cfg6.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's buffer holds its block at every point. -/
theorem before_11_of {c : Dev nD} (dat : Dat τ (Elt F) (HIx 3) ℕ UU ℕ cfg6 c) (hA : dat.A 11 = V c (Proc.devRef .tc (Pipeline.arrRef spec6 11)))
    (hafter : ∀ t, dat.after 11 t = iblk V c 11 t) (t : Fin cfg6.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's buffer holds its block at every point. -/
theorem before_12_of {c : Dev nD} (dat : Dat τ (Elt F) (HIx 3) ℕ UU ℕ cfg6 c) (hA : dat.A 12 = V c (Proc.devRef .tc (Pipeline.arrRef spec6 12)))
    (hafter : ∀ t, dat.after 12 t = iblk V c 12 t) (t : Fin cfg6.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input window 13's buffer holds its block at every point. -/
theorem before_13_of {c : Dev nD} (dat : Dat τ (Elt F) (HIx 3) ℕ UU ℕ cfg6 c) (hA : dat.A 13 = V c (Proc.devRef .tc (Pipeline.arrRef spec6 13)))
    (hafter : ∀ t, dat.after 13 t = iblk V c 13 t) (t : Fin cfg6.N) (d) : dat.before 13 t d = iblk V c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-- Input window 14's buffer holds its block at every point. -/
theorem before_14_of {c : Dev nD} (dat : Dat τ (Elt F) (HIx 3) ℕ UU ℕ cfg6 c) (hA : dat.A 14 = V c (Proc.devRef .tc (Pipeline.arrRef spec6 14)))
    (hafter : ∀ t, dat.after 14 t = iblk V c 14 t) (t : Fin cfg6.N) (d) : dat.before 14 t d = iblk V c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-- Input window 15's buffer holds its block at every point. -/
theorem before_15_of {c : Dev nD} (dat : Dat τ (Elt F) (HIx 3) ℕ UU ℕ cfg6 c) (hA : dat.A 15 = V c (Proc.devRef .tc (Pipeline.arrRef spec6 15)))
    (hafter : ∀ t, dat.after 15 t = iblk V c 15 t) (t : Fin cfg6.N) (d) : dat.before 15 t d = iblk V c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-- Input window 16's buffer holds its block at every point. -/
theorem before_16_of {c : Dev nD} (dat : Dat τ (Elt F) (HIx 3) ℕ UU ℕ cfg6 c) (hA : dat.A 16 = V c (Proc.devRef .tc (Pipeline.arrRef spec6 16)))
    (hafter : ∀ t, dat.after 16 t = iblk V c 16 t) (t : Fin cfg6.N) (d) : dat.before 16 t d = iblk V c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-- Input window 17's buffer holds its block at every point. -/
theorem before_17_of {c : Dev nD} (dat : Dat τ (Elt F) (HIx 3) ℕ UU ℕ cfg6 c) (hA : dat.A 17 = V c (Proc.devRef .tc (Pipeline.arrRef spec6 17)))
    (hafter : ∀ t, dat.after 17 t = iblk V c 17 t) (t : Fin cfg6.N) (d) : dat.before 17 t d = iblk V c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-- Input window 18's buffer holds its block at every point. -/
theorem before_18_of {c : Dev nD} (dat : Dat τ (Elt F) (HIx 3) ℕ UU ℕ cfg6 c) (hA : dat.A 18 = V c (Proc.devRef .tc (Pipeline.arrRef spec6 18)))
    (hafter : ∀ t, dat.after 18 t = iblk V c 18 t) (t : Fin cfg6.N) (d) : dat.before 18 t d = iblk V c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)

/-- Input window 19's buffer holds its block at every point. -/
theorem before_19_of {c : Dev nD} (dat : Dat τ (Elt F) (HIx 3) ℕ UU ℕ cfg6 c) (hA : dat.A 19 = V c (Proc.devRef .tc (Pipeline.arrRef spec6 19)))
    (hafter : ∀ t, dat.after 19 t = iblk V c 19 t) (t : Fin cfg6.N) (d) : dat.before 19 t d = iblk V c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)

abbrev r_0 : Rect S1x16x128x16 := Rect.unit (s := S1x16x128x16) ![0, 0, 0, 0] S1x16x128x16.size inb_S1x16x128x16_S1x16x128x16_0_0_0_0
abbrev r_1 : Rect S1x128x128x16 := Rect.unit (s := S1x128x128x16) ![0, 0, 0, 0] S1x128x128x16.size inb_S1x128x128x16_S1x128x128x16_0_0_0_0
abbrev r_2 : Rect S1x128x128 := Rect.unit (s := S1x128x128) ![0, 0, 0] S1x128x128.size inb_S1x128x128_S1x128x128_0_0_0
abbrev r_3 : Rect S1x3x128 := Rect.unit (s := S1x3x128) ![0, 0, 0] S1x3x128.size inb_S1x3x128_S1x3x128_0_0_0
abbrev r_4 : Rect S256x131 := Rect.unit (s := S256x131) ![0, 0] S256x131.size inb_S256x131_S256x131_0_0
abbrev r_5 : Rect S256 := Rect.unit (s := S256) ![0] S256.size inb_S256_S256_0
abbrev r_6 : Rect S256x256 := Rect.unit (s := S256x256) ![0, 0] S256x256.size inb_S256x256_S256x256_0_0
abbrev r_7 : Rect S256 := Rect.unit (s := S256) ![0] S256.size inb_S256_S256_0
abbrev r_8 : Rect S256x256 := Rect.unit (s := S256x256) ![0, 0] S256x256.size inb_S256x256_S256x256_0_0
abbrev r_9 : Rect S256 := Rect.unit (s := S256) ![0] S256.size inb_S256_S256_0
abbrev r_10 : Rect S512x512 := Rect.unit (s := S512x512) ![0, 0] S512x512.size inb_S512x512_S512x512_0_0
abbrev r_11 : Rect S512 := Rect.unit (s := S512) ![0] S512.size inb_S512_S512_0
abbrev r_12 : Rect S512x512 := Rect.unit (s := S512x512) ![0, 0] S512x512.size inb_S512x512_S512x512_0_0
abbrev r_13 : Rect S512 := Rect.unit (s := S512) ![0] S512.size inb_S512_S512_0
abbrev r_14 : Rect S512x640 := Rect.unit (s := S512x640) ![0, 0] S512x640.size inb_S512x640_S512x640_0_0
abbrev r_15 : Rect S512 := Rect.unit (s := S512) ![0] S512.size inb_S512_S512_0
abbrev r_16 : Rect S256x512 := Rect.unit (s := S256x512) ![0, 0] S256x512.size inb_S256x512_S256x512_0_0
abbrev r_17 : Rect S256 := Rect.unit (s := S256) ![0] S256.size inb_S256_S256_0
abbrev r_18 : Rect S4x256 := Rect.unit (s := S4x256) ![0, 0] S4x256.size inb_S4x256_S4x256_0_0
abbrev r_19 : Rect S4 := Rect.unit (s := S4) ![0] S4.size inb_S4_S4_0
abbrev r_20 : Rect S1x3x128 := Rect.unit (s := S1x3x128) ![0, 0, 0] S1x3x128.size inb_S1x3x128_S1x3x128_0_0_0
abbrev r_21 : Rect S1x1x128 := Rect.unit (s := S1x1x128) ![0, 0, 0] S1x1x128.size inb_S1x1x128_S1x1x128_0_0_0

/-- Window 20's buffer after the body, from the input windows' blocks. -/
def out_20 (x0 : Vec F S1x16x128x16 .f32) (x1 : Vec F S1x128x128x16 .f32) (x2 : Vec F S1x128x128 .f32) (x3 : Vec F S1x3x128 .f32) (x4 : Vec F S256x131 .f32) (x5 : Vec F S256 .f32) (x6 : Vec F S256x256 .f32) (x7 : Vec F S256 .f32) (x8 : Vec F S256x256 .f32) (x9 : Vec F S256 .f32) (x10 : Vec F S512x512 .f32) (x11 : Vec F S512 .f32) (x12 : Vec F S512x512 .f32) (x13 : Vec F S512 .f32) (x14 : Vec F S512x640 .f32) (x15 : Vec F S512 .f32) (x16 : Vec F S256x512 .f32) (x17 : Vec F S256 .f32) (x18 : Vec F S4x256 .f32) (x19 : Vec F S4 .f32) : Vec F S1x3x128 .f32 :=
  View.canon [⟨r_20, k6_pay6 (k6_pay3 (k6_pay1 (View.ld x3 r_3) (View.ld x0 r_0) (View.ld x1 r_1) (View.ld x4 r_4) (View.ld x5 r_5) (View.ld x6 r_6) (View.ld x7 r_7) (View.ld x8 r_8)) (k6_pay2 (View.ld x9 r_9)) (View.ld x10 r_10) (View.ld x11 r_11) (View.ld x12 r_12) (View.ld x13 r_13) (View.ld x2 r_2) (View.ld x14 r_14) (View.ld x15 r_15)) (k6_pay4 (F := F)) (View.ld x16 r_16) (View.ld x17 r_17) (View.ld x18 r_18) (View.ld x19 r_19) (View.ld x3 r_3)⟩]

theorem cover_20 (p0 : Vec F S1x3x128 .f32) (y : S1x3x128.Idx) :
    ∃ pc ∈ ([⟨r_20, p0⟩] : List (View.Piece (Elt F) S1x3x128 .f32)), y ∈ pc.1.set :=
  View.cover_of_tiled [⟨r_20, p0⟩] S1x3x128.size (by rfl) y

/-- Window 21's buffer after the body, from the input windows' blocks. -/
def out_21 (x0 : Vec F S1x16x128x16 .f32) (x1 : Vec F S1x128x128x16 .f32) (x2 : Vec F S1x128x128 .f32) (x3 : Vec F S1x3x128 .f32) (x4 : Vec F S256x131 .f32) (x5 : Vec F S256 .f32) (x6 : Vec F S256x256 .f32) (x7 : Vec F S256 .f32) (x8 : Vec F S256x256 .f32) (x9 : Vec F S256 .f32) (x10 : Vec F S512x512 .f32) (x11 : Vec F S512 .f32) (x12 : Vec F S512x512 .f32) (x13 : Vec F S512 .f32) (x14 : Vec F S512x640 .f32) (x15 : Vec F S512 .f32) (x16 : Vec F S256x512 .f32) (x17 : Vec F S256 .f32) (x18 : Vec F S4x256 .f32) (x19 : Vec F S4 .f32) : Vec F S1x1x128 .f32 :=
  View.canon [⟨r_21, k6_pay7 (k6_pay3 (k6_pay1 (View.ld x3 r_3) (View.ld x0 r_0) (View.ld x1 r_1) (View.ld x4 r_4) (View.ld x5 r_5) (View.ld x6 r_6) (View.ld x7 r_7) (View.ld x8 r_8)) (k6_pay2 (View.ld x9 r_9)) (View.ld x10 r_10) (View.ld x11 r_11) (View.ld x12 r_12) (View.ld x13 r_13) (View.ld x2 r_2) (View.ld x14 r_14) (View.ld x15 r_15)) (k6_pay4 (F := F)) (View.ld x16 r_16) (View.ld x17 r_17) (View.ld x18 r_18) (View.ld x19 r_19)⟩]

theorem cover_21 (p0 : Vec F S1x1x128 .f32) (y : S1x1x128.Idx) :
    ∃ pc ∈ ([⟨r_21, p0⟩] : List (View.Piece (Elt F) S1x1x128 .f32)), y ∈ pc.1.set :=
  View.cover_of_tiled [⟨r_21, p0⟩] S1x1x128.size (by rfl) y

set_option maxHeartbeats 8000000 in
/-- The body's run on whole buffers: the inputs as they were, each output at `out_w` of the inputs. -/
theorem sound_kernel (c : Dev nD) (E : Set ℕ) (i : grid6.Coords) (arg2 : Memref sig .tc .vmem S1x16x128x16 .f32) (harg2 : arg2.IsWhole) (arg3 : Memref sig .tc .vmem S1x128x128x16 .f32) (harg3 : arg3.IsWhole) (arg4 : Memref sig .tc .vmem S1x128x128 .f32) (harg4 : arg4.IsWhole) (arg5 : Memref sig .tc .vmem S1x3x128 .f32) (harg5 : arg5.IsWhole) (arg6 : Memref sig .tc .vmem S256x131 .f32) (harg6 : arg6.IsWhole) (arg7 : Memref sig .tc .vmem S256 .f32) (harg7 : arg7.IsWhole) (arg8 : Memref sig .tc .vmem S256x256 .f32) (harg8 : arg8.IsWhole) (arg9 : Memref sig .tc .vmem S256 .f32) (harg9 : arg9.IsWhole) (arg10 : Memref sig .tc .vmem S256x256 .f32) (harg10 : arg10.IsWhole) (arg11 : Memref sig .tc .vmem S256 .f32) (harg11 : arg11.IsWhole) (arg12 : Memref sig .tc .vmem S512x512 .f32) (harg12 : arg12.IsWhole) (arg13 : Memref sig .tc .vmem S512 .f32) (harg13 : arg13.IsWhole) (arg14 : Memref sig .tc .vmem S512x512 .f32) (harg14 : arg14.IsWhole) (arg15 : Memref sig .tc .vmem S512 .f32) (harg15 : arg15.IsWhole) (arg16 : Memref sig .tc .vmem S512x640 .f32) (harg16 : arg16.IsWhole) (arg17 : Memref sig .tc .vmem S512 .f32) (harg17 : arg17.IsWhole) (arg18 : Memref sig .tc .vmem S256x512 .f32) (harg18 : arg18.IsWhole) (arg19 : Memref sig .tc .vmem S256 .f32) (harg19 : arg19.IsWhole) (arg20 : Memref sig .tc .vmem S4x256 .f32) (harg20 : arg20.IsWhole) (arg21 : Memref sig .tc .vmem S4 .f32) (harg21 : arg21.IsWhole) (arg22 : Memref sig .tc .vmem S1x3x128 .f32) (harg22 : arg22.IsWhole) (arg23 : Memref sig .tc .vmem S1x1x128 .f32) (harg23 : arg23.IsWhole)
    (x0 : Vec F S1x16x128x16 .f32) (x1 : Vec F S1x128x128x16 .f32) (x2 : Vec F S1x128x128 .f32) (x3 : Vec F S1x3x128 .f32) (x4 : Vec F S256x131 .f32) (x5 : Vec F S256 .f32) (x6 : Vec F S256x256 .f32) (x7 : Vec F S256 .f32) (x8 : Vec F S256x256 .f32) (x9 : Vec F S256 .f32) (x10 : Vec F S512x512 .f32) (x11 : Vec F S512 .f32) (x12 : Vec F S512x512 .f32) (x13 : Vec F S512 .f32) (x14 : Vec F S512x640 .f32) (x15 : Vec F S512 .f32) (x16 : Vec F S256x512 .f32) (x17 : Vec F S256 .f32) (x18 : Vec F S4x256 .f32) (x19 : Vec F S4 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ d, owns (c : Thread nD τ) arg22 fullShare d) ∗ (∃ d, owns (c : Thread nD τ) arg23 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare (out_20 x0 x1 x2 x3 x4 x5 x6 x7 x8 x9 x10 x11 x12 x13 x14 x15 x16 x17 x18 x19) ∗ owns (c : Thread nD τ) arg23 fullShare (out_21 x0 x1 x2 x3 x4 x5 x6 x7 x8 x9 x10 x11 x12 x13 x14 x15 x16 x17 x18 x19)) -∗ K ⟨⟩))
      ⊢ wp frame (wpE (defs₀ (F := F)) Variants.none c none) E (cc6__stack2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc6__stack2_body_eq_skeleton]; unfold cc6__stack2_body_skel
  simp only [k6_part1_eq_skeleton, k6_part2_eq_skeleton, k6_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, Hk⟩
  subst hf0 hf1 hf2 hf3 hf4 hf5 hf6 hf7 hf8 hf9 hf10 hf11 hf12 hf13 hf14 hf15 hf16 hf17 hf18 hf19
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _; isplitr
    swap; · iexact H20
    ipureintro
    exact View.read_writes_eq_canon _ _ _ (cover_20 _)
  iexists _; isplitr
  swap; · iexact H21
  ipureintro
  exact View.read_writes_eq_canon _ _ _ (cover_21 _)

/-- The proof data: the arrays at `V`; after the body each input's buffer at its block, each output's at `out_w` of
    the blocks; the scoped rest kept; the core owing the sparse calls from `n` on. -/
def dat (c : Dev nD) : Dat τ (Elt F) (HIx 3) ℕ UU ℕ cfg6 c where
  A w := V c (Proc.devRef .tc (Pipeline.arrRef spec6 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => iblk V c 16 t
    | ⟨17, _⟩ => iblk V c 17 t
    | ⟨18, _⟩ => iblk V c 18 t
    | ⟨19, _⟩ => iblk V c 19 t
    | ⟨20, _⟩ => out_20 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t) (iblk V c 18 t) (iblk V c 19 t)
    | ⟨21, _⟩ => out_21 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t) (iblk V c 18 t) (iblk V c 19 t)
    | ⟨_ + 22, h⟩ => absurd h (Nat.not_lt.2 (Nat.le_add_left _ _))
  Φ _ := Pipeline.scopedRest spec6 c
  q w := Pipeline.shareOf spec6 w
  owed _ := (K (F := F)).Otc c n
  recorded _ := {p | (K (F := F)).lev ((c : Thread nD τ), p.1) p.2 ≤ 8 * n}

theorem A_eq (c : Dev nD) (w : Fin cfg6.W) : (dat V n c).A w = V c (Proc.devRef .tc (Pipeline.arrRef spec6 w)) := by
  dsimp only [dat]

theorem after_0 (c : Dev nD) (t : Fin cfg6.N) : (dat V n c).after 0 t = iblk V c 0 t := by dsimp only [dat]
theorem after_1 (c : Dev nD) (t : Fin cfg6.N) : (dat V n c).after 1 t = iblk V c 1 t := by dsimp only [dat]
theorem after_2 (c : Dev nD) (t : Fin cfg6.N) : (dat V n c).after 2 t = iblk V c 2 t := by dsimp only [dat]
theorem after_3 (c : Dev nD) (t : Fin cfg6.N) : (dat V n c).after 3 t = iblk V c 3 t := by dsimp only [dat]
theorem after_4 (c : Dev nD) (t : Fin cfg6.N) : (dat V n c).after 4 t = iblk V c 4 t := by dsimp only [dat]
theorem after_5 (c : Dev nD) (t : Fin cfg6.N) : (dat V n c).after 5 t = iblk V c 5 t := by dsimp only [dat]
theorem after_6 (c : Dev nD) (t : Fin cfg6.N) : (dat V n c).after 6 t = iblk V c 6 t := by dsimp only [dat]
theorem after_7 (c : Dev nD) (t : Fin cfg6.N) : (dat V n c).after 7 t = iblk V c 7 t := by dsimp only [dat]
theorem after_8 (c : Dev nD) (t : Fin cfg6.N) : (dat V n c).after 8 t = iblk V c 8 t := by dsimp only [dat]
theorem after_9 (c : Dev nD) (t : Fin cfg6.N) : (dat V n c).after 9 t = iblk V c 9 t := by dsimp only [dat]
theorem after_10 (c : Dev nD) (t : Fin cfg6.N) : (dat V n c).after 10 t = iblk V c 10 t := by dsimp only [dat]
theorem after_11 (c : Dev nD) (t : Fin cfg6.N) : (dat V n c).after 11 t = iblk V c 11 t := by dsimp only [dat]
theorem after_12 (c : Dev nD) (t : Fin cfg6.N) : (dat V n c).after 12 t = iblk V c 12 t := by dsimp only [dat]
theorem after_13 (c : Dev nD) (t : Fin cfg6.N) : (dat V n c).after 13 t = iblk V c 13 t := by dsimp only [dat]
theorem after_14 (c : Dev nD) (t : Fin cfg6.N) : (dat V n c).after 14 t = iblk V c 14 t := by dsimp only [dat]
theorem after_15 (c : Dev nD) (t : Fin cfg6.N) : (dat V n c).after 15 t = iblk V c 15 t := by dsimp only [dat]
theorem after_16 (c : Dev nD) (t : Fin cfg6.N) : (dat V n c).after 16 t = iblk V c 16 t := by dsimp only [dat]
theorem after_17 (c : Dev nD) (t : Fin cfg6.N) : (dat V n c).after 17 t = iblk V c 17 t := by dsimp only [dat]
theorem after_18 (c : Dev nD) (t : Fin cfg6.N) : (dat V n c).after 18 t = iblk V c 18 t := by dsimp only [dat]
theorem after_19 (c : Dev nD) (t : Fin cfg6.N) : (dat V n c).after 19 t = iblk V c 19 t := by dsimp only [dat]
theorem after_20 (c : Dev nD) (t : Fin cfg6.N) : (dat V n c).after 20 t = out_20 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t) (iblk V c 18 t) (iblk V c 19 t) := by dsimp only [dat]
theorem after_21 (c : Dev nD) (t : Fin cfg6.N) : (dat V n c).after 21 t = out_21 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t) (iblk V c 18 t) (iblk V c 19 t) := by dsimp only [dat]
theorem before_0 (c : Dev nD) (t : Fin cfg6.N) (d) : (dat V n c).before 0 t d = iblk V c 0 t :=
  before_0_of V (dat V n c) (A_eq V n c 0) (after_0 V n c) t d
theorem before_1 (c : Dev nD) (t : Fin cfg6.N) (d) : (dat V n c).before 1 t d = iblk V c 1 t :=
  before_1_of V (dat V n c) (A_eq V n c 1) (after_1 V n c) t d
theorem before_2 (c : Dev nD) (t : Fin cfg6.N) (d) : (dat V n c).before 2 t d = iblk V c 2 t :=
  before_2_of V (dat V n c) (A_eq V n c 2) (after_2 V n c) t d
theorem before_3 (c : Dev nD) (t : Fin cfg6.N) (d) : (dat V n c).before 3 t d = iblk V c 3 t :=
  before_3_of V (dat V n c) (A_eq V n c 3) (after_3 V n c) t d
theorem before_4 (c : Dev nD) (t : Fin cfg6.N) (d) : (dat V n c).before 4 t d = iblk V c 4 t :=
  before_4_of V (dat V n c) (A_eq V n c 4) (after_4 V n c) t d
theorem before_5 (c : Dev nD) (t : Fin cfg6.N) (d) : (dat V n c).before 5 t d = iblk V c 5 t :=
  before_5_of V (dat V n c) (A_eq V n c 5) (after_5 V n c) t d
theorem before_6 (c : Dev nD) (t : Fin cfg6.N) (d) : (dat V n c).before 6 t d = iblk V c 6 t :=
  before_6_of V (dat V n c) (A_eq V n c 6) (after_6 V n c) t d
theorem before_7 (c : Dev nD) (t : Fin cfg6.N) (d) : (dat V n c).before 7 t d = iblk V c 7 t :=
  before_7_of V (dat V n c) (A_eq V n c 7) (after_7 V n c) t d
theorem before_8 (c : Dev nD) (t : Fin cfg6.N) (d) : (dat V n c).before 8 t d = iblk V c 8 t :=
  before_8_of V (dat V n c) (A_eq V n c 8) (after_8 V n c) t d
theorem before_9 (c : Dev nD) (t : Fin cfg6.N) (d) : (dat V n c).before 9 t d = iblk V c 9 t :=
  before_9_of V (dat V n c) (A_eq V n c 9) (after_9 V n c) t d
theorem before_10 (c : Dev nD) (t : Fin cfg6.N) (d) : (dat V n c).before 10 t d = iblk V c 10 t :=
  before_10_of V (dat V n c) (A_eq V n c 10) (after_10 V n c) t d
theorem before_11 (c : Dev nD) (t : Fin cfg6.N) (d) : (dat V n c).before 11 t d = iblk V c 11 t :=
  before_11_of V (dat V n c) (A_eq V n c 11) (after_11 V n c) t d
theorem before_12 (c : Dev nD) (t : Fin cfg6.N) (d) : (dat V n c).before 12 t d = iblk V c 12 t :=
  before_12_of V (dat V n c) (A_eq V n c 12) (after_12 V n c) t d
theorem before_13 (c : Dev nD) (t : Fin cfg6.N) (d) : (dat V n c).before 13 t d = iblk V c 13 t :=
  before_13_of V (dat V n c) (A_eq V n c 13) (after_13 V n c) t d
theorem before_14 (c : Dev nD) (t : Fin cfg6.N) (d) : (dat V n c).before 14 t d = iblk V c 14 t :=
  before_14_of V (dat V n c) (A_eq V n c 14) (after_14 V n c) t d
theorem before_15 (c : Dev nD) (t : Fin cfg6.N) (d) : (dat V n c).before 15 t d = iblk V c 15 t :=
  before_15_of V (dat V n c) (A_eq V n c 15) (after_15 V n c) t d
theorem before_16 (c : Dev nD) (t : Fin cfg6.N) (d) : (dat V n c).before 16 t d = iblk V c 16 t :=
  before_16_of V (dat V n c) (A_eq V n c 16) (after_16 V n c) t d
theorem before_17 (c : Dev nD) (t : Fin cfg6.N) (d) : (dat V n c).before 17 t d = iblk V c 17 t :=
  before_17_of V (dat V n c) (A_eq V n c 17) (after_17 V n c) t d
theorem before_18 (c : Dev nD) (t : Fin cfg6.N) (d) : (dat V n c).before 18 t d = iblk V c 18 t :=
  before_18_of V (dat V n c) (A_eq V n c 18) (after_18 V n c) t d
theorem before_19 (c : Dev nD) (t : Fin cfg6.N) (d) : (dat V n c).before 19 t d = iblk V c 19 t :=
  before_19_of V (dat V n c) (A_eq V n c 19) (after_19 V n c) t d

/-- What the body is called with at point `t`, -/
def bodyPre (c : Dev nD) (t : Fin cfg6.N) : sProp 𝕄 :=
  iprop((dat V n c).Φ t.castSucc ∗ (dat V n c).owesAt none t.castSucc
    ∗ (∃ d, owns (c : Thread nD τ) (st6_0 t) fullShare ((dat V n c).before 0 t d))
    ∗ (∃ d, owns (c : Thread nD τ) (st6_1 t) fullShare ((dat V n c).before 1 t d))
    ∗ (∃ d, owns (c : Thread nD τ) (st6_2 t) fullShare ((dat V n c).before 2 t d))
    ∗ (∃ d, owns (c : Thread nD τ) (st6_3 t) fullShare ((dat V n c).before 3 t d))
    ∗ (∃ d, owns (c : Thread nD τ) (st6_4 t) fullShare ((dat V n c).before 4 t d))
    ∗ (∃ d, owns (c : Thread nD τ) (st6_5 t) fullShare ((dat V n c).before 5 t d))
    ∗ (∃ d, owns (c : Thread nD τ) (st6_6 t) fullShare ((dat V n c).before 6 t d))
    ∗ (∃ d, owns (c : Thread nD τ) (st6_7 t) fullShare ((dat V n c).before 7 t d))
    ∗ (∃ d, owns (c : Thread nD τ) (st6_8 t) fullShare ((dat V n c).before 8 t d))
    ∗ (∃ d, owns (c : Thread nD τ) (st6_9 t) fullShare ((dat V n c).before 9 t d))
    ∗ (∃ d, owns (c : Thread nD τ) (st6_10 t) fullShare ((dat V n c).before 10 t d))
    ∗ (∃ d, owns (c : Thread nD τ) (st6_11 t) fullShare ((dat V n c).before 11 t d))
    ∗ (∃ d, owns (c : Thread nD τ) (st6_12 t) fullShare ((dat V n c).before 12 t d))
    ∗ (∃ d, owns (c : Thread nD τ) (st6_13 t) fullShare ((dat V n c).before 13 t d))
    ∗ (∃ d, owns (c : Thread nD τ) (st6_14 t) fullShare ((dat V n c).before 14 t d))
    ∗ (∃ d, owns (c : Thread nD τ) (st6_15 t) fullShare ((dat V n c).before 15 t d))
    ∗ (∃ d, owns (c : Thread nD τ) (st6_16 t) fullShare ((dat V n c).before 16 t d))
    ∗ (∃ d, owns (c : Thread nD τ) (st6_17 t) fullShare ((dat V n c).before 17 t d))
    ∗ (∃ d, owns (c : Thread nD τ) (st6_18 t) fullShare ((dat V n c).before 18 t d))
    ∗ (∃ d, owns (c : Thread nD τ) (st6_19 t) fullShare ((dat V n c).before 19 t d))
    ∗ (∃ d, owns (c : Thread nD τ) (st6_20 t) fullShare ((dat V n c).before 20 t d))
    ∗ (∃ d, owns (c : Thread nD τ) (st6_21 t) fullShare ((dat V n c).before 21 t d)))

/-- and what it returns. -/
def bodyPost (c : Dev nD) (t : Fin cfg6.N) : sProp 𝕄 :=
  iprop((dat V n c).Φ t.succ ∗ (dat V n c).owesAt none t.succ
    ∗ owns (c : Thread nD τ) (st6_0 t) fullShare ((dat V n c).after 0 t)
    ∗ owns (c : Thread nD τ) (st6_1 t) fullShare ((dat V n c).after 1 t)
    ∗ owns (c : Thread nD τ) (st6_2 t) fullShare ((dat V n c).after 2 t)
    ∗ owns (c : Thread nD τ) (st6_3 t) fullShare ((dat V n c).after 3 t)
    ∗ owns (c : Thread nD τ) (st6_4 t) fullShare ((dat V n c).after 4 t)
    ∗ owns (c : Thread nD τ) (st6_5 t) fullShare ((dat V n c).after 5 t)
    ∗ owns (c : Thread nD τ) (st6_6 t) fullShare ((dat V n c).after 6 t)
    ∗ owns (c : Thread nD τ) (st6_7 t) fullShare ((dat V n c).after 7 t)
    ∗ owns (c : Thread nD τ) (st6_8 t) fullShare ((dat V n c).after 8 t)
    ∗ owns (c : Thread nD τ) (st6_9 t) fullShare ((dat V n c).after 9 t)
    ∗ owns (c : Thread nD τ) (st6_10 t) fullShare ((dat V n c).after 10 t)
    ∗ owns (c : Thread nD τ) (st6_11 t) fullShare ((dat V n c).after 11 t)
    ∗ owns (c : Thread nD τ) (st6_12 t) fullShare ((dat V n c).after 12 t)
    ∗ owns (c : Thread nD τ) (st6_13 t) fullShare ((dat V n c).after 13 t)
    ∗ owns (c : Thread nD τ) (st6_14 t) fullShare ((dat V n c).after 14 t)
    ∗ owns (c : Thread nD τ) (st6_15 t) fullShare ((dat V n c).after 15 t)
    ∗ owns (c : Thread nD τ) (st6_16 t) fullShare ((dat V n c).after 16 t)
    ∗ owns (c : Thread nD τ) (st6_17 t) fullShare ((dat V n c).after 17 t)
    ∗ owns (c : Thread nD τ) (st6_18 t) fullShare ((dat V n c).after 18 t)
    ∗ owns (c : Thread nD τ) (st6_19 t) fullShare ((dat V n c).after 19 t)
    ∗ owns (c : Thread nD τ) (st6_20 t) fullShare ((dat V n c).after 20 t)
    ∗ owns (c : Thread nD τ) (st6_21 t) fullShare ((dat V n c).after 21 t))

set_option maxHeartbeats 2000000 in
theorem sound_body (c : Dev nD) (t : Fin cfg6.N) :
    bodyPre V n c t ⊢ wp frame (wpE (defs₀ (F := F)) Variants.none c none) Set.univ (bodyAt6 t) (fun _ => bodyPost V n c t) := by
  unfold bodyPre bodyPost bodyAt6
  simp only [before_0, before_1, before_2, before_3, before_4, before_5, before_6, before_7, before_8, before_9, before_10, before_11, before_12, before_13, before_14, before_15, before_16, before_17, before_18, before_19]
  rw [show (dat V n c).Φ t.succ = (dat V n c).Φ t.castSucc from rfl,
    show (dat V n c).owesAt none t.succ = (dat V n c).owesAt none t.castSucc from rfl,
    after_0, after_1, after_2, after_3, after_4, after_5, after_6, after_7, after_8, after_9, after_10, after_11, after_12, after_13, after_14, after_15, after_16, after_17, after_18, after_19, after_20, after_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel c Set.univ (grid6.coords t) _ _ _ _ _ _ _ _ _ _ _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) (iblk V c 16 t) (iblk V c 17 t) (iblk V c 18 t) (iblk V c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem defs₀_row (t : Fin cfg6.N) :
    defs₀ (F := F) .tc cfg6.body (cfg6.bodyArgs t (cfg6.slots t)) = bodyAt6 t := by
  rfl

set_option maxHeartbeats 4000000 in
/-- The body obligation at every point. -/
theorem body_obligation (c : Dev nD) : BodyObligation (dat V n c) (defs₀ (F := F)) Variants.none none Set.univ := fun t => by
  rw [bigSep_W6, bigSep_W6, defs₀_row]
  exact triple_restated (sound_body V n c t) rfl .rfl fun _ => .rfl

theorem hbody (c : Dev nD) : BodyObligationLoose (dat V n c) (defs₀ (F := F)) Variants.none none Set.univ :=
  (body_obligation V n c).loose

end Cert.Work.Reg6

end
-- ==== Proof.Vals.lean ====
/-
  What every buffer holds at each point of @main, and that the row numbers the sparse calls read stay inside their
  tables.
-/
module

public import proofs.«01_k».proof.Proof.Ops
public import proofs.«01_k».proof.Proof.Calls
public import proofs.«01_k».proof.Proof.Reg0
public import proofs.«01_k».proof.Proof.Reg2
public import proofs.«01_k».proof.Proof.Reg3
public import proofs.«01_k».proof.Proof.Reg6

@[expose] public section

set_option maxRecDepth 16384

noncomputable section

namespace Cert.Work

open Cert.KernelIdeal Cert.KernelIdeal.Gen

open Idealize.ShloMosaic Idealize.ShloMosaic.TcCoe Idealize.ShloMosaic.Tactic
open Idealize.ShloMosaic.StableHlo

variable {F : FTy → Type} [FloatOps F]

/-- A position the greatest-`k` selection returns is a position on its axis. -/
theorem topK_idx {α : Type} {s : Shape} (t : Shape) (d : ℕ) (hd : d < s.rank) (gt : α → α → BitVec 1) (x : s.Idx → α) (h : s.Slices (fun _ => 0) t)
    (j : t.Idx) : ∃ k : Fin (s.size ⟨d, hd⟩), (Host.topK t d gt x h).2 j = BitVec.ofNat 32 k.val := by
  unfold Host.topK Host.sort2
  simp only [dif_pos hd]
  unfold extractStridedSlice
  simp only [iotaInDim, Shape.Idx.along, Function.update_self]
  exact ⟨_, rfl⟩

theorem bias_lt (k b m c : ℕ) (hk : k < m) (hb : b < 4) (hm : m * 4 ≤ 65536) (hc : c = m) :
    (BitVec.ofNat 32 k + BitVec.ofNat 32 b * BitVec.ofNat 32 c).toNat < 4 * m := by
  subst hc
  have h1 : b * c ≤ 3 * c := Nat.mul_le_mul_right c (by omega)
  rw [BitVec.toNat_add, BitVec.toNat_mul, BitVec.toNat_ofNat, BitVec.toNat_ofNat, BitVec.toNat_ofNat]
  rw [Nat.mod_eq_of_lt (a := k) (by omega), Nat.mod_eq_of_lt (a := b) (by omega), Nat.mod_eq_of_lt (a := c) (by omega),
    Nat.mod_eq_of_lt (a := b * c) (by omega), Nat.mod_eq_of_lt (by omega)]
  omega

/-! ## The first call's rows -/

def bias1 : S4x512x64.Idx → BitVec 32 :=
  broadcastInDim S4x512x64 ![0, 1, 2] bcast_S4x1x1_S4x512x64_0_1_2 (broadcastInDim S4x1x1 ![0] bcast_S4_S4x1x1_0
    (muli (iotaInDim S4 32 0) (broadcastInDim S4 ![] bcast_S_S4 (constantI S_ 32 16384#32))))

def ix1Of (x : S4x512x16384.Idx → F .f32) : S131072.Idx → BitVec 32 :=
  shapeCast S131072 (addi (Host.topK S4x512x64 2 (FloatOps.cmpfTotal .gt) (Host.negf x : FVec F S4x512x16384 .f32) sliceFits_S4x512x16384_S4x512x64).2 bias1)
    shapeCasts_S4x512x64_S131072

theorem ops1_v13 (V : Valuation τ sig (Elt F)) :
    after (ops1 (F := F)) V (Proc.devRef .tc main_v13) = ix1Of (V (Proc.devRef .tc main_v0)) := by
  unfold ops1 ix1Of bias1
  after_results
  rfl

theorem ix1Of_lt (x : S4x512x16384.Idx → F .f32) (j) : (ix1Of x j).toNat < 65536 := by
  unfold ix1Of shapeCast
  generalize Shape.reshapeEquiv shapeCasts_S4x512x64_S131072 j = i
  obtain ⟨k, hk⟩ := topK_idx S4x512x64 2 (by decide) (FloatOps.cmpfTotal .gt) (Host.negf x : FVec F S4x512x16384 .f32) sliceFits_S4x512x16384_S4x512x64 i
  unfold addi
  rw [hk]
  exact bias_lt k.val _ 16384 16384 k.isLt (i 0).isLt (by omega) rfl

/-! ## The rows of the two later calls -/

def bias3 : S4x512x16.Idx → BitVec 32 :=
  broadcastInDim S4x512x16 ![0, 1, 2] bcast_S4x1x1_S4x512x16_0_1_2 (broadcastInDim S4x1x1 ![0] bcast_S4_S4x1x1_0
    (muli (iotaInDim S4 32 0) (broadcastInDim S4 ![] bcast_S_S4 (constantI S_ 32 512#32))))

def ix3Of (x : S4x512x512.Idx → F .f32) : S32768.Idx → BitVec 32 :=
  shapeCast S32768 (addi (Host.topK S4x512x16 2 (FloatOps.cmpfTotal .gt) (Host.negf x : FVec F S4x512x512 .f32) sliceFits_S4x512x512_S4x512x16).2 bias3)
    shapeCasts_S4x512x16_S32768

theorem ops3_v27 (V : Valuation τ sig (Elt F)) :
    after (ops3 (F := F)) V (Proc.devRef .tc main_v27) = ix3Of (V (Proc.devRef .tc main_v19)) := by
  unfold ops3 ix3Of bias3
  after_results
  rfl

theorem ix3Of_lt (x : S4x512x512.Idx → F .f32) (j) : (ix3Of x j).toNat < 2048 := by
  unfold ix3Of shapeCast
  generalize Shape.reshapeEquiv shapeCasts_S4x512x16_S32768 j = i
  obtain ⟨k, hk⟩ := topK_idx S4x512x16 2 (by decide) (FloatOps.cmpfTotal .gt) (Host.negf x : FVec F S4x512x512 .f32) sliceFits_S4x512x512_S4x512x16 i
  unfold addi
  rw [hk]
  exact bias_lt k.val _ 512 512 k.isLt (i 0).isLt (by omega) rfl

/-! ## The contents at each point -/

abbrev Vals (F : FTy → Type) := Dev nD → Valuation τ sig (Elt F)

/-- The four pipelined calls' data when each reads its arrays from `V`. -/
def pdA (V : Vals F) (n : ℕ) : PD F := fun p => match p with
  | 0 => Reg0.dat V n
  | 1 => Reg2.dat V n
  | 2 => Reg3.dat V n
  | 3 => Reg6.dat V n

variable (V : Vals F)

def V1 : Vals F := fun d => left (pdA V 0) 0 d (V d)
def V2 : Vals F := fun d => after (ops1 (F := F)) (V1 V d)
def V3 : Vals F := fun d => Function.update (V2 V d) (Proc.devRef .tc main_v14)
  (Tile1.outVal (V2 V d (Proc.devRef .tc main_v6)) (V2 V d (Proc.devRef .tc main_v13)))
def V4 : Vals F := fun d => after (ops2 (F := F)) (V3 V d)
def V5 : Vals F := fun d => left (pdA (V4 V) 1) 1 d (V4 V d)
def V6 : Vals F := fun d => left (pdA (V5 V) 1) 2 d (V5 V d)
def V7 : Vals F := fun d => after (ops3 (F := F)) (V6 V d)
def V8 : Vals F := fun d => Function.update (V7 V d) (Proc.devRef .tc main_v32)
  (Tile4.outVal (V7 V d (Proc.devRef .tc main_v31)) (V7 V d (Proc.devRef .tc main_v27)))
def V9 : Vals F := fun d => after (ops4 (F := F)) (V8 V d)
def V10 : Vals F := fun d => Function.update (V9 V d) (Proc.devRef .tc main_v34)
  (Tile5.outVal (V9 V d (Proc.devRef .tc main_v33)) (V9 V d (Proc.devRef .tc main_v27)))
def V11 : Vals F := fun d => after (ops5 (F := F)) (V10 V d)
def V12 : Vals F := fun d => left (pdA (V11 V) 3) 3 d (V11 V d)
def V13 : Vals F := fun d => after (ops6 (F := F)) (V12 V d)

theorem V9_v27 (d : Dev nD) : V9 V d (Proc.devRef .tc main_v27) = V7 V d (Proc.devRef .tc main_v27) := by
  unfold V9 ops4
  after_results
  unfold V8
  exact Function.update_of_ne (by decide) _ _

/-- What the three sparse calls are fed. -/
def feed : Feed F where
  tb1 d := V2 V d (Proc.devRef .tc main_v6)
  ix1 d := V2 V d (Proc.devRef .tc main_v13)
  h1 d j := by
    rw [show V2 V d (Proc.devRef .tc main_v13) = _ from ops1_v13 _]
    exact ix1Of_lt _ j
  tb4 d := V7 V d (Proc.devRef .tc main_v31)
  ix4 d := V7 V d (Proc.devRef .tc main_v27)
  h4 d j := by
    rw [show V7 V d (Proc.devRef .tc main_v27) = _ from ops3_v27 _]
    exact ix3Of_lt _ j
  tb5 d := V9 V d (Proc.devRef .tc main_v33)
  ix5 d := V9 V d (Proc.devRef .tc main_v27)
  h5 d j := by
    rw [V9_v27, show V7 V d (Proc.devRef .tc main_v27) = _ from ops3_v27 _]
    exact ix3Of_lt _ j

end Cert.Work

end
-- ==== Proof.Main.lean ====
/-
  The whole program's run: @main on each device, its calls and host operations one after another, and what the buffers
  hold when it ends.
-/
module

public import proofs.«01_k».proof.Proof.Vals
public import proofs.«01_k».proof.Proof.Gen.Kernel

@[expose] public section

set_option maxRecDepth 16384

noncomputable section

namespace Cert.Work

open Cert.KernelIdeal Cert.KernelIdeal.Gen

open Idealize.ShloMosaic Idealize.ShloMosaic.TcCoe Idealize.ShloMosaic.Tactic
open Idealize.ShloMosaic.SparseCore (S V T)
open Idealize.ShloMosaic.StableHlo (seqK after)
open Idealize.ShloMosaic.Pipeline (pin)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

local notation "𝕄" => MT nD τ sig (HIx 3) (Elt F) ℕ UU ℕ

/-! ## The pipelined calls -/

theorem entry0 (V : Vals F) (d : Dev nD) (Q : PUnit.{1} → sProp 𝕄) : iprop(boundary (SparseCore.T d) ∗ Held d (V d) ∗ Owing 0 d ∗ levAts (K (F := F)).L (K (F := F)).lev ∗ Ghost 0 d
      ∗ (iprop(boundary (SparseCore.T d) ∗ Held d (left (pdA V 0) 0 d (V d)) ∗ Owing 0 d) -∗ Q PUnit.unit))
    ⊢ wp frame (wpE ((K (F := F)).defs D) 𝒱 (SparseCore.T d) none) Set.univ (Prog.lift (.customCall (SparseCore.inner (Pipeline.entry 0)) ())) Q :=
  wp_entry (pdA V 0) 0 0 V launch0.to₀ (fun c => Reg0.hbody V 0 c) (fun _ _ => rfl) (fun _ _ => rfl) (fun _ _ => rfl) (fun _ _ => rfl)
    (fun c w => Reg0.A_eq V 0 c w) d Q

theorem entry1 (V : Vals F) (d : Dev nD) (Q : PUnit.{1} → sProp 𝕄) : iprop(boundary (SparseCore.T d) ∗ Held d (V d) ∗ Owing 1 d ∗ levAts (K (F := F)).L (K (F := F)).lev ∗ Ghost 1 d
      ∗ (iprop(boundary (SparseCore.T d) ∗ Held d (left (pdA V 1) 1 d (V d)) ∗ Owing 1 d) -∗ Q PUnit.unit))
    ⊢ wp frame (wpE ((K (F := F)).defs D) 𝒱 (SparseCore.T d) none) Set.univ (Prog.lift (.customCall (SparseCore.inner (Pipeline.entry 1)) ())) Q :=
  wp_entry (pdA V 1) 1 1 V launch2.to₀ (fun c => Reg2.hbody V 1 c) (fun _ _ => rfl) (fun _ _ => rfl) (fun _ _ => rfl) (fun _ _ => rfl)
    (fun c w => Reg2.A_eq V 1 c w) d Q

theorem entry2 (V : Vals F) (d : Dev nD) (Q : PUnit.{1} → sProp 𝕄) : iprop(boundary (SparseCore.T d) ∗ Held d (V d) ∗ Owing 1 d ∗ levAts (K (F := F)).L (K (F := F)).lev ∗ Ghost 2 d
      ∗ (iprop(boundary (SparseCore.T d) ∗ Held d (left (pdA V 1) 2 d (V d)) ∗ Owing 1 d) -∗ Q PUnit.unit))
    ⊢ wp frame (wpE ((K (F := F)).defs D) 𝒱 (SparseCore.T d) none) Set.univ (Prog.lift (.customCall (SparseCore.inner (Pipeline.entry 2)) ())) Q :=
  wp_entry (pdA V 1) 2 1 V launch₀3 (fun c => Reg3.hbody V 1 c) (fun _ _ => rfl) (fun _ _ => rfl) (fun _ _ => rfl) (fun _ _ => rfl)
    (fun c w => Reg3.A_eq V 1 c w) d Q

theorem entry3 (V : Vals F) (d : Dev nD) (Q : PUnit.{1} → sProp 𝕄) : iprop(boundary (SparseCore.T d) ∗ Held d (V d) ∗ Owing 3 d ∗ levAts (K (F := F)).L (K (F := F)).lev ∗ Ghost 3 d
      ∗ (iprop(boundary (SparseCore.T d) ∗ Held d (left (pdA V 3) 3 d (V d)) ∗ Owing 3 d) -∗ Q PUnit.unit))
    ⊢ wp frame (wpE ((K (F := F)).defs D) 𝒱 (SparseCore.T d) none) Set.univ (Prog.lift (.customCall (SparseCore.inner (Pipeline.entry 3)) ())) Q :=
  wp_entry (pdA V 3) 3 3 V launch6.to₀ (fun c => Reg6.hbody V 3 c) (fun _ _ => rfl) (fun _ _ => rfl) (fun _ _ => rfl) (fun _ _ => rfl)
    (fun c w => Reg6.A_eq V 3 c w) d Q

/-- The core's account of what it owes, out of its state between calls. -/
theorem tcSt_open (d : Dev nD) (n : ℕ) :
    (K (F := F)).tcSt EH d n ⊢ (iprop(Owing n d ∗ (Owing n d -∗ (K (F := F)).tcSt EH d n)) : sProp 𝕄) := by
  unfold SparseCore.Cfg.tcSt Owing
  iintro ⟨H, Hr⟩
  isplitl [H]; · iexact H
  iintro H
  isplitl [H]; · iexact H
  iexact Hr

/-! ## The sparse calls -/

theorem sparse1 (V : Vals F) (κ : GSem nD τ sig → ℕ) (d : Dev nD) (Φ : PUnit.{1} → sProp 𝕄) : iprop((K (F := F)).ctx EH (P (feed V)) κ ∗ (K (F := F)).tcSt EH d 0 ∗ Held d (V2 V d)
      ∗ (iprop((K (F := F)).tcSt EH d 1 ∗ Held d (V3 V d)) -∗ Φ PUnit.unit))
    ⊢ wp frame (wpE ((K (F := F)).defs D) 𝒱 (SparseCore.T d) none) Set.univ (sc.run d 0) Φ := by
  unfold V3
  rw [held_three d main_v6 main_v13 main_v14 (by decide) (by decide) (by decide) (by decide) (by decide) (by decide),
    held_three_update d main_v6 main_v13 main_v14 (by decide) (by decide) (by decide) (by decide) (by decide) (by decide)]
  iintro ⟨#Hctx, Hst, ⟨Ht, Hi, Ho, Hr⟩, Hk⟩
  ihave He := (enter1 (feed V) d (V2 V d (Proc.devRef .tc main_v14))) $$ [Ht Hi Ho]
  · isplitl [Ht]; · iexact Ht
    isplitl [Hi]; · iexact Hi
    iexact Ho
  icases He with ⟨Hs, Hrest⟩
  iapply ((K (F := F)).wp_run (D (F := F)) 𝒱 (EH := EH) (P := P (feed V)) κ d 0)
  isplitr; · iexact Hctx
  isplitl [Hst]; · iexact Hst
  isplitl [Hs]; · iexact Hs
  iintro ⟨Hst, Hdn⟩
  ihave Hl := (leave1 (feed V) d) $$ [Hdn Hrest]
  · isplitl [Hdn]; · iexact Hdn
    iexact Hrest
  icases Hl with ⟨Ht, Hi, Ho⟩
  iapply Hk
  isplitl [Hst]; · iexact Hst
  isplitl [Ht]; · iexact Ht
  isplitl [Hi]; · iexact Hi
  isplitl [Ho]; · iexact Ho
  iexact Hr

theorem sparse4 (V : Vals F) (κ : GSem nD τ sig → ℕ) (d : Dev nD) (Φ : PUnit.{1} → sProp 𝕄) : iprop((K (F := F)).ctx EH (P (feed V)) κ ∗ (K (F := F)).tcSt EH d 1 ∗ Held d (V7 V d)
      ∗ (iprop((K (F := F)).tcSt EH d 2 ∗ Held d (V8 V d)) -∗ Φ PUnit.unit))
    ⊢ wp frame (wpE ((K (F := F)).defs D) 𝒱 (SparseCore.T d) none) Set.univ (sc.run d 1) Φ := by
  unfold V8
  rw [held_three d main_v31 main_v27 main_v32 (by decide) (by decide) (by decide) (by decide) (by decide) (by decide),
    held_three_update d main_v31 main_v27 main_v32 (by decide) (by decide) (by decide) (by decide) (by decide) (by decide)]
  iintro ⟨#Hctx, Hst, ⟨Ht, Hi, Ho, Hr⟩, Hk⟩
  ihave He := (enter4 (feed V) d (V7 V d (Proc.devRef .tc main_v32))) $$ [Ht Hi Ho]
  · isplitl [Ht]; · iexact Ht
    isplitl [Hi]; · iexact Hi
    iexact Ho
  icases He with ⟨Hs, Hrest⟩
  iapply ((K (F := F)).wp_run (D (F := F)) 𝒱 (EH := EH) (P := P (feed V)) κ d 1)
  isplitr; · iexact Hctx
  isplitl [Hst]; · iexact Hst
  isplitl [Hs]; · iexact Hs
  iintro ⟨Hst, Hdn⟩
  ihave Hl := (leave4 (feed V) d) $$ [Hdn Hrest]
  · isplitl [Hdn]; · iexact Hdn
    iexact Hrest
  icases Hl with ⟨Ht, Hi, Ho⟩
  iapply Hk
  isplitl [Hst]; · iexact Hst
  isplitl [Ht]; · iexact Ht
  isplitl [Hi]; · iexact Hi
  isplitl [Ho]; · iexact Ho
  iexact Hr

theorem feed_tb5 (V : Vals F) (d : Dev nD) : (feed V).tb5 d = V9 V d (Proc.devRef .tc main_v33) := by
  dsimp only [feed]
theorem feed_ix5 (V : Vals F) (d : Dev nD) : (feed V).ix5 d = V9 V d (Proc.devRef .tc main_v27) := by
  dsimp only [feed]

theorem sparse5 (V : Vals F) (κ : GSem nD τ sig → ℕ) (d : Dev nD) (Φ : PUnit.{1} → sProp 𝕄) : iprop((K (F := F)).ctx EH (P (feed V)) κ ∗ (K (F := F)).tcSt EH d 2 ∗ Held d (V9 V d)
      ∗ (iprop((K (F := F)).tcSt EH d 3 ∗ Held d (V10 V d)) -∗ Φ PUnit.unit))
    ⊢ wp frame (wpE ((K (F := F)).defs D) 𝒱 (SparseCore.T d) none) Set.univ (sc.run d 2) Φ := by
  have he := enter5 (feed V) d (V9 V d (Proc.devRef .tc main_v34))
  have hl := leave5 (feed V) d
  rw [feed_tb5, feed_ix5] at he hl
  unfold V10
  rw [held_three d main_v33 main_v27 main_v34 (by decide) (by decide) (by decide) (by decide) (by decide) (by decide),
    held_three_update d main_v33 main_v27 main_v34 (by decide) (by decide) (by decide) (by decide) (by decide) (by decide)]
  iintro ⟨#Hctx, Hst, ⟨Ht, Hi, Ho, Hr⟩, Hk⟩
  ihave He := he $$ [Ht Hi Ho]
  · isplitl [Ht]; · iexact Ht
    isplitl [Hi]; · iexact Hi
    iexact Ho
  icases He with ⟨Hs, Hrest⟩
  iapply ((K (F := F)).wp_run (D (F := F)) 𝒱 (EH := EH) (P := P (feed V)) κ d 2)
  isplitr; · iexact Hctx
  isplitl [Hst]; · iexact Hst
  isplitl [Hs]; · iexact Hs
  iintro ⟨Hst, Hdn⟩
  ihave Hl := hl $$ [Hdn Hrest]
  · isplitl [Hdn]; · iexact Hdn
    iexact Hrest
  icases Hl with ⟨Ht, Hi, Ho⟩
  iapply Hk
  isplitl [Hst]; · iexact Hst
  isplitl [Ht]; · iexact Ht
  isplitl [Hi]; · iexact Hi
  isplitl [Ho]; · iexact Ho
  iexact Hr

/-! ## @main -/

variable (m : (ℓ : Loc nD τ sig) → Buf (Elt F) ℓ) (ρ : Dev nD → PrngReg)

/-- The contents @main starts from. -/
abbrev V0 : Vals F := fun d b => m (d, b)

def G (d : Dev nD) : sProp 𝕄 := bigSep Finset.univ fun p : Fin 4 => Ghost p d

abbrev FIN (d : Dev nD) : sProp 𝕄 := Held d (V13 (V0 m) d)

theorem hmain (κ : GSem nD τ sig → ℕ) (d : Dev nD) :
    iprop((K (F := F)).ctx EH (P (feed (V0 m))) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 3 ∗ FIN m d ∗ (K (F := F)).tcEnd d) := by
  unfold SparseCore.Cfg.tcRes SparseCore.Cfg.tcEnd G
  rw [bigSep_fin4, main_chain,
    show (unscopedBufs d (fun b => m ((SparseCore.T d).loc b)) : sProp 𝕄) = Held d (V0 m d) from Pipeline.unscopedBufs_held d (V0 m d)]
  iintro ⟨#Hctx, Hst, ⟨Hb, Hh, Hts, -⟩, Hg0, Hg1, Hg2, Hg3⟩
  ihave #Hlev := (SparseCore.Cfg.ctx_levAts (K := K (F := F)) κ) $$ Hctx
  rw [wp_bind]
  ihave Ht := (tcSt_open d 0) $$ Hst
  icases Ht with ⟨HO, Hst⟩
  iapply (entry0 (V0 m) d)
  isplitl [Hb]; · iexact Hb
  isplitl [Hh]; · iexact Hh
  isplitl [HO]; · iexact HO
  isplitr; · iexact Hlev
  isplitl [Hg0]; · iexact Hg0
  iintro ⟨Hb, Hh, HO⟩
  ihave Hst' := Hst $$ HO
  iapply (wp_stretch d ops1 ops1_bufs ops1_fresh) $$ [Hb Hh]
  · isplitl [Hb]; · iexact Hb
    iexact Hh
  iintro ⟨Hb, Hh⟩
  rw [wp_bind]
  iapply (sparse1 (V0 m) κ d)
  isplitr; · iexact Hctx
  isplitl [Hst']; · iexact Hst'
  isplitl [Hh]; · iexact Hh
  iintro ⟨Hst, Hh⟩
  iapply (wp_stretch d ops2 ops2_bufs ops2_fresh) $$ [Hb Hh]
  · isplitl [Hb]; · iexact Hb
    iexact Hh
  iintro ⟨Hb, Hh⟩
  rw [wp_bind]
  ihave Ht := (tcSt_open d 1) $$ Hst
  icases Ht with ⟨HO, Hst⟩
  iapply (entry1 (V4 (V0 m)) d)
  isplitl [Hb]; · iexact Hb
  isplitl [Hh]; · iexact Hh
  isplitl [HO]; · iexact HO
  isplitr; · iexact Hlev
  isplitl [Hg1]; · iexact Hg1
  iintro ⟨Hb, Hh, HO⟩
  rw [wp_bind]
  iapply (entry2 (V5 (V0 m)) d)
  isplitl [Hb]; · iexact Hb
  isplitl [Hh]; · iexact Hh
  isplitl [HO]; · iexact HO
  isplitr; · iexact Hlev
  isplitl [Hg2]; · iexact Hg2
  iintro ⟨Hb, Hh, HO⟩
  ihave Hst' := Hst $$ HO
  iapply (wp_stretch d ops3 ops3_bufs ops3_fresh) $$ [Hb Hh]
  · isplitl [Hb]; · iexact Hb
    iexact Hh
  iintro ⟨Hb, Hh⟩
  rw [wp_bind]
  iapply (sparse4 (V0 m) κ d)
  isplitr; · iexact Hctx
  isplitl [Hst']; · iexact Hst'
  isplitl [Hh]; · iexact Hh
  iintro ⟨Hst, Hh⟩
  iapply (wp_stretch d ops4 ops4_bufs ops4_fresh) $$ [Hb Hh]
  · isplitl [Hb]; · iexact Hb
    iexact Hh
  iintro ⟨Hb, Hh⟩
  rw [wp_bind]
  iapply (sparse5 (V0 m) κ d)
  isplitr; · iexact Hctx
  isplitl [Hst]; · iexact Hst
  isplitl [Hh]; · iexact Hh
  iintro ⟨Hst, Hh⟩
  iapply (wp_stretch d ops5 ops5_bufs ops5_fresh) $$ [Hb Hh]
  · isplitl [Hb]; · iexact Hb
    iexact Hh
  iintro ⟨Hb, Hh⟩
  rw [wp_bind]
  ihave Ht := (tcSt_open d 3) $$ Hst
  icases Ht with ⟨HO, Hst⟩
  iapply (entry3 (V11 (V0 m)) d)
  isplitl [Hb]; · iexact Hb
  isplitl [Hh]; · iexact Hh
  isplitl [HO]; · iexact HO
  isplitr; · iexact Hlev
  isplitl [Hg3]; · iexact Hg3
  iintro ⟨Hb, Hh, HO⟩
  ihave Hst' := Hst $$ HO
  iapply (wp_stretch d ops6 ops6_bufs ops6_fresh) $$ [Hb Hh]
  · isplitl [Hb]; · iexact Hb
    iexact Hh
  iintro ⟨Hb, Hh⟩
  rw [wp_pure]
  imodintro
  isplitl [Hst']; · iexact Hst'
  isplitl [Hh]; · iexact Hh
  isplitl [Hb]; · iexact Hb
  iexact Hts

/-! ## What the run starts from -/

def u₀ : UU := (initOf (K (F := F)).hsCells (K (F := F)).hsToks,
  (initOf (Pipeline.cells (pin pcfgs (adm (F := F))) cellOf_inj) (Pipeline.launchToks (pin pcfgs (adm (F := F))) cellOf_inj), 1))

omit [FloatOps F] in
theorem own_right (a : UP) : (BI.own (embR ((a, 1) : UP × Counters)) : sProp 𝕄) ⊢ BI.own (EP a) := by
  iintro H; iexact H

omit [FloatOps F] in
theorem bigSep_emp' {I : Type} (s : Finset I) : (bigSep s fun _ => iprop(emp)) = (iprop(emp) : sProp 𝕄) := bigSep_emp_const s

theorem hu₀ (A : Feed F) : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 3 => (P A).x q thr) := by
  unfold u₀
  iintro Hu
  ihave H := (ownU_pair (initOf (K (F := F)).hsCells (K (F := F)).hsToks)
    ((initOf (Pipeline.cells (pin pcfgs (adm (F := F))) cellOf_inj) (Pipeline.launchToks (pin pcfgs (adm (F := F))) cellOf_inj), 1) : UP × Counters)) $$ Hu
  icases H with ⟨HH, HR⟩
  ihave HP := (own_right _) $$ HR
  ihave HP' := (Pipeline.fund_ghost (pin pcfgs (adm (F := F))) (EP (F := F)) cellOf_inj) $$ HP
  imod HP' with ⟨Hc, Ht⟩
  imodintro
  isplitl [HH]; · iexact HH
  isplitl [Hc Ht]
  · unfold G Ghost
    simp only [bigSep_sep']
    isplitl [Hc]; · iexact Hc
    iexact Ht
  rw [show (bigSep Finset.univ fun thr : Thread nD τ => bigSep Finset.univ fun q : Fin 3 => (P A).x q thr)
      = (bigSep Finset.univ fun _ : Thread nD τ => (iprop(emp) : sProp 𝕄)) from
    bigSep_congr fun _ _ => bigSep_emp' _, bigSep_emp']
  iempintro

/-! ## What it ends with -/

def fq (d : Dev nD) (s' : Phys nD τ sig (Elt F)) : Prop :=
  ∀ b ∈ Pipeline.ucRefs τ sig, s'.mem.mem (d, b) = V13 (V0 m) d b

theorem hfin (d : Dev nD) (s' : Phys nD τ sig (Elt F)) : iprop(FIN m d ∗ SI s') ⊢ (⌜fq m d s'⌝ : sProp 𝕄) := by
  unfold fq
  refine BIBase.Entails.trans (forall_intro fun b => BIBase.Entails.trans (forall_intro fun hb => ?_) pure_forall.2) pure_forall.2
  unfold FIN Held StableHlo.held
  refine (sep_mono_left (bigSep_elim hb)).trans ?_
  iintro ⟨H, HSI⟩
  ihave H := (SI_pointsTo_agree (st := s') (ℓ := (d, b)) (I := Finset.univ) (q := fullShare) (f := V13 (V0 m) d b)) $$ [HSI H]
  · isplitl [HSI] <;> iassumption
  icases H with %h
  ipureintro; exact funext fun i => h i (Finset.mem_univ i)

def QC : PUnit × MemSt nD τ sig (Elt F) → Prop := fun r =>
  (∀ d : Dev nD, ∀ b ∈ Pipeline.ucRefs τ sig, r.2.mem (d, b) = V13 (V0 m) d b) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (feed (V0 m))) (A := ∅) facts v₀
    (fun q hq => match q with | 0 => nomatch hq | 1 => nomatch hq | 2 => nomatch hq)
    (fun q _ => match q with | 0 => tileObl1 _ | 1 => tileObl4 _ | 2 => tileObl5 _)
    (fun q _ => SparseCore.Cfg.VecSplit.of_plain (vecSplit _ q))
    m ρ main G (FIN m) (u₀ (F := F)) (sep_elim_left.trans (hu₀ _)) (hmain m ρ) (fq m) (hfin m) (QC m) (fun _ h hz => ⟨h, hz⟩)

end Cert.Work

end
-- ==== Proof.Same.lean ====
/-
  The kernel and its reading over the extended reals are one text: their tables of bodies are equal.
-/
module

public import proofs.«01_k».proof.Proof.Gen.Kernel
public import proofs.«01_k».proof.Proof.Gen.KernelIdeal

@[expose] public section

set_option maxRecDepth 65536

noncomputable section

namespace Cert.Work.Same

open Idealize.ShloMosaic Idealize.ShloMosaic.TcCoe

variable {F : FTy → Type} [FloatOps F]

set_option maxHeartbeats 0 in
theorem defs0_eq : @Cert.Kernel.defs₀ F _ Cert.Kernel.Gen.facts = @Cert.KernelIdeal.defs₀ F _ Cert.KernelIdeal.Gen.facts := by
  funext p l
  rcases p with _ | c | ⟨c, s⟩ <;> rcases l with ⟨_ | _ | _ | _ | _ | _ | _ | l, hl⟩
  · funext a; obtain ⟨t, s⟩ := a; eq_refl
  · funext a; eq_refl
  · funext a; obtain ⟨t, s⟩ := a; eq_refl
  · funext a; obtain ⟨t, s⟩ := a; eq_refl
  · funext a; eq_refl
  · funext a; eq_refl
  · funext a; obtain ⟨t, s⟩ := a; eq_refl
  · exact absurd hl (Nat.not_lt.2 (Nat.le_add_left _ _))
  · funext a; eq_refl
  · funext a; eq_refl
  · funext a; eq_refl
  · funext a; eq_refl
  · funext a; eq_refl
  · funext a; eq_refl
  · funext a; eq_refl
  · exact absurd hl (Nat.not_lt.2 (Nat.le_add_left _ _))
  · funext a; eq_refl
  · funext a; eq_refl
  · funext a; eq_refl
  · funext a; eq_refl
  · funext a; eq_refl
  · funext a; eq_refl
  · funext a; eq_refl
  · exact absurd hl (Nat.not_lt.2 (Nat.le_add_left _ _))

set_option maxHeartbeats 0 in
theorem defs_eq : @Cert.Kernel.defs F _ Cert.Kernel.Gen.facts = @Cert.KernelIdeal.defs F _ Cert.KernelIdeal.Gen.facts :=
  congrArg (fun x => (Cert.KernelIdeal.sc (F := F)).defs (Pipeline.defs Cert.KernelIdeal.pcfgs x)) defs0_eq

end Cert.Work.Same

end
-- ==== Proof.Frames.lean ====
/-
  Which buffers each stretch of @main leaves as it found them, and the programs' frames.
-/
module

public import proofs.«01_k».proof.Proof.Main
public import proofs.«01_k».proof.Proof.Same
public import proofs.«01_k».proof.Proof.Gen.ReferenceIdeal.Run

@[expose] public section

set_option maxRecDepth 16384

noncomputable section

namespace Cert.Work

open Cert.KernelIdeal Cert.KernelIdeal.Gen

open Idealize.ShloMosaic Idealize.ShloMosaic.TcCoe Idealize.ShloMosaic.Tactic Idealize.SL.Sem
open Idealize.ShloMosaic.StableHlo (after after_of_writes_sub forall_writes_sub_of_map)
open Idealize.ShloMosaic.Pipeline (Dat LaunchFacts₀ pin)

variable {F : FTy → Type} [FloatOps F]

/-- A pipelined call leaves every buffer it does not write. -/
theorem left_keep (pd : PD F) (p : Fin 4) (V : Vals F) (kit : LaunchFacts₀ (nD := nD) (τ := τ) cfgs p)
    (hA : ∀ c w, (pd p c).A w = V c (Proc.devRef .tc (Pipeline.arrRef (cfgs p).spec w))) (c : Dev nD) (r : Ref sig .tc)
    (hin : ∀ w, Pipeline.arrRef (cfgs p).spec w = r → ((cfgs p).win w).isOut = false) :
    left pd p c (V c) (Proc.devRef .tc r) = V c (Proc.devRef .tc r) := by
  by_cases h : ∃ w, Pipeline.arrRef (cfgs p).spec w = r
  · obtain ⟨w, rfl⟩ := h
    exact (left_arr pd p V kit hA c w).trans (((pd p c).arrAt_in w (hin w rfl) _).trans (hA c w))
  · exact Pipeline.withArrays_of_ne (cfgs p).spec c (V c) _ r fun w e => h ⟨w, e⟩

theorem outs0 : ∀ w, Pipeline.arrRef (cfgs 0).spec w ≠ main_v0 → ((cfgs 0).win w).isOut = false := by decide
theorem outs1 : ∀ w, Pipeline.arrRef (cfgs 1).spec w ≠ main_v18 → ((cfgs 1).win w).isOut = false := by decide
theorem outs2 : ∀ w, Pipeline.arrRef (cfgs 2).spec w ≠ main_v19 → ((cfgs 2).win w).isOut = false := by decide
theorem outs3 : ∀ w, Pipeline.arrRef (cfgs 3).spec w ≠ main_v42_0 ∧ Pipeline.arrRef (cfgs 3).spec w ≠ main_v42_1 → ((cfgs 3).win w).isOut = false := by decide

variable (V : Vals F) (d : Dev nD) (r : Ref sig .tc)

theorem V1_keep (h : r ≠ main_v0) : V1 V d (Proc.devRef .tc r) = V d (Proc.devRef .tc r) :=
  left_keep (pdA V 0) 0 V launch0.to₀ (fun c w => Reg0.A_eq V 0 c w) d r fun w e => outs0 w (e ▸ h)
theorem V2_keep (h : r ∉ wr1) : V2 V d (Proc.devRef .tc r) = V1 V d (Proc.devRef .tc r) :=
  after_of_writes_sub ops1 _ (forall_writes_sub_of_map ops1_writes) h
theorem V3_keep (h : r ≠ main_v14) : V3 V d (Proc.devRef .tc r) = V2 V d (Proc.devRef .tc r) := by
  unfold V3; exact Function.update_of_ne (fun e => h (Proc.devRef_injective _ e)) _ _
theorem V4_keep (h : r ∉ wr2) : V4 V d (Proc.devRef .tc r) = V3 V d (Proc.devRef .tc r) :=
  after_of_writes_sub ops2 _ (forall_writes_sub_of_map ops2_writes) h
theorem V5_keep (h : r ≠ main_v18) : V5 V d (Proc.devRef .tc r) = V4 V d (Proc.devRef .tc r) :=
  left_keep (pdA (V4 V) 1) 1 (V4 V) launch2.to₀ (fun c w => Reg2.A_eq (V4 V) 1 c w) d r fun w e => outs1 w (e ▸ h)
theorem V6_keep (h : r ≠ main_v19) : V6 V d (Proc.devRef .tc r) = V5 V d (Proc.devRef .tc r) :=
  left_keep (pdA (V5 V) 1) 2 (V5 V) launch₀3 (fun c w => Reg3.A_eq (V5 V) 1 c w) d r fun w e => outs2 w (e ▸ h)
theorem V7_keep (h : r ∉ wr3) : V7 V d (Proc.devRef .tc r) = V6 V d (Proc.devRef .tc r) :=
  after_of_writes_sub ops3 _ (forall_writes_sub_of_map ops3_writes) h
theorem V8_keep (h : r ≠ main_v32) : V8 V d (Proc.devRef .tc r) = V7 V d (Proc.devRef .tc r) := by
  unfold V8; exact Function.update_of_ne (fun e => h (Proc.devRef_injective _ e)) _ _
theorem V9_keep (h : r ∉ wr4) : V9 V d (Proc.devRef .tc r) = V8 V d (Proc.devRef .tc r) :=
  after_of_writes_sub ops4 _ (forall_writes_sub_of_map ops4_writes) h
theorem V10_keep (h : r ≠ main_v34) : V10 V d (Proc.devRef .tc r) = V9 V d (Proc.devRef .tc r) := by
  unfold V10; exact Function.update_of_ne (fun e => h (Proc.devRef_injective _ e)) _ _
theorem V11_keep (h : r ∉ wr5) : V11 V d (Proc.devRef .tc r) = V10 V d (Proc.devRef .tc r) :=
  after_of_writes_sub ops5 _ (forall_writes_sub_of_map ops5_writes) h
theorem V12_keep (h : r ≠ main_v42_0 ∧ r ≠ main_v42_1) : V12 V d (Proc.devRef .tc r) = V11 V d (Proc.devRef .tc r) :=
  left_keep (pdA (V11 V) 3) 3 (V11 V) launch6.to₀ (fun c w => Reg6.A_eq (V11 V) 3 c w) d r fun w e => outs3 w (e ▸ h)
theorem V13_keep (h : r ∉ wr6) : V13 V d (Proc.devRef .tc r) = V12 V d (Proc.devRef .tc r) :=
  after_of_writes_sub ops6 _ (forall_writes_sub_of_map ops6_writes) h

/-- The buffers written anywhere in @main, by stretch. -/
abbrev untouched4 : Prop := r ≠ main_v0 ∧ r ∉ wr1 ∧ r ≠ main_v14 ∧ r ∉ wr2
abbrev untouched11 : Prop := r ≠ main_v18 ∧ r ≠ main_v19 ∧ r ∉ wr3 ∧ r ≠ main_v32 ∧ r ∉ wr4 ∧ r ≠ main_v34 ∧ r ∉ wr5
abbrev untouched13 : Prop := (r ≠ main_v42_0 ∧ r ≠ main_v42_1) ∧ r ∉ wr6

theorem keep4 (h : untouched4 r) : V4 V d (Proc.devRef .tc r) = V d (Proc.devRef .tc r) :=
  (V4_keep V d r h.2.2.2).trans ((V3_keep V d r h.2.2.1).trans ((V2_keep V d r h.2.1).trans (V1_keep V d r h.1)))

theorem keep11 (h : untouched11 r) : V11 V d (Proc.devRef .tc r) = V4 V d (Proc.devRef .tc r) := by
  obtain ⟨h5, h6, h7, h8, h9, h10, h11⟩ := h
  exact (V11_keep V d r h11).trans ((V10_keep V d r h10).trans ((V9_keep V d r h9).trans ((V8_keep V d r h8).trans
    ((V7_keep V d r h7).trans ((V6_keep V d r h6).trans (V5_keep V d r h5))))))

theorem keep13 (h4 : untouched4 r) (h11 : untouched11 r) (h13 : untouched13 r) : V13 V d (Proc.devRef .tc r) = V d (Proc.devRef .tc r) :=
  (V13_keep V d r h13.2).trans ((V12_keep V d r h13.1).trans ((keep11 V d r h11).trans (keep4 V d r h4)))

section

variable (m : (ℓ : Loc nD τ sig) → Buf (Elt F) ℓ) (s : PUnit × MemSt nD τ sig (Elt F)) (h : QC m s)

include h in
/-- An unscoped buffer ends at the last contents. -/
theorem end_eq (c : Dev nD) (b : Ref sig .tc) (hb : b.isScoped = false) :
    s.2.mem ((c : Thread nD τ).loc b) = V13 (V0 m) c (Proc.devRef .tc b) :=
  h.1 c _ (Finset.mem_filter.mpr ⟨StableHlo.devRef_mem_tcRefs _, fun h' => Bool.false_ne_true (hb.symm.trans h')⟩)

end

abbrev mainArgs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28]

theorem untouched_args : ∀ b ∈ mainArgs, b.isScoped = false ∧ untouched4 b ∧ untouched11 b ∧ untouched13 b := by decide

theorem arg_eq (m : (ℓ : Loc nD τ sig) → Buf (Elt F) ℓ) (s : PUnit × MemSt nD τ sig (Elt F)) (h : QC m s) (c : Dev nD) (b : Ref sig .tc)
    (hb : b.isScoped = false ∧ untouched4 b ∧ untouched11 b ∧ untouched13 b) :
    s.2.mem ((c : Thread nD τ).loc b) = m ((c : Thread nD τ).loc b) :=
  (end_eq m s h c b hb.1).trans (keep13 (V0 m) c b hb.2.1 hb.2.2.1 hb.2.2.2)

theorem args_a (m : (ℓ : Loc nD τ sig) → Buf (Elt F) ℓ) (s : PUnit × MemSt nD τ sig (Elt F)) (h : QC m s) (c : Dev nD) : s.2.mem ((c : Thread nD τ).loc main_arg0) = m ((c : Thread nD τ).loc main_arg0)
      ∧ s.2.mem ((c : Thread nD τ).loc main_arg1) = m ((c : Thread nD τ).loc main_arg1)
      ∧ s.2.mem ((c : Thread nD τ).loc main_arg2) = m ((c : Thread nD τ).loc main_arg2)
      ∧ s.2.mem ((c : Thread nD τ).loc main_arg3) = m ((c : Thread nD τ).loc main_arg3)
      ∧ s.2.mem ((c : Thread nD τ).loc main_arg4) = m ((c : Thread nD τ).loc main_arg4)
      ∧ s.2.mem ((c : Thread nD τ).loc main_arg5) = m ((c : Thread nD τ).loc main_arg5)
      ∧ s.2.mem ((c : Thread nD τ).loc main_arg6) = m ((c : Thread nD τ).loc main_arg6)
      ∧ s.2.mem ((c : Thread nD τ).loc main_arg7) = m ((c : Thread nD τ).loc main_arg7)
      ∧ s.2.mem ((c : Thread nD τ).loc main_arg8) = m ((c : Thread nD τ).loc main_arg8)
      ∧ s.2.mem ((c : Thread nD τ).loc main_arg9) = m ((c : Thread nD τ).loc main_arg9) :=
  ⟨arg_eq m s h c main_arg0 (untouched_args _ (by simp)),
    arg_eq m s h c main_arg1 (untouched_args _ (by simp)),
    arg_eq m s h c main_arg2 (untouched_args _ (by simp)),
    arg_eq m s h c main_arg3 (untouched_args _ (by simp)),
    arg_eq m s h c main_arg4 (untouched_args _ (by simp)),
    arg_eq m s h c main_arg5 (untouched_args _ (by simp)),
    arg_eq m s h c main_arg6 (untouched_args _ (by simp)),
    arg_eq m s h c main_arg7 (untouched_args _ (by simp)),
    arg_eq m s h c main_arg8 (untouched_args _ (by simp)),
    arg_eq m s h c main_arg9 (untouched_args _ (by simp))⟩

theorem args_b (m : (ℓ : Loc nD τ sig) → Buf (Elt F) ℓ) (s : PUnit × MemSt nD τ sig (Elt F)) (h : QC m s) (c : Dev nD) : s.2.mem ((c : Thread nD τ).loc main_arg10) = m ((c : Thread nD τ).loc main_arg10)
      ∧ s.2.mem ((c : Thread nD τ).loc main_arg11) = m ((c : Thread nD τ).loc main_arg11)
      ∧ s.2.mem ((c : Thread nD τ).loc main_arg12) = m ((c : Thread nD τ).loc main_arg12)
      ∧ s.2.mem ((c : Thread nD τ).loc main_arg13) = m ((c : Thread nD τ).loc main_arg13)
      ∧ s.2.mem ((c : Thread nD τ).loc main_arg14) = m ((c : Thread nD τ).loc main_arg14)
      ∧ s.2.mem ((c : Thread nD τ).loc main_arg15) = m ((c : Thread nD τ).loc main_arg15)
      ∧ s.2.mem ((c : Thread nD τ).loc main_arg16) = m ((c : Thread nD τ).loc main_arg16)
      ∧ s.2.mem ((c : Thread nD τ).loc main_arg17) = m ((c : Thread nD τ).loc main_arg17)
      ∧ s.2.mem ((c : Thread nD τ).loc main_arg18) = m ((c : Thread nD τ).loc main_arg18)
      ∧ s.2.mem ((c : Thread nD τ).loc main_arg19) = m ((c : Thread nD τ).loc main_arg19) :=
  ⟨arg_eq m s h c main_arg10 (untouched_args _ (by simp)),
    arg_eq m s h c main_arg11 (untouched_args _ (by simp)),
    arg_eq m s h c main_arg12 (untouched_args _ (by simp)),
    arg_eq m s h c main_arg13 (untouched_args _ (by simp)),
    arg_eq m s h c main_arg14 (untouched_args _ (by simp)),
    arg_eq m s h c main_arg15 (untouched_args _ (by simp)),
    arg_eq m s h c main_arg16 (untouched_args _ (by simp)),
    arg_eq m s h c main_arg17 (untouched_args _ (by simp)),
    arg_eq m s h c main_arg18 (untouched_args _ (by simp)),
    arg_eq m s h c main_arg19 (untouched_args _ (by simp))⟩

theorem args_c (m : (ℓ : Loc nD τ sig) → Buf (Elt F) ℓ) (s : PUnit × MemSt nD τ sig (Elt F)) (h : QC m s) (c : Dev nD) : s.2.mem ((c : Thread nD τ).loc main_arg20) = m ((c : Thread nD τ).loc main_arg20)
      ∧ s.2.mem ((c : Thread nD τ).loc main_arg21) = m ((c : Thread nD τ).loc main_arg21)
      ∧ s.2.mem ((c : Thread nD τ).loc main_arg22) = m ((c : Thread nD τ).loc main_arg22)
      ∧ s.2.mem ((c : Thread nD τ).loc main_arg23) = m ((c : Thread nD τ).loc main_arg23)
      ∧ s.2.mem ((c : Thread nD τ).loc main_arg24) = m ((c : Thread nD τ).loc main_arg24)
      ∧ s.2.mem ((c : Thread nD τ).loc main_arg25) = m ((c : Thread nD τ).loc main_arg25)
      ∧ s.2.mem ((c : Thread nD τ).loc main_arg26) = m ((c : Thread nD τ).loc main_arg26)
      ∧ s.2.mem ((c : Thread nD τ).loc main_arg27) = m ((c : Thread nD τ).loc main_arg27)
      ∧ s.2.mem ((c : Thread nD τ).loc main_arg28) = m ((c : Thread nD τ).loc main_arg28) :=
  ⟨arg_eq m s h c main_arg20 (untouched_args _ (by simp)),
    arg_eq m s h c main_arg21 (untouched_args _ (by simp)),
    arg_eq m s h c main_arg22 (untouched_args _ (by simp)),
    arg_eq m s h c main_arg23 (untouched_args _ (by simp)),
    arg_eq m s h c main_arg24 (untouched_args _ (by simp)),
    arg_eq m s h c main_arg25 (untouched_args _ (by simp)),
    arg_eq m s h c main_arg26 (untouched_args _ (by simp)),
    arg_eq m s h c main_arg27 (untouched_args _ (by simp)),
    arg_eq m s h c main_arg28 (untouched_args _ (by simp))⟩

/-- Every argument ends as it began. -/
theorem args_eq (m : (ℓ : Loc nD τ sig) → Buf (Elt F) ℓ) (s : PUnit × MemSt nD τ sig (Elt F)) (h : QC m s) (c : Dev nD) :
      s.2.mem ((c : Thread nD τ).loc main_arg0) = m ((c : Thread nD τ).loc main_arg0)
      ∧ s.2.mem ((c : Thread nD τ).loc main_arg1) = m ((c : Thread nD τ).loc main_arg1)
      ∧ s.2.mem ((c : Thread nD τ).loc main_arg2) = m ((c : Thread nD τ).loc main_arg2)
      ∧ s.2.mem ((c : Thread nD τ).loc main_arg3) = m ((c : Thread nD τ).loc main_arg3)
      ∧ s.2.mem ((c : Thread nD τ).loc main_arg4) = m ((c : Thread nD τ).loc main_arg4)
      ∧ s.2.mem ((c : Thread nD τ).loc main_arg5) = m ((c : Thread nD τ).loc main_arg5)
      ∧ s.2.mem ((c : Thread nD τ).loc main_arg6) = m ((c : Thread nD τ).loc main_arg6)
      ∧ s.2.mem ((c : Thread nD τ).loc main_arg7) = m ((c : Thread nD τ).loc main_arg7)
      ∧ s.2.mem ((c : Thread nD τ).loc main_arg8) = m ((c : Thread nD τ).loc main_arg8)
      ∧ s.2.mem ((c : Thread nD τ).loc main_arg9) = m ((c : Thread nD τ).loc main_arg9)
      ∧ s.2.mem ((c : Thread nD τ).loc main_arg10) = m ((c : Thread nD τ).loc main_arg10)
      ∧ s.2.mem ((c : Thread nD τ).loc main_arg11) = m ((c : Thread nD τ).loc main_arg11)
      ∧ s.2.mem ((c : Thread nD τ).loc main_arg12) = m ((c : Thread nD τ).loc main_arg12)
      ∧ s.2.mem ((c : Thread nD τ).loc main_arg13) = m ((c : Thread nD τ).loc main_arg13)
      ∧ s.2.mem ((c : Thread nD τ).loc main_arg14) = m ((c : Thread nD τ).loc main_arg14)
      ∧ s.2.mem ((c : Thread nD τ).loc main_arg15) = m ((c : Thread nD τ).loc main_arg15)
      ∧ s.2.mem ((c : Thread nD τ).loc main_arg16) = m ((c : Thread nD τ).loc main_arg16)
      ∧ s.2.mem ((c : Thread nD τ).loc main_arg17) = m ((c : Thread nD τ).loc main_arg17)
      ∧ s.2.mem ((c : Thread nD τ).loc main_arg18) = m ((c : Thread nD τ).loc main_arg18)
      ∧ s.2.mem ((c : Thread nD τ).loc main_arg19) = m ((c : Thread nD τ).loc main_arg19)
      ∧ s.2.mem ((c : Thread nD τ).loc main_arg20) = m ((c : Thread nD τ).loc main_arg20)
      ∧ s.2.mem ((c : Thread nD τ).loc main_arg21) = m ((c : Thread nD τ).loc main_arg21)
      ∧ s.2.mem ((c : Thread nD τ).loc main_arg22) = m ((c : Thread nD τ).loc main_arg22)
      ∧ s.2.mem ((c : Thread nD τ).loc main_arg23) = m ((c : Thread nD τ).loc main_arg23)
      ∧ s.2.mem ((c : Thread nD τ).loc main_arg24) = m ((c : Thread nD τ).loc main_arg24)
      ∧ s.2.mem ((c : Thread nD τ).loc main_arg25) = m ((c : Thread nD τ).loc main_arg25)
      ∧ s.2.mem ((c : Thread nD τ).loc main_arg26) = m ((c : Thread nD τ).loc main_arg26)
      ∧ s.2.mem ((c : Thread nD τ).loc main_arg27) = m ((c : Thread nD τ).loc main_arg27)
      ∧ s.2.mem ((c : Thread nD τ).loc main_arg28) = m ((c : Thread nD τ).loc main_arg28) := by
  obtain ⟨a0, a1, a2, a3, a4, a5, a6, a7, a8, a9⟩ := args_a m s h c
  obtain ⟨b0, b1, b2, b3, b4, b5, b6, b7, b8, b9⟩ := args_b m s h c
  exact ⟨a0, a1, a2, a3, a4, a5, a6, a7, a8, a9, b0, b1, b2, b3, b4, b5, b6, b7, b8, b9, args_c m s h c⟩

/-- `Cert.quiescent_KernelIdeal`, over any float values. -/
theorem frameOf [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩ fun s => (∀ c : Dev nD,
      s.2.mem ((c.tc : Thread nD τ).loc main_arg0) = m ((c.tc : Thread nD τ).loc main_arg0)
      ∧ s.2.mem ((c.tc : Thread nD τ).loc main_arg1) = m ((c.tc : Thread nD τ).loc main_arg1)
      ∧ s.2.mem ((c.tc : Thread nD τ).loc main_arg2) = m ((c.tc : Thread nD τ).loc main_arg2)
      ∧ s.2.mem ((c.tc : Thread nD τ).loc main_arg3) = m ((c.tc : Thread nD τ).loc main_arg3)
      ∧ s.2.mem ((c.tc : Thread nD τ).loc main_arg4) = m ((c.tc : Thread nD τ).loc main_arg4)
      ∧ s.2.mem ((c.tc : Thread nD τ).loc main_arg5) = m ((c.tc : Thread nD τ).loc main_arg5)
      ∧ s.2.mem ((c.tc : Thread nD τ).loc main_arg6) = m ((c.tc : Thread nD τ).loc main_arg6)
      ∧ s.2.mem ((c.tc : Thread nD τ).loc main_arg7) = m ((c.tc : Thread nD τ).loc main_arg7)
      ∧ s.2.mem ((c.tc : Thread nD τ).loc main_arg8) = m ((c.tc : Thread nD τ).loc main_arg8)
      ∧ s.2.mem ((c.tc : Thread nD τ).loc main_arg9) = m ((c.tc : Thread nD τ).loc main_arg9)
      ∧ s.2.mem ((c.tc : Thread nD τ).loc main_arg10) = m ((c.tc : Thread nD τ).loc main_arg10)
      ∧ s.2.mem ((c.tc : Thread nD τ).loc main_arg11) = m ((c.tc : Thread nD τ).loc main_arg11)
      ∧ s.2.mem ((c.tc : Thread nD τ).loc main_arg12) = m ((c.tc : Thread nD τ).loc main_arg12)
      ∧ s.2.mem ((c.tc : Thread nD τ).loc main_arg13) = m ((c.tc : Thread nD τ).loc main_arg13)
      ∧ s.2.mem ((c.tc : Thread nD τ).loc main_arg14) = m ((c.tc : Thread nD τ).loc main_arg14)
      ∧ s.2.mem ((c.tc : Thread nD τ).loc main_arg15) = m ((c.tc : Thread nD τ).loc main_arg15)
      ∧ s.2.mem ((c.tc : Thread nD τ).loc main_arg16) = m ((c.tc : Thread nD τ).loc main_arg16)
      ∧ s.2.mem ((c.tc : Thread nD τ).loc main_arg17) = m ((c.tc : Thread nD τ).loc main_arg17)
      ∧ s.2.mem ((c.tc : Thread nD τ).loc main_arg18) = m ((c.tc : Thread nD τ).loc main_arg18)
      ∧ s.2.mem ((c.tc : Thread nD τ).loc main_arg19) = m ((c.tc : Thread nD τ).loc main_arg19)
      ∧ s.2.mem ((c.tc : Thread nD τ).loc main_arg20) = m ((c.tc : Thread nD τ).loc main_arg20)
      ∧ s.2.mem ((c.tc : Thread nD τ).loc main_arg21) = m ((c.tc : Thread nD τ).loc main_arg21)
      ∧ s.2.mem ((c.tc : Thread nD τ).loc main_arg22) = m ((c.tc : Thread nD τ).loc main_arg22)
      ∧ s.2.mem ((c.tc : Thread nD τ).loc main_arg23) = m ((c.tc : Thread nD τ).loc main_arg23)
      ∧ s.2.mem ((c.tc : Thread nD τ).loc main_arg24) = m ((c.tc : Thread nD τ).loc main_arg24)
      ∧ s.2.mem ((c.tc : Thread nD τ).loc main_arg25) = m ((c.tc : Thread nD τ).loc main_arg25)
      ∧ s.2.mem ((c.tc : Thread nD τ).loc main_arg26) = m ((c.tc : Thread nD τ).loc main_arg26)
      ∧ s.2.mem ((c.tc : Thread nD τ).loc main_arg27) = m ((c.tc : Thread nD τ).loc main_arg27)
      ∧ s.2.mem ((c.tc : Thread nD τ).loc main_arg28) = m ((c.tc : Thread nD τ).loc main_arg28))
    ∧ s.2.sem = fun _ => 0 :=
  (θ_run Cert.KernelIdeal.defs _ _).mono (fun s h => ⟨fun c => args_eq m s h c, h.2⟩) (run_main m ρ)

set_option maxHeartbeats 0 in
/-- `Cert.quiescent_Kernel`. -/
theorem frame_kernel : Cert.quiescent_Kernel := by
  have h := @frameOf Bits _ _
  rw [← Same.defs_eq (F := Bits)] at h
  exact fun m ρ _ => h m ρ

/-- `Cert.quiescent_KernelIdeal`. -/
theorem frame_kernelIdeal : Cert.quiescent_KernelIdeal := fun m ρ _ =>
  (θ_run Cert.KernelIdeal.defs _ _).mono (fun s h => ⟨fun c => args_eq m s h c, h.2⟩) (run_main (F := Ideal) m ρ)

/-- `Cert.quiescent_ReferenceIdeal`. -/
theorem frame_reference : Cert.quiescent_ReferenceIdeal := fun m ρ _ =>
  (θ_run Cert.ReferenceIdeal.defs _ _).mono (fun s h => ⟨fun c => (h c).2.2.2, Idealize.ShloMosaic.sem_eq_zero_of_no_sems (by decide) s.2⟩)
    (Cert.ReferenceIdeal.Value.run (F := Ideal) m ρ)

end Cert.Work

end
-- ==== Proof.Spec.lean ====
/-
  The mathematics both programs compute, over the extended reals: squared distances, a layer of the perceptron,
  the two stacks of layers.
-/
module

public import Idealize.ShloMosaic.Lib.Pointwise

@[expose] public section

set_option maxRecDepth 16384

noncomputable section

namespace Cert.Work.Spec

open Idealize.ShloMosaic

/-- The squared distance of two points, by the square expanded, not below zero. -/
def dsq (a b : Fin 3 → EReal) : EReal :=
  max ((∑ c, a c * a c) + (∑ c, b c * b c) - Ideal.ofBits .f32 0x40000000#32 * ∑ c, a c * b c) 0

/-- A linear layer: its weights times a column, and its bias. -/
def lin {n m : ℕ} (W : (⟨2, ![m, n]⟩ : Shape).Idx → EReal) (b : (⟨1, ![m]⟩ : Shape).Idx → EReal) (X : Fin n → EReal)
    (o : Fin m) : EReal := (∑ c, W (ix2 o c) * X c) + b (ix1 o)

/-- The same, not below zero. -/
def lay {n m : ℕ} (W : (⟨2, ![m, n]⟩ : Shape).Idx → EReal) (b : (⟨1, ![m]⟩ : Shape).Idx → EReal) (X : Fin n → EReal)
    (o : Fin m) : EReal := max (lin W b X o) 0

/-- The greatest of finitely many values. -/
def mx {K : ℕ} (f : Fin K → EReal) : EReal := Finset.univ.fold max (Ideal.ofBits .f32 0xFF800000#32) f

/-- One column above another. -/
def cat {p q n : ℕ} (h : n = p + q) (X : Fin p → EReal) (Y : Fin q → EReal) (i : Fin n) : EReal :=
  if h' : i.val < p then X ⟨i.val, h'⟩ else Y ⟨i.val - p, by omega⟩

/-- The first stack at one node: three layers on each neighbour, their maximum appended, two layers, the maximum. -/
def stack1 (W1 : (⟨2, ![64, 6]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 64]⟩ : Shape).Idx → EReal) (b3 : (⟨1, ![64]⟩ : Shape).Idx → EReal)
    (W4 : (⟨2, ![128, 128]⟩ : Shape).Idx → EReal) (b4 : (⟨1, ![128]⟩ : Shape).Idx → EReal)
    (W5 : (⟨2, ![128, 128]⟩ : Shape).Idx → EReal) (b5 : (⟨1, ![128]⟩ : Shape).Idx → EReal)
    (X : Fin 64 → Fin 6 → EReal) (o : Fin 128) : EReal :=
  mx fun k => lay W5 b5 (lay W4 b4 (cat (p := 64) (q := 64) rfl (lay W3 b3 (lay W2 b2 (lay W1 b1 (X k))))
    fun i => mx fun k' => lay W3 b3 (lay W2 b2 (lay W1 b1 (X k'))) i)) o

/-- The second stack at one node, down to the four last channels. -/
def stack2 (Wk1 : (⟨2, ![256, 131]⟩ : Shape).Idx → EReal) (bk1 : (⟨1, ![256]⟩ : Shape).Idx → EReal)
    (Wk2 : (⟨2, ![256, 256]⟩ : Shape).Idx → EReal) (bk2 : (⟨1, ![256]⟩ : Shape).Idx → EReal)
    (Wk3 : (⟨2, ![256, 256]⟩ : Shape).Idx → EReal) (bk3 : (⟨1, ![256]⟩ : Shape).Idx → EReal)
    (Wa1 : (⟨2, ![512, 512]⟩ : Shape).Idx → EReal) (ba1 : (⟨1, ![512]⟩ : Shape).Idx → EReal)
    (Wa2 : (⟨2, ![512, 512]⟩ : Shape).Idx → EReal) (ba2 : (⟨1, ![512]⟩ : Shape).Idx → EReal)
    (Wm1 : (⟨2, ![512, 640]⟩ : Shape).Idx → EReal) (bm1 : (⟨1, ![512]⟩ : Shape).Idx → EReal)
    (Wm2 : (⟨2, ![256, 512]⟩ : Shape).Idx → EReal) (bm2 : (⟨1, ![256]⟩ : Shape).Idx → EReal)
    (Wm3 : (⟨2, ![4, 256]⟩ : Shape).Idx → EReal) (bm3 : (⟨1, ![4]⟩ : Shape).Idx → EReal)
    (X : Fin 16 → Fin 131 → EReal) (sp : Fin 128 → EReal) (o : Fin 4) : EReal :=
  lin Wm3 bm3 (lay Wm2 bm2 (lay Wm1 bm1 (cat (p := 128) (q := 512) rfl sp
    fun j => mx fun k => lay Wa2 ba2 (lay Wa1 ba1 (cat (p := 256) (q := 256) rfl (lay Wk3 bk3 (lay Wk2 bk2 (lay Wk1 bk1 (X k))))
      fun i => mx fun k' => lay Wk3 bk3 (lay Wk2 bk2 (lay Wk1 bk1 (X k'))) i)) j))) o

/-- The softened last channel. -/
def soft (s : EReal) : EReal :=
  max s 0 + Ideal.log1p (Ideal.exp (-max s (-s))) + Ideal.ofBits .f32 0x3A83126F#32

end Cert.Work.Spec

end
-- ==== Proof.KLay.lean ====
/-
  The layers of the two stacks as the pipelined calls' bodies write them, read at an index.
-/
module

public import proofs.«01_k».proof.Proof.Spec
public import proofs.«01_k».proof.Proof.Gen.KernelIdeal.Skeleton

@[expose] public section

set_option maxRecDepth 16384

noncomputable section

namespace Cert.Work.Math

open Cert.KernelIdeal Cert.KernelIdeal.Gen Cert.Work.Spec
open Idealize.ShloMosaic

def kl_64_6_8192 (W : FVec Ideal S64x6 .f32) (b : FVec Ideal S64 .f32) (X : FVec Ideal S6x8192 .f32) : FVec Ideal S64x8192 .f32 :=
  maximumf (addf (matmul dot_S64x6_S6x8192_S64x8192_1_0_0_1_n_n none W X (constant S64x8192 .f32 0x00000000#32))
    (broadcastTo S64x8192 (shapeCast S64x1 b shapeCasts_S64_S64x1) broadcasts_S64x1_S64x8192)) (broadcast S64x8192 (Scalar.ofBits .f32 0x00000000#32))

theorem kl_64_6_8192_apply (W : FVec Ideal S64x6 .f32) (b : FVec Ideal S64 .f32) (X : FVec Ideal S6x8192 .f32) (o : Fin 64) (p : Fin 8192) :
    kl_64_6_8192 W b X (ix2 o p) = lay W b (fun c => X (ix2 c p)) o := by
  pointwise [kl_64_6_8192, lay, lin]

def kl_64_64_8192 (W : FVec Ideal S64x64 .f32) (b : FVec Ideal S64 .f32) (X : FVec Ideal S64x8192 .f32) : FVec Ideal S64x8192 .f32 :=
  maximumf (addf (matmul dot_S64x64_S64x8192_S64x8192_1_0_0_1_n_n none W X (constant S64x8192 .f32 0x00000000#32))
    (broadcastTo S64x8192 (shapeCast S64x1 b shapeCasts_S64_S64x1) broadcasts_S64x1_S64x8192)) (broadcast S64x8192 (Scalar.ofBits .f32 0x00000000#32))

theorem kl_64_64_8192_apply (W : FVec Ideal S64x64 .f32) (b : FVec Ideal S64 .f32) (X : FVec Ideal S64x8192 .f32) (o : Fin 64) (p : Fin 8192) :
    kl_64_64_8192 W b X (ix2 o p) = lay W b (fun c => X (ix2 c p)) o := by
  pointwise [kl_64_64_8192, lay, lin]

def kl_128_128_8192 (W : FVec Ideal S128x128 .f32) (b : FVec Ideal S128 .f32) (X : FVec Ideal S128x8192 .f32) : FVec Ideal S128x8192 .f32 :=
  maximumf (addf (matmul dot_S128x128_S128x8192_S128x8192_1_0_0_1_n_n none W X (constant S128x8192 .f32 0x00000000#32))
    (broadcastTo S128x8192 (shapeCast S128x1 b shapeCasts_S128_S128x1) broadcasts_S128x1_S128x8192)) (broadcast S128x8192 (Scalar.ofBits .f32 0x00000000#32))

theorem kl_128_128_8192_apply (W : FVec Ideal S128x128 .f32) (b : FVec Ideal S128 .f32) (X : FVec Ideal S128x8192 .f32) (o : Fin 128) (p : Fin 8192) :
    kl_128_128_8192 W b X (ix2 o p) = lay W b (fun c => X (ix2 c p)) o := by
  pointwise [kl_128_128_8192, lay, lin]

def kl_256_131_2048 (W : FVec Ideal S256x131 .f32) (b : FVec Ideal S256 .f32) (X : FVec Ideal S131x2048 .f32) : FVec Ideal S256x2048 .f32 :=
  maximumf (addf (matmul dot_S256x131_S131x2048_S256x2048_1_0_0_1_n_n none W X (constant S256x2048 .f32 0x00000000#32))
    (broadcastTo S256x2048 (shapeCast S256x1 b shapeCasts_S256_S256x1) broadcasts_S256x1_S256x2048)) (broadcast S256x2048 (Scalar.ofBits .f32 0x00000000#32))

theorem kl_256_131_2048_apply (W : FVec Ideal S256x131 .f32) (b : FVec Ideal S256 .f32) (X : FVec Ideal S131x2048 .f32) (o : Fin 256) (p : Fin 2048) :
    kl_256_131_2048 W b X (ix2 o p) = lay W b (fun c => X (ix2 c p)) o := by
  pointwise [kl_256_131_2048, lay, lin]

def kl_256_256_2048 (W : FVec Ideal S256x256 .f32) (b : FVec Ideal S256 .f32) (X : FVec Ideal S256x2048 .f32) : FVec Ideal S256x2048 .f32 :=
  maximumf (addf (matmul dot_S256x256_S256x2048_S256x2048_1_0_0_1_n_n none W X (constant S256x2048 .f32 0x00000000#32))
    (broadcastTo S256x2048 (shapeCast S256x1 b shapeCasts_S256_S256x1) broadcasts_S256x1_S256x2048)) (broadcast S256x2048 (Scalar.ofBits .f32 0x00000000#32))

theorem kl_256_256_2048_apply (W : FVec Ideal S256x256 .f32) (b : FVec Ideal S256 .f32) (X : FVec Ideal S256x2048 .f32) (o : Fin 256) (p : Fin 2048) :
    kl_256_256_2048 W b X (ix2 o p) = lay W b (fun c => X (ix2 c p)) o := by
  pointwise [kl_256_256_2048, lay, lin]

def kl_512_512_2048 (W : FVec Ideal S512x512 .f32) (b : FVec Ideal S512 .f32) (X : FVec Ideal S512x2048 .f32) : FVec Ideal S512x2048 .f32 :=
  maximumf (addf (matmul dot_S512x512_S512x2048_S512x2048_1_0_0_1_n_n none W X (constant S512x2048 .f32 0x00000000#32))
    (broadcastTo S512x2048 (shapeCast S512x1 b shapeCasts_S512_S512x1) broadcasts_S512x1_S512x2048)) (broadcast S512x2048 (Scalar.ofBits .f32 0x00000000#32))

theorem kl_512_512_2048_apply (W : FVec Ideal S512x512 .f32) (b : FVec Ideal S512 .f32) (X : FVec Ideal S512x2048 .f32) (o : Fin 512) (p : Fin 2048) :
    kl_512_512_2048 W b X (ix2 o p) = lay W b (fun c => X (ix2 c p)) o := by
  pointwise [kl_512_512_2048, lay, lin]

def kl_512_640_128 (W : FVec Ideal S512x640 .f32) (b : FVec Ideal S512 .f32) (X : FVec Ideal S640x128 .f32) : FVec Ideal S512x128 .f32 :=
  maximumf (addf (matmul dot_S512x640_S640x128_S512x128_1_0_0_1_n_n none W X (constant S512x128 .f32 0x00000000#32))
    (broadcastTo S512x128 (shapeCast S512x1 b shapeCasts_S512_S512x1) broadcasts_S512x1_S512x128)) (broadcast S512x128 (Scalar.ofBits .f32 0x00000000#32))

theorem kl_512_640_128_apply (W : FVec Ideal S512x640 .f32) (b : FVec Ideal S512 .f32) (X : FVec Ideal S640x128 .f32) (o : Fin 512) (p : Fin 128) :
    kl_512_640_128 W b X (ix2 o p) = lay W b (fun c => X (ix2 c p)) o := by
  pointwise [kl_512_640_128, lay, lin]

def kl_256_512_128 (W : FVec Ideal S256x512 .f32) (b : FVec Ideal S256 .f32) (X : FVec Ideal S512x128 .f32) : FVec Ideal S256x128 .f32 :=
  maximumf (addf (matmul dot_S256x512_S512x128_S256x128_1_0_0_1_n_n none W X (constant S256x128 .f32 0x00000000#32))
    (broadcastTo S256x128 (shapeCast S256x1 b shapeCasts_S256_S256x1) broadcasts_S256x1_S256x128)) (broadcast S256x128 (Scalar.ofBits .f32 0x00000000#32))

theorem kl_256_512_128_apply (W : FVec Ideal S256x512 .f32) (b : FVec Ideal S256 .f32) (X : FVec Ideal S512x128 .f32) (o : Fin 256) (p : Fin 128) :
    kl_256_512_128 W b X (ix2 o p) = lay W b (fun c => X (ix2 c p)) o := by
  pointwise [kl_256_512_128, lay, lin]

def kl_4_256_128 (W : FVec Ideal S4x256 .f32) (b : FVec Ideal S4 .f32) (X : FVec Ideal S256x128 .f32) : FVec Ideal S4x128 .f32 :=
  addf (matmul dot_S4x256_S256x128_S4x128_1_0_0_1_n_n none W X (constant S4x128 .f32 0x00000000#32))
    (broadcastTo S4x128 (shapeCast S4x1 b shapeCasts_S4_S4x1) broadcasts_S4x1_S4x128)

theorem kl_4_256_128_apply (W : FVec Ideal S4x256 .f32) (b : FVec Ideal S4 .f32) (X : FVec Ideal S256x128 .f32) (o : Fin 4) (p : Fin 128) :
    kl_4_256_128 W b X (ix2 o p) = lin W b (fun c => X (ix2 c p)) o := by
  pointwise [kl_4_256_128, lay, lin]

end Cert.Work.Math

end
-- ==== Proof.KDist.lean ====
/-
  What a point of the two distance grids stores.
-/
module

public import proofs.«01_k».proof.Proof.KLay

@[expose] public section

set_option maxRecDepth 16384

noncomputable section

namespace Cert.Work.Math

open Cert.KernelIdeal Cert.KernelIdeal.Gen Cert.Work.Spec
open Idealize.ShloMosaic

/-- What a point of the first distance grid stores. -/
theorem k0_apply (x0 : FVec Ideal S1x3x512 .f32) (x1 : FVec Ideal S1x3x2048 .f32) (m : Fin 512) (n : Fin 2048) :
    k0_pay1 (F := Ideal) (k0_pay2 x0 x1) (Scalar.ofBits .f32 0x00000000#32) (ix3 0 m n)
      = dsq (fun c => x0 (ix3 0 c m)) (fun c => x1 (ix3 0 c n)) := by
  pointwise [k0_pay1, k0_pay2, dsq]
  simp only [Fin.sum_univ_three]

/-- What a point of the second distance grid stores. -/
theorem k3_apply (x0 x1 : FVec Ideal S1x3x512 .f32) (m n : Fin 512) :
    k3_pay1 (F := Ideal) (k3_pay2 x0 x1) (Scalar.ofBits .f32 0x00000000#32) (ix3 0 m n)
      = dsq (fun c => x0 (ix3 0 c m)) (fun c => x1 (ix3 0 c n)) := by
  pointwise [k3_pay1, k3_pay2, dsq]
  simp only [Fin.sum_univ_three]

end Cert.Work.Math

end
-- ==== Proof.KReg0.lean ====
/-
  The distance array the first grid leaves.
-/
module

public import proofs.«01_k».proof.Proof.KDist
public import proofs.«01_k».proof.Proof.Vals
public import Idealize.ShloMosaic.Lib.Pipeline.ValueKit

@[expose] public section

set_option maxRecDepth 16384

noncomputable section

namespace Cert.Work.Value0

open Cert.KernelIdeal Cert.KernelIdeal.Gen Cert.Work.Spec Cert.Work.Math
open Idealize.ShloMosaic Idealize.ShloMosaic.TcCoe
open Idealize.ShloMosaic.Pipeline (Dat)

variable (V : Vals Ideal) (n : ℕ)

/-- The distances from a batch's nodes to its points. -/
def D0 (a : FVec Ideal S4x3x512 .f32) (x : FVec Ideal S4x3x16384 .f32) : FVec Ideal S4x512x16384 .f32 :=
  fun j => dsq (fun c => a (ix3 (j 0 : Fin 4) c (j 1 : Fin 512))) (fun c => x (ix3 (j 0 : Fin 4) c (j 2 : Fin 16384)))

theorem idx : ∀ t : Fin cfg0.N, win0_0.index t = ![t.val / 8, 0, 0] ∧ win0_1.index t = ![t.val / 8, 0, t.val % 8]
    ∧ win0_2.index t = ![t.val / 8, 0, t.val % 8] :=
  (by decide +kernel : ∀ t : Fin grid0.N, _)

theorem point (c : Dev nD) (t : Fin cfg0.N) (y : S1x512x2048.Idx) :
    k0_pay1 (F := Ideal) (k0_pay2 (Reg0.iblk V c 0 t) (Reg0.iblk V c 1 t)) (Scalar.ofBits .f32 0x00000000#32) y
      = D0 (V c (Proc.devRef .tc main_arg2)) (V c (Proc.devRef .tc main_arg0)) (((cfg0.win 2).blk t).view.emb y) := by
  obtain ⟨m, k, rfl⟩ : ∃ (m : Fin 512) (k : Fin 2048), y = ix3 0 m k := ⟨y 1, y 2, by
    funext b
    match b with
    | ⟨0, _⟩ => exact Fin.ext (by have := (y 0).isLt; simp at this ⊢)
    | ⟨1, _⟩ => rfl
    | ⟨2, _⟩ => rfl⟩
  rw [k0_apply]
  unfold D0
  blk_point [Reg0.iblk, idx t]

theorem final (c : Dev nD) : (Reg0.dat V n c).arrAt 2 cfg0.N
    = D0 (V c (Proc.devRef .tc main_arg2)) (V c (Proc.devRef .tc main_arg0)) := by
  refine (Reg0.dat V n c).arrAt_eq_of_covers 2 _ (by decide +kernel) fun t _ y => ?_
  blk_simp
  rw [Reg0.after_2]
  unfold Reg0.out_2
  frame_out
  exact point V c t y

end Cert.Work.Value0

end
-- ==== Proof.KReg3.lean ====
/-
  The distance array the third grid leaves.
-/
module

public import proofs.«01_k».proof.Proof.KDist
public import proofs.«01_k».proof.Proof.Vals
public import Idealize.ShloMosaic.Lib.Pipeline.ValueKit

@[expose] public section

set_option maxRecDepth 16384

noncomputable section

namespace Cert.Work.Value3

open Cert.KernelIdeal Cert.KernelIdeal.Gen Cert.Work.Spec Cert.Work.Math
open Idealize.ShloMosaic Idealize.ShloMosaic.TcCoe
open Idealize.ShloMosaic.Pipeline (Dat)

variable (V : Vals Ideal) (n : ℕ)

/-- The distances from a batch's nodes to each other. -/
def D3 (a : FVec Ideal S4x3x512 .f32) (x : FVec Ideal S4x3x512 .f32) : FVec Ideal S4x512x512 .f32 :=
  fun j => dsq (fun c => a (ix3 (j 0 : Fin 4) c (j 1 : Fin 512))) (fun c => x (ix3 (j 0 : Fin 4) c (j 2 : Fin 512)))

theorem idx : ∀ t : Fin cfg3.N, win3_0.index t = ![t.val, 0, 0] ∧ win3_1.index t = ![t.val, 0, 0]
    ∧ win3_2.index t = ![t.val, 0, 0] :=
  (by decide +kernel : ∀ t : Fin grid3.N, _)

theorem point (c : Dev nD) (t : Fin cfg3.N) (y : S1x512x512.Idx) :
    k3_pay1 (F := Ideal) (k3_pay2 (Reg3.iblk V c 0 t) (Reg3.iblk V c 1 t)) (Scalar.ofBits .f32 0x00000000#32) y
      = D3 (V c (Proc.devRef .tc main_arg2)) (V c (Proc.devRef .tc main_arg2)) (((cfg3.win 2).blk t).view.emb y) := by
  obtain ⟨m, k, rfl⟩ : ∃ (m : Fin 512) (k : Fin 512), y = ix3 0 m k := ⟨y 1, y 2, by
    funext b
    match b with
    | ⟨0, _⟩ => exact Fin.ext (by have := (y 0).isLt; simp at this ⊢)
    | ⟨1, _⟩ => rfl
    | ⟨2, _⟩ => rfl⟩
  rw [k3_apply]
  unfold D3
  blk_point [Reg3.iblk, idx t]

theorem final (c : Dev nD) : (Reg3.dat V n c).arrAt 2 cfg3.N
    = D3 (V c (Proc.devRef .tc main_arg2)) (V c (Proc.devRef .tc main_arg2)) := by
  refine (Reg3.dat V n c).arrAt_eq_of_covers 2 _ (by decide +kernel) fun t _ y => ?_
  blk_simp
  rw [Reg3.after_2]
  unfold Reg3.out_2
  frame_out
  exact point V c t y

end Cert.Work.Value3

end
-- ==== Proof.Whole.lean ====
/-
  What the two programs compute of their arguments: the neighbours chosen, the two stacks, the results.
-/
module

public import proofs.«01_k».proof.Proof.Spec
public import proofs.«01_k».proof.Proof.Vals

@[expose] public section

set_option maxRecDepth 16384

noncomputable section

namespace Cert.Work.Spec

open Idealize.ShloMosaic

/-- The twenty-nine arguments. -/
structure Args where
  x : (⟨3, ![4, 3, 16384]⟩ : Shape).Idx → EReal
  s : (⟨3, ![4, 3, 16384]⟩ : Shape).Idx → EReal
  a : (⟨3, ![4, 3, 512]⟩ : Shape).Idx → EReal
  W1 : (⟨2, ![64, 6]⟩ : Shape).Idx → EReal
  b1 : (⟨1, ![64]⟩ : Shape).Idx → EReal
  W2 : (⟨2, ![64, 64]⟩ : Shape).Idx → EReal
  b2 : (⟨1, ![64]⟩ : Shape).Idx → EReal
  W3 : (⟨2, ![64, 64]⟩ : Shape).Idx → EReal
  b3 : (⟨1, ![64]⟩ : Shape).Idx → EReal
  W4 : (⟨2, ![128, 128]⟩ : Shape).Idx → EReal
  b4 : (⟨1, ![128]⟩ : Shape).Idx → EReal
  W5 : (⟨2, ![128, 128]⟩ : Shape).Idx → EReal
  b5 : (⟨1, ![128]⟩ : Shape).Idx → EReal
  Wk1 : (⟨2, ![256, 131]⟩ : Shape).Idx → EReal
  bk1 : (⟨1, ![256]⟩ : Shape).Idx → EReal
  Wk2 : (⟨2, ![256, 256]⟩ : Shape).Idx → EReal
  bk2 : (⟨1, ![256]⟩ : Shape).Idx → EReal
  Wk3 : (⟨2, ![256, 256]⟩ : Shape).Idx → EReal
  bk3 : (⟨1, ![256]⟩ : Shape).Idx → EReal
  Wa1 : (⟨2, ![512, 512]⟩ : Shape).Idx → EReal
  ba1 : (⟨1, ![512]⟩ : Shape).Idx → EReal
  Wa2 : (⟨2, ![512, 512]⟩ : Shape).Idx → EReal
  ba2 : (⟨1, ![512]⟩ : Shape).Idx → EReal
  Wm1 : (⟨2, ![512, 640]⟩ : Shape).Idx → EReal
  bm1 : (⟨1, ![512]⟩ : Shape).Idx → EReal
  Wm2 : (⟨2, ![256, 512]⟩ : Shape).Idx → EReal
  bm2 : (⟨1, ![256]⟩ : Shape).Idx → EReal
  Wm3 : (⟨2, ![4, 256]⟩ : Shape).Idx → EReal
  bm3 : (⟨1, ![4]⟩ : Shape).Idx → EReal

/-- What the first selection sorts: negated distances from the nodes to the points. -/
def key1 (a : (⟨3, ![4, 3, 512]⟩ : Shape).Idx → EReal) (x : (⟨3, ![4, 3, 16384]⟩ : Shape).Idx → EReal) : (⟨3, ![4, 512, 16384]⟩ : Shape).Idx → EReal :=
  fun j => - dsq (fun c => a (ix3 (j 0 : Fin 4) c (j 1 : Fin 512))) (fun c => x (ix3 (j 0 : Fin 4) c (j 2 : Fin 16384)))

/-- What the second sorts: negated distances between the nodes. -/
def key2 (a : (⟨3, ![4, 3, 512]⟩ : Shape).Idx → EReal) : (⟨3, ![4, 512, 512]⟩ : Shape).Idx → EReal :=
  fun j => - dsq (fun c => a (ix3 (j 0 : Fin 4) c (j 1 : Fin 512))) (fun c => a (ix3 (j 0 : Fin 4) c (j 2 : Fin 512)))

/-- The first selection's words. -/
def words1 (a : (⟨3, ![4, 3, 512]⟩ : Shape).Idx → EReal) (x : (⟨3, ![4, 3, 16384]⟩ : Shape).Idx → EReal) : (⟨3, ![4, 512, 64]⟩ : Shape).Idx → BitVec 32 :=
  (Host.topK ⟨3, ![4, 512, 64]⟩ 2 (FloatOps.cmpfTotal (F := Ideal) (φ := .f32) .gt) (key1 a x) Cert.KernelIdeal.Gen.sliceFits_S4x512x16384_S4x512x64).2

/-- The second selection's. -/
def words2 (a : (⟨3, ![4, 3, 512]⟩ : Shape).Idx → EReal) : (⟨3, ![4, 512, 16]⟩ : Shape).Idx → BitVec 32 :=
  (Host.topK ⟨3, ![4, 512, 16]⟩ 2 (FloatOps.cmpfTotal (F := Ideal) (φ := .f32) .gt) (key2 a) Cert.KernelIdeal.Gen.sliceFits_S4x512x512_S4x512x16).2

theorem words1_ex (a : (⟨3, ![4, 3, 512]⟩ : Shape).Idx → EReal) (x : (⟨3, ![4, 3, 16384]⟩ : Shape).Idx → EReal) :
    ∃ κ : (⟨3, ![4, 512, 64]⟩ : Shape).Idx → Fin 16384, ∀ j, words1 a x j = BitVec.ofNat 32 (κ j).val := by
  choose κ h using fun j => topK_idx ⟨3, ![4, 512, 64]⟩ 2 (by decide) (FloatOps.cmpfTotal (F := Ideal) (φ := .f32) .gt) (key1 a x)
    Cert.KernelIdeal.Gen.sliceFits_S4x512x16384_S4x512x64 j
  exact ⟨κ, h⟩

theorem words2_ex (a : (⟨3, ![4, 3, 512]⟩ : Shape).Idx → EReal) :
    ∃ κ : (⟨3, ![4, 512, 16]⟩ : Shape).Idx → Fin 512, ∀ j, words2 a j = BitVec.ofNat 32 (κ j).val := by
  choose κ h using fun j => topK_idx ⟨3, ![4, 512, 16]⟩ 2 (by decide) (FloatOps.cmpfTotal (F := Ideal) (φ := .f32) .gt) (key2 a)
    Cert.KernelIdeal.Gen.sliceFits_S4x512x512_S4x512x16 j
  exact ⟨κ, h⟩

/-- The points the first selection picks, each a number on its axis. -/
def sel1 (a : (⟨3, ![4, 3, 512]⟩ : Shape).Idx → EReal) (x : (⟨3, ![4, 3, 16384]⟩ : Shape).Idx → EReal) : (⟨3, ![4, 512, 64]⟩ : Shape).Idx → Fin 16384 :=
  Classical.choose (words1_ex a x)

theorem words1_eq (a : (⟨3, ![4, 3, 512]⟩ : Shape).Idx → EReal) (x : (⟨3, ![4, 3, 16384]⟩ : Shape).Idx → EReal) (j) :
    words1 a x j = BitVec.ofNat 32 (sel1 a x j).val := Classical.choose_spec (words1_ex a x) j

/-- The nodes the second picks. -/
def sel2 (a : (⟨3, ![4, 3, 512]⟩ : Shape).Idx → EReal) : (⟨3, ![4, 512, 16]⟩ : Shape).Idx → Fin 512 :=
  Classical.choose (words2_ex a)

theorem words2_eq (a : (⟨3, ![4, 3, 512]⟩ : Shape).Idx → EReal) (j) :
    words2 a j = BitVec.ofNat 32 (sel2 a j).val := Classical.choose_spec (words2_ex a) j

/-- The first stack's output, batch by channel by node. -/
def sp (A : Args) (e : Fin 4) (o : Fin 128) (i : Fin 512) : EReal :=
  stack1 A.W1 A.b1 A.W2 A.b2 A.W3 A.b3 A.W4 A.b4 A.W5 A.b5
    (fun k => cat (p := 3) (q := 3) rfl (fun c => A.x (ix3 e c (sel1 A.a A.x (ix3 e i k))) - A.a (ix3 e c i))
      (fun c => A.s (ix3 e c (sel1 A.a A.x (ix3 e i k))))) o

/-- The second stack's. -/
def ks (A : Args) (e : Fin 4) (o : Fin 4) (i : Fin 512) : EReal :=
  stack2 A.Wk1 A.bk1 A.Wk2 A.bk2 A.Wk3 A.bk3 A.Wa1 A.ba1 A.Wa2 A.ba2 A.Wm1 A.bm1 A.Wm2 A.bm2 A.Wm3 A.bm3
    (fun k => cat (p := 3) (q := 128) rfl (fun c => A.a (ix3 e c (sel2 A.a (ix3 e i k))) - A.a (ix3 e c i))
      (fun c => sp A e c (sel2 A.a (ix3 e i k))))
    (fun j => sp A e j i) o

/-- The keypoints. -/
def keyp (A : Args) (e : Fin 4) (c : Fin 3) (i : Fin 512) : EReal :=
  ks A e (⟨c.val, by omega⟩ : Fin 4) i + A.a (ix3 e c i)

/-- The sigmas. -/
def sigm (A : Args) (e : Fin 4) (i : Fin 512) : EReal := soft (ks A e 3 i)

theorem cat_lo {p q n : ℕ} (h : n = p + q) (X : Fin p → EReal) (Y : Fin q → EReal) (c : Fin p) (hc : c.val < n) :
    cat h X Y ⟨c.val, hc⟩ = X c := dif_pos c.isLt

theorem cat_hi {p q n : ℕ} (h : n = p + q) (X : Fin p → EReal) (Y : Fin q → EReal) (c : Fin q) (hc : p + c.val < n) :
    cat h X Y ⟨p + c.val, hc⟩ = Y c := by
  unfold cat
  rw [dif_neg (by simp)]
  congr 1
  exact Fin.ext (by simp)

end Cert.Work.Spec

end
-- ==== Proof.KHost.lean ====
/-
  What the host operations and the gathers around the grids leave, at an index.
-/
module

public import proofs.«01_k».proof.Proof.KReg0
public import proofs.«01_k».proof.Proof.KReg3
public import proofs.«01_k».proof.Proof.Whole
public import Idealize.ShloMosaic.Lib.Pipeline.ValueKit

@[expose] public section

set_option maxRecDepth 16384

noncomputable section

namespace Cert.Work.Host

open Cert.KernelIdeal Cert.KernelIdeal.Gen Cert.Work.Spec Cert.Work.Math
open Idealize.ShloMosaic Idealize.ShloMosaic.TcCoe Idealize.ShloMosaic.Tactic
open Idealize.ShloMosaic.StableHlo (after)

theorem bias_toNat (k b m c : ℕ) (hk : k < m) (hb : b < 4) (hm : m * 4 ≤ 65536) (hc : c = m) :
    (BitVec.ofNat 32 k + BitVec.ofNat 32 b * BitVec.ofNat 32 c).toNat = k + b * c := by
  subst hc
  have h1 : b * c ≤ 3 * c := Nat.mul_le_mul_right c (by omega)
  rw [BitVec.toNat_add, BitVec.toNat_mul, BitVec.toNat_ofNat, BitVec.toNat_ofNat, BitVec.toNat_ofNat]
  rw [Nat.mod_eq_of_lt (a := k) (by omega), Nat.mod_eq_of_lt (a := b) (by omega), Nat.mod_eq_of_lt (a := c) (by omega),
    Nat.mod_eq_of_lt (a := b * c) (by omega), Nat.mod_eq_of_lt (by omega)]

/-! ## The row lists -/

/-- Neighbour `k` of node `m` of batch `e` in the first row list, -/
def r1 (e : Fin 4) (m : Fin 512) (k : Fin 64) : Fin 131072 := ⟨e.val * 32768 + m.val * 64 + k.val, by omega⟩
/-- and in the second. -/
def r3 (e : Fin 4) (m : Fin 512) (k : Fin 16) : Fin 32768 := ⟨e.val * 8192 + m.val * 16 + k.val, by omega⟩

def rows1 (w : S4x512x64.Idx → BitVec 32) : S131072.Idx → BitVec 32 :=
  shapeCast S131072 (addi w bias1) shapeCasts_S4x512x64_S131072

theorem rows1_apply (w : S4x512x64.Idx → BitVec 32) (e : Fin 4) (m : Fin 512) (k : Fin 64) :
    rows1 w (ix1 (r1 e m k)) = w (ix3 e m k) + BitVec.ofNat 32 e.val * BitVec.ofNat 32 16384 := by
  pointwise [rows1, bias1, r1]
  rfl

def rows3 (w : S4x512x16.Idx → BitVec 32) : S32768.Idx → BitVec 32 :=
  shapeCast S32768 (addi w bias3) shapeCasts_S4x512x16_S32768

theorem rows3_apply (w : S4x512x16.Idx → BitVec 32) (e : Fin 4) (m : Fin 512) (k : Fin 16) :
    rows3 w (ix1 (r3 e m k)) = w (ix3 e m k) + BitVec.ofNat 32 e.val * BitVec.ofNat 32 512 := by
  pointwise [rows3, bias3, r3]
  rfl

theorem neg0 (a : FVec Ideal S4x3x512 .f32) (x : FVec Ideal S4x3x16384 .f32) :
    (Host.negf (Value0.D0 a x) : FVec Ideal S4x512x16384 .f32) = key1 a x := rfl

theorem neg3 (a : FVec Ideal S4x3x512 .f32) :
    (Host.negf (Value3.D3 a a) : FVec Ideal S4x512x512 .f32) = key2 a := rfl

theorem ix1Of_toNat (a : FVec Ideal S4x3x512 .f32) (x : FVec Ideal S4x3x16384 .f32) (e : Fin 4) (m : Fin 512) (k : Fin 64) :
    (ix1Of (F := Ideal) (Value0.D0 a x) (ix1 (r1 e m k))).toNat = (sel1 a x (ix3 e m k)).val + e.val * 16384 := by
  have h : ix1Of (F := Ideal) (Value0.D0 a x) = rows1 (words1 a x) := by
    unfold ix1Of rows1 words1
    rw [neg0]
  rw [h, rows1_apply, words1_eq]
  exact bias_toNat _ _ 16384 16384 (sel1 a x (ix3 e m k)).isLt e.isLt (by omega) rfl

theorem ix3Of_toNat (a : FVec Ideal S4x3x512 .f32) (e : Fin 4) (m : Fin 512) (k : Fin 16) :
    (ix3Of (F := Ideal) (Value3.D3 a a) (ix1 (r3 e m k))).toNat = (sel2 a (ix3 e m k)).val + e.val * 512 := by
  have h : ix3Of (F := Ideal) (Value3.D3 a a) = rows3 (words2 a) := by
    unfold ix3Of rows3 words2
    rw [neg3]
  rw [h, rows3_apply, words2_eq]
  exact bias_toNat _ _ 512 512 (sel2 a (ix3 e m k)).isLt e.isLt (by omega) rfl

/-! ## The tables -/

/-- Point `n` of batch `e` in the first table, -/
def p1 (e : Fin 4) (n : Fin 16384) : Fin 65536 := ⟨e.val * 16384 + n.val, by omega⟩
/-- node `n` of batch `e` in the other two. -/
def p3 (e : Fin 4) (n : Fin 512) : Fin 2048 := ⟨e.val * 512 + n.val, by omega⟩

def tab1 (x s : FVec Ideal S4x3x16384 .f32) : FVec Ideal S65536x16 .f32 :=
  shapeCast S65536x16 (concatenate S4x16384x16 2 [⟨S4x16384x3, transpose S4x16384x3 [0, 2, 1] x transposes_S4x3x16384_S4x16384x3_0_2_1⟩,
    ⟨S4x16384x3, transpose S4x16384x3 [0, 2, 1] s transposes_S4x3x16384_S4x16384x3_0_2_1⟩,
    ⟨S4x16384x10, broadcastInDim S4x16384x10 ![] bcast_S_S4x16384x10 (constant (F := Ideal) S_ .f32 0x00000000#32)⟩]
    concatenates_S4x16384x3_S4x16384x3_S4x16384x10_S4x16384x16_d2) shapeCasts_S4x16384x16_S65536x16

theorem tab1_lo (x s : FVec Ideal S4x3x16384 .f32) (e : Fin 4) (n : Fin 16384) (c : Fin 3) :
    tab1 x s (ix2 (p1 e n) (⟨c.val, by omega⟩ : Fin 16)) = x (ix3 e c n) := by
  pointwise [tab1, p1]

theorem tab1_hi (x s : FVec Ideal S4x3x16384 .f32) (e : Fin 4) (n : Fin 16384) (c : Fin 3) :
    tab1 x s (ix2 (p1 e n) (⟨3 + c.val, by omega⟩ : Fin 16)) = s (ix3 e c n) := by
  pointwise [tab1, p1]

def tab3 (a : FVec Ideal S4x3x512 .f32) : FVec Ideal S2048x16 .f32 :=
  shapeCast S2048x16 (concatenate S4x512x16 2 [⟨S4x512x3, transpose S4x512x3 [0, 2, 1] a transposes_S4x3x512_S4x512x3_0_2_1⟩,
    ⟨S4x512x13, broadcastInDim S4x512x13 ![] bcast_S_S4x512x13 (constant (F := Ideal) S_ .f32 0x00000000#32)⟩]
    concatenates_S4x512x3_S4x512x13_S4x512x16_d2) shapeCasts_S4x512x16_S2048x16

theorem tab3_lo (a : FVec Ideal S4x3x512 .f32) (e : Fin 4) (n : Fin 512) (c : Fin 3) :
    tab3 a (ix2 (p3 e n) (⟨c.val, by omega⟩ : Fin 16)) = a (ix3 e c n) := by
  pointwise [tab3, p3]

def tab5 (z : FVec Ideal S4x512x128 .f32) : FVec Ideal S2048x128 .f32 :=
  shapeCast S2048x128 z shapeCasts_S4x512x128_S2048x128

theorem tab5_apply (z : FVec Ideal S4x512x128 .f32) (e : Fin 4) (n : Fin 512) (c : Fin 128) :
    tab5 z (ix2 (p3 e n) c) = z (ix3 e n c) := by
  pointwise [tab5, p3]

/-! ## What the gathers return, laid out for the stacks -/

def h17 (g : FVec Ideal S131072x16 .f32) : FVec Ideal S4x16x512x64 .f32 :=
  shapeCast S4x16x512x64 (transpose S4x16x32768 [0, 2, 1] (shapeCast S4x32768x16 g shapeCasts_S131072x16_S4x32768x16)
    transposes_S4x32768x16_S4x16x32768_0_2_1) shapeCasts_S4x16x32768_S4x16x512x64

theorem h17_apply (g : FVec Ideal S131072x16 .f32) (e : Fin 4) (c : Fin 16) (m : Fin 512) (k : Fin 64) :
    h17 g (ix4 e c m k) = g (ix2 (r1 e m k) c) := by
  pointwise [h17, r1]
  exact congrArg (fun q => g (ix2 q c)) (Fin.ext (Nat.add_assoc _ _ _).symm)

def h37 (g : FVec Ideal S32768x16 .f32) : FVec Ideal S4x16x512x16 .f32 :=
  shapeCast S4x16x512x16 (transpose S4x16x8192 [0, 2, 1] (shapeCast S4x8192x16 g shapeCasts_S32768x16_S4x8192x16)
    transposes_S4x8192x16_S4x16x8192_0_2_1) shapeCasts_S4x16x8192_S4x16x512x16

theorem h37_apply (g : FVec Ideal S32768x16 .f32) (e : Fin 4) (c : Fin 16) (m : Fin 512) (k : Fin 16) :
    h37 g (ix4 e c m k) = g (ix2 (r3 e m k) c) := by
  pointwise [h37, r3]
  exact congrArg (fun q => g (ix2 q c)) (Fin.ext (Nat.add_assoc _ _ _).symm)

def h40 (g : FVec Ideal S32768x128 .f32) : FVec Ideal S4x128x512x16 .f32 :=
  shapeCast S4x128x512x16 (transpose S4x128x8192 [0, 2, 1] (shapeCast S4x8192x128 g shapeCasts_S32768x128_S4x8192x128)
    transposes_S4x8192x128_S4x128x8192_0_2_1) shapeCasts_S4x128x8192_S4x128x512x16

theorem h40_apply (g : FVec Ideal S32768x128 .f32) (e : Fin 4) (c : Fin 128) (m : Fin 512) (k : Fin 16) :
    h40 g (ix4 e c m k) = g (ix2 (r3 e m k) c) := by
  pointwise [h40, r3]
  exact congrArg (fun q => g (ix2 q c)) (Fin.ext (Nat.add_assoc _ _ _).symm)

def h41 (z : FVec Ideal S4x512x128 .f32) : FVec Ideal S4x128x512 .f32 :=
  transpose S4x128x512 [0, 2, 1] z transposes_S4x512x128_S4x128x512_0_2_1

theorem h41_apply (z : FVec Ideal S4x512x128 .f32) (e : Fin 4) (c : Fin 128) (m : Fin 512) :
    h41 z (ix3 e c m) = z (ix3 e m c) := by
  pointwise [h41]

def h43 (z : FVec Ideal S4x1x512 .f32) : FVec Ideal S4x512 .f32 :=
  shapeCast S4x512 z shapeCasts_S4x1x512_S4x512

theorem h43_apply (z : FVec Ideal S4x1x512 .f32) (e : Fin 4) (m : Fin 512) : h43 z (ix2 e m) = z (ix3 e 0 m) := by
  pointwise [h43]

/-! ## The rows themselves -/

theorem out1_apply (tb : FVec Ideal S65536x16 .f32) (ix : S131072.Idx → BitVec 32) (r : Fin 131072) (c : Fin 16) (e : Fin 4) (n : Fin 16384)
    (h : (ix (ix1 r)).toNat = n.val + e.val * 16384) :
    Tile1.outVal (F := Ideal) tb ix (ix2 r c) = tb (ix2 (p1 e n) c) := by
  unfold Tile1.outVal
  congr 1
  funext b
  match b with
  | ⟨0, _⟩ =>
    refine Fin.ext ?_
    show (ix (fun | ⟨0, _⟩ => r)).toNat % 65536 = e.val * 16384 + n.val
    refine (congrArg (fun z => (ix z).toNat % 65536) (?_ : _ = ix1 r)).trans ?_
    · funext b
      match b with
      | ⟨0, _⟩ => rfl
    · show (ix (ix1 r)).toNat % 65536 = _
      rw [h]
      omega
  | ⟨1, _⟩ => rfl

theorem out4_apply (tb : FVec Ideal S2048x16 .f32) (ix : S32768.Idx → BitVec 32) (r : Fin 32768) (c : Fin 16) (e : Fin 4) (n : Fin 512)
    (h : (ix (ix1 r)).toNat = n.val + e.val * 512) :
    Tile4.outVal (F := Ideal) tb ix (ix2 r c) = tb (ix2 (p3 e n) c) := by
  unfold Tile4.outVal
  congr 1
  funext b
  match b with
  | ⟨0, _⟩ =>
    refine Fin.ext ?_
    show (ix (fun | ⟨0, _⟩ => r)).toNat % 2048 = e.val * 512 + n.val
    refine (congrArg (fun z => (ix z).toNat % 2048) (?_ : _ = ix1 r)).trans ?_
    · funext b
      match b with
      | ⟨0, _⟩ => rfl
    · show (ix (ix1 r)).toNat % 2048 = _
      rw [h]
      omega
  | ⟨1, _⟩ => rfl

theorem out5_apply (tb : FVec Ideal S2048x128 .f32) (ix : S32768.Idx → BitVec 32) (r : Fin 32768) (c : Fin 128) (e : Fin 4) (n : Fin 512)
    (h : (ix (ix1 r)).toNat = n.val + e.val * 512) :
    Tile5.outVal (F := Ideal) tb ix (ix2 r c) = tb (ix2 (p3 e n) c) := by
  unfold Tile5.outVal
  congr 1
  funext b
  match b with
  | ⟨0, _⟩ =>
    refine Fin.ext ?_
    show (ix (fun | ⟨0, _⟩ => r)).toNat % 2048 = e.val * 512 + n.val
    refine (congrArg (fun z => (ix z).toNat % 2048) (?_ : _ = ix1 r)).trans ?_
    · funext b
      match b with
      | ⟨0, _⟩ => rfl
    · show (ix (ix1 r)).toNat % 2048 = _
      rw [h]
      omega
  | ⟨1, _⟩ => rfl

/-! ## The stretches of host operations -/

variable (V : Valuation τ sig (Elt Ideal))

theorem ops1_v6 : after (ops1 (F := Ideal)) V (Proc.devRef .tc main_v6) = tab1 (V (Proc.devRef .tc main_arg0)) (V (Proc.devRef .tc main_arg1)) := by
  unfold ops1 tab1
  after_results
  rfl

theorem ops2_v17 : after (ops2 (F := Ideal)) V (Proc.devRef .tc main_v17) = h17 (V (Proc.devRef .tc main_v14)) := by
  unfold ops2 h17
  after_results
  rfl

theorem ops3_v31 : after (ops3 (F := Ideal)) V (Proc.devRef .tc main_v31) = tab3 (V (Proc.devRef .tc main_arg2)) := by
  unfold ops3 tab3
  after_results
  rfl

theorem ops4_v33 : after (ops4 (F := Ideal)) V (Proc.devRef .tc main_v33) = tab5 (V (Proc.devRef .tc main_v18)) := by
  unfold ops4 tab5
  after_results
  rfl

theorem ops5_v37 : after (ops5 (F := Ideal)) V (Proc.devRef .tc main_v37) = h37 (V (Proc.devRef .tc main_v32)) := by
  unfold ops5 h37
  after_results
  rfl

theorem ops5_v40 : after (ops5 (F := Ideal)) V (Proc.devRef .tc main_v40) = h40 (V (Proc.devRef .tc main_v34)) := by
  unfold ops5 h40
  after_results
  rfl

theorem ops5_v41 : after (ops5 (F := Ideal)) V (Proc.devRef .tc main_v41) = h41 (V (Proc.devRef .tc main_v18)) := by
  unfold ops5 h41
  after_results

theorem ops6_v43 : after (ops6 (F := Ideal)) V (Proc.devRef .tc main_v43) = h43 (V (Proc.devRef .tc main_v42_1)) := by
  unfold ops6 h43
  after_results
  rfl

end Cert.Work.Host

end
-- ==== Proof.KStack1.lean ====
/-
  What a point of the first stack's grid stores, layer by layer.
-/
module

public import proofs.«01_k».proof.Proof.KLay

@[expose] public section

set_option maxRecDepth 16384

noncomputable section

namespace Cert.Work.Math

open Cert.KernelIdeal Cert.KernelIdeal.Gen Cert.Work.Spec
open Idealize.ShloMosaic

/-- Neighbour `k` of node `m` among a block's columns. -/
def pt (m : Fin 128) (k : Fin 64) : Fin 8192 := ⟨m.val * 64 + k.val, by omega⟩

/-- The channels the first stack starts from. -/
def k2X (x0 : FVec Ideal S1x16x128x64 .f32) (x1 : FVec Ideal S1x3x128 .f32) : FVec Ideal S6x8192 .f32 :=
  have v1 : FVec Ideal S16x128x64 .f32 := shapeCast S16x128x64 x0 shapeCasts_S1x16x128x64_S16x128x64
  have v3 : FVec Ideal S3x128 .f32 := shapeCast S3x128 x1 shapeCasts_S1x3x128_S3x128
  have v4 : FVec Ideal S3x128x64 .f32 := extractStridedSlice S3x128x64 ![0, 0, 0] v1 slices_S16x128x64_o0_0_0_S3x128x64
  have v5 : FVec Ideal S3x128x1 .f32 := shapeCast S3x128x1 v3 shapeCasts_S3x128_S3x128x1
  have v6 : FVec Ideal S3x128x64 .f32 := broadcastTo S3x128x64 v5 broadcasts_S3x128x1_S3x128x64
  have v7 : FVec Ideal S3x128x64 .f32 := subf v4 v6
  have v8 : FVec Ideal S3x128x64 .f32 := extractStridedSlice S3x128x64 ![3, 0, 0] v1 slices_S16x128x64_o3_0_0_S3x128x64
  have v9 : FVec Ideal S6x128x64 .f32 := concatenate S6x128x64 0 [⟨S3x128x64, v7⟩, ⟨S3x128x64, v8⟩] concatenates_S3x128x64_S3x128x64_S6x128x64_d0
  have v10 : FVec Ideal S6x8192 .f32 := shapeCast S6x8192 v9 shapeCasts_S6x128x64_S6x8192
  v10

/-- A layer's output with its maximum over the neighbours below it. -/
def k2cat (h : FVec Ideal S64x8192 .f32) : FVec Ideal S128x8192 .f32 :=
  have v35 : FVec Ideal S64x128x64 .f32 := shapeCast S64x128x64 h shapeCasts_S64x8192_S64x128x64
  have v36 : FVec Ideal S64x128 .f32 := multiReduction .maximumf [2] S64x128 v35 0xFF800000#32 reduces_S64x128x64_S64x128 (.inl rfl) rfl
  have v37 : FVec Ideal S64x128x1 .f32 := shapeCast S64x128x1 v36 shapeCasts_S64x128_S64x128x1
  have v38 : FVec Ideal S64x128x1 .f32 := shapeCast S64x128x1 v37 shapeCasts_S64x128x1_S64x128x1
  have v39 : FVec Ideal S64x128x64 .f32 := broadcastTo S64x128x64 v38 broadcasts_S64x128x1_S64x128x64
  have v40 : FVec Ideal S64x8192 .f32 := shapeCast S64x8192 v39 shapeCasts_S64x128x64_S64x8192
  have v41 : FVec Ideal S128x8192 .f32 := concatenate S128x8192 0 [⟨S64x8192, h⟩, ⟨S64x8192, v40⟩] concatenates_S64x8192_S64x8192_S128x8192_d0
  v41

/-- The maximum over the neighbours, nodes first. -/
def k2fin (Y : FVec Ideal S128x8192 .f32) : FVec Ideal S1x128x128 .f32 :=
  shapeCast S1x128x128 (transpose S128x128 [1, 0]
    (multiReduction .maximumf [2] S128x128 (shapeCast S128x128x64 Y shapeCasts_S128x8192_S128x128x64) 0xFF800000#32 reduces_S128x128x64_S128x128 (.inl rfl) rfl)
    transposes_S128x128_p1_0_S128x128) shapeCasts_S128x128_S1x128x128

theorem k2_eq (x0 : FVec Ideal S1x16x128x64 .f32) (x1 : FVec Ideal S1x3x128 .f32) (W1 : FVec Ideal S64x6 .f32) (b1 : FVec Ideal S64 .f32)
    (W2 : FVec Ideal S64x64 .f32) (b2 : FVec Ideal S64 .f32) (W3 : FVec Ideal S64x64 .f32) (b3 : FVec Ideal S64 .f32)
    (W4 : FVec Ideal S128x128 .f32) (b4 : FVec Ideal S128 .f32) (W5 : FVec Ideal S128x128 .f32) (b5 : FVec Ideal S128 .f32) :
    k2_pay1 (F := Ideal) (k2_pay2 x0 x1 W1 b1 W2 b2 W3 b3) (k2_pay3 x0 x1 W1 b1 W2 b2 W3 b3) W4 b4 W5 b5
      = k2fin (kl_128_128_8192 W5 b5 (kl_128_128_8192 W4 b4 (k2cat
          (kl_64_64_8192 W3 b3 (kl_64_64_8192 W2 b2 (kl_64_6_8192 W1 b1 (k2X x0 x1))))))) := rfl

theorem k2X_apply (x0 : FVec Ideal S1x16x128x64 .f32) (x1 : FVec Ideal S1x3x128 .f32) (c : Fin 6) (m : Fin 128) (k : Fin 64) :
    k2X x0 x1 (ix2 c (pt m k)) = cat (p := 3) (q := 3) rfl (fun c => x0 (ix4 0 (⟨c.val, by omega⟩ : Fin 16) m k) - x1 (ix3 0 c m))
      (fun c => x0 (ix4 0 (⟨3 + c.val, by omega⟩ : Fin 16) m k)) c := by
  pointwise [k2X, cat, pt]

theorem k2cat_apply (h : FVec Ideal S64x8192 .f32) (c : Fin 128) (m : Fin 128) (k : Fin 64) :
    k2cat h (ix2 c (pt m k)) = cat (p := 64) (q := 64) rfl (fun i => h (ix2 i (pt m k))) (fun i => mx fun k' => h (ix2 i (pt m k'))) c := by
  pointwise [k2cat, cat, mx, pt]

theorem k2fin_apply (Y : FVec Ideal S128x8192 .f32) (m o : Fin 128) :
    k2fin Y (ix3 0 m o) = mx fun k => Y (ix2 o (pt m k)) := by
  pointwise [k2fin, mx, pt]

/-- What a point of the first stack's grid stores, at a node and a channel. -/
theorem k2_apply (x0 : FVec Ideal S1x16x128x64 .f32) (x1 : FVec Ideal S1x3x128 .f32) (W1 : FVec Ideal S64x6 .f32) (b1 : FVec Ideal S64 .f32)
    (W2 : FVec Ideal S64x64 .f32) (b2 : FVec Ideal S64 .f32) (W3 : FVec Ideal S64x64 .f32) (b3 : FVec Ideal S64 .f32)
    (W4 : FVec Ideal S128x128 .f32) (b4 : FVec Ideal S128 .f32) (W5 : FVec Ideal S128x128 .f32) (b5 : FVec Ideal S128 .f32) (m o : Fin 128) :
    k2_pay1 (F := Ideal) (k2_pay2 x0 x1 W1 b1 W2 b2 W3 b3) (k2_pay3 x0 x1 W1 b1 W2 b2 W3 b3) W4 b4 W5 b5 (ix3 0 m o)
      = stack1 W1 b1 W2 b2 W3 b3 W4 b4 W5 b5 (fun k => cat (p := 3) (q := 3) rfl (fun c => x0 (ix4 0 (⟨c.val, by omega⟩ : Fin 16) m k) - x1 (ix3 0 c m))
          (fun c => x0 (ix4 0 (⟨3 + c.val, by omega⟩ : Fin 16) m k))) o := by
  rw [k2_eq]
  simp only [k2fin_apply, kl_128_128_8192_apply, k2cat_apply, kl_64_64_8192_apply, kl_64_6_8192_apply, k2X_apply, stack1]

end Cert.Work.Math

end
-- ==== Proof.KReg2.lean ====
/-
  The array the first stack leaves.
-/
module

public import proofs.«01_k».proof.Proof.KStack1
public import proofs.«01_k».proof.Proof.Vals
public import Idealize.ShloMosaic.Lib.Pipeline.ValueKit

@[expose] public section

set_option maxRecDepth 16384

noncomputable section

namespace Cert.Work.Value2

open Cert.KernelIdeal Cert.KernelIdeal.Gen Cert.Work.Spec Cert.Work.Math
open Idealize.ShloMosaic Idealize.ShloMosaic.TcCoe
open Idealize.ShloMosaic.Pipeline (Dat)

variable (V : Vals Ideal) (n : ℕ)

/-- The first stack's array from the gathered neighbours, node by channel. -/
def D2 (x0 : FVec Ideal S4x16x512x64 .f32) (a : FVec Ideal S4x3x512 .f32) (W1 : FVec Ideal S64x6 .f32) (b1 : FVec Ideal S64 .f32) (W2 : FVec Ideal S64x64 .f32) (b2 : FVec Ideal S64 .f32) (W3 : FVec Ideal S64x64 .f32) (b3 : FVec Ideal S64 .f32) (W4 : FVec Ideal S128x128 .f32) (b4 : FVec Ideal S128 .f32) (W5 : FVec Ideal S128x128 .f32) (b5 : FVec Ideal S128 .f32) : FVec Ideal S4x512x128 .f32 :=
  fun j => stack1 W1 b1 W2 b2 W3 b3 W4 b4 W5 b5 (fun k => cat (p := 3) (q := 3) rfl
      (fun c => x0 (ix4 (j 0 : Fin 4) (⟨c.val, by omega⟩ : Fin 16) (j 1 : Fin 512) k) - a (ix3 (j 0 : Fin 4) c (j 1 : Fin 512)))
      (fun c => x0 (ix4 (j 0 : Fin 4) (⟨3 + c.val, by omega⟩ : Fin 16) (j 1 : Fin 512) k))) (j 2 : Fin 128)

theorem idx : ∀ t : Fin cfg2.N, win2_0.index t = ![t.val / 4, 0, t.val % 4, 0] ∧ win2_1.index t = ![t.val / 4, 0, t.val % 4] ∧ win2_2.index t = ![0, 0] ∧ win2_3.index t = ![0] ∧ win2_4.index t = ![0, 0] ∧ win2_5.index t = ![0] ∧ win2_6.index t = ![0, 0] ∧ win2_7.index t = ![0] ∧ win2_8.index t = ![0, 0] ∧ win2_9.index t = ![0] ∧ win2_10.index t = ![0, 0] ∧ win2_11.index t = ![0] ∧ win2_12.index t = ![t.val / 4, t.val % 4, 0] :=
  (by decide +kernel : ∀ t : Fin grid2.N, _)

theorem w_2 (c : Dev nD) (t : Fin cfg2.N) : Reg2.iblk V c 2 t = V c (Proc.devRef .tc main_arg3) := by
  blk_ext! [Reg2.iblk, idx t]
theorem w_3 (c : Dev nD) (t : Fin cfg2.N) : Reg2.iblk V c 3 t = V c (Proc.devRef .tc main_arg4) := by
  blk_ext! [Reg2.iblk, idx t]
theorem w_4 (c : Dev nD) (t : Fin cfg2.N) : Reg2.iblk V c 4 t = V c (Proc.devRef .tc main_arg5) := by
  blk_ext! [Reg2.iblk, idx t]
theorem w_5 (c : Dev nD) (t : Fin cfg2.N) : Reg2.iblk V c 5 t = V c (Proc.devRef .tc main_arg6) := by
  blk_ext! [Reg2.iblk, idx t]
theorem w_6 (c : Dev nD) (t : Fin cfg2.N) : Reg2.iblk V c 6 t = V c (Proc.devRef .tc main_arg7) := by
  blk_ext! [Reg2.iblk, idx t]
theorem w_7 (c : Dev nD) (t : Fin cfg2.N) : Reg2.iblk V c 7 t = V c (Proc.devRef .tc main_arg8) := by
  blk_ext! [Reg2.iblk, idx t]
theorem w_8 (c : Dev nD) (t : Fin cfg2.N) : Reg2.iblk V c 8 t = V c (Proc.devRef .tc main_arg9) := by
  blk_ext! [Reg2.iblk, idx t]
theorem w_9 (c : Dev nD) (t : Fin cfg2.N) : Reg2.iblk V c 9 t = V c (Proc.devRef .tc main_arg10) := by
  blk_ext! [Reg2.iblk, idx t]
theorem w_10 (c : Dev nD) (t : Fin cfg2.N) : Reg2.iblk V c 10 t = V c (Proc.devRef .tc main_arg11) := by
  blk_ext! [Reg2.iblk, idx t]
theorem w_11 (c : Dev nD) (t : Fin cfg2.N) : Reg2.iblk V c 11 t = V c (Proc.devRef .tc main_arg12) := by
  blk_ext! [Reg2.iblk, idx t]

set_option maxHeartbeats 1000000 in
theorem point (c : Dev nD) (t : Fin cfg2.N) (y : S1x128x128.Idx) :
    k2_pay1 (F := Ideal) (k2_pay2 (Reg2.iblk V c 0 t) (Reg2.iblk V c 1 t) (Reg2.iblk V c 2 t) (Reg2.iblk V c 3 t) (Reg2.iblk V c 4 t) (Reg2.iblk V c 5 t) (Reg2.iblk V c 6 t) (Reg2.iblk V c 7 t)) (k2_pay3 (Reg2.iblk V c 0 t) (Reg2.iblk V c 1 t) (Reg2.iblk V c 2 t) (Reg2.iblk V c 3 t) (Reg2.iblk V c 4 t) (Reg2.iblk V c 5 t) (Reg2.iblk V c 6 t) (Reg2.iblk V c 7 t)) (Reg2.iblk V c 8 t) (Reg2.iblk V c 9 t) (Reg2.iblk V c 10 t) (Reg2.iblk V c 11 t) y
      = D2 (V c (Proc.devRef .tc main_v17)) (V c (Proc.devRef .tc main_arg2)) (V c (Proc.devRef .tc main_arg3)) (V c (Proc.devRef .tc main_arg4)) (V c (Proc.devRef .tc main_arg5)) (V c (Proc.devRef .tc main_arg6)) (V c (Proc.devRef .tc main_arg7)) (V c (Proc.devRef .tc main_arg8)) (V c (Proc.devRef .tc main_arg9)) (V c (Proc.devRef .tc main_arg10)) (V c (Proc.devRef .tc main_arg11)) (V c (Proc.devRef .tc main_arg12)) (((cfg2.win 12).blk t).view.emb y) := by
  obtain ⟨m, o, rfl⟩ : ∃ (m : Fin 128) (o : Fin 128), y = ix3 0 m o := ⟨y 1, y 2, by
    funext b
    match b with
    | ⟨0, _⟩ => exact Fin.ext (by have := (y 0).isLt; simp at this ⊢)
    | ⟨1, _⟩ => rfl
    | ⟨2, _⟩ => rfl⟩
  rw [k2_apply]
  unfold D2
  simp only [w_2, w_3, w_4, w_5, w_6, w_7, w_8, w_9, w_10, w_11]
  blk_point [Reg2.iblk, idx t]

set_option maxHeartbeats 1000000 in
theorem final (c : Dev nD) : (Reg2.dat V n c).arrAt 12 cfg2.N
    = D2 (V c (Proc.devRef .tc main_v17)) (V c (Proc.devRef .tc main_arg2)) (V c (Proc.devRef .tc main_arg3)) (V c (Proc.devRef .tc main_arg4)) (V c (Proc.devRef .tc main_arg5)) (V c (Proc.devRef .tc main_arg6)) (V c (Proc.devRef .tc main_arg7)) (V c (Proc.devRef .tc main_arg8)) (V c (Proc.devRef .tc main_arg9)) (V c (Proc.devRef .tc main_arg10)) (V c (Proc.devRef .tc main_arg11)) (V c (Proc.devRef .tc main_arg12)) := by
  refine (Reg2.dat V n c).arrAt_eq_of_covers 12 _ (by decide +kernel) fun t _ y => ?_
  blk_simp
  rw [Reg2.after_12]
  unfold Reg2.out_12
  frame_out
  exact point V c t y

end Cert.Work.Value2

end
-- ==== Proof.KStack2.lean ====
/-
  What a point of the second stack's grid stores, layer by layer.
-/
module

public import proofs.«01_k».proof.Proof.KLay

@[expose] public section

set_option maxRecDepth 16384

noncomputable section

namespace Cert.Work.Math

open Cert.KernelIdeal Cert.KernelIdeal.Gen Cert.Work.Spec
open Idealize.ShloMosaic

/-- Neighbour `k` of node `m` among a block's columns. -/
def pn (m : Fin 128) (k : Fin 16) : Fin 2048 := ⟨m.val * 16 + k.val, by omega⟩

/-- The channels the second stack starts from. -/
def k6X (x3 : FVec Ideal S1x3x128 .f32) (x0 : FVec Ideal S1x16x128x16 .f32) (x1 : FVec Ideal S1x128x128x16 .f32) : FVec Ideal S131x2048 .f32 :=
  have v1 : FVec Ideal S3x128 .f32 := shapeCast S3x128 x3 shapeCasts_S1x3x128_S3x128
  have v3 : FVec Ideal S16x128x16 .f32 := shapeCast S16x128x16 x0 shapeCasts_S1x16x128x16_S16x128x16
  have v4 : FVec Ideal S3x128x16 .f32 := extractStridedSlice S3x128x16 ![0, 0, 0] v3 slices_S16x128x16_o0_0_0_S3x128x16
  have v5 : FVec Ideal S3x128x1 .f32 := shapeCast S3x128x1 v1 shapeCasts_S3x128_S3x128x1
  have v6 : FVec Ideal S3x128x16 .f32 := broadcastTo S3x128x16 v5 broadcasts_S3x128x1_S3x128x16
  have v7 : FVec Ideal S3x128x16 .f32 := subf v4 v6
  have v9 : FVec Ideal S128x128x16 .f32 := shapeCast S128x128x16 x1 shapeCasts_S1x128x128x16_S128x128x16
  have v10 : FVec Ideal S128x2048 .f32 := shapeCast S128x2048 v9 shapeCasts_S128x128x16_S128x2048
  have v11 : FVec Ideal S3x2048 .f32 := shapeCast S3x2048 v7 shapeCasts_S3x128x16_S3x2048
  have v12 : FVec Ideal S131x2048 .f32 := concatenate S131x2048 0 [⟨S3x2048, v11⟩, ⟨S128x2048, v10⟩] concatenates_S3x2048_S128x2048_S131x2048_d0
  v12

/-- A layer's output with its maximum over the neighbours below it. -/
def k6cat (h : FVec Ideal S256x2048 .f32) : FVec Ideal S512x2048 .f32 :=
  have v37 : FVec Ideal S256x128x16 .f32 := shapeCast S256x128x16 h shapeCasts_S256x2048_S256x128x16
  have v38 : FVec Ideal S256x128 .f32 := multiReduction .maximumf [2] S256x128 v37 0xFF800000#32 reduces_S256x128x16_S256x128 (.inl rfl) rfl
  have v39 : FVec Ideal S256x128x1 .f32 := shapeCast S256x128x1 v38 shapeCasts_S256x128_S256x128x1
  have v40 : FVec Ideal S256x128x1 .f32 := shapeCast S256x128x1 v39 shapeCasts_S256x128x1_S256x128x1
  have v41 : FVec Ideal S256x128x16 .f32 := broadcastTo S256x128x16 v40 broadcasts_S256x128x1_S256x128x16
  have v42 : FVec Ideal S256x2048 .f32 := shapeCast S256x2048 v41 shapeCasts_S256x128x16_S256x2048
  have v43 : FVec Ideal S512x2048 .f32 := concatenate S512x2048 0 [⟨S256x2048, h⟩, ⟨S256x2048, v42⟩] concatenates_S256x2048_S256x2048_S512x2048_d0
  v43

/-- The first stack's channels above the maximum over the neighbours. -/
def k6mid (Y : FVec Ideal S512x2048 .f32) (x2 : FVec Ideal S1x128x128 .f32) : FVec Ideal S640x128 .f32 :=
  concatenate S640x128 0 [⟨S128x128, shapeCast S128x128 x2 shapeCasts_S1x128x128_S128x128⟩, ⟨S512x128,
    multiReduction .maximumf [2] S512x128 (shapeCast S512x128x16 Y shapeCasts_S512x2048_S512x128x16) 0xFF800000#32 reduces_S512x128x16_S512x128 (.inl rfl) rfl⟩]
    concatenates_S128x128_S512x128_S640x128_d0

theorem k6_eq (x0 : FVec Ideal S1x16x128x16 .f32) (x1 : FVec Ideal S1x128x128x16 .f32) (x2 : FVec Ideal S1x128x128 .f32) (x3 : FVec Ideal S1x3x128 .f32)
    (Wk1 : FVec Ideal S256x131 .f32) (bk1 : FVec Ideal S256 .f32) (Wk2 : FVec Ideal S256x256 .f32) (bk2 : FVec Ideal S256 .f32)
    (Wk3 : FVec Ideal S256x256 .f32) (bk3 : FVec Ideal S256 .f32) (Wa1 : FVec Ideal S512x512 .f32) (ba1 : FVec Ideal S512 .f32)
    (Wa2 : FVec Ideal S512x512 .f32) (ba2 : FVec Ideal S512 .f32) (Wm1 : FVec Ideal S512x640 .f32) (bm1 : FVec Ideal S512 .f32)
    (Wm2 : FVec Ideal S256x512 .f32) (bm2 : FVec Ideal S256 .f32) (Wm3 : FVec Ideal S4x256 .f32) (bm3 : FVec Ideal S4 .f32) :
    k6_pay5 (F := Ideal) (k6_pay3 (k6_pay1 x3 x0 x1 Wk1 bk1 Wk2 bk2 Wk3) (k6_pay2 bk3) Wa1 ba1 Wa2 ba2 x2 Wm1 bm1) k6_pay4 Wm2 bm2 Wm3 bm3
      = kl_4_256_128 Wm3 bm3 (kl_256_512_128 Wm2 bm2 (kl_512_640_128 Wm1 bm1 (k6mid
          (kl_512_512_2048 Wa2 ba2 (kl_512_512_2048 Wa1 ba1 (k6cat
            (kl_256_256_2048 Wk3 bk3 (kl_256_256_2048 Wk2 bk2 (kl_256_131_2048 Wk1 bk1 (k6X x3 x0 x1))))))) x2))) := rfl

theorem k6X_apply (x3 : FVec Ideal S1x3x128 .f32) (x0 : FVec Ideal S1x16x128x16 .f32) (x1 : FVec Ideal S1x128x128x16 .f32) (c : Fin 131) (m : Fin 128) (k : Fin 16) :
    k6X x3 x0 x1 (ix2 c (pn m k)) = cat (p := 3) (q := 128) rfl (fun c => x0 (ix4 0 (⟨c.val, by omega⟩ : Fin 16) m k) - x3 (ix3 0 c m))
      (fun c => x1 (ix4 0 c m k)) c := by
  pointwise [k6X, cat, pn]

theorem k6cat_apply (h : FVec Ideal S256x2048 .f32) (c : Fin 512) (m : Fin 128) (k : Fin 16) :
    k6cat h (ix2 c (pn m k)) = cat (p := 256) (q := 256) rfl (fun i => h (ix2 i (pn m k))) (fun i => mx fun k' => h (ix2 i (pn m k'))) c := by
  pointwise [k6cat, cat, mx, pn]

theorem k6mid_apply (Y : FVec Ideal S512x2048 .f32) (x2 : FVec Ideal S1x128x128 .f32) (c : Fin 640) (m : Fin 128) :
    k6mid Y x2 (ix2 c m) = cat (p := 128) (q := 512) rfl (fun i => x2 (ix3 0 i m)) (fun j => mx fun k => Y (ix2 j (pn m k))) c := by
  pointwise [k6mid, cat, mx, pn]

theorem k6_apply (x0 : FVec Ideal S1x16x128x16 .f32) (x1 : FVec Ideal S1x128x128x16 .f32) (x2 : FVec Ideal S1x128x128 .f32) (x3 : FVec Ideal S1x3x128 .f32)
    (Wk1 : FVec Ideal S256x131 .f32) (bk1 : FVec Ideal S256 .f32) (Wk2 : FVec Ideal S256x256 .f32) (bk2 : FVec Ideal S256 .f32)
    (Wk3 : FVec Ideal S256x256 .f32) (bk3 : FVec Ideal S256 .f32) (Wa1 : FVec Ideal S512x512 .f32) (ba1 : FVec Ideal S512 .f32)
    (Wa2 : FVec Ideal S512x512 .f32) (ba2 : FVec Ideal S512 .f32) (Wm1 : FVec Ideal S512x640 .f32) (bm1 : FVec Ideal S512 .f32)
    (Wm2 : FVec Ideal S256x512 .f32) (bm2 : FVec Ideal S256 .f32) (Wm3 : FVec Ideal S4x256 .f32) (bm3 : FVec Ideal S4 .f32) (o : Fin 4) (m : Fin 128) :
    k6_pay5 (F := Ideal) (k6_pay3 (k6_pay1 x3 x0 x1 Wk1 bk1 Wk2 bk2 Wk3) (k6_pay2 bk3) Wa1 ba1 Wa2 ba2 x2 Wm1 bm1) k6_pay4 Wm2 bm2 Wm3 bm3 (ix2 o m)
      = stack2 Wk1 bk1 Wk2 bk2 Wk3 bk3 Wa1 ba1 Wa2 ba2 Wm1 bm1 Wm2 bm2 Wm3 bm3
          (fun k => cat (p := 3) (q := 128) rfl (fun c => x0 (ix4 0 (⟨c.val, by omega⟩ : Fin 16) m k) - x3 (ix3 0 c m)) (fun c => x1 (ix4 0 c m k)))
          (fun i => x2 (ix3 0 i m)) o := by
  rw [k6_eq]
  simp only [kl_4_256_128_apply, kl_256_512_128_apply, kl_512_640_128_apply, k6mid_apply, kl_512_512_2048_apply, k6cat_apply,
    kl_256_256_2048_apply, kl_256_131_2048_apply, k6X_apply, stack2]

/-- The keypoints from the four channels. -/
def keyOf (y : FVec Ideal S4x128 .f32) (x3 : FVec Ideal S1x3x128 .f32) : FVec Ideal S1x3x128 .f32 :=
  have v87 : FVec Ideal S3x128 .f32 := extractStridedSlice S3x128 ![0, 0] y slices_S4x128_o0_0_S3x128
  have v89 : FVec Ideal S3x128 .f32 := shapeCast S3x128 x3 shapeCasts_S1x3x128_S3x128
  have v90 : FVec Ideal S3x128 .f32 := addf v87 v89
  have v93 : FVec Ideal S1x3x128 .f32 := shapeCast S1x3x128 v90 shapeCasts_S3x128_S1x3x128
  v93

/-- The sigmas from the four channels. -/
def sigOf (y : FVec Ideal S4x128 .f32) : FVec Ideal S1x1x128 .f32 :=
  have v94 : FVec Ideal S1x128 .f32 := extractStridedSlice S1x128 ![3, 0] y slices_S4x128_o3_0_S1x128
  have v95 : FVec Ideal S128 .f32 := shapeCast S128 v94 shapeCasts_S1x128_S128
  have cst_59 : Ideal .f32 := Scalar.ofBits .f32 0x00000000#32
  have v96 : FVec Ideal S128 .f32 := broadcast S128 cst_59
  have v97 : FVec Ideal S128 .f32 := maximumf v95 v96
  have v98 : FVec Ideal S128 .f32 := absf v95
  have cst_60 : Ideal .f32 := Scalar.ofBits .f32 0x00000000#32
  have v99 : FVec Ideal S128 .f32 := broadcast S128 cst_60
  have v100 : FVec Ideal S128 .f32 := subf v99 v98
  have v101 : FVec Ideal S128 .f32 := exp v100
  have v102 : FVec Ideal S128 .f32 := log1p v101
  have v103 : FVec Ideal S128 .f32 := addf v97 v102
  have cst_61 : Ideal .f32 := Scalar.ofBits .f32 0x3A83126F#32
  have v104 : FVec Ideal S128 .f32 := broadcast S128 cst_61
  have v105 : FVec Ideal S128 .f32 := addf v103 v104
  have v108 : FVec Ideal S1x1x128 .f32 := shapeCast S1x1x128 v105 shapeCasts_S128_S1x1x128
  v108

/-- The keypoints a point stores: three of the four channels, and the node. -/
theorem k6_pay6_apply (v70 v71 : FVec Ideal S512x128 .f32) (Wm2 : FVec Ideal S256x512 .f32) (bm2 : FVec Ideal S256 .f32)
    (Wm3 : FVec Ideal S4x256 .f32) (bm3 : FVec Ideal S4 .f32) (x3 : FVec Ideal S1x3x128 .f32) (c : Fin 3) (m : Fin 128) :
    k6_pay6 (F := Ideal) v70 v71 Wm2 bm2 Wm3 bm3 x3 (ix3 0 c m)
      = k6_pay5 (F := Ideal) v70 v71 Wm2 bm2 Wm3 bm3 (ix2 (⟨c.val, by omega⟩ : Fin 4) m) + x3 (ix3 0 c m) := by
  have e : k6_pay6 (F := Ideal) v70 v71 Wm2 bm2 Wm3 bm3 x3 = keyOf (k6_pay5 (F := Ideal) v70 v71 Wm2 bm2 Wm3 bm3) x3 := rfl
  rw [e]
  pointwise [keyOf]

theorem k6_pay7_apply (v70 v71 : FVec Ideal S512x128 .f32) (Wm2 : FVec Ideal S256x512 .f32) (bm2 : FVec Ideal S256 .f32)
    (Wm3 : FVec Ideal S4x256 .f32) (bm3 : FVec Ideal S4 .f32) (m : Fin 128) :
    k6_pay7 (F := Ideal) v70 v71 Wm2 bm2 Wm3 bm3 (ix3 0 0 m)
      = soft (k6_pay5 (F := Ideal) v70 v71 Wm2 bm2 Wm3 bm3 (ix2 (3 : Fin 4) m)) := by
  have e : k6_pay7 (F := Ideal) v70 v71 Wm2 bm2 Wm3 bm3 = sigOf (k6_pay5 (F := Ideal) v70 v71 Wm2 bm2 Wm3 bm3) := rfl
  rw [e]
  pointwise [sigOf, soft]
  simp only [Ideal.absf_def, zero_sub]

end Cert.Work.Math

end
-- ==== Proof.KReg6.lean ====
/-
  The arrays the second stack leaves.
-/
module

public import proofs.«01_k».proof.Proof.KStack2
public import proofs.«01_k».proof.Proof.Vals
public import Idealize.ShloMosaic.Lib.Pipeline.ValueKit

@[expose] public section

set_option maxRecDepth 16384

noncomputable section

namespace Cert.Work.Value6

open Cert.KernelIdeal Cert.KernelIdeal.Gen Cert.Work.Spec Cert.Work.Math
open Idealize.ShloMosaic Idealize.ShloMosaic.TcCoe
open Idealize.ShloMosaic.Pipeline (Dat)

variable (V : Vals Ideal) (n : ℕ)

/-- The second stack's four channels from the gathered neighbours, at a batch and a node. -/
def D6 (x0 : FVec Ideal S4x16x512x16 .f32) (x1 : FVec Ideal S4x128x512x16 .f32) (x2 : FVec Ideal S4x128x512 .f32) (a : FVec Ideal S4x3x512 .f32)
    (Wk1 : FVec Ideal S256x131 .f32) (bk1 : FVec Ideal S256 .f32) (Wk2 : FVec Ideal S256x256 .f32) (bk2 : FVec Ideal S256 .f32) (Wk3 : FVec Ideal S256x256 .f32) (bk3 : FVec Ideal S256 .f32) (Wa1 : FVec Ideal S512x512 .f32) (ba1 : FVec Ideal S512 .f32) (Wa2 : FVec Ideal S512x512 .f32) (ba2 : FVec Ideal S512 .f32) (Wm1 : FVec Ideal S512x640 .f32) (bm1 : FVec Ideal S512 .f32) (Wm2 : FVec Ideal S256x512 .f32) (bm2 : FVec Ideal S256 .f32) (Wm3 : FVec Ideal S4x256 .f32) (bm3 : FVec Ideal S4 .f32) (e : Fin 4) (o : Fin 4) (i : Fin 512) : EReal :=
  stack2 Wk1 bk1 Wk2 bk2 Wk3 bk3 Wa1 ba1 Wa2 ba2 Wm1 bm1 Wm2 bm2 Wm3 bm3 (fun k => cat (p := 3) (q := 128) rfl
      (fun c => x0 (ix4 e (⟨c.val, by omega⟩ : Fin 16) i k) - a (ix3 e c i)) (fun c => x1 (ix4 e c i k))) (fun j => x2 (ix3 e j i)) o

/-- The keypoints from them, -/
def D6k (x0 : FVec Ideal S4x16x512x16 .f32) (x1 : FVec Ideal S4x128x512x16 .f32) (x2 : FVec Ideal S4x128x512 .f32) (a : FVec Ideal S4x3x512 .f32)
    (Wk1 : FVec Ideal S256x131 .f32) (bk1 : FVec Ideal S256 .f32) (Wk2 : FVec Ideal S256x256 .f32) (bk2 : FVec Ideal S256 .f32) (Wk3 : FVec Ideal S256x256 .f32) (bk3 : FVec Ideal S256 .f32) (Wa1 : FVec Ideal S512x512 .f32) (ba1 : FVec Ideal S512 .f32) (Wa2 : FVec Ideal S512x512 .f32) (ba2 : FVec Ideal S512 .f32) (Wm1 : FVec Ideal S512x640 .f32) (bm1 : FVec Ideal S512 .f32) (Wm2 : FVec Ideal S256x512 .f32) (bm2 : FVec Ideal S256 .f32) (Wm3 : FVec Ideal S4x256 .f32) (bm3 : FVec Ideal S4 .f32) : FVec Ideal S4x3x512 .f32 :=
  fun j => D6 x0 x1 x2 a Wk1 bk1 Wk2 bk2 Wk3 bk3 Wa1 ba1 Wa2 ba2 Wm1 bm1 Wm2 bm2 Wm3 bm3 (j 0 : Fin 4) (⟨(j 1 : Fin 3).val, Nat.lt_of_lt_of_le (show (j 1 : Fin 3).val < 3 from (j 1 : Fin 3).isLt) (by decide)⟩ : Fin 4) (j 2 : Fin 512)
    + a (ix3 (j 0 : Fin 4) (j 1 : Fin 3) (j 2 : Fin 512))

/-- and the sigmas. -/
def D6s (x0 : FVec Ideal S4x16x512x16 .f32) (x1 : FVec Ideal S4x128x512x16 .f32) (x2 : FVec Ideal S4x128x512 .f32) (a : FVec Ideal S4x3x512 .f32)
    (Wk1 : FVec Ideal S256x131 .f32) (bk1 : FVec Ideal S256 .f32) (Wk2 : FVec Ideal S256x256 .f32) (bk2 : FVec Ideal S256 .f32) (Wk3 : FVec Ideal S256x256 .f32) (bk3 : FVec Ideal S256 .f32) (Wa1 : FVec Ideal S512x512 .f32) (ba1 : FVec Ideal S512 .f32) (Wa2 : FVec Ideal S512x512 .f32) (ba2 : FVec Ideal S512 .f32) (Wm1 : FVec Ideal S512x640 .f32) (bm1 : FVec Ideal S512 .f32) (Wm2 : FVec Ideal S256x512 .f32) (bm2 : FVec Ideal S256 .f32) (Wm3 : FVec Ideal S4x256 .f32) (bm3 : FVec Ideal S4 .f32) : FVec Ideal S4x1x512 .f32 :=
  fun j => soft (D6 x0 x1 x2 a Wk1 bk1 Wk2 bk2 Wk3 bk3 Wa1 ba1 Wa2 ba2 Wm1 bm1 Wm2 bm2 Wm3 bm3 (j 0 : Fin 4) 3 (j 2 : Fin 512))

theorem idx : ∀ t : Fin cfg6.N, win6_0.index t = ![t.val / 4, 0, t.val % 4, 0] ∧ win6_1.index t = ![t.val / 4, 0, t.val % 4, 0] ∧ win6_2.index t = ![t.val / 4, 0, t.val % 4] ∧ win6_3.index t = ![t.val / 4, 0, t.val % 4] ∧ win6_4.index t = ![0, 0] ∧ win6_5.index t = ![0] ∧ win6_6.index t = ![0, 0] ∧ win6_7.index t = ![0] ∧ win6_8.index t = ![0, 0] ∧ win6_9.index t = ![0] ∧ win6_10.index t = ![0, 0] ∧ win6_11.index t = ![0] ∧ win6_12.index t = ![0, 0] ∧ win6_13.index t = ![0] ∧ win6_14.index t = ![0, 0] ∧ win6_15.index t = ![0] ∧ win6_16.index t = ![0, 0] ∧ win6_17.index t = ![0] ∧ win6_18.index t = ![0, 0] ∧ win6_19.index t = ![0] ∧ win6_20.index t = ![t.val / 4, 0, t.val % 4] ∧ win6_21.index t = ![t.val / 4, 0, t.val % 4] :=
  (by decide +kernel : ∀ t : Fin grid6.N, _)

theorem w_4 (c : Dev nD) (t : Fin cfg6.N) : Reg6.iblk V c 4 t = V c (Proc.devRef .tc main_arg13) := by
  blk_ext! [Reg6.iblk, idx t]
theorem w_5 (c : Dev nD) (t : Fin cfg6.N) : Reg6.iblk V c 5 t = V c (Proc.devRef .tc main_arg14) := by
  blk_ext! [Reg6.iblk, idx t]
theorem w_6 (c : Dev nD) (t : Fin cfg6.N) : Reg6.iblk V c 6 t = V c (Proc.devRef .tc main_arg15) := by
  blk_ext! [Reg6.iblk, idx t]
theorem w_7 (c : Dev nD) (t : Fin cfg6.N) : Reg6.iblk V c 7 t = V c (Proc.devRef .tc main_arg16) := by
  blk_ext! [Reg6.iblk, idx t]
theorem w_8 (c : Dev nD) (t : Fin cfg6.N) : Reg6.iblk V c 8 t = V c (Proc.devRef .tc main_arg17) := by
  blk_ext! [Reg6.iblk, idx t]
theorem w_9 (c : Dev nD) (t : Fin cfg6.N) : Reg6.iblk V c 9 t = V c (Proc.devRef .tc main_arg18) := by
  blk_ext! [Reg6.iblk, idx t]
theorem w_10 (c : Dev nD) (t : Fin cfg6.N) : Reg6.iblk V c 10 t = V c (Proc.devRef .tc main_arg19) := by
  blk_ext! [Reg6.iblk, idx t]
theorem w_11 (c : Dev nD) (t : Fin cfg6.N) : Reg6.iblk V c 11 t = V c (Proc.devRef .tc main_arg20) := by
  blk_ext! [Reg6.iblk, idx t]
theorem w_12 (c : Dev nD) (t : Fin cfg6.N) : Reg6.iblk V c 12 t = V c (Proc.devRef .tc main_arg21) := by
  blk_ext! [Reg6.iblk, idx t]
theorem w_13 (c : Dev nD) (t : Fin cfg6.N) : Reg6.iblk V c 13 t = V c (Proc.devRef .tc main_arg22) := by
  blk_ext! [Reg6.iblk, idx t]
theorem w_14 (c : Dev nD) (t : Fin cfg6.N) : Reg6.iblk V c 14 t = V c (Proc.devRef .tc main_arg23) := by
  blk_ext! [Reg6.iblk, idx t]
theorem w_15 (c : Dev nD) (t : Fin cfg6.N) : Reg6.iblk V c 15 t = V c (Proc.devRef .tc main_arg24) := by
  blk_ext! [Reg6.iblk, idx t]
theorem w_16 (c : Dev nD) (t : Fin cfg6.N) : Reg6.iblk V c 16 t = V c (Proc.devRef .tc main_arg25) := by
  blk_ext! [Reg6.iblk, idx t]
theorem w_17 (c : Dev nD) (t : Fin cfg6.N) : Reg6.iblk V c 17 t = V c (Proc.devRef .tc main_arg26) := by
  blk_ext! [Reg6.iblk, idx t]
theorem w_18 (c : Dev nD) (t : Fin cfg6.N) : Reg6.iblk V c 18 t = V c (Proc.devRef .tc main_arg27) := by
  blk_ext! [Reg6.iblk, idx t]
theorem w_19 (c : Dev nD) (t : Fin cfg6.N) : Reg6.iblk V c 19 t = V c (Proc.devRef .tc main_arg28) := by
  blk_ext! [Reg6.iblk, idx t]

set_option maxHeartbeats 1000000 in
theorem point20 (c : Dev nD) (t : Fin cfg6.N) (y : S1x3x128.Idx) :
    k6_pay6 (F := Ideal) (k6_pay3 (k6_pay1 (Reg6.iblk V c 3 t) (Reg6.iblk V c 0 t) (Reg6.iblk V c 1 t) (Reg6.iblk V c 4 t) (Reg6.iblk V c 5 t) (Reg6.iblk V c 6 t) (Reg6.iblk V c 7 t) (Reg6.iblk V c 8 t)) (k6_pay2 (Reg6.iblk V c 9 t)) (Reg6.iblk V c 10 t) (Reg6.iblk V c 11 t) (Reg6.iblk V c 12 t) (Reg6.iblk V c 13 t) (Reg6.iblk V c 2 t) (Reg6.iblk V c 14 t) (Reg6.iblk V c 15 t)) k6_pay4 (Reg6.iblk V c 16 t) (Reg6.iblk V c 17 t) (Reg6.iblk V c 18 t) (Reg6.iblk V c 19 t) (Reg6.iblk V c 3 t) y
      = D6k (V c (Proc.devRef .tc main_v37)) (V c (Proc.devRef .tc main_v40)) (V c (Proc.devRef .tc main_v41)) (V c (Proc.devRef .tc main_arg2)) (V c (Proc.devRef .tc main_arg13)) (V c (Proc.devRef .tc main_arg14)) (V c (Proc.devRef .tc main_arg15)) (V c (Proc.devRef .tc main_arg16)) (V c (Proc.devRef .tc main_arg17)) (V c (Proc.devRef .tc main_arg18)) (V c (Proc.devRef .tc main_arg19)) (V c (Proc.devRef .tc main_arg20)) (V c (Proc.devRef .tc main_arg21)) (V c (Proc.devRef .tc main_arg22)) (V c (Proc.devRef .tc main_arg23)) (V c (Proc.devRef .tc main_arg24)) (V c (Proc.devRef .tc main_arg25)) (V c (Proc.devRef .tc main_arg26)) (V c (Proc.devRef .tc main_arg27)) (V c (Proc.devRef .tc main_arg28)) (((cfg6.win 20).blk t).view.emb y) := by
  obtain ⟨o, m, rfl⟩ : ∃ (o : Fin 3) (m : Fin 128), y = ix3 0 o m := ⟨y 1, y 2, by
    funext b
    match b with
    | ⟨0, _⟩ => exact Fin.ext (by have := (y 0).isLt; simp at this ⊢)
    | ⟨1, _⟩ => rfl
    | ⟨2, _⟩ => rfl⟩
  rw [k6_pay6_apply, k6_apply]
  unfold D6k D6
  simp only [w_4, w_5, w_6, w_7, w_8, w_9, w_10, w_11, w_12, w_13, w_14, w_15, w_16, w_17, w_18, w_19]
  blk_point [Reg6.iblk, idx t]

set_option maxHeartbeats 1000000 in
theorem final20 (c : Dev nD) : (Reg6.dat V n c).arrAt 20 cfg6.N = D6k (V c (Proc.devRef .tc main_v37)) (V c (Proc.devRef .tc main_v40)) (V c (Proc.devRef .tc main_v41)) (V c (Proc.devRef .tc main_arg2)) (V c (Proc.devRef .tc main_arg13)) (V c (Proc.devRef .tc main_arg14)) (V c (Proc.devRef .tc main_arg15)) (V c (Proc.devRef .tc main_arg16)) (V c (Proc.devRef .tc main_arg17)) (V c (Proc.devRef .tc main_arg18)) (V c (Proc.devRef .tc main_arg19)) (V c (Proc.devRef .tc main_arg20)) (V c (Proc.devRef .tc main_arg21)) (V c (Proc.devRef .tc main_arg22)) (V c (Proc.devRef .tc main_arg23)) (V c (Proc.devRef .tc main_arg24)) (V c (Proc.devRef .tc main_arg25)) (V c (Proc.devRef .tc main_arg26)) (V c (Proc.devRef .tc main_arg27)) (V c (Proc.devRef .tc main_arg28)) := by
  refine (Reg6.dat V n c).arrAt_eq_of_covers 20 _ (by decide +kernel) fun t _ y => ?_
  blk_simp
  rw [Reg6.after_20]
  unfold Reg6.out_20
  frame_out
  exact point20 V c t y

set_option maxHeartbeats 1000000 in
theorem point21 (c : Dev nD) (t : Fin cfg6.N) (y : S1x1x128.Idx) :
    k6_pay7 (F := Ideal) (k6_pay3 (k6_pay1 (Reg6.iblk V c 3 t) (Reg6.iblk V c 0 t) (Reg6.iblk V c 1 t) (Reg6.iblk V c 4 t) (Reg6.iblk V c 5 t) (Reg6.iblk V c 6 t) (Reg6.iblk V c 7 t) (Reg6.iblk V c 8 t)) (k6_pay2 (Reg6.iblk V c 9 t)) (Reg6.iblk V c 10 t) (Reg6.iblk V c 11 t) (Reg6.iblk V c 12 t) (Reg6.iblk V c 13 t) (Reg6.iblk V c 2 t) (Reg6.iblk V c 14 t) (Reg6.iblk V c 15 t)) k6_pay4 (Reg6.iblk V c 16 t) (Reg6.iblk V c 17 t) (Reg6.iblk V c 18 t) (Reg6.iblk V c 19 t) y
      = D6s (V c (Proc.devRef .tc main_v37)) (V c (Proc.devRef .tc main_v40)) (V c (Proc.devRef .tc main_v41)) (V c (Proc.devRef .tc main_arg2)) (V c (Proc.devRef .tc main_arg13)) (V c (Proc.devRef .tc main_arg14)) (V c (Proc.devRef .tc main_arg15)) (V c (Proc.devRef .tc main_arg16)) (V c (Proc.devRef .tc main_arg17)) (V c (Proc.devRef .tc main_arg18)) (V c (Proc.devRef .tc main_arg19)) (V c (Proc.devRef .tc main_arg20)) (V c (Proc.devRef .tc main_arg21)) (V c (Proc.devRef .tc main_arg22)) (V c (Proc.devRef .tc main_arg23)) (V c (Proc.devRef .tc main_arg24)) (V c (Proc.devRef .tc main_arg25)) (V c (Proc.devRef .tc main_arg26)) (V c (Proc.devRef .tc main_arg27)) (V c (Proc.devRef .tc main_arg28)) (((cfg6.win 21).blk t).view.emb y) := by
  obtain ⟨m, rfl⟩ : ∃ (m : Fin 128), y = ix3 0 0 m := ⟨y 2, by
    funext b
    match b with
    | ⟨0, _⟩ => exact Fin.ext (by have := (y 0).isLt; simp at this ⊢)
    | ⟨1, _⟩ => exact Fin.ext (by have := (y 1).isLt; simp at this ⊢)
    | ⟨2, _⟩ => rfl⟩
  rw [k6_pay7_apply, k6_apply]
  unfold D6s D6
  simp only [w_4, w_5, w_6, w_7, w_8, w_9, w_10, w_11, w_12, w_13, w_14, w_15, w_16, w_17, w_18, w_19]
  blk_point [Reg6.iblk, idx t]

set_option maxHeartbeats 1000000 in
theorem final21 (c : Dev nD) : (Reg6.dat V n c).arrAt 21 cfg6.N = D6s (V c (Proc.devRef .tc main_v37)) (V c (Proc.devRef .tc main_v40)) (V c (Proc.devRef .tc main_v41)) (V c (Proc.devRef .tc main_arg2)) (V c (Proc.devRef .tc main_arg13)) (V c (Proc.devRef .tc main_arg14)) (V c (Proc.devRef .tc main_arg15)) (V c (Proc.devRef .tc main_arg16)) (V c (Proc.devRef .tc main_arg17)) (V c (Proc.devRef .tc main_arg18)) (V c (Proc.devRef .tc main_arg19)) (V c (Proc.devRef .tc main_arg20)) (V c (Proc.devRef .tc main_arg21)) (V c (Proc.devRef .tc main_arg22)) (V c (Proc.devRef .tc main_arg23)) (V c (Proc.devRef .tc main_arg24)) (V c (Proc.devRef .tc main_arg25)) (V c (Proc.devRef .tc main_arg26)) (V c (Proc.devRef .tc main_arg27)) (V c (Proc.devRef .tc main_arg28)) := by
  refine (Reg6.dat V n c).arrAt_eq_of_covers 21 _ (by decide +kernel) fun t _ y => ?_
  blk_simp
  rw [Reg6.after_21]
  unfold Reg6.out_21
  frame_out
  exact point21 V c t y

end Cert.Work.Value6

end
-- ==== Proof.KEnd.lean ====
/-
  What the kernel leaves in its results.
-/
module

public import proofs.«01_k».proof.Proof.KHost
public import proofs.«01_k».proof.Proof.KReg2
public import proofs.«01_k».proof.Proof.KReg6
public import proofs.«01_k».proof.Proof.Frames

@[expose] public section

set_option maxRecDepth 16384

noncomputable section

namespace Cert.Work.Final

open Cert.KernelIdeal Cert.KernelIdeal.Gen Cert.Work.Spec Cert.Work.Math Cert.Work.Host
open Idealize.ShloMosaic Idealize.ShloMosaic.TcCoe Idealize.ShloMosaic.Tactic

/-- The kernel's arguments. -/
def argsK (U : Valuation τ sig (Elt Ideal)) : Args :=
  ⟨U (Proc.devRef .tc main_arg0), U (Proc.devRef .tc main_arg1), U (Proc.devRef .tc main_arg2), U (Proc.devRef .tc main_arg3), U (Proc.devRef .tc main_arg4), U (Proc.devRef .tc main_arg5), U (Proc.devRef .tc main_arg6), U (Proc.devRef .tc main_arg7), U (Proc.devRef .tc main_arg8), U (Proc.devRef .tc main_arg9), U (Proc.devRef .tc main_arg10), U (Proc.devRef .tc main_arg11), U (Proc.devRef .tc main_arg12), U (Proc.devRef .tc main_arg13), U (Proc.devRef .tc main_arg14), U (Proc.devRef .tc main_arg15), U (Proc.devRef .tc main_arg16), U (Proc.devRef .tc main_arg17), U (Proc.devRef .tc main_arg18), U (Proc.devRef .tc main_arg19), U (Proc.devRef .tc main_arg20), U (Proc.devRef .tc main_arg21), U (Proc.devRef .tc main_arg22), U (Proc.devRef .tc main_arg23), U (Proc.devRef .tc main_arg24), U (Proc.devRef .tc main_arg25), U (Proc.devRef .tc main_arg26), U (Proc.devRef .tc main_arg27), U (Proc.devRef .tc main_arg28)⟩

variable (V : Vals Ideal) (d : Dev nD)

/-! ## The stacks' arrays, their blocks' reads given -/

theorem D2_of (x0 : FVec Ideal S4x16x512x64 .f32) (a : FVec Ideal S4x3x512 .f32) (W1 : FVec Ideal S64x6 .f32) (b1 : FVec Ideal S64 .f32) (W2 : FVec Ideal S64x64 .f32) (b2 : FVec Ideal S64 .f32) (W3 : FVec Ideal S64x64 .f32) (b3 : FVec Ideal S64 .f32) (W4 : FVec Ideal S128x128 .f32) (b4 : FVec Ideal S128 .f32) (W5 : FVec Ideal S128x128 .f32) (b5 : FVec Ideal S128 .f32) (e : Fin 4) (m : Fin 512) (o : Fin 128)
    (f g : Fin 64 → Fin 3 → EReal) (h0 : ∀ k (c : Fin 3), x0 (ix4 e (⟨c.val, by omega⟩ : Fin 16) m k) = f k c)
    (h1 : ∀ k (c : Fin 3), x0 (ix4 e (⟨3 + c.val, by omega⟩ : Fin 16) m k) = g k c) :
    Value2.D2 x0 a W1 b1 W2 b2 W3 b3 W4 b4 W5 b5 (ix3 e m o)
      = stack1 W1 b1 W2 b2 W3 b3 W4 b4 W5 b5 (fun k => cat (p := 3) (q := 3) rfl (fun c => f k c - a (ix3 e c m)) (fun c => g k c)) o := by
  show stack1 W1 b1 W2 b2 W3 b3 W4 b4 W5 b5 (fun k => cat (p := 3) (q := 3) rfl (fun c => x0 (ix4 e (⟨c.val, by omega⟩ : Fin 16) m k) - a (ix3 e c m))
    (fun c => x0 (ix4 e (⟨3 + c.val, by omega⟩ : Fin 16) m k))) o = _
  simp only [h0, h1]

theorem D6_of (x0 : FVec Ideal S4x16x512x16 .f32) (x1 : FVec Ideal S4x128x512x16 .f32) (x2 : FVec Ideal S4x128x512 .f32) (a : FVec Ideal S4x3x512 .f32) (Wk1 : FVec Ideal S256x131 .f32) (bk1 : FVec Ideal S256 .f32) (Wk2 : FVec Ideal S256x256 .f32) (bk2 : FVec Ideal S256 .f32) (Wk3 : FVec Ideal S256x256 .f32) (bk3 : FVec Ideal S256 .f32) (Wa1 : FVec Ideal S512x512 .f32) (ba1 : FVec Ideal S512 .f32) (Wa2 : FVec Ideal S512x512 .f32) (ba2 : FVec Ideal S512 .f32) (Wm1 : FVec Ideal S512x640 .f32) (bm1 : FVec Ideal S512 .f32) (Wm2 : FVec Ideal S256x512 .f32) (bm2 : FVec Ideal S256 .f32) (Wm3 : FVec Ideal S4x256 .f32) (bm3 : FVec Ideal S4 .f32)
    (e : Fin 4) (o : Fin 4) (i : Fin 512) (f : Fin 16 → Fin 3 → EReal) (g : Fin 16 → Fin 128 → EReal) (z : Fin 128 → EReal)
    (h0 : ∀ k (c : Fin 3), x0 (ix4 e (⟨c.val, by omega⟩ : Fin 16) i k) = f k c) (h1 : ∀ k (c : Fin 128), x1 (ix4 e c i k) = g k c)
    (h2 : ∀ c, x2 (ix3 e c i) = z c) :
    Value6.D6 x0 x1 x2 a Wk1 bk1 Wk2 bk2 Wk3 bk3 Wa1 ba1 Wa2 ba2 Wm1 bm1 Wm2 bm2 Wm3 bm3 e o i
      = stack2 Wk1 bk1 Wk2 bk2 Wk3 bk3 Wa1 ba1 Wa2 ba2 Wm1 bm1 Wm2 bm2 Wm3 bm3 (fun k => cat (p := 3) (q := 128) rfl (fun c => f k c - a (ix3 e c i)) (fun c => g k c)) (fun c => z c) o := by
  unfold Value6.D6
  simp only [h0, h1, h2]

/-! ## The first selection's neighbours -/

theorem v1_v0 : V1 V d (Proc.devRef .tc main_v0) = Value0.D0 (V d (Proc.devRef .tc main_arg2)) (V d (Proc.devRef .tc main_arg0)) :=
  (left_arr (pdA V 0) 0 V launch0.to₀ (fun c w => Reg0.A_eq V 0 c w) d 2).trans (Value0.final V 0 d)

theorem v2_v6 : V2 V d (Proc.devRef .tc main_v6) = tab1 (V d (Proc.devRef .tc main_arg0)) (V d (Proc.devRef .tc main_arg1)) := by
  refine (ops1_v6 (V1 V d)).trans ?_
  rw [V1_keep V d main_arg0 (by decide), V1_keep V d main_arg1 (by decide)]

theorem v2_v13 : V2 V d (Proc.devRef .tc main_v13) = ix1Of (F := Ideal) (Value0.D0 (V d (Proc.devRef .tc main_arg2)) (V d (Proc.devRef .tc main_arg0))) := by
  refine (ops1_v13 (V1 V d)).trans ?_
  rw [v1_v0]

theorem v3_v14 (e : Fin 4) (m : Fin 512) (k : Fin 64) (c : Fin 16) :
    (V3 V d (Proc.devRef .tc main_v14) : FVec Ideal S131072x16 .f32) (ix2 (r1 e m k) c)
      = tab1 (V d (Proc.devRef .tc main_arg0)) (V d (Proc.devRef .tc main_arg1)) (ix2 (p1 e (sel1 (V d (Proc.devRef .tc main_arg2)) (V d (Proc.devRef .tc main_arg0)) (ix3 e m k))) c) := by
  have h : V3 V d (Proc.devRef .tc main_v14) = Tile1.outVal (V2 V d (Proc.devRef .tc main_v6)) (V2 V d (Proc.devRef .tc main_v13)) := by
    unfold V3
    exact Function.update_self _ _ _
  rw [h, v2_v6, v2_v13]
  exact out1_apply _ _ _ c e _ (ix1Of_toNat _ _ e m k)

theorem v4_v17 (e : Fin 4) (c : Fin 16) (m : Fin 512) (k : Fin 64) :
    (V4 V d (Proc.devRef .tc main_v17) : FVec Ideal S4x16x512x64 .f32) (ix4 e c m k)
      = tab1 (V d (Proc.devRef .tc main_arg0)) (V d (Proc.devRef .tc main_arg1)) (ix2 (p1 e (sel1 (V d (Proc.devRef .tc main_arg2)) (V d (Proc.devRef .tc main_arg0)) (ix3 e m k))) c) := by
  have h : V4 V d (Proc.devRef .tc main_v17) = h17 (V3 V d (Proc.devRef .tc main_v14)) := ops2_v17 (V3 V d)
  rw [h, h17_apply]
  exact v3_v14 V d e m k c

/-! ## The first stack -/

theorem v5_v18 (e : Fin 4) (m : Fin 512) (o : Fin 128) :
    (V5 V d (Proc.devRef .tc main_v18) : FVec Ideal S4x512x128 .f32) (ix3 e m o) = sp (argsK (V d)) e o m := by
  have h : V5 V d (Proc.devRef .tc main_v18) = Value2.D2 (V4 V d (Proc.devRef .tc main_v17)) (V4 V d (Proc.devRef .tc main_arg2)) (V4 V d (Proc.devRef .tc main_arg3)) (V4 V d (Proc.devRef .tc main_arg4)) (V4 V d (Proc.devRef .tc main_arg5)) (V4 V d (Proc.devRef .tc main_arg6)) (V4 V d (Proc.devRef .tc main_arg7)) (V4 V d (Proc.devRef .tc main_arg8)) (V4 V d (Proc.devRef .tc main_arg9)) (V4 V d (Proc.devRef .tc main_arg10)) (V4 V d (Proc.devRef .tc main_arg11)) (V4 V d (Proc.devRef .tc main_arg12)) :=
    (left_arr (pdA (V4 V) 1) 1 (V4 V) launch2.to₀ (fun c w => Reg2.A_eq (V4 V) 1 c w) d 12).trans (Value2.final (V4 V) 1 d)
  rw [h]
  rw [keep4 V d main_arg2 (by decide)]; rw [keep4 V d main_arg3 (by decide)]; rw [keep4 V d main_arg4 (by decide)]; rw [keep4 V d main_arg5 (by decide)]; rw [keep4 V d main_arg6 (by decide)]; rw [keep4 V d main_arg7 (by decide)]; rw [keep4 V d main_arg8 (by decide)]; rw [keep4 V d main_arg9 (by decide)]; rw [keep4 V d main_arg10 (by decide)]; rw [keep4 V d main_arg11 (by decide)]; rw [keep4 V d main_arg12 (by decide)]
  exact D2_of _ _ _ _ _ _ _ _ _ _ _ _ e m o _ _ (fun k c => (v4_v17 V d e _ m k).trans (tab1_lo _ _ e _ c))
    (fun k c => (v4_v17 V d e _ m k).trans (tab1_hi _ _ e _ c))

/-! ## The second selection's neighbours -/

theorem v6_arg2 : V6 V d (Proc.devRef .tc main_arg2) = V d (Proc.devRef .tc main_arg2) :=
  (V6_keep V d main_arg2 (by decide)).trans ((V5_keep V d main_arg2 (by decide)).trans (keep4 V d main_arg2 (by decide)))

theorem v6_v19 : V6 V d (Proc.devRef .tc main_v19) = Value3.D3 (V d (Proc.devRef .tc main_arg2)) (V d (Proc.devRef .tc main_arg2)) := by
  refine (left_arr (pdA (V5 V) 1) 2 (V5 V) launch₀3 (fun c w => Reg3.A_eq (V5 V) 1 c w) d 2).trans ((Value3.final (V5 V) 1 d).trans ?_)
  rw [V5_keep V d main_arg2 (by decide), keep4 V d main_arg2 (by decide)]

theorem v7_v31 : V7 V d (Proc.devRef .tc main_v31) = tab3 (V d (Proc.devRef .tc main_arg2)) := by
  refine (ops3_v31 (V6 V d)).trans ?_
  rw [v6_arg2]

theorem v7_v27 : V7 V d (Proc.devRef .tc main_v27) = ix3Of (F := Ideal) (Value3.D3 (V d (Proc.devRef .tc main_arg2)) (V d (Proc.devRef .tc main_arg2))) := by
  refine (ops3_v27 (V6 V d)).trans ?_
  rw [v6_v19]

theorem v8_v32 (e : Fin 4) (m : Fin 512) (k : Fin 16) (c : Fin 16) :
    (V8 V d (Proc.devRef .tc main_v32) : FVec Ideal S32768x16 .f32) (ix2 (r3 e m k) c)
      = tab3 (V d (Proc.devRef .tc main_arg2)) (ix2 (p3 e (sel2 (V d (Proc.devRef .tc main_arg2)) (ix3 e m k))) c) := by
  have h : V8 V d (Proc.devRef .tc main_v32) = Tile4.outVal (V7 V d (Proc.devRef .tc main_v31)) (V7 V d (Proc.devRef .tc main_v27)) := by
    unfold V8
    exact Function.update_self _ _ _
  rw [h, v7_v31, v7_v27]
  exact out4_apply _ _ _ c e _ (ix3Of_toNat _ e m k)

theorem v8_v18 : V8 V d (Proc.devRef .tc main_v18) = V5 V d (Proc.devRef .tc main_v18) :=
  (V8_keep V d main_v18 (by decide)).trans ((V7_keep V d main_v18 (by decide)).trans (V6_keep V d main_v18 (by decide)))

theorem v10_v32 : V10 V d (Proc.devRef .tc main_v32) = V8 V d (Proc.devRef .tc main_v32) :=
  (V10_keep V d main_v32 (by decide)).trans (V9_keep V d main_v32 (by decide))

theorem v10_v18 : V10 V d (Proc.devRef .tc main_v18) = V5 V d (Proc.devRef .tc main_v18) :=
  (V10_keep V d main_v18 (by decide)).trans ((V9_keep V d main_v18 (by decide)).trans (v8_v18 V d))

theorem v9_v33 : V9 V d (Proc.devRef .tc main_v33) = tab5 (V5 V d (Proc.devRef .tc main_v18)) := by
  refine (ops4_v33 (V8 V d)).trans ?_
  rw [v8_v18]

theorem v10_v34 (e : Fin 4) (m : Fin 512) (k : Fin 16) (c : Fin 128) :
    (V10 V d (Proc.devRef .tc main_v34) : FVec Ideal S32768x128 .f32) (ix2 (r3 e m k) c)
      = sp (argsK (V d)) e c (sel2 (V d (Proc.devRef .tc main_arg2)) (ix3 e m k)) := by
  have h : V10 V d (Proc.devRef .tc main_v34) = Tile5.outVal (V9 V d (Proc.devRef .tc main_v33)) (V9 V d (Proc.devRef .tc main_v27)) := by
    unfold V10
    exact Function.update_self _ _ _
  rw [h, v9_v33, V9_v27, v7_v27]
  refine (out5_apply _ _ _ c e _ (ix3Of_toNat _ e m k)).trans ?_
  rw [tab5_apply]
  exact v5_v18 V d e _ c

theorem v11_v37 (e : Fin 4) (c : Fin 3) (m : Fin 512) (k : Fin 16) :
    (V11 V d (Proc.devRef .tc main_v37) : FVec Ideal S4x16x512x16 .f32) (ix4 e (⟨c.val, by omega⟩ : Fin 16) m k)
      = (V d (Proc.devRef .tc main_arg2) : FVec Ideal S4x3x512 .f32) (ix3 e c (sel2 (V d (Proc.devRef .tc main_arg2)) (ix3 e m k))) := by
  have h : V11 V d (Proc.devRef .tc main_v37) = h37 (V10 V d (Proc.devRef .tc main_v32)) := ops5_v37 (V10 V d)
  rw [h, h37_apply, v10_v32]
  exact (v8_v32 V d e m k _).trans (tab3_lo _ e _ c)

theorem v11_v40 (e : Fin 4) (c : Fin 128) (m : Fin 512) (k : Fin 16) :
    (V11 V d (Proc.devRef .tc main_v40) : FVec Ideal S4x128x512x16 .f32) (ix4 e c m k) = sp (argsK (V d)) e c (sel2 (V d (Proc.devRef .tc main_arg2)) (ix3 e m k)) := by
  have h : V11 V d (Proc.devRef .tc main_v40) = h40 (V10 V d (Proc.devRef .tc main_v34)) := ops5_v40 (V10 V d)
  rw [h, h40_apply]
  exact v10_v34 V d e m k c

theorem v11_v41 (e : Fin 4) (c : Fin 128) (m : Fin 512) :
    (V11 V d (Proc.devRef .tc main_v41) : FVec Ideal S4x128x512 .f32) (ix3 e c m) = sp (argsK (V d)) e c m := by
  have h : V11 V d (Proc.devRef .tc main_v41) = h41 (V10 V d (Proc.devRef .tc main_v18)) := ops5_v41 (V10 V d)
  rw [h, h41_apply, v10_v18]
  exact v5_v18 V d e m c

/-! ## The second stack and the results -/

theorem arg11 (r : Ref sig .tc) (h4 : untouched4 r) (h11 : untouched11 r) : V11 V d (Proc.devRef .tc r) = V d (Proc.devRef .tc r) :=
  (keep11 V d r h11).trans (keep4 V d r h4)

theorem d6 (e : Fin 4) (o : Fin 4) (i : Fin 512) :
    Value6.D6 (V11 V d (Proc.devRef .tc main_v37)) (V11 V d (Proc.devRef .tc main_v40)) (V11 V d (Proc.devRef .tc main_v41)) (V11 V d (Proc.devRef .tc main_arg2)) (V11 V d (Proc.devRef .tc main_arg13)) (V11 V d (Proc.devRef .tc main_arg14)) (V11 V d (Proc.devRef .tc main_arg15)) (V11 V d (Proc.devRef .tc main_arg16)) (V11 V d (Proc.devRef .tc main_arg17)) (V11 V d (Proc.devRef .tc main_arg18)) (V11 V d (Proc.devRef .tc main_arg19)) (V11 V d (Proc.devRef .tc main_arg20)) (V11 V d (Proc.devRef .tc main_arg21)) (V11 V d (Proc.devRef .tc main_arg22)) (V11 V d (Proc.devRef .tc main_arg23)) (V11 V d (Proc.devRef .tc main_arg24)) (V11 V d (Proc.devRef .tc main_arg25)) (V11 V d (Proc.devRef .tc main_arg26)) (V11 V d (Proc.devRef .tc main_arg27)) (V11 V d (Proc.devRef .tc main_arg28)) e o i
      = ks (argsK (V d)) e o i := by
  rw [arg11 V d main_arg2 (by decide) (by decide)]; rw [arg11 V d main_arg13 (by decide) (by decide)]; rw [arg11 V d main_arg14 (by decide) (by decide)]; rw [arg11 V d main_arg15 (by decide) (by decide)]; rw [arg11 V d main_arg16 (by decide) (by decide)]; rw [arg11 V d main_arg17 (by decide) (by decide)]; rw [arg11 V d main_arg18 (by decide) (by decide)]; rw [arg11 V d main_arg19 (by decide) (by decide)]; rw [arg11 V d main_arg20 (by decide) (by decide)]; rw [arg11 V d main_arg21 (by decide) (by decide)]; rw [arg11 V d main_arg22 (by decide) (by decide)]; rw [arg11 V d main_arg23 (by decide) (by decide)]; rw [arg11 V d main_arg24 (by decide) (by decide)]; rw [arg11 V d main_arg25 (by decide) (by decide)]; rw [arg11 V d main_arg26 (by decide) (by decide)]; rw [arg11 V d main_arg27 (by decide) (by decide)]; rw [arg11 V d main_arg28 (by decide) (by decide)]
  exact D6_of _ _ _ _ _ _ _ _ _ _ _ _ _ _ _ _ _ _ _ _ e o i _ _ _ (fun k c => v11_v37 V d e c i k) (fun k c => v11_v40 V d e c i k) (fun c => v11_v41 V d e c i)

theorem v13_v42_0 (e : Fin 4) (c : Fin 3) (i : Fin 512) :
    (V13 V d (Proc.devRef .tc main_v42_0) : FVec Ideal S4x3x512 .f32) (ix3 e c i) = keyp (argsK (V d)) e c i := by
  have h : V13 V d (Proc.devRef .tc main_v42_0) = Value6.D6k (V11 V d (Proc.devRef .tc main_v37)) (V11 V d (Proc.devRef .tc main_v40)) (V11 V d (Proc.devRef .tc main_v41)) (V11 V d (Proc.devRef .tc main_arg2)) (V11 V d (Proc.devRef .tc main_arg13)) (V11 V d (Proc.devRef .tc main_arg14)) (V11 V d (Proc.devRef .tc main_arg15)) (V11 V d (Proc.devRef .tc main_arg16)) (V11 V d (Proc.devRef .tc main_arg17)) (V11 V d (Proc.devRef .tc main_arg18)) (V11 V d (Proc.devRef .tc main_arg19)) (V11 V d (Proc.devRef .tc main_arg20)) (V11 V d (Proc.devRef .tc main_arg21)) (V11 V d (Proc.devRef .tc main_arg22)) (V11 V d (Proc.devRef .tc main_arg23)) (V11 V d (Proc.devRef .tc main_arg24)) (V11 V d (Proc.devRef .tc main_arg25)) (V11 V d (Proc.devRef .tc main_arg26)) (V11 V d (Proc.devRef .tc main_arg27)) (V11 V d (Proc.devRef .tc main_arg28)) :=
    (V13_keep V d main_v42_0 (by decide)).trans
      ((left_arr (pdA (V11 V) 3) 3 (V11 V) launch6.to₀ (fun c w => Reg6.A_eq (V11 V) 3 c w) d 20).trans (Value6.final20 (V11 V) 3 d))
  rw [h]
  unfold keyp
  rw [← d6 V d e _ i]
  refine congrArg (fun z : EReal => Value6.D6 (V11 V d (Proc.devRef .tc main_v37)) (V11 V d (Proc.devRef .tc main_v40)) (V11 V d (Proc.devRef .tc main_v41)) (V11 V d (Proc.devRef .tc main_arg2)) (V11 V d (Proc.devRef .tc main_arg13)) (V11 V d (Proc.devRef .tc main_arg14)) (V11 V d (Proc.devRef .tc main_arg15)) (V11 V d (Proc.devRef .tc main_arg16)) (V11 V d (Proc.devRef .tc main_arg17)) (V11 V d (Proc.devRef .tc main_arg18)) (V11 V d (Proc.devRef .tc main_arg19)) (V11 V d (Proc.devRef .tc main_arg20)) (V11 V d (Proc.devRef .tc main_arg21)) (V11 V d (Proc.devRef .tc main_arg22)) (V11 V d (Proc.devRef .tc main_arg23)) (V11 V d (Proc.devRef .tc main_arg24)) (V11 V d (Proc.devRef .tc main_arg25)) (V11 V d (Proc.devRef .tc main_arg26)) (V11 V d (Proc.devRef .tc main_arg27)) (V11 V d (Proc.devRef .tc main_arg28)) e (⟨c.val, by omega⟩ : Fin 4) i + z) ?_
  exact congrFun (arg11 V d main_arg2 (by decide) (by decide)) _

theorem v13_v43 (e : Fin 4) (i : Fin 512) :
    (V13 V d (Proc.devRef .tc main_v43) : FVec Ideal S4x512 .f32) (ix2 e i) = sigm (argsK (V d)) e i := by
  have h : V13 V d (Proc.devRef .tc main_v43) = h43 (V12 V d (Proc.devRef .tc main_v42_1)) := ops6_v43 (V12 V d)
  have h1 : V12 V d (Proc.devRef .tc main_v42_1) = Value6.D6s (V11 V d (Proc.devRef .tc main_v37)) (V11 V d (Proc.devRef .tc main_v40)) (V11 V d (Proc.devRef .tc main_v41)) (V11 V d (Proc.devRef .tc main_arg2)) (V11 V d (Proc.devRef .tc main_arg13)) (V11 V d (Proc.devRef .tc main_arg14)) (V11 V d (Proc.devRef .tc main_arg15)) (V11 V d (Proc.devRef .tc main_arg16)) (V11 V d (Proc.devRef .tc main_arg17)) (V11 V d (Proc.devRef .tc main_arg18)) (V11 V d (Proc.devRef .tc main_arg19)) (V11 V d (Proc.devRef .tc main_arg20)) (V11 V d (Proc.devRef .tc main_arg21)) (V11 V d (Proc.devRef .tc main_arg22)) (V11 V d (Proc.devRef .tc main_arg23)) (V11 V d (Proc.devRef .tc main_arg24)) (V11 V d (Proc.devRef .tc main_arg25)) (V11 V d (Proc.devRef .tc main_arg26)) (V11 V d (Proc.devRef .tc main_arg27)) (V11 V d (Proc.devRef .tc main_arg28)) :=
    (left_arr (pdA (V11 V) 3) 3 (V11 V) launch6.to₀ (fun c w => Reg6.A_eq (V11 V) 3 c w) d 21).trans (Value6.final21 (V11 V) 3 d)
  rw [h, h43_apply, h1]
  unfold sigm
  rw [← d6 V d e 3 i]
  rfl

end Cert.Work.Final

end
-- ==== Proof.RLay.lean ====
/-
  The layers of the two stacks as the reference writes them, read at an index.
-/
module

public import proofs.«01_k».proof.Proof.Spec
public import proofs.«01_k».proof.Proof.Gen.ReferenceIdeal.Run

@[expose] public section

set_option maxRecDepth 16384

noncomputable section

namespace Cert.Work.RMath

open Cert.ReferenceIdeal Cert.ReferenceIdeal.Gen Cert.ReferenceIdeal.Value Cert.Work.Spec
open Idealize.ShloMosaic Idealize.ShloMosaic.StableHlo

def rl_64_6_64 (W : FVec Ideal S64x6 .f32) (b : FVec Ideal S64 .f32) (X : FVec Ideal S4x6x512x64 .f32) : FVec Ideal S4x64x512x64 .f32 :=
  maximumf (addf (transpose S4x64x512x64 [1, 0, 2, 3] (Host.dotGeneral dot_S64x6_S4x6x512x64_S64x4x512x64_1_1_0_023_n_n none W X) transposes_S64x4x512x64_S4x64x512x64_1_0_2_3)
    (broadcastInDim S4x64x512x64 ![0, 1, 2, 3] bcast_S1x64x1x1_S4x64x512x64_0_1_2_3 (shapeCast _ b shapeCasts_S64_S1x64x1x1)))
    (broadcastInDim S4x64x512x64 ![] bcast_S_S4x64x512x64 (constant S_ .f32 0x00000000#32))

theorem rl_64_6_64_apply (W : FVec Ideal S64x6 .f32) (b : FVec Ideal S64 .f32) (X : FVec Ideal S4x6x512x64 .f32) (e : Fin 4) (o : Fin 64) (i : Fin 512) (k : Fin 64) :
    rl_64_6_64 W b X (ix4 e o i k) = lay W b (fun c => X (ix4 e c i k)) o := by
  pointwise [rl_64_6_64, lay, lin]

def rl_64_64_64 (W : FVec Ideal S64x64 .f32) (b : FVec Ideal S64 .f32) (X : FVec Ideal S4x64x512x64 .f32) : FVec Ideal S4x64x512x64 .f32 :=
  maximumf (addf (transpose S4x64x512x64 [1, 0, 2, 3] (Host.dotGeneral dot_S64x64_S4x64x512x64_S64x4x512x64_1_1_0_023_n_n none W X) transposes_S64x4x512x64_S4x64x512x64_1_0_2_3)
    (broadcastInDim S4x64x512x64 ![0, 1, 2, 3] bcast_S1x64x1x1_S4x64x512x64_0_1_2_3 (shapeCast _ b shapeCasts_S64_S1x64x1x1)))
    (broadcastInDim S4x64x512x64 ![] bcast_S_S4x64x512x64 (constant S_ .f32 0x00000000#32))

theorem rl_64_64_64_apply (W : FVec Ideal S64x64 .f32) (b : FVec Ideal S64 .f32) (X : FVec Ideal S4x64x512x64 .f32) (e : Fin 4) (o : Fin 64) (i : Fin 512) (k : Fin 64) :
    rl_64_64_64 W b X (ix4 e o i k) = lay W b (fun c => X (ix4 e c i k)) o := by
  pointwise [rl_64_64_64, lay, lin]

def rl_128_128_64 (W : FVec Ideal S128x128 .f32) (b : FVec Ideal S128 .f32) (X : FVec Ideal S4x128x512x64 .f32) : FVec Ideal S4x128x512x64 .f32 :=
  maximumf (addf (transpose S4x128x512x64 [1, 0, 2, 3] (Host.dotGeneral dot_S128x128_S4x128x512x64_S128x4x512x64_1_1_0_023_n_n none W X) transposes_S128x4x512x64_S4x128x512x64_1_0_2_3)
    (broadcastInDim S4x128x512x64 ![0, 1, 2, 3] bcast_S1x128x1x1_S4x128x512x64_0_1_2_3 (shapeCast _ b shapeCasts_S128_S1x128x1x1)))
    (broadcastInDim S4x128x512x64 ![] bcast_S_S4x128x512x64 (constant S_ .f32 0x00000000#32))

theorem rl_128_128_64_apply (W : FVec Ideal S128x128 .f32) (b : FVec Ideal S128 .f32) (X : FVec Ideal S4x128x512x64 .f32) (e : Fin 4) (o : Fin 128) (i : Fin 512) (k : Fin 64) :
    rl_128_128_64 W b X (ix4 e o i k) = lay W b (fun c => X (ix4 e c i k)) o := by
  pointwise [rl_128_128_64, lay, lin]

def rl_256_131_16 (W : FVec Ideal S256x131 .f32) (b : FVec Ideal S256 .f32) (X : FVec Ideal S4x131x512x16 .f32) : FVec Ideal S4x256x512x16 .f32 :=
  maximumf (addf (transpose S4x256x512x16 [1, 0, 2, 3] (Host.dotGeneral dot_S256x131_S4x131x512x16_S256x4x512x16_1_1_0_023_n_n none W X) transposes_S256x4x512x16_S4x256x512x16_1_0_2_3)
    (broadcastInDim S4x256x512x16 ![0, 1, 2, 3] bcast_S1x256x1x1_S4x256x512x16_0_1_2_3 (shapeCast _ b shapeCasts_S256_S1x256x1x1)))
    (broadcastInDim S4x256x512x16 ![] bcast_S_S4x256x512x16 (constant S_ .f32 0x00000000#32))

theorem rl_256_131_16_apply (W : FVec Ideal S256x131 .f32) (b : FVec Ideal S256 .f32) (X : FVec Ideal S4x131x512x16 .f32) (e : Fin 4) (o : Fin 256) (i : Fin 512) (k : Fin 16) :
    rl_256_131_16 W b X (ix4 e o i k) = lay W b (fun c => X (ix4 e c i k)) o := by
  pointwise [rl_256_131_16, lay, lin]

def rl_256_256_16 (W : FVec Ideal S256x256 .f32) (b : FVec Ideal S256 .f32) (X : FVec Ideal S4x256x512x16 .f32) : FVec Ideal S4x256x512x16 .f32 :=
  maximumf (addf (transpose S4x256x512x16 [1, 0, 2, 3] (Host.dotGeneral dot_S256x256_S4x256x512x16_S256x4x512x16_1_1_0_023_n_n none W X) transposes_S256x4x512x16_S4x256x512x16_1_0_2_3)
    (broadcastInDim S4x256x512x16 ![0, 1, 2, 3] bcast_S1x256x1x1_S4x256x512x16_0_1_2_3 (shapeCast _ b shapeCasts_S256_S1x256x1x1)))
    (broadcastInDim S4x256x512x16 ![] bcast_S_S4x256x512x16 (constant S_ .f32 0x00000000#32))

theorem rl_256_256_16_apply (W : FVec Ideal S256x256 .f32) (b : FVec Ideal S256 .f32) (X : FVec Ideal S4x256x512x16 .f32) (e : Fin 4) (o : Fin 256) (i : Fin 512) (k : Fin 16) :
    rl_256_256_16 W b X (ix4 e o i k) = lay W b (fun c => X (ix4 e c i k)) o := by
  pointwise [rl_256_256_16, lay, lin]

def rl_512_512_16 (W : FVec Ideal S512x512 .f32) (b : FVec Ideal S512 .f32) (X : FVec Ideal S4x512x512x16 .f32) : FVec Ideal S4x512x512x16 .f32 :=
  maximumf (addf (transpose S4x512x512x16 [1, 0, 2, 3] (Host.dotGeneral dot_S512x512_S4x512x512x16_S512x4x512x16_1_1_0_023_n_n none W X) transposes_S512x4x512x16_S4x512x512x16_1_0_2_3)
    (broadcastInDim S4x512x512x16 ![0, 1, 2, 3] bcast_S1x512x1x1_S4x512x512x16_0_1_2_3 (shapeCast _ b shapeCasts_S512_S1x512x1x1)))
    (broadcastInDim S4x512x512x16 ![] bcast_S_S4x512x512x16 (constant S_ .f32 0x00000000#32))

theorem rl_512_512_16_apply (W : FVec Ideal S512x512 .f32) (b : FVec Ideal S512 .f32) (X : FVec Ideal S4x512x512x16 .f32) (e : Fin 4) (o : Fin 512) (i : Fin 512) (k : Fin 16) :
    rl_512_512_16 W b X (ix4 e o i k) = lay W b (fun c => X (ix4 e c i k)) o := by
  pointwise [rl_512_512_16, lay, lin]

def rl_512_640 (W : FVec Ideal S512x640 .f32) (b : FVec Ideal S512 .f32) (X : FVec Ideal S4x640x512 .f32) : FVec Ideal S4x512x512 .f32 :=
  maximumf (addf (transpose S4x512x512 [1, 0, 2] (Host.dotGeneral dot_S512x640_S4x640x512_S512x4x512_1_1_0_02_n_n none W X) transposes_S512x4x512_S4x512x512_1_0_2)
    (broadcastInDim S4x512x512 ![0, 1, 2] bcast_S1x512x1_S4x512x512_0_1_2 (shapeCast _ b shapeCasts_S512_S1x512x1)))
    (broadcastInDim S4x512x512 ![] bcast_S_S4x512x512 (constant S_ .f32 0x00000000#32))

theorem rl_512_640_apply (W : FVec Ideal S512x640 .f32) (b : FVec Ideal S512 .f32) (X : FVec Ideal S4x640x512 .f32) (e : Fin 4) (o : Fin 512) (i : Fin 512) :
    rl_512_640 W b X (ix3 e o i) = lay W b (fun c => X (ix3 e c i)) o := by
  pointwise [rl_512_640, lay, lin]

def rl_256_512 (W : FVec Ideal S256x512 .f32) (b : FVec Ideal S256 .f32) (X : FVec Ideal S4x512x512 .f32) : FVec Ideal S4x256x512 .f32 :=
  maximumf (addf (transpose S4x256x512 [1, 0, 2] (Host.dotGeneral dot_S256x512_S4x512x512_S256x4x512_1_1_0_02_n_n none W X) transposes_S256x4x512_S4x256x512_1_0_2)
    (broadcastInDim S4x256x512 ![0, 1, 2] bcast_S1x256x1_S4x256x512_0_1_2 (shapeCast _ b shapeCasts_S256_S1x256x1)))
    (broadcastInDim S4x256x512 ![] bcast_S_S4x256x512 (constant S_ .f32 0x00000000#32))

theorem rl_256_512_apply (W : FVec Ideal S256x512 .f32) (b : FVec Ideal S256 .f32) (X : FVec Ideal S4x512x512 .f32) (e : Fin 4) (o : Fin 256) (i : Fin 512) :
    rl_256_512 W b X (ix3 e o i) = lay W b (fun c => X (ix3 e c i)) o := by
  pointwise [rl_256_512, lay, lin]

def rl_4_256 (W : FVec Ideal S4x256 .f32) (b : FVec Ideal S4 .f32) (X : FVec Ideal S4x256x512 .f32) : FVec Ideal S4x4x512 .f32 :=
  addf (transpose S4x4x512 [1, 0, 2] (Host.dotGeneral dot_S4x256_S4x256x512_S4x4x512_1_1_0_02_n_n none W X) transposes_S4x4x512_S4x4x512_1_0_2)
    (broadcastInDim S4x4x512 ![0, 1, 2] bcast_S1x4x1_S4x4x512_0_1_2 (shapeCast _ b shapeCasts_S4_S1x4x1))

theorem rl_4_256_apply (W : FVec Ideal S4x256 .f32) (b : FVec Ideal S4 .f32) (X : FVec Ideal S4x256x512 .f32) (e : Fin 4) (o : Fin 4) (i : Fin 512) :
    rl_4_256 W b X (ix3 e o i) = lin W b (fun c => X (ix3 e c i)) o := by
  pointwise [rl_4_256, lay, lin]

end Cert.Work.RMath

end
-- ==== Proof.RCat.lean ====
/-
  The reference's concatenations, maxima and distances, read at an index.
-/
module

public import proofs.«01_k».proof.Proof.RLay

@[expose] public section

set_option maxRecDepth 16384

noncomputable section

namespace Cert.Work.RMath

open Cert.ReferenceIdeal Cert.ReferenceIdeal.Gen Cert.ReferenceIdeal.Value Cert.Work.Spec
open Idealize.ShloMosaic Idealize.ShloMosaic.StableHlo

/-- A layer's output with its maximum over the neighbours beside it, of the first stack. -/
def rcat1 (h : FVec Ideal S4x64x512x64 .f32) : FVec Ideal S4x128x512x64 .f32 :=
  concatenate S4x128x512x64 1 [⟨S4x64x512x64, h⟩, ⟨S4x64x512x64, (broadcastInDim S4x64x512x64 ![0, 1, 2, 3] bcast_S4x64x512x1_S4x64x512x64_0_1_2_3 (broadcastInDim S4x64x512x1 ![0, 1, 2] bcast_S4x64x512_S4x64x512x1_0_1_2 (Host.reduce FloatOps.maximumf h (constant S_ .f32 0xFF800000#32) reducesTo_S4x64x512x64_S4x64x512_d3 h_S_)))⟩] concatenates_S4x64x512x64_S4x64x512x64_S4x128x512x64_d1

theorem rcat1_apply (h : FVec Ideal S4x64x512x64 .f32) (e : Fin 4) (c : Fin 128) (i : Fin 512) (k : Fin 64) :
    rcat1 h (ix4 e c i k) = cat (p := 64) (q := 64) rfl (fun j => h (ix4 e j i k)) (fun j => mx fun k' => h (ix4 e j i k')) c := by
  pointwise [rcat1, cat, mx]

/-- The maximum over the neighbours, of the first stack. -/
def rmax1 (Y : FVec Ideal S4x128x512x64 .f32) : FVec Ideal S4x128x512 .f32 :=
  Host.reduce FloatOps.maximumf Y (constant S_ .f32 0xFF800000#32) reducesTo_S4x128x512x64_S4x128x512_d3 h_S_

theorem rmax1_apply (Y : FVec Ideal S4x128x512x64 .f32) (e : Fin 4) (o : Fin 128) (i : Fin 512) :
    rmax1 Y (ix3 e o i) = mx fun k => Y (ix4 e o i k) := by
  pointwise [rmax1, mx]

/-- A layer's output with its maximum over the neighbours beside it, of the second stack. -/
def rcat2 (h : FVec Ideal S4x256x512x16 .f32) : FVec Ideal S4x512x512x16 .f32 :=
  concatenate S4x512x512x16 1 [⟨S4x256x512x16, h⟩, ⟨S4x256x512x16, (broadcastInDim S4x256x512x16 ![0, 1, 2, 3] bcast_S4x256x512x1_S4x256x512x16_0_1_2_3 (broadcastInDim S4x256x512x1 ![0, 1, 2] bcast_S4x256x512_S4x256x512x1_0_1_2 (Host.reduce FloatOps.maximumf h (constant S_ .f32 0xFF800000#32) reducesTo_S4x256x512x16_S4x256x512_d3 h_S_)))⟩] concatenates_S4x256x512x16_S4x256x512x16_S4x512x512x16_d1

theorem rcat2_apply (h : FVec Ideal S4x256x512x16 .f32) (e : Fin 4) (c : Fin 512) (i : Fin 512) (k : Fin 16) :
    rcat2 h (ix4 e c i k) = cat (p := 256) (q := 256) rfl (fun j => h (ix4 e j i k)) (fun j => mx fun k' => h (ix4 e j i k')) c := by
  pointwise [rcat2, cat, mx]

/-- The first stack's channels beside the maximum over the neighbours, of the second stack. -/
def rmid (sp : FVec Ideal S4x128x512 .f32) (Y : FVec Ideal S4x512x512x16 .f32) : FVec Ideal S4x640x512 .f32 :=
  concatenate S4x640x512 1 [⟨S4x128x512, sp⟩, ⟨S4x512x512, (Host.reduce FloatOps.maximumf Y (constant S_ .f32 0xFF800000#32) reducesTo_S4x512x512x16_S4x512x512_d3 h_S_)⟩] concatenates_S4x128x512_S4x512x512_S4x640x512_d1

theorem rmid_apply (sp : FVec Ideal S4x128x512 .f32) (Y : FVec Ideal S4x512x512x16 .f32) (e : Fin 4) (c : Fin 640) (i : Fin 512) :
    rmid sp Y (ix3 e c i) = cat (p := 128) (q := 512) rfl (fun j => sp (ix3 e j i)) (fun j => mx fun k => Y (ix4 e j i k)) c := by
  pointwise [rmid, cat, mx]

/-- The negated distances the reference sorts, `v16`. -/
def rdist1 (a : FVec Ideal S4x3x512 .f32) (x : FVec Ideal S4x3x16384 .f32) : FVec Ideal S4x512x16384 .f32 :=
  Host.negf (maximumf (subf (addf (broadcastInDim S4x512x16384 ![0, 1, 2] bcast_S4x512x1_S4x512x16384_0_1_2 (broadcastInDim S4x512x1 ![0, 1] bcast_S4x512_S4x512x1_0_1 (Host.reduceAdd (mulf a a) (constant S_ .f32 0x00000000#32) reducesTo_S4x3x512_S4x512_d1 h_S_))) (broadcastInDim S4x512x16384 ![0, 1, 2] bcast_S4x1x16384_S4x512x16384_0_1_2 (broadcastInDim S4x1x16384 ![0, 2] bcast_S4x16384_S4x1x16384_0_2 (Host.reduceAdd (mulf x x) (constant S_ .f32 0x00000000#32) reducesTo_S4x3x16384_S4x16384_d1 h_S_)))) (mulf (broadcastInDim S4x512x16384 ![] bcast_S_S4x512x16384 (constant S_ .f32 0x40000000#32)) (Host.dotGeneral dot_S4x3x512_S4x3x16384_S4x512x16384_1_1_2_2_0_0 none a x))) (broadcastInDim S4x512x16384 ![] bcast_S_S4x512x16384 (constant S_ .f32 0x00000000#32)))

theorem rdist1_eq (V0 : Valuation τ sig (Elt Ideal)) :
    res_main_v16 (F := Ideal) V0 = rdist1 (V0 (Proc.devRef .tc main_arg2)) (V0 (Proc.devRef .tc main_arg0)) := rfl

theorem rdist1_apply (a : FVec Ideal S4x3x512 .f32) (x : FVec Ideal S4x3x16384 .f32) (e : Fin 4) (m : Fin 512) (n : Fin 16384) :
    rdist1 a x (ix3 e m n) = - dsq (fun c => a (ix3 e c m)) (fun c => x (ix3 e c n)) := by
  pointwise [rdist1, dsq]

/-- The negated distances the reference sorts, `v77`. -/
def rdist2 (a : FVec Ideal S4x3x512 .f32) (x : FVec Ideal S4x3x512 .f32) : FVec Ideal S4x512x512 .f32 :=
  Host.negf (maximumf (subf (addf (broadcastInDim S4x512x512 ![0, 1, 2] bcast_S4x512x1_S4x512x512_0_1_2 (broadcastInDim S4x512x1 ![0, 1] bcast_S4x512_S4x512x1_0_1 (Host.reduceAdd (mulf a a) (constant S_ .f32 0x00000000#32) reducesTo_S4x3x512_S4x512_d1 h_S_))) (broadcastInDim S4x512x512 ![0, 1, 2] bcast_S4x1x512_S4x512x512_0_1_2 (broadcastInDim S4x1x512 ![0, 2] bcast_S4x512_S4x1x512_0_2 (Host.reduceAdd (mulf x x) (constant S_ .f32 0x00000000#32) reducesTo_S4x3x512_S4x512_d1 h_S_)))) (mulf (broadcastInDim S4x512x512 ![] bcast_S_S4x512x512 (constant S_ .f32 0x40000000#32)) (Host.dotGeneral dot_S4x3x512_S4x3x512_S4x512x512_1_1_2_2_0_0 none a x))) (broadcastInDim S4x512x512 ![] bcast_S_S4x512x512 (constant S_ .f32 0x00000000#32)))

theorem rdist2_eq (V0 : Valuation τ sig (Elt Ideal)) :
    res_main_v77 (F := Ideal) V0 = rdist2 (V0 (Proc.devRef .tc main_arg2)) (V0 (Proc.devRef .tc main_arg2)) := rfl

theorem rdist2_apply (a : FVec Ideal S4x3x512 .f32) (x : FVec Ideal S4x3x512 .f32) (e : Fin 4) (m : Fin 512) (n : Fin 512) :
    rdist2 a x (ix3 e m n) = - dsq (fun c => a (ix3 e c m)) (fun c => x (ix3 e c n)) := by
  pointwise [rdist2, dsq]

end Cert.Work.RMath

end
-- ==== Proof.RTake.lean ====
/-
  Taking columns by index words, as the reference does, read at an index.
-/
module

public import Idealize.ShloMosaic.Lib.Routing.OpsSet
public import proofs.«01_k».proof.Proof.Spec
public import proofs.«01_k».proof.Proof.Gen.ReferenceIdeal.Run

@[expose] public section

set_option maxRecDepth 16384

noncomputable section

namespace Cert.Work.RMath

open Cert.ReferenceIdeal Cert.ReferenceIdeal.Gen Cert.ReferenceIdeal.Value Cert.Work.Spec
open Idealize.ShloMosaic Idealize.ShloMosaic.StableHlo

/-- The index words the gather of `take6` reads, an index word below zero counted from the end. -/
def take6Ix (I : IVec S4x512x64 32) : IVec S4x6x32768x1 32 :=
  shapeCast _ (select (cmpi .slt (broadcastInDim S4x6x32768 ![0, 1, 2] bcast_S4x1x32768_S4x6x32768_0_1_2 (shapeCast _ I shapeCasts_S4x512x64_S4x1x32768)) (broadcastInDim S4x6x32768 ![] bcast_S_S4x6x32768 (constantI S_ 32 0#32))) (addi (broadcastInDim S4x6x32768 ![0, 1, 2] bcast_S4x1x32768_S4x6x32768_0_1_2 (shapeCast _ I shapeCasts_S4x512x64_S4x1x32768)) (broadcastInDim S4x6x32768 ![] bcast_S_S4x6x32768 (constantI S_ 32 16384#32))) (broadcastInDim S4x6x32768 ![0, 1, 2] bcast_S4x1x32768_S4x6x32768_0_1_2 (shapeCast _ I shapeCasts_S4x512x64_S4x1x32768))) shapeCasts_S4x6x32768_S4x6x32768x1

/-- Which of those words are in range. -/
def take6Ok (J : IVec S4x6x32768x1 32) : IVec S4x6x32768 1 :=
  Host.reduce IntOp.andi (andi (cmpi .sge J (broadcastInDim S4x6x32768x1 ![] bcast_S_S4x6x32768x1 (constantI S_ 32 0#32))) (cmpi .sle J (broadcastInDim S4x6x32768x1 ![0, 1, 2, 3] bcast_S1x1x1x1_S4x6x32768x1_0_1_2_3 (broadcastInDim S1x1x1x1 ![3] bcast_S1_S1x1x1x1_3 (constantI S1 32 16383#32))))) (constantI S_ 1 1#1) reducesTo_S4x6x32768x1_S4x6x32768_d3 h_S_

/-- Columns of an array, by the index words, as the reference takes them. -/
def take6 (x : FVec Ideal S4x6x16384 .f32) (I : IVec S4x512x64 32) : FVec Ideal S4x6x512x64 .f32 :=
  shapeCast _ (select (take6Ok (take6Ix I)) (Host.gather gather_S4x6x16384_S4x6x32768x1_S4x6x32768_n_2_01_01_2_3_111 x (take6Ix I)) (broadcastInDim S4x6x32768 ![] bcast_S_S4x6x32768 (constant S_ .f32 0x7FC00000#32))) shapeCasts_S4x6x32768_S4x6x512x64

theorem take6_gather (x : FVec Ideal S4x6x16384 .f32) (J : IVec S4x6x32768x1 32) (e : Fin 4) (c : Fin 6) (p : Fin 32768) :
    Host.gather gather_S4x6x16384_S4x6x32768x1_S4x6x32768_n_2_01_01_2_3_111 x J (ix3 e c p) = x (ix3 e c ⟨min (J (ix4 e c p 0)).toInt.toNat 16383, by omega⟩) := by
  unfold Host.gather
  congr 1
  funext a
  refine Fin.ext ?_
  show (gather_S4x6x16384_S4x6x32768x1_S4x6x32768_n_2_01_01_2_3_111).start (ix3 e c p) J a + (gather_S4x6x16384_S4x6x32768x1_S4x6x32768_n_2_01_01_2_3_111).batchCoord (ix3 e c p) a + (gather_S4x6x16384_S4x6x32768x1_S4x6x32768_n_2_01_01_2_3_111).offCoord (ix3 e c p) a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide), GatherDims.offCoord_eq_zero _ _ _ (by decide)]
    simp only [Nat.add_zero]
    unfold GatherDims.start
    rw [dif_pos (by decide)]
    have hsi : ∀ q, (gather_S4x6x16384_S4x6x32768x1_S4x6x32768_n_2_01_01_2_3_111).siIdx (ix3 e c p) q = ix4 e c p 0 := by
      intro q
      funext b; refine Fin.ext ?_
      match b with
      | ⟨0, _⟩ => rfl
      | ⟨1, _⟩ => rfl
      | ⟨2, _⟩ => rfl
      | ⟨3, _⟩ => exact Nat.lt_one_iff.mp (Fin.isLt _)
    rw [hsi]
    rfl

theorem take6Ix_apply (I : IVec S4x512x64 32) (κ : S4x512x64.Idx → Fin 16384) (hI : ∀ j, I j = BitVec.ofNat 32 (κ j).val) (e : Fin 4) (c : Fin 6) (m : Fin 512) (k : Fin 64) :
    take6Ix I (ix4 e c ⟨m.val * 64 + k.val, by omega⟩ 0) = BitVec.ofNat 32 (κ (ix3 e m k)).val := by
  pointwise [take6Ix]
  rw [Routing.wrap_of_lt _ _ (by rw [hI, WordCmp.toNat_ofNat_of_lt (by have := (κ (ix3 e m k)).isLt; omega)]; have := (κ (ix3 e m k)).isLt; omega)]
  exact hI _

theorem take6Ok_apply (J : IVec S4x6x32768x1 32) (e : Fin 4) (c : Fin 6) (p : Fin 32768) (n : ℕ) (hn : n < 16384) (hJ : J (ix4 e c p 0) = BitVec.ofNat 32 n) :
    take6Ok J (ix3 e c p) = 1#1 := by
  pointwise [take6Ok]
  rw [Finset.univ_unique, Finset.fold_singleton]
  show IntOp.andi (IntOp.andi (IntOp.cmpi .sge (J (ix4 e c p 0)) 0#32) (IntOp.cmpi .sle (J (ix4 e c p 0)) 16383#32)) (1#1) = 1#1
  rw [hJ, WordCmp.cmpi_sge_eq, WordCmp.cmpi_sle_eq]
  have hn' : (BitVec.ofNat 32 n).toInt = (n : ℤ) := WordCmp.toInt_ofNat_of_lt (by omega)
  have h0 : (0#32 : BitVec 32).toInt = 0 := by decide
  have h1 : (16383#32 : BitVec 32).toInt = 16383 := by decide
  rw [hn', h0, h1, decide_eq_true (by omega), decide_eq_true (by omega)]
  decide

theorem take6_apply (x : FVec Ideal S4x6x16384 .f32) (I : IVec S4x512x64 32) (κ : S4x512x64.Idx → Fin 16384) (hI : ∀ j, I j = BitVec.ofNat 32 (κ j).val)
    (e : Fin 4) (c : Fin 6) (m : Fin 512) (k : Fin 64) : take6 x I (ix4 e c m k) = x (ix3 e c (κ (ix3 e m k))) := by
  pointwise [take6]
  rw [take6Ok_apply _ e c _ (κ (ix3 e m k)).val (κ (ix3 e m k)).isLt (take6Ix_apply I κ hI e c m k), take6_gather]
  show x _ = _
  congr 2
  refine Fin.ext ?_
  have := (κ (ix3 e m k)).isLt
  show min (take6Ix I (ix4 e c ⟨m.val * 64 + k.val, _⟩ 0)).toInt.toNat 16383 = (κ (ix3 e m k)).val
  rw [take6Ix_apply I κ hI e c m k, WordCmp.toInt_ofNat_of_lt (by omega)]
  omega

/-- The index words the gather of `take3` reads, an index word below zero counted from the end. -/
def take3Ix (I : IVec S4x512x16 32) : IVec S4x3x8192x1 32 :=
  shapeCast _ (select (cmpi .slt (broadcastInDim S4x3x8192 ![0, 1, 2] bcast_S4x1x8192_S4x3x8192_0_1_2 (shapeCast _ I shapeCasts_S4x512x16_S4x1x8192)) (broadcastInDim S4x3x8192 ![] bcast_S_S4x3x8192 (constantI S_ 32 0#32))) (addi (broadcastInDim S4x3x8192 ![0, 1, 2] bcast_S4x1x8192_S4x3x8192_0_1_2 (shapeCast _ I shapeCasts_S4x512x16_S4x1x8192)) (broadcastInDim S4x3x8192 ![] bcast_S_S4x3x8192 (constantI S_ 32 512#32))) (broadcastInDim S4x3x8192 ![0, 1, 2] bcast_S4x1x8192_S4x3x8192_0_1_2 (shapeCast _ I shapeCasts_S4x512x16_S4x1x8192))) shapeCasts_S4x3x8192_S4x3x8192x1

/-- Which of those words are in range. -/
def take3Ok (J : IVec S4x3x8192x1 32) : IVec S4x3x8192 1 :=
  Host.reduce IntOp.andi (andi (cmpi .sge J (broadcastInDim S4x3x8192x1 ![] bcast_S_S4x3x8192x1 (constantI S_ 32 0#32))) (cmpi .sle J (broadcastInDim S4x3x8192x1 ![0, 1, 2, 3] bcast_S1x1x1x1_S4x3x8192x1_0_1_2_3 (broadcastInDim S1x1x1x1 ![3] bcast_S1_S1x1x1x1_3 (constantI S1 32 511#32))))) (constantI S_ 1 1#1) reducesTo_S4x3x8192x1_S4x3x8192_d3 h_S_

/-- Columns of an array, by the index words, as the reference takes them. -/
def take3 (x : FVec Ideal S4x3x512 .f32) (I : IVec S4x512x16 32) : FVec Ideal S4x3x512x16 .f32 :=
  shapeCast _ (select (take3Ok (take3Ix I)) (Host.gather gather_S4x3x512_S4x3x8192x1_S4x3x8192_n_2_01_01_2_3_111 x (take3Ix I)) (broadcastInDim S4x3x8192 ![] bcast_S_S4x3x8192 (constant S_ .f32 0x7FC00000#32))) shapeCasts_S4x3x8192_S4x3x512x16

theorem take3_gather (x : FVec Ideal S4x3x512 .f32) (J : IVec S4x3x8192x1 32) (e : Fin 4) (c : Fin 3) (p : Fin 8192) :
    Host.gather gather_S4x3x512_S4x3x8192x1_S4x3x8192_n_2_01_01_2_3_111 x J (ix3 e c p) = x (ix3 e c ⟨min (J (ix4 e c p 0)).toInt.toNat 511, by omega⟩) := by
  unfold Host.gather
  congr 1
  funext a
  refine Fin.ext ?_
  show (gather_S4x3x512_S4x3x8192x1_S4x3x8192_n_2_01_01_2_3_111).start (ix3 e c p) J a + (gather_S4x3x512_S4x3x8192x1_S4x3x8192_n_2_01_01_2_3_111).batchCoord (ix3 e c p) a + (gather_S4x3x512_S4x3x8192x1_S4x3x8192_n_2_01_01_2_3_111).offCoord (ix3 e c p) a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide), GatherDims.offCoord_eq_zero _ _ _ (by decide)]
    simp only [Nat.add_zero]
    unfold GatherDims.start
    rw [dif_pos (by decide)]
    have hsi : ∀ q, (gather_S4x3x512_S4x3x8192x1_S4x3x8192_n_2_01_01_2_3_111).siIdx (ix3 e c p) q = ix4 e c p 0 := by
      intro q
      funext b; refine Fin.ext ?_
      match b with
      | ⟨0, _⟩ => rfl
      | ⟨1, _⟩ => rfl
      | ⟨2, _⟩ => rfl
      | ⟨3, _⟩ => exact Nat.lt_one_iff.mp (Fin.isLt _)
    rw [hsi]
    rfl

theorem take3Ix_apply (I : IVec S4x512x16 32) (κ : S4x512x16.Idx → Fin 512) (hI : ∀ j, I j = BitVec.ofNat 32 (κ j).val) (e : Fin 4) (c : Fin 3) (m : Fin 512) (k : Fin 16) :
    take3Ix I (ix4 e c ⟨m.val * 16 + k.val, by omega⟩ 0) = BitVec.ofNat 32 (κ (ix3 e m k)).val := by
  pointwise [take3Ix]
  rw [Routing.wrap_of_lt _ _ (by rw [hI, WordCmp.toNat_ofNat_of_lt (by have := (κ (ix3 e m k)).isLt; omega)]; have := (κ (ix3 e m k)).isLt; omega)]
  exact hI _

theorem take3Ok_apply (J : IVec S4x3x8192x1 32) (e : Fin 4) (c : Fin 3) (p : Fin 8192) (n : ℕ) (hn : n < 512) (hJ : J (ix4 e c p 0) = BitVec.ofNat 32 n) :
    take3Ok J (ix3 e c p) = 1#1 := by
  pointwise [take3Ok]
  rw [Finset.univ_unique, Finset.fold_singleton]
  show IntOp.andi (IntOp.andi (IntOp.cmpi .sge (J (ix4 e c p 0)) 0#32) (IntOp.cmpi .sle (J (ix4 e c p 0)) 511#32)) (1#1) = 1#1
  rw [hJ, WordCmp.cmpi_sge_eq, WordCmp.cmpi_sle_eq]
  have hn' : (BitVec.ofNat 32 n).toInt = (n : ℤ) := WordCmp.toInt_ofNat_of_lt (by omega)
  have h0 : (0#32 : BitVec 32).toInt = 0 := by decide
  have h1 : (511#32 : BitVec 32).toInt = 511 := by decide
  rw [hn', h0, h1, decide_eq_true (by omega), decide_eq_true (by omega)]
  decide

theorem take3_apply (x : FVec Ideal S4x3x512 .f32) (I : IVec S4x512x16 32) (κ : S4x512x16.Idx → Fin 512) (hI : ∀ j, I j = BitVec.ofNat 32 (κ j).val)
    (e : Fin 4) (c : Fin 3) (m : Fin 512) (k : Fin 16) : take3 x I (ix4 e c m k) = x (ix3 e c (κ (ix3 e m k))) := by
  pointwise [take3]
  rw [take3Ok_apply _ e c _ (κ (ix3 e m k)).val (κ (ix3 e m k)).isLt (take3Ix_apply I κ hI e c m k), take3_gather]
  show x _ = _
  congr 2
  refine Fin.ext ?_
  have := (κ (ix3 e m k)).isLt
  show min (take3Ix I (ix4 e c ⟨m.val * 16 + k.val, _⟩ 0)).toInt.toNat 511 = (κ (ix3 e m k)).val
  rw [take3Ix_apply I κ hI e c m k, WordCmp.toInt_ofNat_of_lt (by omega)]
  omega

/-- The index words the gather of `take128` reads, an index word below zero counted from the end. -/
def take128Ix (I : IVec S4x512x16 32) : IVec S4x128x8192x1 32 :=
  shapeCast _ (select (cmpi .slt (broadcastInDim S4x128x8192 ![0, 1, 2] bcast_S4x1x8192_S4x128x8192_0_1_2 (shapeCast _ I shapeCasts_S4x512x16_S4x1x8192)) (broadcastInDim S4x128x8192 ![] bcast_S_S4x128x8192 (constantI S_ 32 0#32))) (addi (broadcastInDim S4x128x8192 ![0, 1, 2] bcast_S4x1x8192_S4x128x8192_0_1_2 (shapeCast _ I shapeCasts_S4x512x16_S4x1x8192)) (broadcastInDim S4x128x8192 ![] bcast_S_S4x128x8192 (constantI S_ 32 512#32))) (broadcastInDim S4x128x8192 ![0, 1, 2] bcast_S4x1x8192_S4x128x8192_0_1_2 (shapeCast _ I shapeCasts_S4x512x16_S4x1x8192))) shapeCasts_S4x128x8192_S4x128x8192x1

/-- Which of those words are in range. -/
def take128Ok (J : IVec S4x128x8192x1 32) : IVec S4x128x8192 1 :=
  Host.reduce IntOp.andi (andi (cmpi .sge J (broadcastInDim S4x128x8192x1 ![] bcast_S_S4x128x8192x1 (constantI S_ 32 0#32))) (cmpi .sle J (broadcastInDim S4x128x8192x1 ![0, 1, 2, 3] bcast_S1x1x1x1_S4x128x8192x1_0_1_2_3 (broadcastInDim S1x1x1x1 ![3] bcast_S1_S1x1x1x1_3 (constantI S1 32 511#32))))) (constantI S_ 1 1#1) reducesTo_S4x128x8192x1_S4x128x8192_d3 h_S_

/-- Columns of an array, by the index words, as the reference takes them. -/
def take128 (x : FVec Ideal S4x128x512 .f32) (I : IVec S4x512x16 32) : FVec Ideal S4x128x512x16 .f32 :=
  shapeCast _ (select (take128Ok (take128Ix I)) (Host.gather gather_S4x128x512_S4x128x8192x1_S4x128x8192_n_2_01_01_2_3_111 x (take128Ix I)) (broadcastInDim S4x128x8192 ![] bcast_S_S4x128x8192 (constant S_ .f32 0x7FC00000#32))) shapeCasts_S4x128x8192_S4x128x512x16

theorem take128_gather (x : FVec Ideal S4x128x512 .f32) (J : IVec S4x128x8192x1 32) (e : Fin 4) (c : Fin 128) (p : Fin 8192) :
    Host.gather gather_S4x128x512_S4x128x8192x1_S4x128x8192_n_2_01_01_2_3_111 x J (ix3 e c p) = x (ix3 e c ⟨min (J (ix4 e c p 0)).toInt.toNat 511, by omega⟩) := by
  unfold Host.gather
  congr 1
  funext a
  refine Fin.ext ?_
  show (gather_S4x128x512_S4x128x8192x1_S4x128x8192_n_2_01_01_2_3_111).start (ix3 e c p) J a + (gather_S4x128x512_S4x128x8192x1_S4x128x8192_n_2_01_01_2_3_111).batchCoord (ix3 e c p) a + (gather_S4x128x512_S4x128x8192x1_S4x128x8192_n_2_01_01_2_3_111).offCoord (ix3 e c p) a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide), GatherDims.offCoord_eq_zero _ _ _ (by decide)]
    simp only [Nat.add_zero]
    unfold GatherDims.start
    rw [dif_pos (by decide)]
    have hsi : ∀ q, (gather_S4x128x512_S4x128x8192x1_S4x128x8192_n_2_01_01_2_3_111).siIdx (ix3 e c p) q = ix4 e c p 0 := by
      intro q
      funext b; refine Fin.ext ?_
      match b with
      | ⟨0, _⟩ => rfl
      | ⟨1, _⟩ => rfl
      | ⟨2, _⟩ => rfl
      | ⟨3, _⟩ => exact Nat.lt_one_iff.mp (Fin.isLt _)
    rw [hsi]
    rfl

theorem take128Ix_apply (I : IVec S4x512x16 32) (κ : S4x512x16.Idx → Fin 512) (hI : ∀ j, I j = BitVec.ofNat 32 (κ j).val) (e : Fin 4) (c : Fin 128) (m : Fin 512) (k : Fin 16) :
    take128Ix I (ix4 e c ⟨m.val * 16 + k.val, by omega⟩ 0) = BitVec.ofNat 32 (κ (ix3 e m k)).val := by
  pointwise [take128Ix]
  rw [Routing.wrap_of_lt _ _ (by rw [hI, WordCmp.toNat_ofNat_of_lt (by have := (κ (ix3 e m k)).isLt; omega)]; have := (κ (ix3 e m k)).isLt; omega)]
  exact hI _

theorem take128Ok_apply (J : IVec S4x128x8192x1 32) (e : Fin 4) (c : Fin 128) (p : Fin 8192) (n : ℕ) (hn : n < 512) (hJ : J (ix4 e c p 0) = BitVec.ofNat 32 n) :
    take128Ok J (ix3 e c p) = 1#1 := by
  pointwise [take128Ok]
  rw [Finset.univ_unique, Finset.fold_singleton]
  show IntOp.andi (IntOp.andi (IntOp.cmpi .sge (J (ix4 e c p 0)) 0#32) (IntOp.cmpi .sle (J (ix4 e c p 0)) 511#32)) (1#1) = 1#1
  rw [hJ, WordCmp.cmpi_sge_eq, WordCmp.cmpi_sle_eq]
  have hn' : (BitVec.ofNat 32 n).toInt = (n : ℤ) := WordCmp.toInt_ofNat_of_lt (by omega)
  have h0 : (0#32 : BitVec 32).toInt = 0 := by decide
  have h1 : (511#32 : BitVec 32).toInt = 511 := by decide
  rw [hn', h0, h1, decide_eq_true (by omega), decide_eq_true (by omega)]
  decide

theorem take128_apply (x : FVec Ideal S4x128x512 .f32) (I : IVec S4x512x16 32) (κ : S4x512x16.Idx → Fin 512) (hI : ∀ j, I j = BitVec.ofNat 32 (κ j).val)
    (e : Fin 4) (c : Fin 128) (m : Fin 512) (k : Fin 16) : take128 x I (ix4 e c m k) = x (ix3 e c (κ (ix3 e m k))) := by
  pointwise [take128]
  rw [take128Ok_apply _ e c _ (κ (ix3 e m k)).val (κ (ix3 e m k)).isLt (take128Ix_apply I κ hI e c m k), take128_gather]
  show x _ = _
  congr 2
  refine Fin.ext ?_
  have := (κ (ix3 e m k)).isLt
  show min (take128Ix I (ix4 e c ⟨m.val * 16 + k.val, _⟩ 0)).toInt.toNat 511 = (κ (ix3 e m k)).val
  rw [take128Ix_apply I κ hI e c m k, WordCmp.toInt_ofNat_of_lt (by omega)]
  omega

end Cert.Work.RMath

end
-- ==== Proof.RScat.lean ====
/-
  The scatter that replaces three of the six channels, as the reference writes it, read at an index.
-/
module

public import Idealize.ShloMosaic.Lib.Routing.OpsSet
public import proofs.«01_k».proof.Proof.Spec
public import proofs.«01_k».proof.Proof.Gen.ReferenceIdeal.Run

@[expose] public section

set_option maxRecDepth 16384

noncomputable section

namespace Cert.Work.RMath

open Cert.ReferenceIdeal Cert.ReferenceIdeal.Gen Cert.ReferenceIdeal.Value Cert.Work.Spec
open Idealize.ShloMosaic Idealize.ShloMosaic.StableHlo

/-- The three coordinates replaced by their differences from the node's, by the scatter the reference writes. -/
def rscat (x : FVec Ideal S4x6x512x64 .f32) (a : FVec Ideal S4x3x512 .f32) : FVec Ideal S4x6x512x64 .f32 :=
  Host.scatter scatter_S4x6x512x64_S1_S4x3x512x64_0123_n_1_0 (fun _ b => b) x (broadcastInDim S1 ![] bcast_S_S1 (constantI S_ 32 0#32)) (subf (extractStridedSlice S4x3x512x64 ![0, 0, 0, 0] x slices_S4x6x512x64_S4x3x512x64_0_0_0_0) (broadcastInDim S4x3x512x64 ![0, 1, 2, 3] bcast_S4x3x512x1_S4x3x512x64_0_1_2_3 (broadcastInDim S4x3x512x1 ![0, 1, 2] bcast_S4x3x512_S4x3x512x1_0_1_2 a)))

/-- The update written. -/
def rupd (x : FVec Ideal S4x6x512x64 .f32) (a : FVec Ideal S4x3x512 .f32) : FVec Ideal S4x3x512x64 .f32 :=
  subf (extractStridedSlice S4x3x512x64 ![0, 0, 0, 0] x slices_S4x6x512x64_S4x3x512x64_0_0_0_0) (broadcastInDim S4x3x512x64 ![0, 1, 2, 3] bcast_S4x3x512x1_S4x3x512x64_0_1_2_3 (broadcastInDim S4x3x512x1 ![0, 1, 2] bcast_S4x3x512_S4x3x512x1_0_1_2 a))

theorem rupd_apply (x : FVec Ideal S4x6x512x64 .f32) (a : FVec Ideal S4x3x512 .f32) (e : Fin 4) (c : Fin 3) (i : Fin 512) (k : Fin 64) :
    rupd x a (ix4 e c i k) = x (ix4 e (⟨c.val, by omega⟩ : Fin 6) i k) - a (ix3 e c i) := by
  pointwise [rupd]

theorem lands (z : IVec S1 32) (hz : ∀ j, z j = 0#32) (j : S4x3x512x64.Idx) (q : S4x6x512x64.Idx) :
    (scatter_S4x6x512x64_S1_S4x3x512x64_0123_n_1_0).resultIdx? j z = some q ↔ ∀ a : Fin 4, (j a).val = (q a).val := by
  rw [Routing.resultIdx?_eq_some]
  have hs : ∀ a, (scatter_S4x6x512x64_S1_S4x3x512x64_0123_n_1_0).start j z a = 0 := by
    intro a
    unfold ScatterDims.start
    split
    · rw [hz]; rfl
    · rfl
  have hw : ∀ a : Fin 4, (scatter_S4x6x512x64_S1_S4x3x512x64_0123_n_1_0).window j a = (j a).val := by
    intro a
    match a with
    | ⟨0, _⟩ => rfl
    | ⟨1, _⟩ => rfl
    | ⟨2, _⟩ => rfl
    | ⟨3, _⟩ => rfl
  constructor
  · intro h a
    have := h a
    rw [hs, hw] at this
    omega
  · intro h a
    rw [hs, hw, h a]
    omega

theorem rscat_apply (x : FVec Ideal S4x6x512x64 .f32) (a : FVec Ideal S4x3x512 .f32) (e : Fin 4) (c : Fin 6) (i : Fin 512) (k : Fin 64) :
    rscat x a (ix4 e c i k) = cat (p := 3) (q := 3) rfl (fun c => x (ix4 e (⟨c.val, by omega⟩ : Fin 6) i k) - a (ix3 e c i))
      (fun c => x (ix4 e (⟨3 + c.val, by omega⟩ : Fin 6) i k)) c := by
  have hz : ∀ j, (broadcastInDim S1 ![] bcast_S_S1 (constantI S_ 32 0#32) : IVec S1 32) j = 0#32 := fun _ => rfl
  unfold cat
  by_cases h : c.val < 3
  · rw [dif_pos h]
    refine Routing.scatter_set_hit _ x _ (rupd x a) _ _ (fun j hj => ?_) (ix4 e ⟨c.val, h⟩ i k) ?_
    · have hj' := (lands _ hz j _).mp hj
      have ej : j = ix4 e ⟨c.val, h⟩ i k := by
        funext b
        refine Fin.ext ?_
        match b with
        | ⟨0, _⟩ => exact hj' 0
        | ⟨1, _⟩ => exact hj' 1
        | ⟨2, _⟩ => exact hj' 2
        | ⟨3, _⟩ => exact hj' 3
      rw [ej, rupd_apply]
    · refine (lands _ hz _ _).mpr fun b => ?_
      match b with
      | ⟨0, _⟩ => rfl
      | ⟨1, _⟩ => rfl
      | ⟨2, _⟩ => rfl
      | ⟨3, _⟩ => rfl
  · rw [dif_neg h]
    refine (Routing.scatter_set_miss _ x _ (rupd x a) _ fun j hj => ?_).trans ?_
    · have h1 : (j 1).val = c.val := (lands _ hz j _).mp hj 1
      have h2 : (j 1).val < 3 := (j 1).isLt
      omega
    · congr 2
      exact Fin.ext (by show c.val = 3 + (c.val - 3); omega)

end Cert.Work.RMath

end
-- ==== Proof.RRes.lean ====
/-
  The reference's named intermediate results as its layers composed.
-/
module

public import proofs.«01_k».proof.Proof.RCat
public import proofs.«01_k».proof.Proof.RTake
public import proofs.«01_k».proof.Proof.RScat

@[expose] public section

set_option maxRecDepth 16384

noncomputable section

namespace Cert.Work.RMath

open Cert.ReferenceIdeal Cert.ReferenceIdeal.Gen Cert.ReferenceIdeal.Value Cert.Work.Spec
open Idealize.ShloMosaic Idealize.ShloMosaic.StableHlo

/-- The six input channels, coordinates first. -/
def raug (x s : FVec Ideal S4x3x16384 .f32) : FVec Ideal S4x6x16384 .f32 :=
  concatenate S4x6x16384 1 [⟨S4x3x16384, x⟩, ⟨S4x3x16384, s⟩] concatenates_S4x3x16384_S4x3x16384_S4x6x16384_d1

theorem raug_apply (x s : FVec Ideal S4x3x16384 .f32) (e : Fin 4) (c : Fin 6) (n : Fin 16384) :
    raug x s (ix3 e c n) = cat (p := 3) (q := 3) rfl (fun c => x (ix3 e c n)) (fun c => s (ix3 e c n)) c := by
  pointwise [raug, cat]

/-- Coordinates and features of the neighbours beside each other, the coordinates taken from the node's. -/
def rX2 (y : FVec Ideal S4x3x512x16 .f32) (a : FVec Ideal S4x3x512 .f32) (f : FVec Ideal S4x128x512x16 .f32) : FVec Ideal S4x131x512x16 .f32 :=
  concatenate S4x131x512x16 1 [⟨S4x3x512x16, (subf y (broadcastInDim S4x3x512x16 ![0, 1, 2, 3] bcast_S4x3x512x1_S4x3x512x16_0_1_2_3 (broadcastInDim S4x3x512x1 ![0, 1, 2] bcast_S4x3x512_S4x3x512x1_0_1_2 a)))⟩, ⟨S4x128x512x16, f⟩] concatenates_S4x3x512x16_S4x128x512x16_S4x131x512x16_d1

theorem rX2_apply (y : FVec Ideal S4x3x512x16 .f32) (a : FVec Ideal S4x3x512 .f32) (f : FVec Ideal S4x128x512x16 .f32) (e : Fin 4) (c : Fin 131) (i : Fin 512) (k : Fin 16) :
    rX2 y a f (ix4 e c i k) = cat (p := 3) (q := 128) rfl (fun c => y (ix4 e c i k) - a (ix3 e c i)) (fun c => f (ix4 e c i k)) c := by
  pointwise [rX2, cat]

/-- The words the first top-k gives. -/
def rI1 (a : FVec Ideal S4x3x512 .f32) (x : FVec Ideal S4x3x16384 .f32) : IVec S4x512x64 32 :=
  (Host.topK S4x512x64 2 (FloatOps.cmpfTotal .gt) (rdist1 a x) sliceFits_S4x512x16384_S4x512x64).2

/-- The words the second top-k gives. -/
def rI2 (a : FVec Ideal S4x3x512 .f32) : IVec S4x512x16 32 :=
  (Host.topK S4x512x16 2 (FloatOps.cmpfTotal .gt) (rdist2 a a) sliceFits_S4x512x512_S4x512x16).2

theorem v20_eq (V0 : Valuation τ sig (Elt Ideal)) :
    res_main_v20 (F := Ideal) V0 = take6 (raug (V0 (Proc.devRef .tc main_arg0)) (V0 (Proc.devRef .tc main_arg1))) (rI1 (V0 (Proc.devRef .tc main_arg2)) (V0 (Proc.devRef .tc main_arg0))) := rfl

theorem v44_eq (V0 : Valuation τ sig (Elt Ideal)) :
    res_main_v44 (F := Ideal) V0 = rl_64_64_64 (V0 (Proc.devRef .tc main_arg7)) (V0 (Proc.devRef .tc main_arg8)) (rl_64_64_64 (V0 (Proc.devRef .tc main_arg5)) (V0 (Proc.devRef .tc main_arg6)) (rl_64_6_64 (V0 (Proc.devRef .tc main_arg3)) (V0 (Proc.devRef .tc main_arg4)) (rscat (res_main_v20 (F := Ideal) V0) (V0 (Proc.devRef .tc main_arg2))))) := rfl

theorem v61_eq (V0 : Valuation τ sig (Elt Ideal)) :
    res_main_v61 (F := Ideal) V0 = rmax1 (rl_128_128_64 (V0 (Proc.devRef .tc main_arg11)) (V0 (Proc.devRef .tc main_arg12)) (rl_128_128_64 (V0 (Proc.devRef .tc main_arg9)) (V0 (Proc.devRef .tc main_arg10)) (rcat1 (res_main_v44 (F := Ideal) V0)))) := rfl

theorem v107_eq (V0 : Valuation τ sig (Elt Ideal)) :
    res_main_v107 (F := Ideal) V0 = rl_256_256_16 (V0 (Proc.devRef .tc main_arg17)) (V0 (Proc.devRef .tc main_arg18)) (rl_256_256_16 (V0 (Proc.devRef .tc main_arg15)) (V0 (Proc.devRef .tc main_arg16)) (rl_256_131_16 (V0 (Proc.devRef .tc main_arg13)) (V0 (Proc.devRef .tc main_arg14)) (rX2 (take3 (V0 (Proc.devRef .tc main_arg2)) (rI2 (V0 (Proc.devRef .tc main_arg2)))) (V0 (Proc.devRef .tc main_arg2)) (take128 (res_main_v61 (F := Ideal) V0) (rI2 (V0 (Proc.devRef .tc main_arg2))))))) := rfl

theorem v142_eq (V0 : Valuation τ sig (Elt Ideal)) :
    res_main_v142 (F := Ideal) V0 = rl_4_256 (V0 (Proc.devRef .tc main_arg27)) (V0 (Proc.devRef .tc main_arg28)) (rl_256_512 (V0 (Proc.devRef .tc main_arg25)) (V0 (Proc.devRef .tc main_arg26)) (rl_512_640 (V0 (Proc.devRef .tc main_arg23)) (V0 (Proc.devRef .tc main_arg24)) (rmid (res_main_v61 (F := Ideal) V0) (rl_512_512_16 (V0 (Proc.devRef .tc main_arg21)) (V0 (Proc.devRef .tc main_arg22)) (rl_512_512_16 (V0 (Proc.devRef .tc main_arg19)) (V0 (Proc.devRef .tc main_arg20)) (rcat2 (res_main_v107 (F := Ideal) V0))))))) := rfl

end Cert.Work.RMath

end
-- ==== Proof.RVal.lean ====
/-
  What the reference's results hold, read at an index.
-/
module

public import proofs.«01_k».proof.Proof.RRes
public import proofs.«01_k».proof.Proof.Whole

@[expose] public section

set_option maxRecDepth 16384

noncomputable section

namespace Cert.Work.RMath

open Cert.ReferenceIdeal Cert.ReferenceIdeal.Gen Cert.ReferenceIdeal.Value Cert.Work.Spec
open Idealize.ShloMosaic Idealize.ShloMosaic.StableHlo

/-- The reference's arguments. -/
def argsR (V0 : Valuation τ sig (Elt Ideal)) : Args :=
  ⟨V0 (Proc.devRef .tc main_arg0), V0 (Proc.devRef .tc main_arg1), V0 (Proc.devRef .tc main_arg2), V0 (Proc.devRef .tc main_arg3), V0 (Proc.devRef .tc main_arg4), V0 (Proc.devRef .tc main_arg5), V0 (Proc.devRef .tc main_arg6), V0 (Proc.devRef .tc main_arg7), V0 (Proc.devRef .tc main_arg8), V0 (Proc.devRef .tc main_arg9), V0 (Proc.devRef .tc main_arg10), V0 (Proc.devRef .tc main_arg11), V0 (Proc.devRef .tc main_arg12), V0 (Proc.devRef .tc main_arg13), V0 (Proc.devRef .tc main_arg14), V0 (Proc.devRef .tc main_arg15), V0 (Proc.devRef .tc main_arg16), V0 (Proc.devRef .tc main_arg17), V0 (Proc.devRef .tc main_arg18), V0 (Proc.devRef .tc main_arg19), V0 (Proc.devRef .tc main_arg20), V0 (Proc.devRef .tc main_arg21), V0 (Proc.devRef .tc main_arg22), V0 (Proc.devRef .tc main_arg23), V0 (Proc.devRef .tc main_arg24), V0 (Proc.devRef .tc main_arg25), V0 (Proc.devRef .tc main_arg26), V0 (Proc.devRef .tc main_arg27), V0 (Proc.devRef .tc main_arg28)⟩

theorem rI1_eq (a : FVec Ideal S4x3x512 .f32) (x : FVec Ideal S4x3x16384 .f32) : rI1 a x = words1 a x := by
  have e : rdist1 a x = key1 a x := by
    funext j
    obtain ⟨e, m, n, rfl⟩ : ∃ (e : Fin 4) (m : Fin 512) (n : Fin 16384), j = ix3 e m n := ⟨j 0, j 1, j 2, by
      funext b
      match b with
      | ⟨0, _⟩ => rfl
      | ⟨1, _⟩ => rfl
      | ⟨2, _⟩ => rfl⟩
    exact rdist1_apply a x e m n
  unfold rI1 words1
  rw [e]

theorem rI2_eq (a : FVec Ideal S4x3x512 .f32) : rI2 a = words2 a := by
  have e : rdist2 a a = key2 a := by
    funext j
    obtain ⟨e, m, n, rfl⟩ : ∃ (e : Fin 4) (m : Fin 512) (n : Fin 512), j = ix3 e m n := ⟨j 0, j 1, j 2, by
      funext b
      match b with
      | ⟨0, _⟩ => rfl
      | ⟨1, _⟩ => rfl
      | ⟨2, _⟩ => rfl⟩
    exact rdist2_apply a a e m n
  unfold rI2 words2
  rw [e]

theorem rI1_sel (a : FVec Ideal S4x3x512 .f32) (x : FVec Ideal S4x3x16384 .f32) (j) : rI1 a x j = BitVec.ofNat 32 (sel1 a x j).val := by
  rw [rI1_eq]; exact words1_eq a x j

theorem rI2_sel (a : FVec Ideal S4x3x512 .f32) (j) : rI2 a j = BitVec.ofNat 32 (sel2 a j).val := by
  rw [rI2_eq]; exact words2_eq a j

theorem v61_apply (V0 : Valuation τ sig (Elt Ideal)) (e : Fin 4) (o : Fin 128) (i : Fin 512) :
    res_main_v61 (F := Ideal) V0 (ix3 e o i) = sp (argsR V0) e o i := by
  rw [v61_eq, v44_eq, v20_eq]
  simp only [rmax1_apply, rl_128_128_64_apply, rcat1_apply, rl_64_64_64_apply, rl_64_6_64_apply, rscat_apply,
    take6_apply _ _ _ (rI1_sel _ _), raug_apply, cat_lo, cat_hi]
  rfl

theorem v142_apply (V0 : Valuation τ sig (Elt Ideal)) (e : Fin 4) (o : Fin 4) (i : Fin 512) :
    res_main_v142 (F := Ideal) V0 (ix3 e o i) = ks (argsR V0) e o i := by
  rw [v142_eq, v107_eq]
  simp only [rl_4_256_apply, rl_256_512_apply, rl_512_640_apply, rmid_apply, rl_512_512_16_apply, rcat2_apply, rl_256_256_16_apply,
    rl_256_131_16_apply, rX2_apply, take3_apply _ _ _ (rI2_sel _), take128_apply _ _ _ (rI2_sel _), v61_apply]
  rfl

/-- The keypoints from the four channels. -/
def rkey (y : FVec Ideal S4x4x512 .f32) (a : FVec Ideal S4x3x512 .f32) : FVec Ideal S4x3x512 .f32 :=
  addf (extractStridedSlice S4x3x512 ![0, 0, 0] y slices_S4x4x512_S4x3x512_0_0_0) a

theorem rkey_apply (y : FVec Ideal S4x4x512 .f32) (a : FVec Ideal S4x3x512 .f32) (e : Fin 4) (c : Fin 3) (i : Fin 512) :
    rkey y a (ix3 e c i) = y (ix3 e (⟨c.val, by omega⟩ : Fin 4) i) + a (ix3 e c i) := by
  pointwise [rkey]

/-- The last of the four channels. -/
def rlast (y : FVec Ideal S4x4x512 .f32) : FVec Ideal S4x512 .f32 :=
  shapeCast _ (extractStridedSlice S4x1x512 ![0, 3, 0] y slices_S4x4x512_S4x1x512_0_3_0) shapeCasts_S4x1x512_S4x512

theorem rlast_apply (y : FVec Ideal S4x4x512 .f32) (e : Fin 4) (i : Fin 512) : rlast y (ix2 e i) = y (ix3 e 3 i) := by
  pointwise [rlast]

/-- The last channel less zero, as the softplus compares it with itself. -/
def rless (z : FVec Ideal S4x512 .f32) : FVec Ideal S4x512 .f32 :=
  subf z (broadcastInDim S4x512 ![] bcast_S_S4x512 (constant S_ .f32 0x00000000#32))

/-- The sigmas from the last channel. -/
def rsig (z : FVec Ideal S4x512 .f32) : FVec Ideal S4x512 .f32 :=
  addf (select (cmpf .une (rless z) (rless z)) (addf z (broadcastInDim S4x512 ![] bcast_S_S4x512 (constant S_ .f32 0x00000000#32))) (addf (maximumf z (broadcastInDim S4x512 ![] bcast_S_S4x512 (constant S_ .f32 0x00000000#32))) (Host.log1p (Host.exp (Host.negf (Host.absf (rless z))))))) (broadcastInDim S4x512 ![] bcast_S_S4x512 (constant S_ .f32 0x3A83126F#32))

theorem rsig_apply (z : FVec Ideal S4x512 .f32) (e : Fin 4) (i : Fin 512) : rsig z (ix2 e i) = soft (z (ix2 e i)) := by
  pointwise [rsig, rless, soft]
  rw [if_neg fun h => h rfl]
  rfl

end Cert.Work.RMath

end
-- ==== Proof.Results.lean ====
/-
  The results as arrays.
-/
module

public import proofs.«01_k».proof.Proof.Whole

@[expose] public section

set_option maxRecDepth 16384

noncomputable section

namespace Cert.Work.Spec

open Idealize.ShloMosaic

/-- The keypoints of the whole computation, as an array, -/
def keyArr (A : Args) : (⟨3, ![4, 3, 512]⟩ : Shape).Idx → EReal := fun j => keyp A (j 0 : Fin 4) (j 1 : Fin 3) (j 2 : Fin 512)

/-- and the sigmas. -/
def sigArr (A : Args) : (⟨2, ![4, 512]⟩ : Shape).Idx → EReal := fun j => sigm A (j 0 : Fin 4) (j 1 : Fin 512)

theorem keyArr_of (A : Args) (f : (⟨3, ![4, 3, 512]⟩ : Shape).Idx → EReal) (h : ∀ (e : Fin 4) (c : Fin 3) (i : Fin 512), f (ix3 e c i) = keyp A e c i) :
    f = keyArr A := by
  funext j
  obtain ⟨e, c, i, rfl⟩ : ∃ (e : Fin 4) (c : Fin 3) (i : Fin 512), j = ix3 e c i := ⟨j 0, j 1, j 2, by
    funext b
    match b with
    | ⟨0, _⟩ => rfl
    | ⟨1, _⟩ => rfl
    | ⟨2, _⟩ => rfl⟩
  exact h e c i

theorem sigArr_of (A : Args) (f : (⟨2, ![4, 512]⟩ : Shape).Idx → EReal) (h : ∀ (e : Fin 4) (i : Fin 512), f (ix2 e i) = sigm A e i) :
    f = sigArr A := by
  funext j
  obtain ⟨e, i, rfl⟩ : ∃ (e : Fin 4) (i : Fin 512), j = ix2 e i := ⟨j 0, j 1, by
    funext b
    match b with
    | ⟨0, _⟩ => rfl
    | ⟨1, _⟩ => rfl⟩
  exact h e i

end Cert.Work.Spec

end
-- ==== Proof.REnd.lean ====
/-
  What the reference leaves in its results.
-/
module

public import proofs.«01_k».proof.Proof.RVal
public import proofs.«01_k».proof.Proof.Results

@[expose] public section

set_option maxRecDepth 16384

noncomputable section

namespace Cert.Work.RMath

open Cert.ReferenceIdeal Cert.ReferenceIdeal.Gen Cert.ReferenceIdeal.Value Cert.Work.Spec
open Idealize.ShloMosaic Idealize.ShloMosaic.TcCoe Idealize.ShloMosaic.StableHlo Idealize.SL.Sem

variable (V0 : Valuation τ sig (Elt Ideal))

theorem key_eq : rkey (res_main_v142 (F := Ideal) V0) (V0 (Proc.devRef .tc main_arg2)) = keyArr (argsR V0) := by
  refine keyArr_of _ _ fun e c i => ?_
  refine (rkey_apply _ _ e c i).trans ?_
  rw [v142_apply]
  rfl

theorem sig_eq : rsig (rlast (res_main_v142 (F := Ideal) V0)) = sigArr (argsR V0) := by
  refine sigArr_of _ _ fun e i => ?_
  refine (rsig_apply _ e i).trans ?_
  rw [rlast_apply, v142_apply]
  rfl

theorem v144_eq : (addf (extractStridedSlice S4x3x512 ![0, 0, 0] (res_main_v142 (F := Ideal) V0) slices_S4x4x512_S4x3x512_0_0_0) (V0 (Proc.devRef .tc main_arg2)) : FVec Ideal S4x3x512 .f32)
    = keyArr (argsR V0) := key_eq V0

theorem v146_eq : res_main_v146 (F := Ideal) V0 = rlast (res_main_v142 (F := Ideal) V0) := rfl

theorem call15_v3_eq : res_main_call15_v3 (F := Ideal) V0 = rless (res_main_v146 (F := Ideal) V0) := rfl

theorem v149_eq : (addf (select (cmpf .une (res_main_call15_v3 (F := Ideal) V0) (res_main_call15_v3 V0)) (addf (res_main_v146 V0) (broadcastInDim S4x512 ![] bcast_S_S4x512 (res_main_call15_cst V0)))
      (addf (maximumf (res_main_v146 V0) (broadcastInDim S4x512 ![] bcast_S_S4x512 (res_main_call15_cst V0))) (Host.log1p (Host.exp (Host.negf (Host.absf (res_main_call15_v3 V0)))))))
      (broadcastInDim S4x512 ![] bcast_S_S4x512 (constant S_ .f32 0x3A83126F#32)) : FVec Ideal S4x512 .f32)
    = sigArr (argsR V0) := by
  rw [call15_v3_eq, v146_eq]
  exact sig_eq V0

/-- The reference's run, its results read. -/
theorem run_eq (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg2) = m ((c.tc : Thread nD τ).loc main_arg2)
      ∧ r.2.mem ((c.tc : Thread nD τ).loc main_v144) = keyArr (argsR (launchContents m c))
      ∧ r.2.mem ((c.tc : Thread nD τ).loc main_v149) = sigArr (argsR (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) :=
  (θ_run defs _ _).mono (fun r h c => ⟨(h c).1, (h c).2.1.trans (v144_eq _), (h c).2.2.1.trans (v149_eq _), (h c).2.2.2⟩)
    (Cert.ReferenceIdeal.Value.run (F := Ideal) m ρ)

end Cert.Work.RMath

end
-- ==== Proof.Algebraic.lean ====
/-
  The kernel and the reference compute the same results.
-/
module

public import proofs.«01_k».proof.Proof.KEnd
public import proofs.«01_k».proof.Proof.REnd

@[expose] public section

set_option maxRecDepth 16384

noncomputable section

namespace Cert.Work

open Cert.Work.Spec
open Idealize.ShloMosaic Idealize.ShloMosaic.TcCoe Idealize.SL.Sem

theorem args_congr {x x' : (⟨3, ![4, 3, 16384]⟩ : Shape).Idx → EReal} {s s' : (⟨3, ![4, 3, 16384]⟩ : Shape).Idx → EReal} {a a' : (⟨3, ![4, 3, 512]⟩ : Shape).Idx → EReal} {W1 W1' : (⟨2, ![64, 6]⟩ : Shape).Idx → EReal} {b1 b1' : (⟨1, ![64]⟩ : Shape).Idx → EReal} {W2 W2' : (⟨2, ![64, 64]⟩ : Shape).Idx → EReal} {b2 b2' : (⟨1, ![64]⟩ : Shape).Idx → EReal} {W3 W3' : (⟨2, ![64, 64]⟩ : Shape).Idx → EReal} {b3 b3' : (⟨1, ![64]⟩ : Shape).Idx → EReal} {W4 W4' : (⟨2, ![128, 128]⟩ : Shape).Idx → EReal} {b4 b4' : (⟨1, ![128]⟩ : Shape).Idx → EReal} {W5 W5' : (⟨2, ![128, 128]⟩ : Shape).Idx → EReal} {b5 b5' : (⟨1, ![128]⟩ : Shape).Idx → EReal} {Wk1 Wk1' : (⟨2, ![256, 131]⟩ : Shape).Idx → EReal} {bk1 bk1' : (⟨1, ![256]⟩ : Shape).Idx → EReal} {Wk2 Wk2' : (⟨2, ![256, 256]⟩ : Shape).Idx → EReal} {bk2 bk2' : (⟨1, ![256]⟩ : Shape).Idx → EReal} {Wk3 Wk3' : (⟨2, ![256, 256]⟩ : Shape).Idx → EReal} {bk3 bk3' : (⟨1, ![256]⟩ : Shape).Idx → EReal} {Wa1 Wa1' : (⟨2, ![512, 512]⟩ : Shape).Idx → EReal} {ba1 ba1' : (⟨1, ![512]⟩ : Shape).Idx → EReal} {Wa2 Wa2' : (⟨2, ![512, 512]⟩ : Shape).Idx → EReal} {ba2 ba2' : (⟨1, ![512]⟩ : Shape).Idx → EReal} {Wm1 Wm1' : (⟨2, ![512, 640]⟩ : Shape).Idx → EReal} {bm1 bm1' : (⟨1, ![512]⟩ : Shape).Idx → EReal} {Wm2 Wm2' : (⟨2, ![256, 512]⟩ : Shape).Idx → EReal} {bm2 bm2' : (⟨1, ![256]⟩ : Shape).Idx → EReal} {Wm3 Wm3' : (⟨2, ![4, 256]⟩ : Shape).Idx → EReal} {bm3 bm3' : (⟨1, ![4]⟩ : Shape).Idx → EReal}
    (h0 : x = x') (h1 : s = s') (h2 : a = a') (h3 : W1 = W1') (h4 : b1 = b1') (h5 : W2 = W2') (h6 : b2 = b2') (h7 : W3 = W3') (h8 : b3 = b3') (h9 : W4 = W4') (h10 : b4 = b4') (h11 : W5 = W5') (h12 : b5 = b5') (h13 : Wk1 = Wk1') (h14 : bk1 = bk1') (h15 : Wk2 = Wk2') (h16 : bk2 = bk2') (h17 : Wk3 = Wk3') (h18 : bk3 = bk3') (h19 : Wa1 = Wa1') (h20 : ba1 = ba1') (h21 : Wa2 = Wa2') (h22 : ba2 = ba2') (h23 : Wm1 = Wm1') (h24 : bm1 = bm1') (h25 : Wm2 = Wm2') (h26 : bm2 = bm2') (h27 : Wm3 = Wm3') (h28 : bm3 = bm3') :
    (⟨x, s, a, W1, b1, W2, b2, W3, b3, W4, b4, W5, b5, Wk1, bk1, Wk2, bk2, Wk3, bk3, Wa1, ba1, Wa2, ba2, Wm1, bm1, Wm2, bm2, Wm3, bm3⟩ : Args) = ⟨x', s', a', W1', b1', W2', b2', W3', b3', W4', b4', W5', b5', Wk1', bk1', Wk2', bk2', Wk3', bk3', Wa1', ba1', Wa2', ba2', Wm1', bm1', Wm2', bm2', Wm3', bm3'⟩ := by
  subst h0 h1 h2 h3 h4 h5 h6 h7 h8 h9 h10 h11 h12 h13 h14 h15 h16 h17 h18 h19 h20 h21 h22 h23 h24 h25 h26 h27 h28
  rfl

/-- From agreeing arguments the two programs compute the same arrays. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) :
    RMath.argsR (StableHlo.launchContents m' c) = Final.argsK (V0 m c) := by
  obtain ⟨h0, h1, h2, h3, h4, h5, h6, h7, h8, h9, h10, h11, h12, h13, h14, h15, h16, h17, h18, h19, h20, h21, h22, h23, h24, h25, h26, h27, h28⟩ := h
  exact args_congr h0 h1 h2 h3 h4 h5 h6 h7 h8 h9 h10 h11 h12 h13 h14 h15 h16 h17 h18 h19 h20 h21 h22 h23 h24 h25 h26 h27 h28

/-- The kernel's run, its results read. -/
theorem kernel_run (m : (ℓ : Loc Cert.KernelIdeal.nD Cert.KernelIdeal.τ Cert.KernelIdeal.sig) → Buf (Elt Ideal) ℓ) (s) (h : QC m s) (c : Dev Cert.KernelIdeal.nD) :
    s.2.mem ((c.tc : Thread Cert.KernelIdeal.nD Cert.KernelIdeal.τ).loc Cert.KernelIdeal.main_v42_0) = keyArr (Final.argsK (V0 m c))
    ∧ s.2.mem ((c.tc : Thread Cert.KernelIdeal.nD Cert.KernelIdeal.τ).loc Cert.KernelIdeal.main_v43) = sigArr (Final.argsK (V0 m c)) :=
  ⟨(end_eq m s h c Cert.KernelIdeal.main_v42_0 rfl).trans (keyArr_of _ _ fun e o i => Final.v13_v42_0 (V0 m) c e o i),
    (end_eq m s h c Cert.KernelIdeal.main_v43 rfl).trans (sigArr_of _ _ fun e i => Final.v13_v43 (V0 m) c e i)⟩

/-- `Cert.algebraic_KernelIdeal_ReferenceIdeal`. -/
theorem algebraic : Cert.algebraic_KernelIdeal_ReferenceIdeal := by
  intro m g m' g' _ h
  refine ⟨fun c => m ((c.tc : Thread Cert.KernelIdeal.nD Cert.KernelIdeal.τ).loc Cert.KernelIdeal.main_arg2),
    fun c => keyArr (Final.argsK (V0 m c)), fun c => sigArr (Final.argsK (V0 m c)), ?_, ?_⟩
  · exact (θ_run Cert.KernelIdeal.defs _ _).mono (fun s hs c => ⟨(args_eq m s hs c).2.2.1, (kernel_run m s hs c).1, (kernel_run m s hs c).2,
      args_eq m s hs c⟩) (run_main (F := Ideal) m g)
  · refine (θ_run Cert.ReferenceIdeal.defs _ _).mono (fun r hr c => ?_) (RMath.run_eq m' g')
    have e := args_agree m m' c (h c)
    refine ⟨(hr c).1.trans (h c).2.2.1, (hr c).2.1.trans (congrArg keyArr e), (hr c).2.2.1.trans (congrArg sigArr e), (hr c).2.2.2⟩

end Cert.Work

end
-- ==== Proof.lean ====
module

public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts,
  Cert.Work.frame_kernel, Cert.Work.frame_kernelIdeal, Cert.Work.frame_reference, trivial, Cert.Work.algebraic⟩

end Cert.Proof

end
